-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_grads [hPre_finite_grads : Cert.Pre_finite_grads.Facts] (m : (ℓ : Loc Cert.KernelIdeal.nD Cert.KernelIdeal.τ Cert.KernelIdeal.sig) → Buf (Elt Ideal) ℓ) : Prop :=
  ∀ c : Dev Cert.KernelIdeal.nD,
    (Cert.Pre_finite_grads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_grads [hPre_finite_grads : Cert.Pre_finite_grads.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_grads.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_finite_grads [hKernelIdeal : Cert.KernelIdeal.Facts] [hPre_finite_grads : Cert.Pre_finite_grads.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_grads m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_finite_grads [hReferenceIdeal : Cert.ReferenceIdeal.Facts] [hPre_finite_grads : Cert.Pre_finite_grads.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_grads m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal_pre_finite_grads [hKernelIdeal : Cert.KernelIdeal.Facts] [hReferenceIdeal : Cert.ReferenceIdeal.Facts] [hPre_finite_grads : Cert.Pre_finite_grads.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_grads m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v96) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_grads : Cert.Pre_finite_grads.Facts),
    quiescent_Kernel (hKernel := hKernel)
    ∧ quiescent_KernelIdeal (hKernelIdeal := hKernelIdeal)
    ∧ quiescent_KernelIdeal_pre_finite_grads (hKernelIdeal := hKernelIdeal) (hPre_finite_grads := hPre_finite_grads)
    ∧ quiescent_ReferenceIdeal (hReferenceIdeal := hReferenceIdeal)
    ∧ quiescent_ReferenceIdeal_pre_finite_grads (hReferenceIdeal := hReferenceIdeal) (hPre_finite_grads := hPre_finite_grads)
    ∧ preserves_Kernel_KernelIdeal
    ∧ algebraic_KernelIdeal_ReferenceIdeal_pre_finite_grads (hKernelIdeal := hKernelIdeal) (hReferenceIdeal := hReferenceIdeal) (hPre_finite_grads := hPre_finite_grads)
-- ==== Pre_finite_grads.lean ====
abbrev S16x64x8x128 : Shape := ⟨4, ![16, 64, 8, 128]⟩
abbrev S2048x128 : Shape := ⟨2, ![2048, 128]⟩
abbrev S8192 : Shape := ⟨1, ![8192]⟩
abbrev S512x128 : Shape := ⟨2, ![512, 128]⟩
abbrev S512x256 : Shape := ⟨2, ![512, 256]⟩
abbrev S32768x128 : Shape := ⟨2, ![32768, 128]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel

variable [Facts]

def fn {F : FTy → Type} [FloatOps F] (main_arg0 : IVec S16x64x8x128 32) (main_arg1 : IVec S2048x128 32) (main_arg2 : FVec F S8192 .f32) (main_arg3 : FVec F S8192 .f32) (main_arg4 : FVec F S8192 .f32) (main_arg5 : IVec S16x64x8x128 32) (main_arg6 : IVec S2048x128 32) (main_arg7 : FVec F S8192 .f32) (main_arg8 : FVec F S8192 .f32) (main_arg9 : FVec F S8192 .f32) (main_arg10 : IVec S16x64x8x128 32) (main_arg11 : IVec S2048x128 32) (main_arg12 : FVec F S8192 .f32) (main_arg13 : FVec F S8192 .f32) (main_arg14 : FVec F S8192 .f32) (main_arg15 : IVec S16x64x8x128 32) (main_arg16 : IVec S2048x128 32) (main_arg17 : FVec F S8192 .f32) (main_arg18 : FVec F S8192 .f32) (main_arg19 : FVec F S8192 .f32) (main_arg20 : FVec F S512x128 .f32) (main_arg21 : IVec S512x256 32) (main_arg22 : IVec S32768x128 32) : IVec S_ 1 :=
  let main_v0 : FVec F S512x128 .f32 := Host.absf main_arg20
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  main_v3
-- ==== Kernel.lean ====
abbrev S16x64x8x128 : Shape := ⟨4, ![16, 64, 8, 128]⟩
abbrev S2048x128 : Shape := ⟨2, ![2048, 128]⟩
abbrev S8192 : Shape := ⟨1, ![8192]⟩
abbrev S512x128 : Shape := ⟨2, ![512, 128]⟩
abbrev S512x256 : Shape := ⟨2, ![512, 256]⟩
abbrev S32768x128 : Shape := ⟨2, ![32768, 128]⟩
abbrev S64x128 : Shape := ⟨2, ![64, 128]⟩
abbrev S256x128 : Shape := ⟨2, ![256, 128]⟩
abbrev S16x8x8x128 : Shape := ⟨4, ![16, 8, 8, 128]⟩
abbrev S8x128 : Shape := ⟨2, ![8, 128]⟩
abbrev S1024x128 : Shape := ⟨2, ![1024, 128]⟩
abbrev S384x512 : Shape := ⟨2, ![384, 512]⟩
abbrev S1 : Shape := ⟨1, ![1]⟩
abbrev S128x1024 : Shape := ⟨2, ![128, 1024]⟩
abbrev S128x512 : Shape := ⟨2, ![128, 512]⟩
abbrev S512 : Shape := ⟨1, ![512]⟩
abbrev S512x1 : Shape := ⟨2, ![512, 1]⟩
abbrev S1x512x1 : Shape := ⟨3, ![1, 512, 1]⟩
abbrev S1x1x1 : Shape := ⟨3, ![1, 1, 1]⟩
abbrev S16x1x8x128 : Shape := ⟨4, ![16, 1, 8, 128]⟩
abbrev S16x8x128 : Shape := ⟨3, ![16, 8, 128]⟩
abbrev S128x128 : Shape := ⟨2, ![128, 128]⟩
abbrev S512x1024 : Shape := ⟨2, ![512, 1024]⟩
abbrev S384x1024 : Shape := ⟨2, ![384, 1024]⟩
abbrev S384x128 : Shape := ⟨2, ![384, 128]⟩
abbrev S128 : Shape := ⟨1, ![128]⟩
abbrev S1x128 : Shape := ⟨2, ![1, 128]⟩

abbrev nBuf : Space → Nat
  | .hbm => 51
  | .vmem => 104
  | .smem => 4
  | _ => 0

abbrev bufTy : (tb : Table) → Fin (tcTables nBuf tb) → BufTy
  | .hbm, ⟨0, _⟩ => ⟨S16x64x8x128, .i32⟩
  | .hbm, ⟨1, _⟩ => ⟨S2048x128, .i32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S16x64x8x128, .i32⟩
  | .hbm, ⟨6, _⟩ => ⟨S2048x128, .i32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S16x64x8x128, .i32⟩
  | .hbm, ⟨11, _⟩ => ⟨S2048x128, .i32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S16x64x8x128, .i32⟩
  | .hbm, ⟨16, _⟩ => ⟨S2048x128, .i32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S512x128, .f32⟩
  | .hbm, ⟨21, _⟩ => ⟨S512x256, .i32⟩
  | .hbm, ⟨22, _⟩ => ⟨S32768x128, .i32⟩
  | .hbm, ⟨23, _⟩ => ⟨S64x128, .f32⟩
  | .hbm, ⟨24, _⟩ => ⟨S64x128, .f32⟩
  | .hbm, ⟨25, _⟩ => ⟨S64x128, .f32⟩
  | .hbm, ⟨26, _⟩ => ⟨S32768x128, .i8⟩
  | .hbm, ⟨27, _⟩ => ⟨S256x128, .f32⟩
  | .hbm, ⟨28, _⟩ => ⟨S256x128, .f32⟩
  | .hbm, ⟨29, _⟩ => ⟨S256x128, .f32⟩
  | .hbm, ⟨30, _⟩ => ⟨S64x128, .f32⟩
  | .hbm, ⟨31, _⟩ => ⟨S64x128, .f32⟩
  | .hbm, ⟨32, _⟩ => ⟨S64x128, .f32⟩
  | .hbm, ⟨33, _⟩ => ⟨S32768x128, .i8⟩
  | .hbm, ⟨34, _⟩ => ⟨S256x128, .f32⟩
  | .hbm, ⟨35, _⟩ => ⟨S256x128, .f32⟩
  | .hbm, ⟨36, _⟩ => ⟨S256x128, .f32⟩
  | .hbm, ⟨37, _⟩ => ⟨S64x128, .f32⟩
  | .hbm, ⟨38, _⟩ => ⟨S64x128, .f32⟩
  | .hbm, ⟨39, _⟩ => ⟨S64x128, .f32⟩
  | .hbm, ⟨40, _⟩ => ⟨S32768x128, .i8⟩
  | .hbm, ⟨41, _⟩ => ⟨S256x128, .f32⟩
  | .hbm, ⟨42, _⟩ => ⟨S256x128, .f32⟩
  | .hbm, ⟨43, _⟩ => ⟨S256x128, .f32⟩
  | .hbm, ⟨44, _⟩ => ⟨S64x128, .f32⟩
  | .hbm, ⟨45, _⟩ => ⟨S64x128, .f32⟩
  | .hbm, ⟨46, _⟩ => ⟨S64x128, .f32⟩
  | .hbm, ⟨47, _⟩ => ⟨S32768x128, .i8⟩
  | .hbm, ⟨48, _⟩ => ⟨S256x128, .f32⟩
  | .hbm, ⟨49, _⟩ => ⟨S256x128, .f32⟩
  | .hbm, ⟨50, _⟩ => ⟨S256x128, .f32⟩
  | .local _ .vmem, ⟨0, _⟩ => ⟨S16x8x8x128, .i32⟩
  | .local _ .vmem, ⟨1, _⟩ => ⟨S16x8x8x128, .i32⟩
  | .local _ .vmem, ⟨2, _⟩ => ⟨S256x128, .i32⟩
  | .local _ .vmem, ⟨3, _⟩ => ⟨S256x128, .i32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S512x128, .f32⟩
  | .local _ .vmem, ⟨11, _⟩ => ⟨S512x256, .i32⟩
  | .local _ .vmem, ⟨12, _⟩ => ⟨S1024x128, .i32⟩
  | .local _ .vmem, ⟨13, _⟩ => ⟨S1024x128, .i32⟩
  | .local _ .vmem, ⟨14, _⟩ => ⟨S1024x128, .i8⟩
  | .local _ .vmem, ⟨15, _⟩ => ⟨S1024x128, .i8⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S8x128, .f32⟩
  | .local _ .vmem, ⟨20, _⟩ => ⟨S8x128, .f32⟩
  | .local _ .vmem, ⟨21, _⟩ => ⟨S8x128, .f32⟩
  | .local _ .vmem, ⟨22, _⟩ => ⟨S384x512, .bf16⟩
  | .local _ .vmem, ⟨23, _⟩ => ⟨S512x128, .i32⟩
  | .local _ .vmem, ⟨24, _⟩ => ⟨S128x1024, .f32⟩
  | .local _ .vmem, ⟨25, _⟩ => ⟨S128x1024, .f32⟩
  | .local _ .vmem, ⟨26, _⟩ => ⟨S16x8x8x128, .i32⟩
  | .local _ .vmem, ⟨27, _⟩ => ⟨S16x8x8x128, .i32⟩
  | .local _ .vmem, ⟨28, _⟩ => ⟨S256x128, .i32⟩
  | .local _ .vmem, ⟨29, _⟩ => ⟨S256x128, .i32⟩
  | .local _ .vmem, ⟨30, _⟩ => ⟨S8x128, .f32⟩
  | .local _ .vmem, ⟨31, _⟩ => ⟨S8x128, .f32⟩
  | .local _ .vmem, ⟨32, _⟩ => ⟨S8x128, .f32⟩
  | .local _ .vmem, ⟨33, _⟩ => ⟨S8x128, .f32⟩
  | .local _ .vmem, ⟨34, _⟩ => ⟨S8x128, .f32⟩
  | .local _ .vmem, ⟨35, _⟩ => ⟨S8x128, .f32⟩
  | .local _ .vmem, ⟨36, _⟩ => ⟨S512x128, .f32⟩
  | .local _ .vmem, ⟨37, _⟩ => ⟨S512x256, .i32⟩
  | .local _ .vmem, ⟨38, _⟩ => ⟨S1024x128, .i32⟩
  | .local _ .vmem, ⟨39, _⟩ => ⟨S1024x128, .i32⟩
  | .local _ .vmem, ⟨40, _⟩ => ⟨S1024x128, .i8⟩
  | .local _ .vmem, ⟨41, _⟩ => ⟨S1024x128, .i8⟩
  | .local _ .vmem, ⟨42, _⟩ => ⟨S8x128, .f32⟩
  | .local _ .vmem, ⟨43, _⟩ => ⟨S8x128, .f32⟩
  | .local _ .vmem, ⟨44, _⟩ => ⟨S8x128, .f32⟩
  | .local _ .vmem, ⟨45, _⟩ => ⟨S8x128, .f32⟩
  | .local _ .vmem, ⟨46, _⟩ => ⟨S8x128, .f32⟩
  | .local _ .vmem, ⟨47, _⟩ => ⟨S8x128, .f32⟩
  | .local _ .vmem, ⟨48, _⟩ => ⟨S384x512, .bf16⟩
  | .local _ .vmem, ⟨49, _⟩ => ⟨S512x128, .i32⟩
  | .local _ .vmem, ⟨50, _⟩ => ⟨S128x1024, .f32⟩
  | .local _ .vmem, ⟨51, _⟩ => ⟨S128x1024, .f32⟩
  | .local _ .vmem, ⟨52, _⟩ => ⟨S16x8x8x128, .i32⟩
  | .local _ .vmem, ⟨53, _⟩ => ⟨S16x8x8x128, .i32⟩
  | .local _ .vmem, ⟨54, _⟩ => ⟨S256x128, .i32⟩
  | .local _ .vmem, ⟨55, _⟩ => ⟨S256x128, .i32⟩
  | .local _ .vmem, ⟨56, _⟩ => ⟨S8x128, .f32⟩
  | .local _ .vmem, ⟨57, _⟩ => ⟨S8x128, .f32⟩
  | .local _ .vmem, ⟨58, _⟩ => ⟨S8x128, .f32⟩
  | .local _ .vmem, ⟨59, _⟩ => ⟨S8x128, .f32⟩
  | .local _ .vmem, ⟨60, _⟩ => ⟨S8x128, .f32⟩
  | .local _ .vmem, ⟨61, _⟩ => ⟨S8x128, .f32⟩
  | .local _ .vmem, ⟨62, _⟩ => ⟨S512x128, .f32⟩
  | .local _ .vmem, ⟨63, _⟩ => ⟨S512x256, .i32⟩
  | .local _ .vmem, ⟨64, _⟩ => ⟨S1024x128, .i32⟩
  | .local _ .vmem, ⟨65, _⟩ => ⟨S1024x128, .i32⟩
  | .local _ .vmem, ⟨66, _⟩ => ⟨S1024x128, .i8⟩
  | .local _ .vmem, ⟨67, _⟩ => ⟨S1024x128, .i8⟩
  | .local _ .vmem, ⟨68, _⟩ => ⟨S8x128, .f32⟩
  | .local _ .vmem, ⟨69, _⟩ => ⟨S8x128, .f32⟩
  | .local _ .vmem, ⟨70, _⟩ => ⟨S8x128, .f32⟩
  | .local _ .vmem, ⟨71, _⟩ => ⟨S8x128, .f32⟩
  | .local _ .vmem, ⟨72, _⟩ => ⟨S8x128, .f32⟩
  | .local _ .vmem, ⟨73, _⟩ => ⟨S8x128, .f32⟩
  | .local _ .vmem, ⟨74, _⟩ => ⟨S384x512, .bf16⟩
  | .local _ .vmem, ⟨75, _⟩ => ⟨S512x128, .i32⟩
  | .local _ .vmem, ⟨76, _⟩ => ⟨S128x1024, .f32⟩
  | .local _ .vmem, ⟨77, _⟩ => ⟨S128x1024, .f32⟩
  | .local _ .vmem, ⟨78, _⟩ => ⟨S16x8x8x128, .i32⟩
  | .local _ .vmem, ⟨79, _⟩ => ⟨S16x8x8x128, .i32⟩
  | .local _ .vmem, ⟨80, _⟩ => ⟨S256x128, .i32⟩
  | .local _ .vmem, ⟨81, _⟩ => ⟨S256x128, .i32⟩
  | .local _ .vmem, ⟨82, _⟩ => ⟨S8x128, .f32⟩
  | .local _ .vmem, ⟨83, _⟩ => ⟨S8x128, .f32⟩
  | .local _ .vmem, ⟨84, _⟩ => ⟨S8x128, .f32⟩
  | .local _ .vmem, ⟨85, _⟩ => ⟨S8x128, .f32⟩
  | .local _ .vmem, ⟨86, _⟩ => ⟨S8x128, .f32⟩
  | .local _ .vmem, ⟨87, _⟩ => ⟨S8x128, .f32⟩
  | .local _ .vmem, ⟨88, _⟩ => ⟨S512x128, .f32⟩
  | .local _ .vmem, ⟨89, _⟩ => ⟨S512x256, .i32⟩
  | .local _ .vmem, ⟨90, _⟩ => ⟨S1024x128, .i32⟩
  | .local _ .vmem, ⟨91, _⟩ => ⟨S1024x128, .i32⟩
  | .local _ .vmem, ⟨92, _⟩ => ⟨S1024x128, .i8⟩
  | .local _ .vmem, ⟨93, _⟩ => ⟨S1024x128, .i8⟩
  | .local _ .vmem, ⟨94, _⟩ => ⟨S8x128, .f32⟩
  | .local _ .vmem, ⟨95, _⟩ => ⟨S8x128, .f32⟩
  | .local _ .vmem, ⟨96, _⟩ => ⟨S8x128, .f32⟩
  | .local _ .vmem, ⟨97, _⟩ => ⟨S8x128, .f32⟩
  | .local _ .vmem, ⟨98, _⟩ => ⟨S8x128, .f32⟩
  | .local _ .vmem, ⟨99, _⟩ => ⟨S8x128, .f32⟩
  | .local _ .vmem, ⟨100, _⟩ => ⟨S384x512, .bf16⟩
  | .local _ .vmem, ⟨101, _⟩ => ⟨S512x128, .i32⟩
  | .local _ .vmem, ⟨102, _⟩ => ⟨S128x1024, .f32⟩
  | .local _ .vmem, ⟨103, _⟩ => ⟨S128x1024, .f32⟩
  | .local _ .smem, ⟨0, _⟩ => ⟨S1, .i32⟩
  | .local _ .smem, ⟨1, _⟩ => ⟨S1, .i32⟩
  | .local _ .smem, ⟨2, _⟩ => ⟨S1, .i32⟩
  | .local _ .smem, ⟨3, _⟩ => ⟨S1, .i32⟩
  | _, _ => ⟨S16x64x8x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3_0 : Ref sig .tc := ⟨.hbm, 26, rfl⟩
abbrev main_v3_1 : Ref sig .tc := ⟨.hbm, 27, rfl⟩
abbrev main_v3_2 : Ref sig .tc := ⟨.hbm, 28, rfl⟩
abbrev main_v3_3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7_0 : Ref sig .tc := ⟨.hbm, 33, rfl⟩
abbrev main_v7_1 : Ref sig .tc := ⟨.hbm, 34, rfl⟩
abbrev main_v7_2 : Ref sig .tc := ⟨.hbm, 35, rfl⟩
abbrev main_v7_3 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11_0 : Ref sig .tc := ⟨.hbm, 40, rfl⟩
abbrev main_v11_1 : Ref sig .tc := ⟨.hbm, 41, rfl⟩
abbrev main_v11_2 : Ref sig .tc := ⟨.hbm, 42, rfl⟩
abbrev main_v11_3 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15_0 : Ref sig .tc := ⟨.hbm, 47, rfl⟩
abbrev main_v15_1 : Ref sig .tc := ⟨.hbm, 48, rfl⟩
abbrev main_v15_2 : Ref sig .tc := ⟨.hbm, 49, rfl⟩
abbrev main_v15_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch3 : Ref sig .tc := ⟨.vmem, 24, rfl⟩
abbrev cc0_scratch4 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg3_1 : Ref sig .tc := ⟨.vmem, 33, rfl⟩
abbrev cc1_stg4_0 : Ref sig .tc := ⟨.vmem, 34, rfl⟩
abbrev cc1_stg4_1 : Ref sig .tc := ⟨.vmem, 35, rfl⟩
abbrev cc1_stg5_0 : Ref sig .tc := ⟨.vmem, 36, rfl⟩
abbrev cc1_stg6_0 : Ref sig .tc := ⟨.vmem, 37, rfl⟩
abbrev cc1_stg7_0 : Ref sig .tc := ⟨.vmem, 38, rfl⟩
abbrev cc1_stg7_1 : Ref sig .tc := ⟨.vmem, 39, rfl⟩
abbrev cc1_stg8_0 : Ref sig .tc := ⟨.vmem, 40, rfl⟩
abbrev cc1_stg8_1 : Ref sig .tc := ⟨.vmem, 41, rfl⟩
abbrev cc1_stg9_0 : Ref sig .tc := ⟨.vmem, 42, rfl⟩
abbrev cc1_stg9_1 : Ref sig .tc := ⟨.vmem, 43, rfl⟩
abbrev cc1_stg10_0 : Ref sig .tc := ⟨.vmem, 44, rfl⟩
abbrev cc1_stg10_1 : Ref sig .tc := ⟨.vmem, 45, rfl⟩
abbrev cc1_stg11_0 : Ref sig .tc := ⟨.vmem, 46, rfl⟩
abbrev cc1_stg11_1 : Ref sig .tc := ⟨.vmem, 47, rfl⟩
abbrev cc1_scratch0 : Ref sig .tc := ⟨.vmem, 48, rfl⟩
abbrev cc1_scratch1 : Ref sig .tc := ⟨.vmem, 49, rfl⟩
abbrev cc1_scratch3 : Ref sig .tc := ⟨.vmem, 50, rfl⟩
abbrev cc1_scratch4 : Ref sig .tc := ⟨.vmem, 51, rfl⟩
abbrev cc2_stg0_0 : Ref sig .tc := ⟨.vmem, 52, rfl⟩
abbrev cc2_stg0_1 : Ref sig .tc := ⟨.vmem, 53, rfl⟩
abbrev cc2_stg1_0 : Ref sig .tc := ⟨.vmem, 54, rfl⟩
abbrev cc2_stg1_1 : Ref sig .tc := ⟨.vmem, 55, rfl⟩
abbrev cc2_stg2_0 : Ref sig .tc := ⟨.vmem, 56, rfl⟩
abbrev cc2_stg2_1 : Ref sig .tc := ⟨.vmem, 57, rfl⟩
abbrev cc2_stg3_0 : Ref sig .tc := ⟨.vmem, 58, rfl⟩
abbrev cc2_stg3_1 : Ref sig .tc := ⟨.vmem, 59, rfl⟩
abbrev cc2_stg4_0 : Ref sig .tc := ⟨.vmem, 60, rfl⟩
abbrev cc2_stg4_1 : Ref sig .tc := ⟨.vmem, 61, rfl⟩
abbrev cc2_stg5_0 : Ref sig .tc := ⟨.vmem, 62, rfl⟩
abbrev cc2_stg6_0 : Ref sig .tc := ⟨.vmem, 63, rfl⟩
abbrev cc2_stg7_0 : Ref sig .tc := ⟨.vmem, 64, rfl⟩
abbrev cc2_stg7_1 : Ref sig .tc := ⟨.vmem, 65, rfl⟩
abbrev cc2_stg8_0 : Ref sig .tc := ⟨.vmem, 66, rfl⟩
abbrev cc2_stg8_1 : Ref sig .tc := ⟨.vmem, 67, rfl⟩
abbrev cc2_stg9_0 : Ref sig .tc := ⟨.vmem, 68, rfl⟩
abbrev cc2_stg9_1 : Ref sig .tc := ⟨.vmem, 69, rfl⟩
abbrev cc2_stg10_0 : Ref sig .tc := ⟨.vmem, 70, rfl⟩
abbrev cc2_stg10_1 : Ref sig .tc := ⟨.vmem, 71, rfl⟩
abbrev cc2_stg11_0 : Ref sig .tc := ⟨.vmem, 72, rfl⟩
abbrev cc2_stg11_1 : Ref sig .tc := ⟨.vmem, 73, rfl⟩
abbrev cc2_scratch0 : Ref sig .tc := ⟨.vmem, 74, rfl⟩
abbrev cc2_scratch1 : Ref sig .tc := ⟨.vmem, 75, rfl⟩
abbrev cc2_scratch3 : Ref sig .tc := ⟨.vmem, 76, rfl⟩
abbrev cc2_scratch4 : Ref sig .tc := ⟨.vmem, 77, rfl⟩
abbrev cc3_stg0_0 : Ref sig .tc := ⟨.vmem, 78, rfl⟩
abbrev cc3_stg0_1 : Ref sig .tc := ⟨.vmem, 79, rfl⟩
abbrev cc3_stg1_0 : Ref sig .tc := ⟨.vmem, 80, rfl⟩
abbrev cc3_stg1_1 : Ref sig .tc := ⟨.vmem, 81, rfl⟩
abbrev cc3_stg2_0 : Ref sig .tc := ⟨.vmem, 82, rfl⟩
abbrev cc3_stg2_1 : Ref sig .tc := ⟨.vmem, 83, rfl⟩
abbrev cc3_stg3_0 : Ref sig .tc := ⟨.vmem, 84, rfl⟩
abbrev cc3_stg3_1 : Ref sig .tc := ⟨.vmem, 85, rfl⟩
abbrev cc3_stg4_0 : Ref sig .tc := ⟨.vmem, 86, rfl⟩
abbrev cc3_stg4_1 : Ref sig .tc := ⟨.vmem, 87, rfl⟩
abbrev cc3_stg5_0 : Ref sig .tc := ⟨.vmem, 88, rfl⟩
abbrev cc3_stg6_0 : Ref sig .tc := ⟨.vmem, 89, rfl⟩
abbrev cc3_stg7_0 : Ref sig .tc := ⟨.vmem, 90, rfl⟩
abbrev cc3_stg7_1 : Ref sig .tc := ⟨.vmem, 91, rfl⟩
abbrev cc3_stg8_0 : Ref sig .tc := ⟨.vmem, 92, rfl⟩
abbrev cc3_stg8_1 : Ref sig .tc := ⟨.vmem, 93, rfl⟩
abbrev cc3_stg9_0 : Ref sig .tc := ⟨.vmem, 94, rfl⟩
abbrev cc3_stg9_1 : Ref sig .tc := ⟨.vmem, 95, rfl⟩
abbrev cc3_stg10_0 : Ref sig .tc := ⟨.vmem, 96, rfl⟩
abbrev cc3_stg10_1 : Ref sig .tc := ⟨.vmem, 97, rfl⟩
abbrev cc3_stg11_0 : Ref sig .tc := ⟨.vmem, 98, rfl⟩
abbrev cc3_stg11_1 : Ref sig .tc := ⟨.vmem, 99, rfl⟩
abbrev cc3_scratch0 : Ref sig .tc := ⟨.vmem, 100, rfl⟩
abbrev cc3_scratch1 : Ref sig .tc := ⟨.vmem, 101, rfl⟩
abbrev cc3_scratch3 : Ref sig .tc := ⟨.vmem, 102, rfl⟩
abbrev cc3_scratch4 : Ref sig .tc := ⟨.vmem, 103, rfl⟩
abbrev cc0_scratch2 : Ref sig .tc := ⟨.smem, 0, rfl⟩
abbrev cc1_scratch2 : Ref sig .tc := ⟨.smem, 1, rfl⟩
abbrev cc2_scratch2 : Ref sig .tc := ⟨.smem, 2, rfl⟩
abbrev cc3_scratch2 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem6_0 : DmaSem sig := 33
abbrev cc1_sem7_0 : DmaSem sig := 34
abbrev cc1_sem7_1 : DmaSem sig := 35
abbrev cc1_sem8_0 : DmaSem sig := 36
abbrev cc1_sem8_1 : DmaSem sig := 37
abbrev cc1_sem9_0 : DmaSem sig := 38
abbrev cc1_sem9_1 : DmaSem sig := 39
abbrev cc1_sem10_0 : DmaSem sig := 40
abbrev cc1_sem10_1 : DmaSem sig := 41
abbrev cc1_sem11_0 : DmaSem sig := 42
abbrev cc1_sem11_1 : DmaSem sig := 43
abbrev cc2_sem0_0 : DmaSem sig := 44
abbrev cc2_sem0_1 : DmaSem sig := 45
abbrev cc2_sem1_0 : DmaSem sig := 46
abbrev cc2_sem1_1 : DmaSem sig := 47
abbrev cc2_sem2_0 : DmaSem sig := 48
abbrev cc2_sem2_1 : DmaSem sig := 49
abbrev cc2_sem3_0 : DmaSem sig := 50
abbrev cc2_sem3_1 : DmaSem sig := 51
abbrev cc2_sem4_0 : DmaSem sig := 52
abbrev cc2_sem4_1 : DmaSem sig := 53
abbrev cc2_sem5_0 : DmaSem sig := 54
abbrev cc2_sem6_0 : DmaSem sig := 55
abbrev cc2_sem7_0 : DmaSem sig := 56
abbrev cc2_sem7_1 : DmaSem sig := 57
abbrev cc2_sem8_0 : DmaSem sig := 58
abbrev cc2_sem8_1 : DmaSem sig := 59
abbrev cc2_sem9_0 : DmaSem sig := 60
abbrev cc2_sem9_1 : DmaSem sig := 61
abbrev cc2_sem10_0 : DmaSem sig := 62
abbrev cc2_sem10_1 : DmaSem sig := 63
abbrev cc2_sem11_0 : DmaSem sig := 64
abbrev cc2_sem11_1 : DmaSem sig := 65
abbrev cc3_sem0_0 : DmaSem sig := 66
abbrev cc3_sem0_1 : DmaSem sig := 67
abbrev cc3_sem1_0 : DmaSem sig := 68
abbrev cc3_sem1_1 : DmaSem sig := 69
abbrev cc3_sem2_0 : DmaSem sig := 70
abbrev cc3_sem2_1 : DmaSem sig := 71
abbrev cc3_sem3_0 : DmaSem sig := 72
abbrev cc3_sem3_1 : DmaSem sig := 73
abbrev cc3_sem4_0 : DmaSem sig := 74
abbrev cc3_sem4_1 : DmaSem sig := 75
abbrev cc3_sem5_0 : DmaSem sig := 76
abbrev cc3_sem6_0 : DmaSem sig := 77
abbrev cc3_sem7_0 : DmaSem sig := 78
abbrev cc3_sem7_1 : DmaSem sig := 79
abbrev cc3_sem8_0 : DmaSem sig := 80
abbrev cc3_sem8_1 : DmaSem sig := 81
abbrev cc3_sem9_0 : DmaSem sig := 82
abbrev cc3_sem9_1 : DmaSem sig := 83
abbrev cc3_sem10_0 : DmaSem sig := 84
abbrev cc3_sem10_1 : DmaSem sig := 85
abbrev cc3_sem11_0 : DmaSem sig := 86
abbrev cc3_sem11_1 : DmaSem sig := 87

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S16x8x8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_12 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_13 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_14 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_15 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

abbrev stage1_0 : Fin 2 → Memref sig .tc .vmem S16x8x8x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S512x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x256 .i32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x128 .i32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1024x128 .i8 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S8x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S8x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S8x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![8], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc2_transform_12 (i : grid2.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc2_transform_13 (i : grid2.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc2_transform_14 (i : grid2.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc2_transform_15 (i : grid2.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

abbrev stage2_0 : Fin 2 → Memref sig .tc .vmem S16x8x8x128 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x128 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S8x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S512x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S512x256 .i32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1024x128 .i32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1024x128 .i8 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S8x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S8x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S8x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨1, ![8], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc3_transform_12 (i : grid3.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc3_transform_13 (i : grid3.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc3_transform_14 (i : grid3.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc3_transform_15 (i : grid3.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

abbrev stage3_0 : Fin 2 → Memref sig .tc .vmem S16x8x8x128 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x128 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S8x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S8x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S512x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S512x256 .i32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S1024x128 .i32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1024x128 .i8 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S8x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S8x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S8x128 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]
-- ==== ReferenceIdeal.lean ====
abbrev S16x64x8x128 : Shape := ⟨4, ![16, 64, 8, 128]⟩
abbrev S2048x128 : Shape := ⟨2, ![2048, 128]⟩
abbrev S8192 : Shape := ⟨1, ![8192]⟩
abbrev S512x128 : Shape := ⟨2, ![512, 128]⟩
abbrev S512x256 : Shape := ⟨2, ![512, 256]⟩
abbrev S32768x128 : Shape := ⟨2, ![32768, 128]⟩
abbrev S4 : Shape := ⟨1, ![4]⟩
abbrev S_ : Shape := ⟨0, ![]⟩
abbrev S1x16x64x8x128 : Shape := ⟨5, ![1, 16, 64, 8, 128]⟩
abbrev S4x16x64x8x128 : Shape := ⟨5, ![4, 16, 64, 8, 128]⟩
abbrev S4x16x64x8x128x1 : Shape := ⟨6, ![4, 16, 64, 8, 128, 1]⟩
abbrev S4x16x64x8x128x4 : Shape := ⟨6, ![4, 16, 64, 8, 128, 4]⟩
abbrev S16x8x4x4x64x128 : Shape := ⟨6, ![16, 8, 4, 4, 64, 128]⟩
abbrev S512x32768 : Shape := ⟨2, ![512, 32768]⟩
abbrev S1x2048x128 : Shape := ⟨3, ![1, 2048, 128]⟩
abbrev S4x2048x128 : Shape := ⟨3, ![4, 2048, 128]⟩
abbrev S4x8x1x256x128 : Shape := ⟨5, ![4, 8, 1, 256, 128]⟩
abbrev S4x1x1 : Shape := ⟨3, ![4, 1, 1]⟩
abbrev S4x8x4x256x128 : Shape := ⟨5, ![4, 8, 4, 256, 128]⟩
abbrev S32768 : Shape := ⟨1, ![32768]⟩
abbrev S512x1 : Shape := ⟨2, ![512, 1]⟩
abbrev S512 : Shape := ⟨1, ![512]⟩
abbrev S32768x512 : Shape := ⟨2, ![32768, 512]⟩
abbrev S32768x1 : Shape := ⟨2, ![32768, 1]⟩
abbrev S256x128 : Shape := ⟨2, ![256, 128]⟩

abbrev nBuf : Space → Nat
  | .hbm => 146
  | .vmem => 0
  | .smem => 0
  | _ => 0

abbrev hbmTy0_0 (i : Nat) : BufTy := match i % 128 with
  | 0 => ⟨S16x64x8x128, .i32⟩
  | 1 => ⟨S2048x128, .i32⟩
  | 2 => ⟨S8192, .f32⟩
  | 3 => ⟨S8192, .f32⟩
  | 4 => ⟨S8192, .f32⟩
  | 5 => ⟨S16x64x8x128, .i32⟩
  | 6 => ⟨S2048x128, .i32⟩
  | 7 => ⟨S8192, .f32⟩
  | 8 => ⟨S8192, .f32⟩
  | 9 => ⟨S8192, .f32⟩
  | 10 => ⟨S16x64x8x128, .i32⟩
  | 11 => ⟨S2048x128, .i32⟩
  | 12 => ⟨S8192, .f32⟩
  | 13 => ⟨S8192, .f32⟩
  | 14 => ⟨S8192, .f32⟩
  | 15 => ⟨S16x64x8x128, .i32⟩
  | 16 => ⟨S2048x128, .i32⟩
  | 17 => ⟨S8192, .f32⟩
  | 18 => ⟨S8192, .f32⟩
  | 19 => ⟨S8192, .f32⟩
  | 20 => ⟨S512x128, .f32⟩
  | 21 => ⟨S512x256, .i32⟩
  | 22 => ⟨S32768x128, .i32⟩
  | 23 => ⟨S4, .i32⟩
  | 24 => ⟨S_, .i32⟩
  | 25 => ⟨S4, .i32⟩
  | 26 => ⟨S4, .i32⟩
  | 27 => ⟨S1x16x64x8x128, .i32⟩
  | 28 => ⟨S1x16x64x8x128, .i32⟩
  | 29 => ⟨S1x16x64x8x128, .i32⟩
  | 30 => ⟨S1x16x64x8x128, .i32⟩
  | 31 => ⟨S4x16x64x8x128, .i32⟩
  | 32 => ⟨S4x16x64x8x128x1, .i32⟩
  | 33 => ⟨S4x16x64x8x128x4, .i32⟩
  | 34 => ⟨S4x16x64x8x128x4, .i32⟩
  | 35 => ⟨S4x16x64x8x128x4, .i32⟩
  | 36 => ⟨S_, .i32⟩
  | 37 => ⟨S4x16x64x8x128x4, .i32⟩
  | 38 => ⟨S4x16x64x8x128x4, .i32⟩
  | 39 => ⟨S16x8x4x4x64x128, .i32⟩
  | 40 => ⟨S512x32768, .i32⟩
  | 41 => ⟨S512x32768, .f32⟩
  | 42 => ⟨S1x2048x128, .i32⟩
  | 43 => ⟨S1x2048x128, .i32⟩
  | 44 => ⟨S1x2048x128, .i32⟩
  | 45 => ⟨S1x2048x128, .i32⟩
  | 46 => ⟨S4x2048x128, .i32⟩
  | 47 => ⟨S4x8x1x256x128, .i32⟩
  | 48 => ⟨S4x1x1, .i32⟩
  | 49 => ⟨S4x8x4x256x128, .i32⟩
  | 50 => ⟨S4x8x4x256x128, .i32⟩
  | 51 => ⟨S4x8x4x256x128, .i32⟩
  | 52 => ⟨S_, .i32⟩
  | 53 => ⟨S4x8x4x256x128, .i32⟩
  | 54 => ⟨S4x8x4x256x128, .i32⟩
  | 55 => ⟨S32768x128, .i32⟩
  | 56 => ⟨S32768, .f32⟩
  | 57 => ⟨S32768, .f32⟩
  | 58 => ⟨S32768, .f32⟩
  | 59 => ⟨S512x1, .i32⟩
  | 60 => ⟨S512x256, .i32⟩
  | 61 => ⟨S512x256, .i1⟩
  | 62 => ⟨S_, .i1⟩
  | 63 => ⟨S512, .i1⟩
  | 64 => ⟨S512x32768, .i32⟩
  | 65 => ⟨S512x1, .i1⟩
  | 66 => ⟨S512x32768, .i32⟩
  | 67 => ⟨S512x32768, .i1⟩
  | 68 => ⟨S512x32768, .i1⟩
  | 69 => ⟨S512x32768, .i1⟩
  | 70 => ⟨S_, .f32⟩
  | 71 => ⟨S_, .f32⟩
  | 72 => ⟨S512x32768, .f32⟩
  | 73 => ⟨S512x32768, .f32⟩
  | 74 => ⟨S512x32768, .f32⟩
  | 75 => ⟨S512x32768, .f32⟩
  | 76 => ⟨S512x32768, .f32⟩
  | 77 => ⟨S32768x512, .f32⟩
  | 78 => ⟨S32768x128, .f32⟩
  | 79 => ⟨S32768x128, .f32⟩
  | 80 => ⟨S32768x1, .f32⟩
  | 81 => ⟨S32768x128, .f32⟩
  | 82 => ⟨S32768x128, .f32⟩
  | 83 => ⟨S32768x1, .f32⟩
  | 84 => ⟨S32768x128, .f32⟩
  | 85 => ⟨S32768x128, .f32⟩
  | 86 => ⟨S32768x128, .f32⟩
  | 87 => ⟨S_, .f32⟩
  | 88 => ⟨S32768, .f32⟩
  | 89 => ⟨S_, .f32⟩
  | 90 => ⟨S32768, .f32⟩
  | 91 => ⟨S32768, .f32⟩
  | 92 => ⟨S32768, .f32⟩
  | 93 => ⟨S32768, .f32⟩
  | 94 => ⟨S_, .f32⟩
  | 95 => ⟨S32768, .f32⟩
  | 96 => ⟨S32768, .f32⟩
  | 97 => ⟨S_, .f32⟩
  | 98 => ⟨S32768, .f32⟩
  | 99 => ⟨S32768, .f32⟩
  | 100 => ⟨S32768x1, .f32⟩
  | 101 => ⟨S32768x128, .f32⟩
  | 102 => ⟨S32768x128, .f32⟩
  | 103 => ⟨S32768x128, .f32⟩
  | 104 => ⟨S_, .f32⟩
  | 105 => ⟨S32768, .f32⟩
  | 106 => ⟨S_, .f32⟩
  | 107 => ⟨S32768, .f32⟩
  | 108 => ⟨S32768, .f32⟩
  | 109 => ⟨S_, .f32⟩
  | 110 => ⟨S32768, .f32⟩
  | 111 => ⟨S32768, .f32⟩
  | 112 => ⟨S_, .f32⟩
  | 113 => ⟨S32768, .f32⟩
  | 114 => ⟨S32768, .f32⟩
  | 115 => ⟨S_, .f32⟩
  | 116 => ⟨S32768, .f32⟩
  | 117 => ⟨S32768, .f32⟩
  | 118 => ⟨S32768x1, .f32⟩
  | 119 => ⟨S32768x128, .f32⟩
  | 120 => ⟨S32768x128, .f32⟩
  | 121 => ⟨S32768x1, .f32⟩
  | 122 => ⟨S32768x128, .f32⟩
  | 123 => ⟨S32768x128, .f32⟩
  | 124 => ⟨S_, .i32⟩
  | 125 => ⟨S32768x128, .i32⟩
  | 126 => ⟨S32768x128, .i32⟩
  | 127 => ⟨S32768x128, .f32⟩
  | _ => ⟨S16x64x8x128, .i32⟩

abbrev hbmTy0_1 (i : Nat) : BufTy := match i % 128 with
  | 0 => ⟨S_, .f32⟩
  | 1 => ⟨S32768x128, .f32⟩
  | 2 => ⟨S32768x128, .f32⟩
  | 3 => ⟨S32768x128, .f32⟩
  | 4 => ⟨S32768x128, .f32⟩
  | 5 => ⟨S_, .f32⟩
  | 6 => ⟨S_, .f32⟩
  | 7 => ⟨S_, .f32⟩
  | 8 => ⟨S32768x128, .f32⟩
  | 9 => ⟨S32768x128, .f32⟩
  | 10 => ⟨S_, .f32⟩
  | 11 => ⟨S32768x128, .f32⟩
  | 12 => ⟨S32768x128, .f32⟩
  | 13 => ⟨S32768x128, .i32⟩
  | 14 => ⟨S32768x128, .i8⟩
  | 15 => ⟨S256x128, .f32⟩
  | 16 => ⟨S256x128, .f32⟩
  | 17 => ⟨S256x128, .f32⟩
  | _ => ⟨S16x64x8x128, .i32⟩

abbrev hbmTy (i : Nat) : BufTy := match i / 128 with
  | 0 => hbmTy0_0 i
  | 1 => hbmTy0_1 i
  | _ => ⟨S16x64x8x128, .i32⟩

abbrev bufTy : (tb : Table) → Fin (tcTables nBuf tb) → BufTy
  | .hbm, ⟨i, _⟩ => hbmTy i
  | _, _ => ⟨S16x64x8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_c : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c_0 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_1 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_2 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst : Ref sig .tc := ⟨.hbm, 70, rfl⟩
abbrev main_cst_3 : Ref sig .tc := ⟨.hbm, 71, rfl⟩
abbrev main_call0_v0 : Ref sig .tc := ⟨.hbm, 72, rfl⟩
abbrev main_call0_v1 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_4 : Ref sig .tc := ⟨.hbm, 87, rfl⟩
abbrev main_v56 : Ref sig .tc := ⟨.hbm, 88, rfl⟩
abbrev main_cst_5 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_6 : Ref sig .tc := ⟨.hbm, 94, rfl⟩
abbrev main_v61 : Ref sig .tc := ⟨.hbm, 95, rfl⟩
abbrev main_v62 : Ref sig .tc := ⟨.hbm, 96, rfl⟩
abbrev main_cst_7 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_8 : Ref sig .tc := ⟨.hbm, 104, rfl⟩
abbrev main_v69 : Ref sig .tc := ⟨.hbm, 105, rfl⟩
abbrev main_cst_9 : Ref sig .tc := ⟨.hbm, 106, rfl⟩
abbrev main_v70 : Ref sig .tc := ⟨.hbm, 107, rfl⟩
abbrev main_v71 : Ref sig .tc := ⟨.hbm, 108, rfl⟩
abbrev main_cst_10 : Ref sig .tc := ⟨.hbm, 109, rfl⟩
abbrev main_v72 : Ref sig .tc := ⟨.hbm, 110, rfl⟩
abbrev main_v73 : Ref sig .tc := ⟨.hbm, 111, rfl⟩
abbrev main_cst_11 : Ref sig .tc := ⟨.hbm, 112, rfl⟩
abbrev main_v74 : Ref sig .tc := ⟨.hbm, 113, rfl⟩
abbrev main_v75 : Ref sig .tc := ⟨.hbm, 114, rfl⟩
abbrev main_cst_12 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_c_13 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_14 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_15 : Ref sig .tc := ⟨.hbm, 133, rfl⟩
abbrev main_cst_16 : Ref sig .tc := ⟨.hbm, 134, rfl⟩
abbrev main_call1_v0 : Ref sig .tc := ⟨.hbm, 135, rfl⟩
abbrev main_call1_v1 : Ref sig .tc := ⟨.hbm, 136, rfl⟩
abbrev main_call1_v2 : Ref sig .tc := ⟨.hbm, 137, rfl⟩
abbrev main_call1_v3 : Ref sig .tc := ⟨.hbm, 138, rfl⟩
abbrev main_call1_v4 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩

abbrev nD : Nat := 1
abbrev τ : Topo := Topo.v7x

variable {F : FTy → Type} [FloatOps F]
-- ==== Proof.BodyDefs.lean ====
module

public import proofs.«01_k».proof.Proof.Gen.KernelIdeal.Skeleton
public import proofs.«01_k».proof.Proof.Gen.KernelIdeal.Launch
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

/-! What one grid point computes, as functions of the blocks it reads: the gradient tile, the new optimizer state,
the updated weights, and the requantised codes with their scale and bias. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles -/

/-- Columns 0 to 127 of a 128 x 1024 tile. -/
abbrev rcol0 : Rect S128x1024 := Rect.unit (s := S128x1024) ![0, 0] S128x128.size inb_S128x1024_S128x128_0_0
/-- Columns 128 to 255 of a 128 x 1024 tile. -/
abbrev rcol1 : Rect S128x1024 := Rect.unit (s := S128x1024) ![0, 128] S128x128.size inb_S128x1024_S128x128_0_128
/-- Columns 256 to 383 of a 128 x 1024 tile. -/
abbrev rcol2 : Rect S128x1024 := Rect.unit (s := S128x1024) ![0, 256] S128x128.size inb_S128x1024_S128x128_0_256
/-- Columns 384 to 511 of a 128 x 1024 tile. -/
abbrev rcol3 : Rect S128x1024 := Rect.unit (s := S128x1024) ![0, 384] S128x128.size inb_S128x1024_S128x128_0_384
/-- Columns 512 to 639 of a 128 x 1024 tile. -/
abbrev rcol4 : Rect S128x1024 := Rect.unit (s := S128x1024) ![0, 512] S128x128.size inb_S128x1024_S128x128_0_512
/-- Columns 640 to 767 of a 128 x 1024 tile. -/
abbrev rcol5 : Rect S128x1024 := Rect.unit (s := S128x1024) ![0, 640] S128x128.size inb_S128x1024_S128x128_0_640
/-- Columns 768 to 895 of a 128 x 1024 tile. -/
abbrev rcol6 : Rect S128x1024 := Rect.unit (s := S128x1024) ![0, 768] S128x128.size inb_S128x1024_S128x128_0_768
/-- Columns 896 to 1023 of a 128 x 1024 tile. -/
abbrev rcol7 : Rect S128x1024 := Rect.unit (s := S128x1024) ![0, 896] S128x128.size inb_S128x1024_S128x128_0_896
/-- Rows 0 to 127 of a 1024 x 128 block. -/
abbrev rrow0 : Rect S1024x128 := Rect.unit (s := S1024x128) ![0, 0] S128x128.size inb_S1024x128_S128x128_0_0
/-- Rows 128 to 255 of a 1024 x 128 block. -/
abbrev rrow1 : Rect S1024x128 := Rect.unit (s := S1024x128) ![128, 0] S128x128.size inb_S1024x128_S128x128_128_0
/-- Rows 256 to 383 of a 1024 x 128 block. -/
abbrev rrow2 : Rect S1024x128 := Rect.unit (s := S1024x128) ![256, 0] S128x128.size inb_S1024x128_S128x128_256_0
/-- Rows 384 to 511 of a 1024 x 128 block. -/
abbrev rrow3 : Rect S1024x128 := Rect.unit (s := S1024x128) ![384, 0] S128x128.size inb_S1024x128_S128x128_384_0
/-- Rows 512 to 639 of a 1024 x 128 block. -/
abbrev rrow4 : Rect S1024x128 := Rect.unit (s := S1024x128) ![512, 0] S128x128.size inb_S1024x128_S128x128_512_0
/-- Rows 640 to 767 of a 1024 x 128 block. -/
abbrev rrow5 : Rect S1024x128 := Rect.unit (s := S1024x128) ![640, 0] S128x128.size inb_S1024x128_S128x128_640_0
/-- Rows 768 to 895 of a 1024 x 128 block. -/
abbrev rrow6 : Rect S1024x128 := Rect.unit (s := S1024x128) ![768, 0] S128x128.size inb_S1024x128_S128x128_768_0
/-- Rows 896 to 1023 of a 1024 x 128 block. -/
abbrev rrow7 : Rect S1024x128 := Rect.unit (s := S1024x128) ![896, 0] S128x128.size inb_S1024x128_S128x128_896_0
/-- Block 0 of the eight count blocks of a grid point. -/
abbrev rcnt0 : Rect S16x8x8x128 := Rect.unit (s := S16x8x8x128) ![0, 0, 0, 0] S16x1x8x128.size inb_S16x8x8x128_S16x1x8x128_0_0_0_0
/-- Block 1 of the eight count blocks of a grid point. -/
abbrev rcnt1 : Rect S16x8x8x128 := Rect.unit (s := S16x8x8x128) ![0, 1, 0, 0] S16x1x8x128.size inb_S16x8x8x128_S16x1x8x128_0_1_0_0
/-- Block 2 of the eight count blocks of a grid point. -/
abbrev rcnt2 : Rect S16x8x8x128 := Rect.unit (s := S16x8x8x128) ![0, 2, 0, 0] S16x1x8x128.size inb_S16x8x8x128_S16x1x8x128_0_2_0_0
/-- Block 3 of the eight count blocks of a grid point. -/
abbrev rcnt3 : Rect S16x8x8x128 := Rect.unit (s := S16x8x8x128) ![0, 3, 0, 0] S16x1x8x128.size inb_S16x8x8x128_S16x1x8x128_0_3_0_0
/-- Block 4 of the eight count blocks of a grid point. -/
abbrev rcnt4 : Rect S16x8x8x128 := Rect.unit (s := S16x8x8x128) ![0, 4, 0, 0] S16x1x8x128.size inb_S16x8x8x128_S16x1x8x128_0_4_0_0
/-- Block 5 of the eight count blocks of a grid point. -/
abbrev rcnt5 : Rect S16x8x8x128 := Rect.unit (s := S16x8x8x128) ![0, 5, 0, 0] S16x1x8x128.size inb_S16x8x8x128_S16x1x8x128_0_5_0_0
/-- Block 6 of the eight count blocks of a grid point. -/
abbrev rcnt6 : Rect S16x8x8x128 := Rect.unit (s := S16x8x8x128) ![0, 6, 0, 0] S16x1x8x128.size inb_S16x8x8x128_S16x1x8x128_0_6_0_0
/-- Block 7 of the eight count blocks of a grid point. -/
abbrev rcnt7 : Rect S16x8x8x128 := Rect.unit (s := S16x8x8x128) ![0, 7, 0, 0] S16x1x8x128.size inb_S16x8x8x128_S16x1x8x128_0_7_0_0
/-- The whole of a 128 x 1024 tile. -/
abbrev rtile : Rect S128x1024 := Rect.unit (s := S128x1024) ![0, 0] S128x1024.size inb_S128x1024_S128x1024_0_0

/-! ## The gradient tile -/

/-- The product of the gradient parts with the packed counts. -/
def gBase (x1 : Vec F S16x8x8x128 .i32) (x13 : Vec F S384x512 .bf16) : FVec F S128x1024 .f32 :=
  k0_pay26 (k0_pay19 (View.ld x1 rcnt0)) (k0_pay20 (View.ld x1 rcnt1)) (k0_pay21 (View.ld x1 rcnt2)) (k0_pay22 (View.ld x1 rcnt3))
    (k0_pay23 (View.ld x1 rcnt4)) (k0_pay24 (View.ld x1 rcnt5)) (k0_pay25 (View.ld x1 rcnt6)) (View.ld x1 rcnt7) x13

/-- One 128-column update: the bags all of whose lookups are the slot `b + offset + lane` are counted once more. -/
def gAdd (b off : BitVec 32) (x13 : Vec F S384x512 .bf16) (x14 : Vec F S512x128 .i32) (g : Vec F S128x128 .f32) : FVec F S128x128 .f32 :=
  have ind : IVec S512x128 1 := cmpi .eq x14 (addi (iota .tc S512x128 32 [1] iota_S512x128_d1_w32) (broadcast S512x128 (Scalar.addi b off)))
  have one : FVec F S512x128 .bf16 := truncf .bf16 (sitofp .f32 (extui 32 ind natLt_1_32)) bitsLt_bf16_f32
  have p : FVec F S384x128 .f32 := matmul dot_S384x512_S512x128_S384x128_1_0_0_1_n_n none x13 one (constant S384x128 .f32 0x00000000#32)
  have hi : FVec F S128x128 .f32 := extractStridedSlice S128x128 ![0, 0] p slices_S384x128_o0_0_S128x128
  have mid : FVec F S128x128 .f32 := extractStridedSlice S128x128 ![128, 0] p slices_S384x128_o128_0_S128x128
  have lo : FVec F S128x128 .f32 := extractStridedSlice S128x128 ![256, 0] p slices_S384x128_o256_0_S128x128
  shapeCast S128x128 (addf g (addf hi (addf mid lo))) shapeCasts_S128x128_S128x128

/-- The writes into the tile: the product, ... -/
def gL0 (gb : Vec F S128x1024 .f32) : List (View.Piece (Elt F) S128x1024 .f32) := [⟨rtile, gb⟩]
/-- ... then column block 0. -/
def gL1 (b : BitVec 32) (x13 : Vec F S384x512 .bf16) (x14 : Vec F S512x128 .i32) (gb : Vec F S128x1024 .f32) : List (View.Piece (Elt F) S128x1024 .f32) :=
  ⟨rcol0, gAdd b 0#32 x13 x14 (View.ld (View.canon (gL0 gb)) rcol0)⟩ :: gL0 gb
/-- ... then column block 1. -/
def gL2 (b : BitVec 32) (x13 : Vec F S384x512 .bf16) (x14 : Vec F S512x128 .i32) (gb : Vec F S128x1024 .f32) : List (View.Piece (Elt F) S128x1024 .f32) :=
  ⟨rcol1, gAdd b 128#32 x13 x14 (View.ld (View.canon (gL1 b x13 x14 gb)) rcol1)⟩ :: gL1 b x13 x14 gb
/-- ... then column block 2. -/
def gL3 (b : BitVec 32) (x13 : Vec F S384x512 .bf16) (x14 : Vec F S512x128 .i32) (gb : Vec F S128x1024 .f32) : List (View.Piece (Elt F) S128x1024 .f32) :=
  ⟨rcol2, gAdd b 256#32 x13 x14 (View.ld (View.canon (gL2 b x13 x14 gb)) rcol2)⟩ :: gL2 b x13 x14 gb
/-- ... then column block 3. -/
def gL4 (b : BitVec 32) (x13 : Vec F S384x512 .bf16) (x14 : Vec F S512x128 .i32) (gb : Vec F S128x1024 .f32) : List (View.Piece (Elt F) S128x1024 .f32) :=
  ⟨rcol3, gAdd b 384#32 x13 x14 (View.ld (View.canon (gL3 b x13 x14 gb)) rcol3)⟩ :: gL3 b x13 x14 gb
/-- ... then column block 4. -/
def gL5 (b : BitVec 32) (x13 : Vec F S384x512 .bf16) (x14 : Vec F S512x128 .i32) (gb : Vec F S128x1024 .f32) : List (View.Piece (Elt F) S128x1024 .f32) :=
  ⟨rcol4, gAdd b 512#32 x13 x14 (View.ld (View.canon (gL4 b x13 x14 gb)) rcol4)⟩ :: gL4 b x13 x14 gb
/-- ... then column block 5. -/
def gL6 (b : BitVec 32) (x13 : Vec F S384x512 .bf16) (x14 : Vec F S512x128 .i32) (gb : Vec F S128x1024 .f32) : List (View.Piece (Elt F) S128x1024 .f32) :=
  ⟨rcol5, gAdd b 640#32 x13 x14 (View.ld (View.canon (gL5 b x13 x14 gb)) rcol5)⟩ :: gL5 b x13 x14 gb
/-- ... then column block 6. -/
def gL7 (b : BitVec 32) (x13 : Vec F S384x512 .bf16) (x14 : Vec F S512x128 .i32) (gb : Vec F S128x1024 .f32) : List (View.Piece (Elt F) S128x1024 .f32) :=
  ⟨rcol6, gAdd b 768#32 x13 x14 (View.ld (View.canon (gL6 b x13 x14 gb)) rcol6)⟩ :: gL6 b x13 x14 gb
/-- ... then column block 7. -/
def gL8 (b : BitVec 32) (x13 : Vec F S384x512 .bf16) (x14 : Vec F S512x128 .i32) (gb : Vec F S128x1024 .f32) : List (View.Piece (Elt F) S128x1024 .f32) :=
  ⟨rcol7, gAdd b 896#32 x13 x14 (View.ld (View.canon (gL7 b x13 x14 gb)) rcol7)⟩ :: gL7 b x13 x14 gb

/-- Whether some bag has all its lookups equal (`x15` holds the largest common slot, or -1). -/
abbrev anyFull (x15 : Vec F S1 .i32) : Prop :=
  Scalar.cmpi .ne (Scalar.extui (Scalar.cmpi .sge (View.ld x15 (Rect.unit (s := S1) ![0] S1.size inb_S1_S1_0) (Shape.Idx.first (numel1_S1.symm ▸ Nat.one_pos))) 0#32) : BitVec 32) 0#32 = 1#1

/-- The gradient tile of a grid point whose first slot is `b`. -/
def gTile (b : BitVec 32) (x1 : Vec F S16x8x8x128 .i32) (x13 : Vec F S384x512 .bf16) (x14 : Vec F S512x128 .i32) (x15 : Vec F S1 .i32) : Vec F S128x1024 .f32 :=
  if anyFull x15 then View.canon (gL8 b x13 x14 (gBase x1 x13)) else View.canon (gL0 (gBase x1 x13))

/-! ## The update and the requantisation -/

section
variable (x2 : Vec F S256x128 .i32) (x3 x4 x5 : Vec F S8x128 .f32) (x8 : Vec F S1024x128 .i32) (G : Vec F S128x1024 .f32)

/-- The new optimizer state. -/
def tState : FVec F S8x128 .f32 :=
  k0_pay31 (k0_pay28 (View.ld G rcol0) (View.ld G rcol0)) (k0_pay29 (View.ld G rcol1) (View.ld G rcol1)) (k0_pay30 (View.ld G rcol2) (View.ld G rcol2)) (View.ld G rcol3) (View.ld G rcol3) (View.ld G rcol4) (View.ld G rcol4) (View.ld G rcol5) (View.ld G rcol5) (View.ld G rcol6) (View.ld G rcol6) (View.ld G rcol7) (View.ld G rcol7) x5
/-- The square root of the state with the small constant added. -/
def tRoot : FVec F S8x128 .f32 :=
  k0_pay32 (k0_pay28 (View.ld G rcol0) (View.ld G rcol0)) (k0_pay29 (View.ld G rcol1) (View.ld G rcol1)) (k0_pay30 (View.ld G rcol2) (View.ld G rcol2)) (View.ld G rcol3) (View.ld G rcol3) (View.ld G rcol4) (View.ld G rcol4) (View.ld G rcol5) (View.ld G rcol5) (View.ld G rcol6) (View.ld G rcol6) (View.ld G rcol7) (View.ld G rcol7) x5
/-- The first half of the packed codes, transposed. -/
def tWLo : IVec S128x128 32 :=
  k0_pay36 (View.ld x2 (Rect.unit (s := S256x128) ![0, 0] S128x128.size inb_S256x128_S128x128_0_0))
/-- The second half of the packed codes, transposed. -/
def tWHi : IVec S128x128 32 :=
  k0_pay37 (View.ld x2 (Rect.unit (s := S256x128) ![128, 0] S128x128.size inb_S256x128_S128x128_128_0))
/-- The updated weights of column block 0. -/
def tW0 : FVec F S128x128 .f32 :=
  k0_pay39 (tRoot x5 G) x3 x4 (View.ld x2 (Rect.unit (s := S256x128) ![0, 0] S128x128.size inb_S256x128_S128x128_0_0)) (View.ld G rcol0)
/-- The updated weights of column block 1. -/
def tW1 : FVec F S128x128 .f32 :=
  k0_pay44 (k0_pay33 (tRoot x5 G)) (k0_pay34 x3) (k0_pay35 x4) (tWHi x2) k0_pay42 (View.ld G rcol1)
/-- The updated weights of column block 2. -/
def tW2 : FVec F S128x128 .f32 :=
  k0_pay48 (k0_pay33 (tRoot x5 G)) (k0_pay34 x3) (k0_pay35 x4) (tWLo x2) (View.ld G rcol2)
/-- The updated weights of column block 3. -/
def tW3 : FVec F S128x128 .f32 :=
  k0_pay52 (k0_pay33 (tRoot x5 G)) (k0_pay34 x3) (k0_pay35 x4) (tWHi x2) (View.ld G rcol3)
/-- The updated weights of column block 4. -/
def tW4 : FVec F S128x128 .f32 :=
  k0_pay56 (k0_pay33 (tRoot x5 G)) (k0_pay34 x3) (k0_pay35 x4) (tWLo x2) (View.ld G rcol4)
/-- The updated weights of column block 5. -/
def tW5 : FVec F S128x128 .f32 :=
  k0_pay60 (k0_pay33 (tRoot x5 G)) (k0_pay34 x3) (k0_pay35 x4) (tWHi x2) (View.ld G rcol5)
/-- The updated weights of column block 6. -/
def tW6 : FVec F S128x128 .f32 :=
  k0_pay64 (k0_pay63 (k0_pay33 (tRoot x5 G)) (k0_pay34 x3) (k0_pay35 x4) (tWLo x2) (View.ld G rcol6))
/-- The updated weights of column block 7. -/
def tW7 : FVec F S128x128 .f32 :=
  k0_pay66 (k0_pay33 (tRoot x5 G)) (k0_pay34 x3) (k0_pay35 x4) (tWHi x2) (View.ld G rcol7)
/-- The new bias: the least updated weight of each slot. -/
def tBias : FVec F S8x128 .f32 :=
  k0_pay67 (k0_pay33 (tRoot x5 G)) (k0_pay34 x3) (k0_pay35 x4) (tWHi x2) (k0_pay40 (tRoot x5 G) x3 x4 (View.ld x2 (Rect.unit (s := S256x128) ![0, 0] S128x128.size inb_S256x128_S128x128_0_0)) (View.ld G rcol0)) (k0_pay45 (k0_pay33 (tRoot x5 G)) (k0_pay34 x3) (k0_pay35 x4) (tWHi x2) k0_pay42 (View.ld G rcol1)) (k0_pay49 (k0_pay33 (tRoot x5 G)) (k0_pay34 x3) (k0_pay35 x4) (tWLo x2) (View.ld G rcol2)) (k0_pay53 (k0_pay33 (tRoot x5 G)) (k0_pay34 x3) (k0_pay35 x4) (tWHi x2) (View.ld G rcol3)) (k0_pay57 (k0_pay55 (k0_pay33 (tRoot x5 G)) (k0_pay34 x3) (k0_pay35 x4) (tWLo x2) (View.ld G rcol4))) (k0_pay61 (k0_pay33 (tRoot x5 G)) (k0_pay34 x3) (k0_pay35 x4) (tWHi x2) (View.ld G rcol5)) (k0_pay63 (k0_pay33 (tRoot x5 G)) (k0_pay34 x3) (k0_pay35 x4) (tWLo x2) (View.ld G rcol6)) (View.ld G rcol7)
/-- The factor a weight above the bias is multiplied by. -/
def tInv : FVec F S8x128 .f32 :=
  k0_pay69 (k0_pay33 (tRoot x5 G)) (k0_pay34 x3) (k0_pay35 x4) (tWHi x2) (k0_pay40 (tRoot x5 G) x3 x4 (View.ld x2 (Rect.unit (s := S256x128) ![0, 0] S128x128.size inb_S256x128_S128x128_0_0)) (View.ld G rcol0)) (k0_pay41 (tRoot x5 G) x3 x4 (View.ld x2 (Rect.unit (s := S256x128) ![0, 0] S128x128.size inb_S256x128_S128x128_0_0)) (View.ld G rcol0)) (k0_pay45 (k0_pay33 (tRoot x5 G)) (k0_pay34 x3) (k0_pay35 x4) (tWHi x2) k0_pay42 (View.ld G rcol1)) (k0_pay46 (k0_pay33 (tRoot x5 G)) (k0_pay34 x3) (k0_pay35 x4) (tWHi x2) k0_pay42 (View.ld G rcol1)) (k0_pay49 (k0_pay33 (tRoot x5 G)) (k0_pay34 x3) (k0_pay35 x4) (tWLo x2) (View.ld G rcol2)) (k0_pay50 (k0_pay47 (k0_pay33 (tRoot x5 G)) (k0_pay34 x3) (k0_pay35 x4) (tWLo x2) (View.ld G rcol2))) (k0_pay53 (k0_pay33 (tRoot x5 G)) (k0_pay34 x3) (k0_pay35 x4) (tWHi x2) (View.ld G rcol3)) (k0_pay54 (k0_pay33 (tRoot x5 G)) (k0_pay34 x3) (k0_pay35 x4) (tWHi x2) (View.ld G rcol3)) (k0_pay57 (k0_pay55 (k0_pay33 (tRoot x5 G)) (k0_pay34 x3) (k0_pay35 x4) (tWLo x2) (View.ld G rcol4))) (k0_pay58 (k0_pay55 (k0_pay33 (tRoot x5 G)) (k0_pay34 x3) (k0_pay35 x4) (tWLo x2) (View.ld G rcol4))) (k0_pay61 (k0_pay33 (tRoot x5 G)) (k0_pay34 x3) (k0_pay35 x4) (tWHi x2) (View.ld G rcol5)) (k0_pay62 (k0_pay33 (tRoot x5 G)) (k0_pay34 x3) (k0_pay35 x4) (tWHi x2) (View.ld G rcol5)) (k0_pay63 (k0_pay33 (tRoot x5 G)) (k0_pay34 x3) (k0_pay35 x4) (tWLo x2) (View.ld G rcol6)) (View.ld G rcol7)
/-- The new scale. -/
def tScale : FVec F S8x128 .f32 :=
  k0_pay70 (k0_pay33 (tRoot x5 G)) (k0_pay34 x3) (k0_pay35 x4) (tWHi x2) (k0_pay40 (tRoot x5 G) x3 x4 (View.ld x2 (Rect.unit (s := S256x128) ![0, 0] S128x128.size inb_S256x128_S128x128_0_0)) (View.ld G rcol0)) (k0_pay41 (tRoot x5 G) x3 x4 (View.ld x2 (Rect.unit (s := S256x128) ![0, 0] S128x128.size inb_S256x128_S128x128_0_0)) (View.ld G rcol0)) (k0_pay45 (k0_pay33 (tRoot x5 G)) (k0_pay34 x3) (k0_pay35 x4) (tWHi x2) k0_pay42 (View.ld G rcol1)) (k0_pay46 (k0_pay33 (tRoot x5 G)) (k0_pay34 x3) (k0_pay35 x4) (tWHi x2) k0_pay42 (View.ld G rcol1)) (k0_pay49 (k0_pay33 (tRoot x5 G)) (k0_pay34 x3) (k0_pay35 x4) (tWLo x2) (View.ld G rcol2)) (k0_pay50 (k0_pay47 (k0_pay33 (tRoot x5 G)) (k0_pay34 x3) (k0_pay35 x4) (tWLo x2) (View.ld G rcol2))) (k0_pay53 (k0_pay33 (tRoot x5 G)) (k0_pay34 x3) (k0_pay35 x4) (tWHi x2) (View.ld G rcol3)) (k0_pay54 (k0_pay33 (tRoot x5 G)) (k0_pay34 x3) (k0_pay35 x4) (tWHi x2) (View.ld G rcol3)) (k0_pay57 (k0_pay55 (k0_pay33 (tRoot x5 G)) (k0_pay34 x3) (k0_pay35 x4) (tWLo x2) (View.ld G rcol4))) (k0_pay58 (k0_pay55 (k0_pay33 (tRoot x5 G)) (k0_pay34 x3) (k0_pay35 x4) (tWLo x2) (View.ld G rcol4))) (k0_pay61 (k0_pay33 (tRoot x5 G)) (k0_pay34 x3) (k0_pay35 x4) (tWHi x2) (View.ld G rcol5)) (k0_pay62 (k0_pay33 (tRoot x5 G)) (k0_pay34 x3) (k0_pay35 x4) (tWHi x2) (View.ld G rcol5)) (k0_pay63 (k0_pay33 (tRoot x5 G)) (k0_pay34 x3) (k0_pay35 x4) (tWLo x2) (View.ld G rcol6)) (View.ld G rcol7)
/-- The writes of the updated weights. -/
def tWL : List (View.Piece (Elt F) S128x1024 .f32) :=
  [⟨rcol7, tW7 x2 x3 x4 x5 G⟩, ⟨rcol6, tW6 x2 x3 x4 x5 G⟩, ⟨rcol5, tW5 x2 x3 x4 x5 G⟩, ⟨rcol4, tW4 x2 x3 x4 x5 G⟩, ⟨rcol3, tW3 x2 x3 x4 x5 G⟩, ⟨rcol2, tW2 x2 x3 x4 x5 G⟩, ⟨rcol1, tW1 x2 x3 x4 x5 G⟩, ⟨rcol0, tW0 x2 x3 x4 x5 G⟩]
/-- The codes of row block 0. -/
def tC0 : IVec S128x128 8 :=
  k0_pay71 (tBias x2 x3 x4 x5 G) (tInv x2 x3 x4 x5 G) (View.ld (View.canon (tWL x2 x3 x4 x5 G)) rcol0) (View.ld x8 rrow0)
/-- The codes of row block 1. -/
def tC1 : IVec S128x128 8 :=
  k0_pay73 (k0_pay72 (tBias x2 x3 x4 x5 G) (tInv x2 x3 x4 x5 G) (View.ld (View.canon (tWL x2 x3 x4 x5 G)) rcol1) (View.ld x8 rrow1)) (Scalar.ofBits .f32 0x00000000#32) (Scalar.ofBits .f32 0x437F0000#32)
/-- The codes of row block 2. -/
def tC2 : IVec S128x128 8 :=
  k0_pay74 (tBias x2 x3 x4 x5 G) (tInv x2 x3 x4 x5 G) (View.ld (View.canon (tWL x2 x3 x4 x5 G)) rcol2) (View.ld x8 rrow2)
/-- The codes of row block 3. -/
def tC3 : IVec S128x128 8 :=
  k0_pay77 (k0_pay75 (tBias x2 x3 x4 x5 G) (tInv x2 x3 x4 x5 G) (View.ld (View.canon (tWL x2 x3 x4 x5 G)) rcol3)) (k0_pay76 (View.ld x8 rrow3))
/-- The codes of row block 4. -/
def tC4 : IVec S128x128 8 :=
  k0_pay78 (tBias x2 x3 x4 x5 G) (tInv x2 x3 x4 x5 G) (View.ld (View.canon (tWL x2 x3 x4 x5 G)) rcol4) (View.ld x8 rrow4)
/-- The codes of row block 5. -/
def tC5 : IVec S128x128 8 :=
  k0_pay81 (k0_pay79 (tBias x2 x3 x4 x5 G) (View.ld (View.canon (tWL x2 x3 x4 x5 G)) rcol5)) (k0_pay80 (tInv x2 x3 x4 x5 G)) (View.ld x8 rrow5)
/-- The codes of row block 6. -/
def tC6 : IVec S128x128 8 :=
  k0_pay82 (tBias x2 x3 x4 x5 G) (tInv x2 x3 x4 x5 G) (View.ld (View.canon (tWL x2 x3 x4 x5 G)) rcol6) (View.ld x8 rrow6)
/-- The codes of row block 7. -/
def tC7 : IVec S128x128 8 :=
  k0_pay1 (tBias x2 x3 x4 x5 G) (tInv x2 x3 x4 x5 G) (View.ld (View.canon (tWL x2 x3 x4 x5 G)) rcol7) (View.ld x8 rrow7)
/-- The writes of the codes. -/
def tCL : List (View.Piece (Elt F) S1024x128 .i8) :=
  [⟨rrow7, tC7 x2 x3 x4 x5 x8 G⟩, ⟨rrow6, tC6 x2 x3 x4 x5 x8 G⟩, ⟨rrow5, tC5 x2 x3 x4 x5 x8 G⟩, ⟨rrow4, tC4 x2 x3 x4 x5 x8 G⟩, ⟨rrow3, tC3 x2 x3 x4 x5 x8 G⟩, ⟨rrow2, tC2 x2 x3 x4 x5 x8 G⟩, ⟨rrow1, tC1 x2 x3 x4 x5 x8 G⟩, ⟨rrow0, tC0 x2 x3 x4 x5 x8 G⟩]
/-- The codes of a grid point. -/
def tCodes : Vec F S1024x128 .i8 := View.canon (tCL x2 x3 x4 x5 x8 G)
end

/-! ## The writes cover their buffers -/

theorem rtile_mem (y : S128x1024.Idx) : y ∈ rtile.set := by
  refine Rect.mem_set_unit.mpr fun a => ?_
  have h := (y a).isLt
  fin_cases a <;> exact ⟨Nat.zero_le _, by simpa using h⟩

theorem gL0_cover (gb : Vec F S128x1024 .f32) (y : S128x1024.Idx) : ∃ p ∈ gL0 gb, y ∈ p.1.set :=
  ⟨⟨rtile, gb⟩, List.mem_cons_self, rtile_mem y⟩

theorem gL8_cover (b : BitVec 32) (x13 : Vec F S384x512 .bf16) (x14 : Vec F S512x128 .i32) (gb : Vec F S128x1024 .f32) (y : S128x1024.Idx) :
    ∃ p ∈ gL8 b x13 x14 gb, y ∈ p.1.set :=
  ⟨⟨rtile, gb⟩, by simp only [gL8, gL7, gL6, gL5, gL4, gL3, gL2, gL1, gL0, List.mem_cons, true_or, or_true], rtile_mem y⟩

/-- The eight column blocks cover the tile. -/
theorem rcol_cover (y : S128x1024.Idx) :
    y ∈ rcol0.set ∨ y ∈ rcol1.set ∨ y ∈ rcol2.set ∨ y ∈ rcol3.set ∨ y ∈ rcol4.set ∨ y ∈ rcol5.set ∨ y ∈ rcol6.set ∨ y ∈ rcol7.set := by
  have h0 : (y 0).val < 128 := (y 0).isLt
  have h1 : (y 1).val < 1024 := (y 1).isLt
  have key : ∀ (m : ℕ) (inb), 128 * m ≤ (y 1).val → (y 1).val < 128 * m + 128 →
      y ∈ (Rect.unit (s := S128x1024) ![0, 128 * m] S128x128.size inb).set := by
    intro m inb hl hu
    refine Rect.mem_set_unit.mpr fun a => ?_
    fin_cases a
    · exact ⟨Nat.zero_le _, by simpa using h0⟩
    · exact ⟨hl, hu⟩
  obtain ⟨m, hm⟩ : ∃ m, m = (y 1).val / 128 := ⟨_, rfl⟩
  have hlt : m < 8 := by omega
  have hl : 128 * m ≤ (y 1).val := by omega
  have hu : (y 1).val < 128 * m + 128 := by omega
  interval_cases m
  · exact .inl (key 0 _ hl hu)
  · exact .inr (.inl (key 1 _ hl hu))
  · exact .inr (.inr (.inl (key 2 _ hl hu)))
  · exact .inr (.inr (.inr (.inl (key 3 _ hl hu))))
  · exact .inr (.inr (.inr (.inr (.inl (key 4 _ hl hu)))))
  · exact .inr (.inr (.inr (.inr (.inr (.inl (key 5 _ hl hu))))))
  · exact .inr (.inr (.inr (.inr (.inr (.inr (.inl (key 6 _ hl hu)))))))
  · exact .inr (.inr (.inr (.inr (.inr (.inr (.inr (key 7 _ hl hu)))))))

/-- The eight row blocks cover the block of codes. -/
theorem rrow_cover (y : S1024x128.Idx) :
    y ∈ rrow0.set ∨ y ∈ rrow1.set ∨ y ∈ rrow2.set ∨ y ∈ rrow3.set ∨ y ∈ rrow4.set ∨ y ∈ rrow5.set ∨ y ∈ rrow6.set ∨ y ∈ rrow7.set := by
  have h0 : (y 0).val < 1024 := (y 0).isLt
  have h1 : (y 1).val < 128 := (y 1).isLt
  have key : ∀ (m : ℕ) (inb), 128 * m ≤ (y 0).val → (y 0).val < 128 * m + 128 →
      y ∈ (Rect.unit (s := S1024x128) ![128 * m, 0] S128x128.size inb).set := by
    intro m inb hl hu
    refine Rect.mem_set_unit.mpr fun a => ?_
    fin_cases a
    · exact ⟨hl, hu⟩
    · exact ⟨Nat.zero_le _, by simpa using h1⟩
  obtain ⟨m, hm⟩ : ∃ m, m = (y 0).val / 128 := ⟨_, rfl⟩
  have hlt : m < 8 := by omega
  have hl : 128 * m ≤ (y 0).val := by omega
  have hu : (y 0).val < 128 * m + 128 := by omega
  interval_cases m
  · exact .inl (key 0 _ hl hu)
  · exact .inr (.inl (key 1 _ hl hu))
  · exact .inr (.inr (.inl (key 2 _ hl hu)))
  · exact .inr (.inr (.inr (.inl (key 3 _ hl hu))))
  · exact .inr (.inr (.inr (.inr (.inl (key 4 _ hl hu)))))
  · exact .inr (.inr (.inr (.inr (.inr (.inl (key 5 _ hl hu))))))
  · exact .inr (.inr (.inr (.inr (.inr (.inr (.inl (key 6 _ hl hu)))))))
  · exact .inr (.inr (.inr (.inr (.inr (.inr (.inr (key 7 _ hl hu)))))))

theorem tCL_cover (x2 : Vec F S256x128 .i32) (x3 x4 x5 : Vec F S8x128 .f32) (x8 : Vec F S1024x128 .i32) (G : Vec F S128x1024 .f32) (y : S1024x128.Idx) :
    ∃ p ∈ tCL x2 x3 x4 x5 x8 G, y ∈ p.1.set := by
  simp only [tCL, List.exists_mem_cons_iff, List.not_mem_nil, false_and, exists_false, or_false]
  rcases rrow_cover y with h | h | h | h | h | h | h | h <;> simp only [h, true_or, or_true]

end Cert.KernelIdeal.Gen
end
-- ==== Proof.Body.lean ====
module

public import proofs.«01_k».proof.Proof.BodyDefs

/-! The run of the update kernel's body at one grid point: from the blocks it reads to the blocks it writes. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem whole_mem {S : Shape} {off : Fin S.rank → ℕ} (inb : ∀ a, off a + S.size a ≤ S.size a) (h : ∀ a, off a = 0) (y : S.Idx) :
    y ∈ (Rect.unit off S.size inb).set :=
  Rect.mem_set_unit.mpr fun a => by rw [h a]; exact ⟨Nat.zero_le _, by simpa using (y a).isLt⟩

/-- A whole-buffer store leaves its payload. -/
theorem read_writes_whole {sp : Space} {κ : Kind} {S : Shape} {e : EltTy} (v : View sig κ sp S e) (f : v.ty.Contents (Elt F)) {off : Fin S.rank → ℕ}
    (inb : ∀ a, off a + S.size a ≤ S.size a) (w : S.Idx → Elt F e) (h : ∀ a, off a = 0) :
    v.read (Elt F) (v.writes (Elt F) f [⟨Rect.unit off S.size inb, w⟩]) = w :=
  (View.read_writes_eq_canon _ _ _ fun y => ⟨_, List.mem_cons_self, whole_mem inb h y⟩).trans (View.canon_cons_unit_lit' inb w [] h)

section
variable (a0 : BitVec 32) (x1 : Vec F S16x8x8x128 .i32) (x13 : Vec F S384x512 .bf16) (x14 : Vec F S512x128 .i32) (x15 : Vec F S1 .i32)
/-- Column block 0 of the gradient tile. -/
abbrev gcol0 : Vec F S128x128 .f32 := View.ld (gTile (Scalar.muli (Scalar.addi 0#32 a0) 1024#32) x1 x13 x14 x15) rcol0
/-- Column block 1 of the gradient tile. -/
abbrev gcol1 : Vec F S128x128 .f32 := View.ld (gTile (Scalar.muli (Scalar.addi 0#32 a0) 1024#32) x1 x13 x14 x15) rcol1
/-- Column block 2 of the gradient tile. -/
abbrev gcol2 : Vec F S128x128 .f32 := View.ld (gTile (Scalar.muli (Scalar.addi 0#32 a0) 1024#32) x1 x13 x14 x15) rcol2
end

/-- The largest common slot of a bag all of whose lookups are equal, or -1. -/
def xAny (x7 : Vec F S512x256 .i32) : Vec F S1 .i32 := fun _ => extractAt ![0, 0, 0] (k0_pay18 x7) inpos_S1x1x1_p0_0_0

/-- The first grid point's condition. -/
abbrev isFirst (i : grid0.Coords) : Prop :=
  Scalar.cmpi .ne (Scalar.extui (Scalar.cmpi .eq (BitVec.ofNat 32 (i 0).val) 0#32) : BitVec 32) 0#32 = 1#1

section
variable (c : Dev nD) (i : grid0.Coords) (arg1 : Memref sig .tc .vmem S16x8x8x128 .i32) (harg1 : arg1.IsWhole) (arg2 : Memref sig .tc .vmem S256x128 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S512x128 .f32) (harg6 : arg6.IsWhole) (arg7 : Memref sig .tc .vmem S512x256 .i32) (harg7 : arg7.IsWhole) (arg8 : Memref sig .tc .vmem S1024x128 .i32) (harg8 : arg8.IsWhole) (arg9 : Memref sig .tc .vmem S1024x128 .i8) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S384x512 .bf16) (harg13 : arg13.IsWhole) (arg14 : Memref sig .tc .vmem S512x128 .i32) (harg14 : arg14.IsWhole) (arg15 : Memref sig .tc .smem S1 .i32) (harg15 : arg15.IsWhole) (arg16 : Memref sig .tc .vmem S128x1024 .f32) (harg16 : arg16.IsWhole) (arg17 : Memref sig .tc .vmem S128x1024 .f32) (harg17 : arg17.IsWhole)

/-- The first part of the body at the first grid point: the scratch is filled. -/
theorem part5_first (x1 : Vec F S16x8x8x128 .i32) (x6 : Vec F S512x128 .f32) (x7 : Vec F S512x256 .i32) (h : isFirst i) (E : Set ℕ) (K : _ → sProp 𝕄) :
    iprop(owns (c : Thread nD τ) arg1 fullShare x1 ∗ owns (c : Thread nD τ) arg6 fullShare x6 ∗ owns (c : Thread nD τ) arg7 fullShare x7 ∗ (∃ d, owns (c : Thread nD τ) arg13 fullShare d) ∗ (∃ d, owns (c : Thread nD τ) arg14 fullShare d) ∗ (∃ d, owns (c : Thread nD τ) arg15 fullShare d)
      ∗ (iprop(owns (c : Thread nD τ) arg1 fullShare x1 ∗ owns (c : Thread nD τ) arg6 fullShare x6 ∗ owns (c : Thread nD τ) arg7 fullShare x7 ∗ owns (c : Thread nD τ) arg13 fullShare (k0_pay15 x6) ∗ owns (c : Thread nD τ) arg14 fullShare (k0_pay17 x7) ∗ owns (c : Thread nD τ) arg15 fullShare (xAny x7)) -∗ K ⟨BitVec.ofNat 32 (i 0).val, k0_pay19 (View.ld x1 rcnt0), k0_pay20 (View.ld x1 rcnt1), k0_pay21 (View.ld x1 rcnt2), k0_pay22 (View.ld x1 rcnt3), k0_pay23 (View.ld x1 rcnt4), k0_pay24 (View.ld x1 rcnt5), k0_pay25 (View.ld x1 rcnt6)⟩))
      ⊢ wp frame (wpE (defs₀ (F := F)) Variants.none c none) E (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [k0_part5_eq_skeleton]
  unfold k0_part5_skel owns
  iintro ⟨⟨%f1, %hf1, H1⟩, ⟨%f6, %hf6, H6⟩, ⟨%f7, %hf7, H7⟩, ⟨%d13, %f13, -, H13⟩, ⟨%d14, %f14, -, H14⟩, ⟨%d15, %f15, -, H15⟩, Hk⟩
  obtain rfl := harg1.eq_unread hf1; obtain rfl := harg6.eq_unread hf6; obtain rfl := harg7.eq_unread hf7
  sl_exec (disch := exact h)
  sl_step
  have l0 : View.readAt (Elt F) arg1.view (rcnt0).toLoadRect (harg1.unread x1) = View.ld x1 rcnt0 := by
    rw [View.readAt_eq_ld, harg1.read_unread]
  have l1 : View.readAt (Elt F) arg1.view (rcnt1).toLoadRect (harg1.unread x1) = View.ld x1 rcnt1 := by
    rw [View.readAt_eq_ld, harg1.read_unread]
  have l2 : View.readAt (Elt F) arg1.view (rcnt2).toLoadRect (harg1.unread x1) = View.ld x1 rcnt2 := by
    rw [View.readAt_eq_ld, harg1.read_unread]
  have l3 : View.readAt (Elt F) arg1.view (rcnt3).toLoadRect (harg1.unread x1) = View.ld x1 rcnt3 := by
    rw [View.readAt_eq_ld, harg1.read_unread]
  have l4 : View.readAt (Elt F) arg1.view (rcnt4).toLoadRect (harg1.unread x1) = View.ld x1 rcnt4 := by
    rw [View.readAt_eq_ld, harg1.read_unread]
  have l5 : View.readAt (Elt F) arg1.view (rcnt5).toLoadRect (harg1.unread x1) = View.ld x1 rcnt5 := by
    rw [View.readAt_eq_ld, harg1.read_unread]
  have l6 : View.readAt (Elt F) arg1.view (rcnt6).toLoadRect (harg1.unread x1) = View.ld x1 rcnt6 := by
    rw [View.readAt_eq_ld, harg1.read_unread]
  have w6 : View.readAt (Elt F) arg6.view (Rect.unit (s := S512x128) ![0, 0] S512x128.size inb_S512x128_S512x128_0_0).toLoadRect (harg6.unread x6) = x6 := by
    rw [View.readAt_eq_ld, harg6.read_unread]; exact View.ld_unit_lit' _ _ (by decide)
  have w7 : View.readAt (Elt F) arg7.view (Rect.unit (s := S512x256) ![0, 0] S512x256.size inb_S512x256_S512x256_0_0).toLoadRect (harg7.unread x7) = x7 := by
    rw [View.readAt_eq_ld, harg7.read_unread]; exact View.ld_unit_lit' _ _ (by decide)
  delta part5_first.sl.r part5_first.sl.v0 part5_first.sl.v1 part5_first.sl.v2 part5_first.sl.v512
  simp only [l0, l1, l2, l3, l4, l5, l6, w6, w7]
  iapply Hk
  isplitl [H1]
  · iexists _; isplitr; · ipureintro; exact harg1.read_unread _
    iexact H1
  isplitl [H6]
  · iexists _; isplitr; · ipureintro; exact harg6.read_unread _
    iexact H6
  isplitl [H7]
  · iexists _; isplitr; · ipureintro; exact harg7.read_unread _
    iexact H7
  isplitl [H13]
  · iexists _; isplitr; swap; · iexact H13
    ipureintro; exact read_writes_whole _ _ inb_S384x512_S384x512_0_0 _ (by decide)
  isplitl [H14]
  · iexists _; isplitr; swap; · iexact H14
    ipureintro; exact read_writes_whole _ _ inb_S512x128_S512x128_0_0 _ (by decide)
  iexists _; isplitr; swap; · iexact H15
  ipureintro; exact read_writes_whole _ _ inb_S1_S1_0 _ (by decide)

/-- The first part of the body at a later grid point: the scratch is kept. -/
theorem part5_later (x1 : Vec F S16x8x8x128 .i32) (h : ¬ isFirst i) (E : Set ℕ) (K : _ → sProp 𝕄) :
    iprop(owns (c : Thread nD τ) arg1 fullShare x1
      ∗ (iprop(owns (c : Thread nD τ) arg1 fullShare x1) -∗ K ⟨BitVec.ofNat 32 (i 0).val, k0_pay19 (View.ld x1 rcnt0), k0_pay20 (View.ld x1 rcnt1), k0_pay21 (View.ld x1 rcnt2), k0_pay22 (View.ld x1 rcnt3), k0_pay23 (View.ld x1 rcnt4), k0_pay24 (View.ld x1 rcnt5), k0_pay25 (View.ld x1 rcnt6)⟩))
      ⊢ wp frame (wpE (defs₀ (F := F)) Variants.none c none) E (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [k0_part5_eq_skeleton]
  unfold k0_part5_skel owns
  iintro ⟨⟨%f1, %hf1, H1⟩, Hk⟩
  obtain rfl := harg1.eq_unread hf1
  sl_exec (disch := exact h)
  sl_step
  have l0 : View.readAt (Elt F) arg1.view (rcnt0).toLoadRect (harg1.unread x1) = View.ld x1 rcnt0 := by
    rw [View.readAt_eq_ld, harg1.read_unread]
  have l1 : View.readAt (Elt F) arg1.view (rcnt1).toLoadRect (harg1.unread x1) = View.ld x1 rcnt1 := by
    rw [View.readAt_eq_ld, harg1.read_unread]
  have l2 : View.readAt (Elt F) arg1.view (rcnt2).toLoadRect (harg1.unread x1) = View.ld x1 rcnt2 := by
    rw [View.readAt_eq_ld, harg1.read_unread]
  have l3 : View.readAt (Elt F) arg1.view (rcnt3).toLoadRect (harg1.unread x1) = View.ld x1 rcnt3 := by
    rw [View.readAt_eq_ld, harg1.read_unread]
  have l4 : View.readAt (Elt F) arg1.view (rcnt4).toLoadRect (harg1.unread x1) = View.ld x1 rcnt4 := by
    rw [View.readAt_eq_ld, harg1.read_unread]
  have l5 : View.readAt (Elt F) arg1.view (rcnt5).toLoadRect (harg1.unread x1) = View.ld x1 rcnt5 := by
    rw [View.readAt_eq_ld, harg1.read_unread]
  have l6 : View.readAt (Elt F) arg1.view (rcnt6).toLoadRect (harg1.unread x1) = View.ld x1 rcnt6 := by
    rw [View.readAt_eq_ld, harg1.read_unread]
  simp only [l0, l1, l2, l3, l4, l5, l6]
  iapply Hk
  iexists _; isplitr; · ipureintro; exact harg1.read_unread _
  iexact H1

theorem part6_no (x13 : Vec F S384x512 .bf16) (x14 : Vec F S512x128 .i32) (x15 : Vec F S1 .i32) (x1 : Vec F S16x8x8x128 .i32) (a0 : BitVec 32)
    (h : ¬ anyFull x15) (E : Set ℕ) (K : _ → sProp 𝕄) :
    iprop(owns (c : Thread nD τ) arg1 fullShare x1 ∗ owns (c : Thread nD τ) arg13 fullShare x13 ∗ owns (c : Thread nD τ) arg14 fullShare x14 ∗ owns (c : Thread nD τ) arg15 fullShare x15 ∗ (∃ d, owns (c : Thread nD τ) arg16 fullShare d)
      ∗ (iprop(owns (c : Thread nD τ) arg1 fullShare x1 ∗ owns (c : Thread nD τ) arg13 fullShare x13 ∗ owns (c : Thread nD τ) arg14 fullShare x14 ∗ owns (c : Thread nD τ) arg15 fullShare x15 ∗ owns (c : Thread nD τ) arg16 fullShare (gTile (Scalar.muli (Scalar.addi 0#32 a0) 1024#32) x1 x13 x14 x15)) -∗
          K ⟨k0_pay28 (gcol0 a0 x1 x13 x14 x15) (gcol0 a0 x1 x13 x14 x15), k0_pay29 (gcol1 a0 x1 x13 x14 x15) (gcol1 a0 x1 x13 x14 x15), k0_pay30 (gcol2 a0 x1 x13 x14 x15) (gcol2 a0 x1 x13 x14 x15)⟩))
      ⊢ wp frame (wpE (defs₀ (F := F)) Variants.none c none) E (k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 (k0_pay19 (View.ld x1 rcnt0)) (k0_pay20 (View.ld x1 rcnt1)) (k0_pay21 (View.ld x1 rcnt2)) (k0_pay22 (View.ld x1 rcnt3)) (k0_pay23 (View.ld x1 rcnt4)) (k0_pay24 (View.ld x1 rcnt5)) (k0_pay25 (View.ld x1 rcnt6))) K := by
  have h' : ¬ (Scalar.cmpi .ne (Scalar.extui (Scalar.cmpi .sge (arg15.view.readAt (Elt F) (Rect.unit (s := S1) ![0] S1.size inb_S1_S1_0).toLoadRect (harg15.unread x15) (Shape.Idx.first (numel1_S1.symm ▸ Nat.one_pos))) 0#32) : BitVec 32) 0#32 = 1#1) := by
    rw [View.readAt_eq_ld, harg15.read_unread]; exact h
  simp only [k0_part6_eq_skeleton, k0_part1_eq_skeleton, k0_part2_eq_skeleton, k0_part3_eq_skeleton, k0_part4_eq_skeleton]
  unfold k0_part6_skel owns
  iintro ⟨⟨%f1, %hf1, H1⟩, ⟨%f13, %hf13, H13⟩, ⟨%f14, %hf14, H14⟩, ⟨%f15, %hf15, H15⟩, ⟨%d16, %f16, -, H16⟩, Hk⟩
  obtain rfl := harg1.eq_unread hf1; obtain rfl := harg13.eq_unread hf13; obtain rfl := harg14.eq_unread hf14; obtain rfl := harg15.eq_unread hf15
  sl_exec (disch := exact h')
  sl_step
  have w13 : View.readAt (Elt F) arg13.view (Rect.unit (s := S384x512) ![0, 0] S384x512.size inb_S384x512_S384x512_0_0).toLoadRect (harg13.unread x13) = x13 := by
    rw [View.readAt_eq_ld, harg13.read_unread]; exact View.ld_unit_lit' _ _ (by decide)
  have eT : gTile (Scalar.muli (Scalar.addi 0#32 a0) 1024#32) x1 x13 x14 x15 = View.canon (gL0 (gBase x1 x13)) := if_neg h
  have eH : part6_no.sl.H16_1 c arg1 harg1 arg13 harg13 x13 x1 = gL0 (gBase x1 x13) := by
    delta part6_no.sl.H16_1 part6_no.sl.r part6_no.sl.v41 part6_no.sl.v42 part6_no.sl.v43 part6_no.sl.v44 part6_no.sl.v49 part6_no.sl.v54
    simp only [View.readCov_eq_canon', View.readAt_eq_ld _ (harg1.unread x1), harg1.read_unread, w13]
    rfl
  have e0 : part6_no.sl.v44 c arg1 harg1 arg13 harg13 arg16 x13 x1 = gcol0 a0 x1 x13 x14 x15 := by
    delta part6_no.sl.v44
    simp only [View.readCov_eq_canon', eH, gcol0, eT]
  have e1 : part6_no.sl.v49 c arg1 harg1 arg13 harg13 arg16 x13 x1 = gcol1 a0 x1 x13 x14 x15 := by
    delta part6_no.sl.v49
    simp only [View.readCov_eq_canon', eH, gcol1, eT]
  have e2 : part6_no.sl.v54 c arg1 harg1 arg13 harg13 arg16 x13 x1 = gcol2 a0 x1 x13 x14 x15 := by
    delta part6_no.sl.v54
    simp only [View.readCov_eq_canon', eH, gcol2, eT]
  rw [e0, e1, e2, eH]
  iapply Hk
  isplitl [H1]
  · iexists _; isplitr; · ipureintro; exact harg1.read_unread _
    iexact H1
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  iexists _; isplitr; swap; · iexact H16
  ipureintro; exact (View.read_writes_eq_canon _ _ _ (gL0_cover _)).trans eT.symm

set_option maxHeartbeats 1000000 in
theorem part6_yes (x13 : Vec F S384x512 .bf16) (x14 : Vec F S512x128 .i32) (x15 : Vec F S1 .i32) (x1 : Vec F S16x8x8x128 .i32) (a0 : BitVec 32)
    (h : anyFull x15) (E : Set ℕ) (K : _ → sProp 𝕄) :
    iprop(owns (c : Thread nD τ) arg1 fullShare x1 ∗ owns (c : Thread nD τ) arg13 fullShare x13 ∗ owns (c : Thread nD τ) arg14 fullShare x14 ∗ owns (c : Thread nD τ) arg15 fullShare x15 ∗ (∃ d, owns (c : Thread nD τ) arg16 fullShare d)
      ∗ (iprop(owns (c : Thread nD τ) arg1 fullShare x1 ∗ owns (c : Thread nD τ) arg13 fullShare x13 ∗ owns (c : Thread nD τ) arg14 fullShare x14 ∗ owns (c : Thread nD τ) arg15 fullShare x15 ∗ owns (c : Thread nD τ) arg16 fullShare (gTile (Scalar.muli (Scalar.addi 0#32 a0) 1024#32) x1 x13 x14 x15)) -∗
          K ⟨k0_pay28 (gcol0 a0 x1 x13 x14 x15) (gcol0 a0 x1 x13 x14 x15), k0_pay29 (gcol1 a0 x1 x13 x14 x15) (gcol1 a0 x1 x13 x14 x15), k0_pay30 (gcol2 a0 x1 x13 x14 x15) (gcol2 a0 x1 x13 x14 x15)⟩))
      ⊢ wp frame (wpE (defs₀ (F := F)) Variants.none c none) E (k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 (k0_pay19 (View.ld x1 rcnt0)) (k0_pay20 (View.ld x1 rcnt1)) (k0_pay21 (View.ld x1 rcnt2)) (k0_pay22 (View.ld x1 rcnt3)) (k0_pay23 (View.ld x1 rcnt4)) (k0_pay24 (View.ld x1 rcnt5)) (k0_pay25 (View.ld x1 rcnt6))) K := by
  have h' : (Scalar.cmpi .ne (Scalar.extui (Scalar.cmpi .sge (arg15.view.readAt (Elt F) (Rect.unit (s := S1) ![0] S1.size inb_S1_S1_0).toLoadRect (harg15.unread x15) (Shape.Idx.first (numel1_S1.symm ▸ Nat.one_pos))) 0#32) : BitVec 32) 0#32 = 1#1) := by
    rw [View.readAt_eq_ld, harg15.read_unread]; exact h
  simp only [k0_part6_eq_skeleton, k0_part1_eq_skeleton, k0_part2_eq_skeleton, k0_part3_eq_skeleton, k0_part4_eq_skeleton]
  unfold k0_part6_skel owns
  iintro ⟨⟨%f1, %hf1, H1⟩, ⟨%f13, %hf13, H13⟩, ⟨%f14, %hf14, H14⟩, ⟨%f15, %hf15, H15⟩, ⟨%d16, %f16, -, H16⟩, Hk⟩
  obtain rfl := harg1.eq_unread hf1; obtain rfl := harg13.eq_unread hf13; obtain rfl := harg14.eq_unread hf14; obtain rfl := harg15.eq_unread hf15
  sl_exec (disch := exact h')
  sl_step
  have w13 : View.readAt (Elt F) arg13.view (Rect.unit (s := S384x512) ![0, 0] S384x512.size inb_S384x512_S384x512_0_0).toLoadRect (harg13.unread x13) = x13 := by
    rw [View.readAt_eq_ld, harg13.read_unread]; exact View.ld_unit_lit' _ _ (by decide)
  have w14 : View.readAt (Elt F) arg14.view (Rect.unit (s := S512x128) ![0, 0] S512x128.size inb_S512x128_S512x128_0_0).toLoadRect (harg14.unread x14) = x14 := by
    rw [View.readAt_eq_ld, harg14.read_unread]; exact View.ld_unit_lit' _ _ (by decide)
  have eT : gTile (Scalar.muli (Scalar.addi 0#32 a0) 1024#32) x1 x13 x14 x15 = View.canon (gL8 (Scalar.muli (Scalar.addi 0#32 a0) 1024#32) x13 x14 (gBase x1 x13)) := if_pos h
  have eH : part6_yes.sl.H16_9 c arg1 harg1 arg13 harg13 arg14 harg14 arg16 x13 x14 x1 a0 = gL8 (Scalar.muli (Scalar.addi 0#32 a0) 1024#32) x13 x14 (gBase x1 x13) := by
    delta part6_yes.sl.H16_1 part6_yes.sl.H16_2 part6_yes.sl.H16_3 part6_yes.sl.H16_4 part6_yes.sl.H16_5 part6_yes.sl.H16_6 part6_yes.sl.H16_7 part6_yes.sl.H16_8 part6_yes.sl.H16_9 part6_yes.sl.r part6_yes.sl.r_1 part6_yes.sl.r_2 part6_yes.sl.r_3 part6_yes.sl.r_4 part6_yes.sl.r_5 part6_yes.sl.v41 part6_yes.sl.v42 part6_yes.sl.v43 part6_yes.sl.v44 part6_yes.sl.v483 part6_yes.sl.v484 part6_yes.sl.v49 part6_yes.sl.v493 part6_yes.sl.v514 part6_yes.sl.v535 part6_yes.sl.v54 part6_yes.sl.v556 part6_yes.sl.v577 part6_yes.sl.v598 part6_yes.sl.v619 part6_yes.sl.v640
    simp only [View.readCov_eq_canon', View.readAt_eq_ld _ (harg1.unread x1), harg1.read_unread, w13, w14]
    rfl
  have e0 : part6_yes.sl.v44 c arg1 harg1 arg13 harg13 arg14 harg14 arg16 x13 x14 x1 a0 = gcol0 a0 x1 x13 x14 x15 := by
    delta part6_yes.sl.v44
    simp only [View.readCov_eq_canon', eH, gcol0, eT]
  have e1 : part6_yes.sl.v49 c arg1 harg1 arg13 harg13 arg14 harg14 arg16 x13 x14 x1 a0 = gcol1 a0 x1 x13 x14 x15 := by
    delta part6_yes.sl.v49
    simp only [View.readCov_eq_canon', eH, gcol1, eT]
  have e2 : part6_yes.sl.v54 c arg1 harg1 arg13 harg13 arg14 harg14 arg16 x13 x14 x1 a0 = gcol2 a0 x1 x13 x14 x15 := by
    delta part6_yes.sl.v54
    simp only [View.readCov_eq_canon', eH, gcol2, eT]
  rw [e0, e1, e2, eH]
  iapply Hk
  isplitl [H1]
  · iexists _; isplitr; · ipureintro; exact harg1.read_unread _
    iexact H1
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  iexists _; isplitr; swap; · iexact H16
  ipureintro; exact (View.read_writes_eq_canon _ _ _ (gL8_cover _ _ _ _)).trans eT.symm

theorem part6 (x13 : Vec F S384x512 .bf16) (x14 : Vec F S512x128 .i32) (x15 : Vec F S1 .i32) (x1 : Vec F S16x8x8x128 .i32) (a0 : BitVec 32)
    (E : Set ℕ) (K : _ → sProp 𝕄) :
    iprop(owns (c : Thread nD τ) arg1 fullShare x1 ∗ owns (c : Thread nD τ) arg13 fullShare x13 ∗ owns (c : Thread nD τ) arg14 fullShare x14 ∗ owns (c : Thread nD τ) arg15 fullShare x15 ∗ (∃ d, owns (c : Thread nD τ) arg16 fullShare d)
      ∗ (iprop(owns (c : Thread nD τ) arg1 fullShare x1 ∗ owns (c : Thread nD τ) arg13 fullShare x13 ∗ owns (c : Thread nD τ) arg14 fullShare x14 ∗ owns (c : Thread nD τ) arg15 fullShare x15 ∗ owns (c : Thread nD τ) arg16 fullShare (gTile (Scalar.muli (Scalar.addi 0#32 a0) 1024#32) x1 x13 x14 x15)) -∗
          K ⟨k0_pay28 (gcol0 a0 x1 x13 x14 x15) (gcol0 a0 x1 x13 x14 x15), k0_pay29 (gcol1 a0 x1 x13 x14 x15) (gcol1 a0 x1 x13 x14 x15), k0_pay30 (gcol2 a0 x1 x13 x14 x15) (gcol2 a0 x1 x13 x14 x15)⟩))
      ⊢ wp frame (wpE (defs₀ (F := F)) Variants.none c none) E (k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 (k0_pay19 (View.ld x1 rcnt0)) (k0_pay20 (View.ld x1 rcnt1)) (k0_pay21 (View.ld x1 rcnt2)) (k0_pay22 (View.ld x1 rcnt3)) (k0_pay23 (View.ld x1 rcnt4)) (k0_pay24 (View.ld x1 rcnt5)) (k0_pay25 (View.ld x1 rcnt6))) K := by
  by_cases h : anyFull x15
  · exact part6_yes c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x13 x14 x15 x1 a0 h E K
  · exact part6_no c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x13 x14 x15 x1 a0 h E K

/-- The rest of the body, after the gradient tile. -/
def tailProg (v48 v53 v58 : FVec F S1x128 .f32) : Prog (TpuEff nD τ sig (Elt F) Λ₀ .tc) PUnit := do
  let ⟨v89, v90⟩ : Σ' (v89 : FVec F S8x128 .f32), FVec F S8x128 .f32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v48 v53 v58
  let ⟨v94, v97, v99, v101, v103, v124, v126, v127⟩ : Σ' (v94 : FVec F S8x128 .f32) (v97 : FVec F S8x128 .f32) (v99 : FVec F S8x128 .f32) (v101 : IVec S128x128 32) (v103 : IVec S128x128 32) (v124 : FVec F S1x128 .f32) (v126 : FVec F S1x128 .f32), IVec S128x128 32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v89 v90
  let ⟨v147, v149, v165, v170⟩ : Σ' (v147 : FVec F S1x128 .f32) (v149 : FVec F S1x128 .f32) (v165 : FVec F S128x128 .f32), FVec F S1x128 .f32 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v94 v97 v99 v101 v103 v127
  let ⟨v172, v193, v195, v211⟩ : Σ' (v172 : FVec F S1x128 .f32) (v193 : FVec F S1x128 .f32) (v195 : FVec F S1x128 .f32), FVec F S128x128 .f32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v94 v97 v99 v101 v103 v165
  let ⟨v216, v218, v239, v241, v257⟩ : Σ' (v216 : FVec F S1x128 .f32) (v218 : FVec F S1x128 .f32) (v239 : FVec F S1x128 .f32) (v241 : FVec F S1x128 .f32), FVec F S128x128 .f32 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v94 v97 v99 v101 v103 v211
  let ⟨v288, v294⟩ : Σ' (v288 : FVec F S8x128 .f32), FVec F S8x128 .f32 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v94 v97 v99 v103 v124 v126 v147 v149 v170 v172 v193 v195 v216 v218 v239 v241 v257
  let ⟨v337, cst_163, cst_164⟩ : Σ' (v337 : FVec F S128x128 .f32) (cst_163 : F .f32), F .f32 ← k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v288 v294
  let ⟨v375, v378⟩ : Σ' (v375 : FVec F S128x128 .f32), IVec S128x128 32 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v288 v294 v337 cst_163 cst_164
  let ⟨v417, v419⟩ : Σ' (v417 : FVec F S128x128 .f32), FVec F S128x128 .f32 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v288 v294 v375 v378
  k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v288 v294 v417 v419
  let v460 : Vec F S128x128 .f32 ← Prog.lift (.load arg17 (Rect.unit (s := S128x1024) ![0, 896] S128x128.size inb_S128x1024_S128x128_0_896).toLoadRect (View.loadsAt_vmem h_S128x128))
  let v468 : Vec F S128x128 .i32 ← Prog.lift (.load arg8 (Rect.unit (s := S1024x128) ![896, 0] S128x128.size inb_S1024x128_S128x128_896_0).toLoadRect (View.loadsAt_vmem h_S128x128))
  let v482 : Vec F S128x128 .i8 ← Prog.lift (.load arg9 (Rect.unit (s := S1024x128) ![896, 0] S128x128.size inb_S1024x128_S128x128_896_0).toLoadRect (View.loadsAt_vmem h_S128x128))
  Prog.lift (.store arg9 (Rect.unit (s := S1024x128) ![896, 0] S128x128.size inb_S1024x128_S128x128_896_0) (k0_pay1 v288 v294 v460 v468) Finset.univ (View.stores_vmem h_S128x128 (harg9.storeExact_slice rfl _ packedi8_S1024x128_S128x128_896_0) (fun _ => rfl)) (.inl rfl))
  pure ⟨⟩

/-- The body, its first slot counted from `b` blocks on. -/
def bodyProg (b : BitVec 32) : Prog (TpuEff nD τ sig (Elt F) Λ₀ .tc) PUnit := do
  let ⟨arg0, v5, v8, v11, v14, v17, v20, v23⟩ : Σ' (arg0 : BitVec 32) (v5 : IVec S128x128 32) (v8 : IVec S128x128 32) (v11 : IVec S128x128 32) (v14 : IVec S128x128 32) (v17 : IVec S128x128 32) (v20 : IVec S128x128 32), IVec S128x128 32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
  let ⟨v48, v53, v58⟩ : Σ' (v48 : FVec F S1x128 .f32) (v53 : FVec F S1x128 .f32), FVec F S1x128 .f32 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (Scalar.addi b arg0) v5 v8 v11 v14 v17 v20 v23
  tailProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v48 v53 v58

set_option maxHeartbeats 4000000 in
theorem tail (x2 : Vec F S256x128 .i32) (x3 x4 x5 : Vec F S8x128 .f32) (x8 : Vec F S1024x128 .i32) (G : Vec F S128x1024 .f32)
    (E : Set ℕ) (K : _ → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare x8 ∗ owns (c : Thread nD τ) arg16 fullShare G ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg17 fullShare d)
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare x8 ∗ owns (c : Thread nD τ) arg16 fullShare G ∗ owns (c : Thread nD τ) arg9 fullShare (tCodes x2 x3 x4 x5 x8 G) ∗ owns (c : Thread nD τ) arg10 fullShare (tScale x2 x3 x4 x5 G) ∗ owns (c : Thread nD τ) arg11 fullShare (tBias x2 x3 x4 x5 G) ∗ owns (c : Thread nD τ) arg12 fullShare (tState x5 G) ∗ (∃ d, owns (c : Thread nD τ) arg17 fullShare d)) -∗ K ⟨⟩))
      ⊢ wp frame (wpE (defs₀ (F := F)) Variants.none c none) E (tailProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay28 (View.ld G rcol0) (View.ld G rcol0)) (k0_pay29 (View.ld G rcol1) (View.ld G rcol1)) (k0_pay30 (View.ld G rcol2) (View.ld G rcol2))) K := by
  unfold tailProg
  simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f2, %hf2, H2⟩, ⟨%f3, %hf3, H3⟩, ⟨%f4, %hf4, H4⟩, ⟨%f5, %hf5, H5⟩, ⟨%f8, %hf8, H8⟩, ⟨%f16, %hf16, H16⟩, ⟨%d9, %f9, -, H9⟩, ⟨%d10, %f10, -, H10⟩, ⟨%d11, %f11, -, H11⟩, ⟨%d12, %f12, -, H12⟩, ⟨%d17, %f17, -, H17⟩, Hk⟩
  obtain rfl := harg2.eq_unread hf2; obtain rfl := harg3.eq_unread hf3; obtain rfl := harg4.eq_unread hf4; obtain rfl := harg5.eq_unread hf5; obtain rfl := harg8.eq_unread hf8; obtain rfl := harg16.eq_unread hf16
  sl_exec
  sl_step
  have w3 : View.readAt (Elt F) arg3.view (Rect.unit (s := S8x128) ![0, 0] S8x128.size inb_S8x128_S8x128_0_0).toLoadRect (harg3.unread x3) = x3 := by
    rw [View.readAt_eq_ld, harg3.read_unread]; exact View.ld_unit_lit' _ _ (by decide)
  have w4 : View.readAt (Elt F) arg4.view (Rect.unit (s := S8x128) ![0, 0] S8x128.size inb_S8x128_S8x128_0_0).toLoadRect (harg4.unread x4) = x4 := by
    rw [View.readAt_eq_ld, harg4.read_unread]; exact View.ld_unit_lit' _ _ (by decide)
  have w5 : View.readAt (Elt F) arg5.view (Rect.unit (s := S8x128) ![0, 0] S8x128.size inb_S8x128_S8x128_0_0).toLoadRect (harg5.unread x5) = x5 := by
    rw [View.readAt_eq_ld, harg5.read_unread]; exact View.ld_unit_lit' _ _ (by decide)
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H8]
  · iexists _; isplitr; · ipureintro; exact harg8.read_unread _
    iexact H8
  isplitl [H16]
  · iexists _; isplitr; · ipureintro; exact harg16.read_unread _
    iexact H16
  isplitl [H9]
  · iexists _; isplitr; swap
    · iexact H9
    ipureintro
    refine Eq.trans (congrArg (fun L => arg9.view.read (Elt F) (arg9.view.writes (Elt F) f9 L)) (?_ : _ = tCL x2 x3 x4 x5 x8 G)) (View.read_writes_eq_canon _ _ _ (tCL_cover x2 x3 x4 x5 x8 G))
    delta tail.sl.H17_8 tail.sl.cst_163 tail.sl.cst_164 tail.sl.r tail.sl.r_1 tail.sl.r_10 tail.sl.r_11 tail.sl.r_12 tail.sl.r_13 tail.sl.r_14 tail.sl.r_15 tail.sl.r_16 tail.sl.r_17 tail.sl.r_18 tail.sl.r_19 tail.sl.r_2 tail.sl.r_20 tail.sl.r_21 tail.sl.r_22 tail.sl.r_23 tail.sl.r_24 tail.sl.r_25 tail.sl.r_26 tail.sl.r_27 tail.sl.r_28 tail.sl.r_3 tail.sl.r_4 tail.sl.r_5 tail.sl.r_6 tail.sl.r_7 tail.sl.r_8 tail.sl.r_9 tail.sl.v299 tail.sl.v322 tail.sl.v345 tail.sl.v368 tail.sl.v391 tail.sl.v414 tail.sl.v437 tail.sl.v460
    simp only [View.readCov_eq_canon', View.readAt_eq_ld _ (harg16.unread G), harg16.read_unread, View.readAt_eq_ld _ (harg8.unread x8), harg8.read_unread, View.readAt_eq_ld _ (harg2.unread x2), harg2.read_unread, w3, w4, w5]
    rfl
  isplitl [H10]
  · iexists _; isplitr; swap
    · iexact H10
    ipureintro
    refine (read_writes_whole _ _ inb_S8x128_S8x128_0_0 _ (by decide)).trans ?_
    delta tail.sl.H17_8 tail.sl.cst_163 tail.sl.cst_164 tail.sl.r tail.sl.r_1 tail.sl.r_10 tail.sl.r_11 tail.sl.r_12 tail.sl.r_13 tail.sl.r_14 tail.sl.r_15 tail.sl.r_16 tail.sl.r_17 tail.sl.r_18 tail.sl.r_19 tail.sl.r_2 tail.sl.r_20 tail.sl.r_21 tail.sl.r_22 tail.sl.r_23 tail.sl.r_24 tail.sl.r_25 tail.sl.r_26 tail.sl.r_27 tail.sl.r_28 tail.sl.r_3 tail.sl.r_4 tail.sl.r_5 tail.sl.r_6 tail.sl.r_7 tail.sl.r_8 tail.sl.r_9 tail.sl.v299 tail.sl.v322 tail.sl.v345 tail.sl.v368 tail.sl.v391 tail.sl.v414 tail.sl.v437 tail.sl.v460
    simp only [View.readCov_eq_canon', View.readAt_eq_ld _ (harg16.unread G), harg16.read_unread, View.readAt_eq_ld _ (harg8.unread x8), harg8.read_unread, View.readAt_eq_ld _ (harg2.unread x2), harg2.read_unread, w3, w4, w5]
    rfl
  isplitl [H11]
  · iexists _; isplitr; swap
    · iexact H11
    ipureintro
    refine (read_writes_whole _ _ inb_S8x128_S8x128_0_0 _ (by decide)).trans ?_
    delta tail.sl.H17_8 tail.sl.cst_163 tail.sl.cst_164 tail.sl.r tail.sl.r_1 tail.sl.r_10 tail.sl.r_11 tail.sl.r_12 tail.sl.r_13 tail.sl.r_14 tail.sl.r_15 tail.sl.r_16 tail.sl.r_17 tail.sl.r_18 tail.sl.r_19 tail.sl.r_2 tail.sl.r_20 tail.sl.r_21 tail.sl.r_22 tail.sl.r_23 tail.sl.r_24 tail.sl.r_25 tail.sl.r_26 tail.sl.r_27 tail.sl.r_28 tail.sl.r_3 tail.sl.r_4 tail.sl.r_5 tail.sl.r_6 tail.sl.r_7 tail.sl.r_8 tail.sl.r_9 tail.sl.v299 tail.sl.v322 tail.sl.v345 tail.sl.v368 tail.sl.v391 tail.sl.v414 tail.sl.v437 tail.sl.v460
    simp only [View.readCov_eq_canon', View.readAt_eq_ld _ (harg16.unread G), harg16.read_unread, View.readAt_eq_ld _ (harg8.unread x8), harg8.read_unread, View.readAt_eq_ld _ (harg2.unread x2), harg2.read_unread, w3, w4, w5]
    rfl
  isplitl [H12]
  · iexists _; isplitr; swap
    · iexact H12
    ipureintro
    refine (read_writes_whole _ _ inb_S8x128_S8x128_0_0 _ (by decide)).trans ?_
    delta tail.sl.H17_8 tail.sl.cst_163 tail.sl.cst_164 tail.sl.r tail.sl.r_1 tail.sl.r_10 tail.sl.r_11 tail.sl.r_12 tail.sl.r_13 tail.sl.r_14 tail.sl.r_15 tail.sl.r_16 tail.sl.r_17 tail.sl.r_18 tail.sl.r_19 tail.sl.r_2 tail.sl.r_20 tail.sl.r_21 tail.sl.r_22 tail.sl.r_23 tail.sl.r_24 tail.sl.r_25 tail.sl.r_26 tail.sl.r_27 tail.sl.r_28 tail.sl.r_3 tail.sl.r_4 tail.sl.r_5 tail.sl.r_6 tail.sl.r_7 tail.sl.r_8 tail.sl.r_9 tail.sl.v299 tail.sl.v322 tail.sl.v345 tail.sl.v368 tail.sl.v391 tail.sl.v414 tail.sl.v437 tail.sl.v460
    simp only [View.readCov_eq_canon', View.readAt_eq_ld _ (harg16.unread G), harg16.read_unread, View.readAt_eq_ld _ (harg8.unread x8), harg8.read_unread, View.readAt_eq_ld _ (harg2.unread x2), harg2.read_unread, w3, w4, w5]
    rfl
  iexists _, _; isplitr; swap
  · iexact H17
  ipureintro; rfl
end

end Cert.KernelIdeal.Gen
end
-- ==== Proof.Bodies.lean ====
module

public import proofs.«01_k».proof.Proof.Body

/-! The body of each of the four update calls, at the first grid point and at a later one. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first slot of grid point `i` of a call whose blocks are counted from `b` on. -/
def slotBase (b : BitVec 32) (i : grid0.Coords) : BitVec 32 := Scalar.muli (Scalar.addi 0#32 (Scalar.addi b (BitVec.ofNat 32 (i 0).val))) 1024#32

/-- The gradient tile of grid point `i`. -/
def gAt (b : BitVec 32) (i : grid0.Coords) (x1 : Vec F S16x8x8x128 .i32) (x13 : Vec F S384x512 .bf16) (x14 : Vec F S512x128 .i32) (x15 : Vec F S1 .i32) : Vec F S128x1024 .f32 :=
  gTile (slotBase b i) x1 x13 x14 x15

section
variable (c : Dev nD) (i : grid0.Coords) (arg1 : Memref sig .tc .vmem S16x8x8x128 .i32) (harg1 : arg1.IsWhole) (arg2 : Memref sig .tc .vmem S256x128 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S512x128 .f32) (harg6 : arg6.IsWhole) (arg7 : Memref sig .tc .vmem S512x256 .i32) (harg7 : arg7.IsWhole) (arg8 : Memref sig .tc .vmem S1024x128 .i32) (harg8 : arg8.IsWhole) (arg9 : Memref sig .tc .vmem S1024x128 .i8) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S384x512 .bf16) (harg13 : arg13.IsWhole) (arg14 : Memref sig .tc .vmem S512x128 .i32) (harg14 : arg14.IsWhole) (arg15 : Memref sig .tc .smem S1 .i32) (harg15 : arg15.IsWhole) (arg16 : Memref sig .tc .vmem S128x1024 .f32) (harg16 : arg16.IsWhole) (arg17 : Memref sig .tc .vmem S128x1024 .f32) (harg17 : arg17.IsWhole)

/-- What the body leaves: inputs as they were, the four output blocks at their values, the carried scratch at its. -/
def bodyPost (b : BitVec 32) (x1 : Vec F S16x8x8x128 .i32) (x2 : Vec F S256x128 .i32) (x3 x4 x5 : Vec F S8x128 .f32) (x6 : Vec F S512x128 .f32) (x7 : Vec F S512x256 .i32) (x8 : Vec F S1024x128 .i32) (x13 : Vec F S384x512 .bf16) (x14 : Vec F S512x128 .i32) (x15 : Vec F S1 .i32) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (tCodes x2 x3 x4 x5 x8 (gAt b i x1 x13 x14 x15)) ∗ owns (c : Thread nD τ) arg10 fullShare (tScale x2 x3 x4 x5 (gAt b i x1 x13 x14 x15)) ∗ owns (c : Thread nD τ) arg11 fullShare (tBias x2 x3 x4 x5 (gAt b i x1 x13 x14 x15)) ∗ owns (c : Thread nD τ) arg12 fullShare (tState x5 (gAt b i x1 x13 x14 x15)) ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg17 fullShare d))

theorem body_of (b : BitVec 32) (x1 : Vec F S16x8x8x128 .i32) (x2 : Vec F S256x128 .i32) (x3 x4 x5 : Vec F S8x128 .f32) (x6 : Vec F S512x128 .f32) (x7 : Vec F S512x256 .i32) (x8 : Vec F S1024x128 .i32) (x13 : Vec F S384x512 .bf16) (x14 : Vec F S512x128 .i32) (x15 : Vec F S1 .i32) (Pre : sProp 𝕄) (E : Set ℕ)
    (h5 : ∀ K5 : _ → sProp 𝕄, iprop(owns (c : Thread nD τ) arg1 fullShare x1 ∗ owns (c : Thread nD τ) arg6 fullShare x6 ∗ owns (c : Thread nD τ) arg7 fullShare x7 ∗ Pre
      ∗ (iprop(owns (c : Thread nD τ) arg1 fullShare x1 ∗ owns (c : Thread nD τ) arg6 fullShare x6 ∗ owns (c : Thread nD τ) arg7 fullShare x7 ∗ owns (c : Thread nD τ) arg13 fullShare x13 ∗ owns (c : Thread nD τ) arg14 fullShare x14 ∗ owns (c : Thread nD τ) arg15 fullShare x15) -∗ K5 ⟨BitVec.ofNat 32 (i 0).val, k0_pay19 (View.ld x1 rcnt0), k0_pay20 (View.ld x1 rcnt1), k0_pay21 (View.ld x1 rcnt2), k0_pay22 (View.ld x1 rcnt3), k0_pay23 (View.ld x1 rcnt4), k0_pay24 (View.ld x1 rcnt5), k0_pay25 (View.ld x1 rcnt6)⟩))
      ⊢ wp frame (wpE (defs₀ (F := F)) Variants.none c none) E (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K5)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ Pre ∗ (∃ d, owns (c : Thread nD τ) arg16 fullShare d) ∗ (∃ d, owns (c : Thread nD τ) arg17 fullShare d)
      ∗ (bodyPost c i arg1 arg2 arg3 arg4 arg5 arg6 arg7 arg8 arg9 arg10 arg11 arg12 arg13 arg14 arg15 arg16 arg17 b x1 x2 x3 x4 x5 x6 x7 x8 x13 x14 x15 -∗ K ⟨⟩))
      ⊢ wp frame (wpE (defs₀ (F := F)) Variants.none c none) E (bodyProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 b) K := by
  unfold bodyProg
  rw [wp_bind]
  iintro ⟨H1, H2, H3, H4, H5, H6, H7, H8, H9, H10, H11, H12, HP, H16, H17, Hk⟩
  iapply (h5 _)
  isplitl [H1]; · iexact H1
  isplitl [H6]; · iexact H6
  isplitl [H7]; · iexact H7
  isplitl [HP]; · iexact HP
  iintro ⟨H1, H6, H7, H13, H14, H15⟩
  dsimp only
  rw [wp_bind]
  iapply (part6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x13 x14 x15 x1 (Scalar.addi b (BitVec.ofNat 32 (i 0).val)) E _)
  isplitl [H1]; · iexact H1
  isplitl [H13]; · iexact H13
  isplitl [H14]; · iexact H14
  isplitl [H15]; · iexact H15
  isplitl [H16]; · iexact H16
  iintro ⟨H1, H13, H14, H15, H16⟩
  dsimp only
  iapply (tail c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x8 (gAt b i x1 x13 x14 x15) E K)
  isplitl [H2]; · iexact H2
  isplitl [H3]; · iexact H3
  isplitl [H4]; · iexact H4
  isplitl [H5]; · iexact H5
  isplitl [H8]; · iexact H8
  isplitl [H16]; · iexact H16
  isplitl [H9]; · iexact H9
  isplitl [H10]; · iexact H10
  isplitl [H11]; · iexact H11
  isplitl [H12]; · iexact H12
  isplitl [H17]; · iexact H17
  iintro ⟨H2, H3, H4, H5, H8, H16, H9, H10, H11, H12, H17⟩
  iapply Hk
  unfold bodyPost
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iexact H17

/-- The first grid point: the carried scratch is filled from the gradients and the lookups. -/
theorem body_first (b : BitVec 32) (x1 : Vec F S16x8x8x128 .i32) (x2 : Vec F S256x128 .i32) (x3 x4 x5 : Vec F S8x128 .f32) (x6 : Vec F S512x128 .f32) (x7 : Vec F S512x256 .i32) (x8 : Vec F S1024x128 .i32) (h : isFirst i) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ iprop((∃ d, owns (c : Thread nD τ) arg13 fullShare d) ∗ (∃ d, owns (c : Thread nD τ) arg14 fullShare d) ∗ (∃ d, owns (c : Thread nD τ) arg15 fullShare d)) ∗ (∃ d, owns (c : Thread nD τ) arg16 fullShare d) ∗ (∃ d, owns (c : Thread nD τ) arg17 fullShare d)
      ∗ (bodyPost c i arg1 arg2 arg3 arg4 arg5 arg6 arg7 arg8 arg9 arg10 arg11 arg12 arg13 arg14 arg15 arg16 arg17 b x1 x2 x3 x4 x5 x6 x7 x8 (k0_pay15 x6) (k0_pay17 x7) (xAny x7) -∗ K ⟨⟩))
      ⊢ wp frame (wpE (defs₀ (F := F)) Variants.none c none) E (bodyProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 b) K := by
  refine body_of c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 b x1 x2 x3 x4 x5 x6 x7 x8 _ _ _ _ E (fun K5 => ?_) K
  refine .trans ?_ (part5_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x6 x7 h E K5)
  iintro ⟨H1, H6, H7, ⟨H13, H14, H15⟩, Hk⟩
  isplitl [H1]; · iexact H1
  isplitl [H6]; · iexact H6
  isplitl [H7]; · iexact H7
  isplitl [H13]; · iexact H13
  isplitl [H14]; · iexact H14
  isplitl [H15]; · iexact H15
  iexact Hk

/-- A later grid point: the carried scratch is kept. -/
theorem body_later (b : BitVec 32) (x1 : Vec F S16x8x8x128 .i32) (x2 : Vec F S256x128 .i32) (x3 x4 x5 : Vec F S8x128 .f32) (x6 : Vec F S512x128 .f32) (x7 : Vec F S512x256 .i32) (x8 : Vec F S1024x128 .i32) (x13 : Vec F S384x512 .bf16) (x14 : Vec F S512x128 .i32) (x15 : Vec F S1 .i32) (h : ¬ isFirst i) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ iprop(owns (c : Thread nD τ) arg13 fullShare x13 ∗ owns (c : Thread nD τ) arg14 fullShare x14 ∗ owns (c : Thread nD τ) arg15 fullShare x15) ∗ (∃ d, owns (c : Thread nD τ) arg16 fullShare d) ∗ (∃ d, owns (c : Thread nD τ) arg17 fullShare d)
      ∗ (bodyPost c i arg1 arg2 arg3 arg4 arg5 arg6 arg7 arg8 arg9 arg10 arg11 arg12 arg13 arg14 arg15 arg16 arg17 b x1 x2 x3 x4 x5 x6 x7 x8 x13 x14 x15 -∗ K ⟨⟩))
      ⊢ wp frame (wpE (defs₀ (F := F)) Variants.none c none) E (bodyProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 b) K := by
  refine body_of c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 b x1 x2 x3 x4 x5 x6 x7 x8 x13 x14 x15 _ E (fun K5 => ?_) K
  refine .trans ?_ (part5_later c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 h E K5)
  iintro ⟨H1, H6, H7, ⟨H13, H14, H15⟩, Hk⟩
  isplitl [H1]; · iexact H1
  iintro H1
  iapply Hk
  isplitl [H1]; · iexact H1
  isplitl [H6]; · iexact H6
  isplitl [H7]; · iexact H7
  isplitl [H13]; · iexact H13
  isplitl [H14]; · iexact H14
  iexact H15
end

/-! ## The four bodies are the one body -/

theorem zero_addi (x : BitVec 32) : Scalar.addi 0#32 x = x := BitVec.zero_add x

theorem cc0_eq (i : grid0.Coords) (arg1 : Memref sig .tc .vmem S16x8x8x128 .i32) (harg1 : arg1.IsWhole) (arg2 : Memref sig .tc .vmem S256x128 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S512x128 .f32) (harg6 : arg6.IsWhole) (arg7 : Memref sig .tc .vmem S512x256 .i32) (harg7 : arg7.IsWhole) (arg8 : Memref sig .tc .vmem S1024x128 .i32) (harg8 : arg8.IsWhole) (arg9 : Memref sig .tc .vmem S1024x128 .i8) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S384x512 .bf16) (harg13 : arg13.IsWhole) (arg14 : Memref sig .tc .vmem S512x128 .i32) (harg14 : arg14.IsWhole) (arg15 : Memref sig .tc .smem S1 .i32) (harg15 : arg15.IsWhole) (arg16 : Memref sig .tc .vmem S128x1024 .f32) (harg16 : arg16.IsWhole) (arg17 : Memref sig .tc .vmem S128x1024 .f32) (harg17 : arg17.IsWhole) :
    cc0_tc_update0 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = bodyProg (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 0#32 := by
  unfold bodyProg
  simp only [zero_addi]
  rfl

section
variable (i : grid1.Coords) (arg1 : Memref sig .tc .vmem S16x8x8x128 .i32) (harg1 : arg1.IsWhole) (arg2 : Memref sig .tc .vmem S256x128 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S512x128 .f32) (harg6 : arg6.IsWhole) (arg7 : Memref sig .tc .vmem S512x256 .i32) (harg7 : arg7.IsWhole) (arg8 : Memref sig .tc .vmem S1024x128 .i32) (harg8 : arg8.IsWhole) (arg9 : Memref sig .tc .hbm S32768x128 .i8) (harg9 : arg9.IsWhole) (arg10 : Memref sig .tc .hbm S256x128 .f32) (harg10 : arg10.IsWhole) (arg11 : Memref sig .tc .hbm S256x128 .f32) (harg11 : arg11.IsWhole) (arg12 : Memref sig .tc .hbm S256x128 .f32) (harg12 : arg12.IsWhole) (arg13 : Memref sig .tc .vmem S1024x128 .i8) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S384x512 .bf16) (harg17 : arg17.IsWhole) (arg18 : Memref sig .tc .vmem S512x128 .i32) (harg18 : arg18.IsWhole) (arg19 : Memref sig .tc .smem S1 .i32) (harg19 : arg19.IsWhole) (arg20 : Memref sig .tc .vmem S128x1024 .f32) (harg20 : arg20.IsWhole) (arg21 : Memref sig .tc .vmem S128x1024 .f32) (harg21 : arg21.IsWhole)
theorem k1_part1_shift (arg0 : BitVec 32) : k1_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 = k0_part1 (F := F) i arg1 harg1 arg2 harg2 arg3 harg3 arg4 harg4 arg5 harg5 arg6 harg6 arg7 harg7 arg8 harg8 arg13 harg13 arg14 harg14 arg15 harg15 arg16 harg16 arg17 harg17 arg18 harg18 arg19 harg19 arg20 harg20 arg21 harg21 (Scalar.addi 8#32 arg0) := by
  rw [k1_part1_eq_skeleton, k0_part1_eq_skeleton]
  unfold k1_part1_skel k0_part1_skel k1_pay4 k0_pay4 k1_pay5 k0_pay5 k1_pay2 k0_pay2 k1_pay3 k0_pay3
  simp only [zero_addi]

theorem k1_part6_shift (arg0 : BitVec 32) (v5 : IVec S128x128 32) (v8 : IVec S128x128 32) (v11 : IVec S128x128 32) (v14 : IVec S128x128 32) (v17 : IVec S128x128 32) (v20 : IVec S128x128 32) (v23 : IVec S128x128 32) : k1_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v5 v8 v11 v14 v17 v20 v23 = k0_part6 (F := F) i arg1 harg1 arg2 harg2 arg3 harg3 arg4 harg4 arg5 harg5 arg6 harg6 arg7 harg7 arg8 harg8 arg13 harg13 arg14 harg14 arg15 harg15 arg16 harg16 arg17 harg17 arg18 harg18 arg19 harg19 arg20 harg20 arg21 harg21 (Scalar.addi 8#32 arg0) v5 v8 v11 v14 v17 v20 v23 := by
  rw [k1_part6_eq_skeleton, k0_part6_eq_skeleton]
  unfold k1_part6_skel k0_part6_skel
  simp only [k1_part1_shift]
  rfl

theorem cc1_eq : cc1_tc_update1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = bodyProg (F := F) i arg1 harg1 arg2 harg2 arg3 harg3 arg4 harg4 arg5 harg5 arg6 harg6 arg7 harg7 arg8 harg8 arg13 harg13 arg14 harg14 arg15 harg15 arg16 harg16 arg17 harg17 arg18 harg18 arg19 harg19 arg20 harg20 arg21 harg21 8#32 := by
  unfold bodyProg
  simp only [← k1_part6_shift i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21]
  rfl
end

section
variable (i : grid2.Coords) (arg1 : Memref sig .tc .vmem S16x8x8x128 .i32) (harg1 : arg1.IsWhole) (arg2 : Memref sig .tc .vmem S256x128 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S512x128 .f32) (harg6 : arg6.IsWhole) (arg7 : Memref sig .tc .vmem S512x256 .i32) (harg7 : arg7.IsWhole) (arg8 : Memref sig .tc .vmem S1024x128 .i32) (harg8 : arg8.IsWhole) (arg9 : Memref sig .tc .hbm S32768x128 .i8) (harg9 : arg9.IsWhole) (arg10 : Memref sig .tc .hbm S256x128 .f32) (harg10 : arg10.IsWhole) (arg11 : Memref sig .tc .hbm S256x128 .f32) (harg11 : arg11.IsWhole) (arg12 : Memref sig .tc .hbm S256x128 .f32) (harg12 : arg12.IsWhole) (arg13 : Memref sig .tc .vmem S1024x128 .i8) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S384x512 .bf16) (harg17 : arg17.IsWhole) (arg18 : Memref sig .tc .vmem S512x128 .i32) (harg18 : arg18.IsWhole) (arg19 : Memref sig .tc .smem S1 .i32) (harg19 : arg19.IsWhole) (arg20 : Memref sig .tc .vmem S128x1024 .f32) (harg20 : arg20.IsWhole) (arg21 : Memref sig .tc .vmem S128x1024 .f32) (harg21 : arg21.IsWhole)
theorem k2_part1_shift (arg0 : BitVec 32) : k2_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 = k0_part1 (F := F) i arg1 harg1 arg2 harg2 arg3 harg3 arg4 harg4 arg5 harg5 arg6 harg6 arg7 harg7 arg8 harg8 arg13 harg13 arg14 harg14 arg15 harg15 arg16 harg16 arg17 harg17 arg18 harg18 arg19 harg19 arg20 harg20 arg21 harg21 (Scalar.addi 16#32 arg0) := by
  rw [k2_part1_eq_skeleton, k0_part1_eq_skeleton]
  unfold k2_part1_skel k0_part1_skel k2_pay4 k0_pay4 k2_pay5 k0_pay5 k2_pay2 k0_pay2 k2_pay3 k0_pay3
  simp only [zero_addi]

theorem k2_part6_shift (arg0 : BitVec 32) (v5 : IVec S128x128 32) (v8 : IVec S128x128 32) (v11 : IVec S128x128 32) (v14 : IVec S128x128 32) (v17 : IVec S128x128 32) (v20 : IVec S128x128 32) (v23 : IVec S128x128 32) : k2_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v5 v8 v11 v14 v17 v20 v23 = k0_part6 (F := F) i arg1 harg1 arg2 harg2 arg3 harg3 arg4 harg4 arg5 harg5 arg6 harg6 arg7 harg7 arg8 harg8 arg13 harg13 arg14 harg14 arg15 harg15 arg16 harg16 arg17 harg17 arg18 harg18 arg19 harg19 arg20 harg20 arg21 harg21 (Scalar.addi 16#32 arg0) v5 v8 v11 v14 v17 v20 v23 := by
  rw [k2_part6_eq_skeleton, k0_part6_eq_skeleton]
  unfold k2_part6_skel k0_part6_skel
  simp only [k2_part1_shift]
  rfl

theorem cc2_eq : cc2_tc_update2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = bodyProg (F := F) i arg1 harg1 arg2 harg2 arg3 harg3 arg4 harg4 arg5 harg5 arg6 harg6 arg7 harg7 arg8 harg8 arg13 harg13 arg14 harg14 arg15 harg15 arg16 harg16 arg17 harg17 arg18 harg18 arg19 harg19 arg20 harg20 arg21 harg21 16#32 := by
  unfold bodyProg
  simp only [← k2_part6_shift i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21]
  rfl
end

section
variable (i : grid3.Coords) (arg1 : Memref sig .tc .vmem S16x8x8x128 .i32) (harg1 : arg1.IsWhole) (arg2 : Memref sig .tc .vmem S256x128 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S512x128 .f32) (harg6 : arg6.IsWhole) (arg7 : Memref sig .tc .vmem S512x256 .i32) (harg7 : arg7.IsWhole) (arg8 : Memref sig .tc .vmem S1024x128 .i32) (harg8 : arg8.IsWhole) (arg9 : Memref sig .tc .hbm S32768x128 .i8) (harg9 : arg9.IsWhole) (arg10 : Memref sig .tc .hbm S256x128 .f32) (harg10 : arg10.IsWhole) (arg11 : Memref sig .tc .hbm S256x128 .f32) (harg11 : arg11.IsWhole) (arg12 : Memref sig .tc .hbm S256x128 .f32) (harg12 : arg12.IsWhole) (arg13 : Memref sig .tc .vmem S1024x128 .i8) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S384x512 .bf16) (harg17 : arg17.IsWhole) (arg18 : Memref sig .tc .vmem S512x128 .i32) (harg18 : arg18.IsWhole) (arg19 : Memref sig .tc .smem S1 .i32) (harg19 : arg19.IsWhole) (arg20 : Memref sig .tc .vmem S128x1024 .f32) (harg20 : arg20.IsWhole) (arg21 : Memref sig .tc .vmem S128x1024 .f32) (harg21 : arg21.IsWhole)
theorem k3_part1_shift (arg0 : BitVec 32) : k3_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 = k0_part1 (F := F) i arg1 harg1 arg2 harg2 arg3 harg3 arg4 harg4 arg5 harg5 arg6 harg6 arg7 harg7 arg8 harg8 arg13 harg13 arg14 harg14 arg15 harg15 arg16 harg16 arg17 harg17 arg18 harg18 arg19 harg19 arg20 harg20 arg21 harg21 (Scalar.addi 24#32 arg0) := by
  rw [k3_part1_eq_skeleton, k0_part1_eq_skeleton]
  unfold k3_part1_skel k0_part1_skel k3_pay4 k0_pay4 k3_pay5 k0_pay5 k3_pay2 k0_pay2 k3_pay3 k0_pay3
  simp only [zero_addi]

theorem k3_part6_shift (arg0 : BitVec 32) (v5 : IVec S128x128 32) (v8 : IVec S128x128 32) (v11 : IVec S128x128 32) (v14 : IVec S128x128 32) (v17 : IVec S128x128 32) (v20 : IVec S128x128 32) (v23 : IVec S128x128 32) : k3_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v5 v8 v11 v14 v17 v20 v23 = k0_part6 (F := F) i arg1 harg1 arg2 harg2 arg3 harg3 arg4 harg4 arg5 harg5 arg6 harg6 arg7 harg7 arg8 harg8 arg13 harg13 arg14 harg14 arg15 harg15 arg16 harg16 arg17 harg17 arg18 harg18 arg19 harg19 arg20 harg20 arg21 harg21 (Scalar.addi 24#32 arg0) v5 v8 v11 v14 v17 v20 v23 := by
  rw [k3_part6_eq_skeleton, k0_part6_eq_skeleton]
  unfold k3_part6_skel k0_part6_skel
  simp only [k3_part1_shift]
  rfl

theorem cc3_eq : cc3_tc_update3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = bodyProg (F := F) i arg1 harg1 arg2 harg2 arg3 harg3 arg4 harg4 arg5 harg5 arg6 harg6 arg7 harg7 arg8 harg8 arg13 harg13 arg14 harg14 arg15 harg15 arg16 harg16 arg17 harg17 arg18 harg18 arg19 harg19 arg20 harg20 arg21 harg21 24#32 := by
  unfold bodyProg
  simp only [← k3_part6_shift i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21]
  rfl
end

end Cert.KernelIdeal.Gen
end
-- ==== Proof.Region0.lean ====
module

public import proofs.«01_k».proof.Proof.Bodies
public import proofs.«01_k».proof.Proof.Gen.KernelIdeal.Launch
public import proofs.«01_k».proof.Proof.Gen.KernelIdeal.Points

/-! Update call 0: what its windows hold, and its body at every grid point. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : Dev nD → Valuation τ sig (Elt F))

/-- Window `w`'s block at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The gradients and the lookups, the same at every point. -/
def grad0 (c : Dev nD) : Vec F S512x128 .f32 := blk0 V c 5 t0_0
def look0 (c : Dev nD) : Vec F S512x256 .i32 := blk0 V c 6 t0_0

/-- The gradient tile at point `t`. -/
def gt0 (c : Dev nD) (t : Fin cfg0.N) : Vec F S128x1024 .f32 := gAt 0#32 (grid0.coords t) (blk0 V c 0 t) (k0_pay15 (grad0 V c)) (k0_pay17 (look0 V c)) (xAny (look0 V c))

/-- The scratch between points: at anything before the first, then filled from the gradients and the lookups. -/
def inv0 (c : Dev nD) : ℕ → sProp 𝕄
  | 0 => Pipeline.scopedRest spec0 c
  | _ + 1 => iprop(iprop(owns (c : Thread nD τ) (Memref.whole cc0_scratch0) fullShare (k0_pay15 (grad0 V c)) ∗ owns (c : Thread nD τ) (Memref.whole cc0_scratch1) fullShare (k0_pay17 (look0 V c)) ∗ (∃ d, owns (c : Thread nD τ) (Memref.whole cc0_scratch3) fullShare d) ∗ (∃ d, owns (c : Thread nD τ) (Memref.whole cc0_scratch4) fullShare d) ∗ owns (c : Thread nD τ) (Memref.whole cc0_scratch2) fullShare (xAny (look0 V c)))
      ∗ Pipeline.scopedRestBut spec0 c [cc0_scratch0, cc0_scratch1, cc0_scratch3, cc0_scratch4, cc0_scratch2])

theorem rest0_eq (c : Dev nD) : (Pipeline.scopedRest spec0 c : sProp 𝕄) =
    iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch2) fullShare d))
      ∗ Pipeline.scopedRestBut spec0 c [cc0_scratch0, cc0_scratch1, cc0_scratch3, cc0_scratch4, cc0_scratch2]) := by
  rw [scopedRest0_split]; simp only [owns_whole]; try rfl

/-- The call's windows: inputs at their blocks, outputs at the body's values. -/
def dat0 (c : Dev nD) : Dat τ (Elt F) Unit ℕ (UR sig nD τ) ℕ cfg0 c where
  A w := V c (Proc.devRef .tc (Pipeline.arrRef spec0 w))
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => tCodes (blk0 V c 1 t) (blk0 V c 2 t) (blk0 V c 3 t) (blk0 V c 4 t) (blk0 V c 7 t) (gt0 V c t)
    | ⟨9, _⟩ => tScale (blk0 V c 1 t) (blk0 V c 2 t) (blk0 V c 3 t) (blk0 V c 4 t) (gt0 V c t)
    | ⟨10, _⟩ => tBias (blk0 V c 1 t) (blk0 V c 2 t) (blk0 V c 3 t) (blk0 V c 4 t) (gt0 V c t)
    | ⟨11, _⟩ => tState (blk0 V c 4 t) (gt0 V c t)
  Φ t := inv0 V c t.val
  q _ := fullShare
  owed _ := 0

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = blk0 V c 7 t := by dsimp only [dat0]
theorem after0_8 (c : Dev nD) (t : Fin cfg0.N) : (dat0 V c).after 8 t = tCodes (blk0 V c 1 t) (blk0 V c 2 t) (blk0 V c 3 t) (blk0 V c 4 t) (blk0 V c 7 t) (gt0 V c t) := by dsimp only [dat0]
theorem after0_9 (c : Dev nD) (t : Fin cfg0.N) : (dat0 V c).after 9 t = tScale (blk0 V c 1 t) (blk0 V c 2 t) (blk0 V c 3 t) (blk0 V c 4 t) (gt0 V c t) := by dsimp only [dat0]
theorem after0_10 (c : Dev nD) (t : Fin cfg0.N) : (dat0 V c).after 10 t = tBias (blk0 V c 1 t) (blk0 V c 2 t) (blk0 V c 3 t) (blk0 V c 4 t) (gt0 V c t) := by dsimp only [dat0]
theorem after0_11 (c : Dev nD) (t : Fin cfg0.N) : (dat0 V c).after 11 t = tState (blk0 V c 4 t) (gt0 V c t) := by dsimp only [dat0]
theorem A0_eq (c : Dev nD) (w : Fin cfg0.W) : (dat0 V c).A w = V c (Proc.devRef .tc (Pipeline.arrRef spec0 w)) := by dsimp only [dat0]
theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A0_eq]; try rfl) t d).trans
    (by unfold Dat.fetched Dat.blockOf blk0; rw [A0_eq]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A0_eq]; try rfl) t d).trans
    (by unfold Dat.fetched Dat.blockOf blk0; rw [A0_eq]; try rfl)
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [A0_eq]; try rfl) t d).trans
    (by unfold Dat.fetched Dat.blockOf blk0; rw [A0_eq]; try rfl)
theorem before0_3 (c : Dev nD) (t : Fin cfg0.N) (d) : (dat0 V c).before 3 t d = blk0 V c 3 t :=
  ((dat0 V c).before_in_eq_fetched 3 rfl (fun _ => rfl) (fun _ _ _ => rfl) (fun t => by rw [after0_3]; unfold Dat.blockOf blk0; rw [A0_eq]; try rfl) t d).trans
    (by unfold Dat.fetched Dat.blockOf blk0; rw [A0_eq]; try rfl)
theorem before0_4 (c : Dev nD) (t : Fin cfg0.N) (d) : (dat0 V c).before 4 t d = blk0 V c 4 t :=
  ((dat0 V c).before_in_eq_fetched 4 rfl (fun _ => rfl) (fun _ _ _ => rfl) (fun t => by rw [after0_4]; unfold Dat.blockOf blk0; rw [A0_eq]; try rfl) t d).trans
    (by unfold Dat.fetched Dat.blockOf blk0; rw [A0_eq]; try rfl)
theorem before0_5 (c : Dev nD) (t : Fin cfg0.N) (d) : (dat0 V c).before 5 t d = blk0 V c 5 t :=
  ((dat0 V c).before_in_eq_fetched 5 rfl (fun _ => rfl) (fun _ _ _ => rfl) (fun t => by rw [after0_5]; unfold Dat.blockOf blk0; rw [A0_eq]; try rfl) t d).trans
    (by unfold Dat.fetched Dat.blockOf blk0; rw [A0_eq]; try rfl)
theorem before0_6 (c : Dev nD) (t : Fin cfg0.N) (d) : (dat0 V c).before 6 t d = blk0 V c 6 t :=
  ((dat0 V c).before_in_eq_fetched 6 rfl (fun _ => rfl) (fun _ _ _ => rfl) (fun t => by rw [after0_6]; unfold Dat.blockOf blk0; rw [A0_eq]; try rfl) t d).trans
    (by unfold Dat.fetched Dat.blockOf blk0; rw [A0_eq]; try rfl)
theorem before0_7 (c : Dev nD) (t : Fin cfg0.N) (d) : (dat0 V c).before 7 t d = blk0 V c 7 t :=
  ((dat0 V c).before_in_eq_fetched 7 rfl (fun _ => rfl) (fun _ _ _ => rfl) (fun t => by rw [after0_7]; unfold Dat.blockOf blk0; rw [A0_eq]; try rfl) t d).trans
    (by unfold Dat.fetched Dat.blockOf blk0; rw [A0_eq]; try rfl)

/-- The fill happens at the first point only. -/
theorem first0 (t : Fin cfg0.N) : isFirst (grid0.coords t) ↔ t.val = 0 := by
  have ht : t.val < 8 := Nat.lt_of_lt_of_eq t.isLt N_0
  have e0 : (grid0.coords t 0).val = t.val / 1 % 8 := Pipeline.Grid.coords_val t 0 (by decide) rfl
  have h8 : t.val % 8 = 0 ↔ t.val = 0 := by omega
  rw [← h8]
  simp only [isFirst, e0]
  word_cmp

theorem body0_spell (t : Fin cfg0.N) : bodyAt0 (F := F) t = bodyProg (F := F) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) 0#32 :=
  cc0_eq _ _ _ _ _ _ _ _ _ _ _ _ _ _ _ _ _ _ _ _ _ _ _ _ _ _ _ _ _ _ _ _ _ _ _

set_option maxHeartbeats 1600000 in
/-- The body at any point. -/
theorem sound0 (c : Dev nD) (t : Fin cfg0.N) :
    iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d))
    ∗ (∃ d, owns (c : Thread nD τ) (win0_6.stage (cfg0.slots t 6)) fullShare ((dat0 V c).before 6 t d))
    ∗ (∃ d, owns (c : Thread nD τ) (win0_7.stage (cfg0.slots t 7)) fullShare ((dat0 V c).before 7 t d))
    ∗ (∃ d, owns (c : Thread nD τ) (win0_8.stage (cfg0.slots t 8)) fullShare ((dat0 V c).before 8 t d))
    ∗ (∃ d, owns (c : Thread nD τ) (win0_9.stage (cfg0.slots t 9)) fullShare ((dat0 V c).before 9 t d))
    ∗ (∃ d, owns (c : Thread nD τ) (win0_10.stage (cfg0.slots t 10)) fullShare ((dat0 V c).before 10 t d))
    ∗ (∃ d, owns (c : Thread nD τ) (win0_11.stage (cfg0.slots t 11)) fullShare ((dat0 V c).before 11 t d)))
    ⊢ wp frame (wpE (defs₀ (F := F)) Variants.none c none) Set.univ (bodyAt0 t) (fun _ => iprop((dat0 V c).Φ t.succ ∗ (dat0 V c).owesAt () t.succ
    ∗ owns (c : Thread nD τ) (win0_0.stage (cfg0.slots t 0)) fullShare ((dat0 V c).after 0 t)
    ∗ owns (c : Thread nD τ) (win0_1.stage (cfg0.slots t 1)) fullShare ((dat0 V c).after 1 t)
    ∗ owns (c : Thread nD τ) (win0_2.stage (cfg0.slots t 2)) fullShare ((dat0 V c).after 2 t)
    ∗ owns (c : Thread nD τ) (win0_3.stage (cfg0.slots t 3)) fullShare ((dat0 V c).after 3 t)
    ∗ owns (c : Thread nD τ) (win0_4.stage (cfg0.slots t 4)) fullShare ((dat0 V c).after 4 t)
    ∗ owns (c : Thread nD τ) (win0_5.stage (cfg0.slots t 5)) fullShare ((dat0 V c).after 5 t)
    ∗ owns (c : Thread nD τ) (win0_6.stage (cfg0.slots t 6)) fullShare ((dat0 V c).after 6 t)
    ∗ owns (c : Thread nD τ) (win0_7.stage (cfg0.slots t 7)) fullShare ((dat0 V c).after 7 t)
    ∗ owns (c : Thread nD τ) (win0_8.stage (cfg0.slots t 8)) fullShare ((dat0 V c).after 8 t)
    ∗ owns (c : Thread nD τ) (win0_9.stage (cfg0.slots t 9)) fullShare ((dat0 V c).after 9 t)
    ∗ owns (c : Thread nD τ) (win0_10.stage (cfg0.slots t 10)) fullShare ((dat0 V c).after 10 t)
    ∗ owns (c : Thread nD τ) (win0_11.stage (cfg0.slots t 11)) fullShare ((dat0 V c).after 11 t))) := by
  rw [body0_spell]
  simp only [before0_0, before0_1, before0_2, before0_3, before0_4, before0_5, before0_6, before0_7, after0_0, after0_1, after0_2, after0_3, after0_4, after0_5, after0_6, after0_7, after0_8, after0_9, after0_10, after0_11]
  rw [show (dat0 V c).owesAt () t.succ = (dat0 V c).owesAt () t.castSucc from rfl,
    show (dat0 V c).Φ t.succ = inv0 V c (t.val + 1) from rfl, show (dat0 V c).Φ t.castSucc = inv0 V c t.val from rfl]
  by_cases h0 : t.val = 0
  · obtain rfl : t = t0_0 := Fin.ext h0
    rw [show inv0 V c (t0_0 : Fin cfg0.N).val = Pipeline.scopedRest spec0 c from rfl, rest0_eq]
    unfold inv0
    iintro ⟨⟨⟨S0, S1, S3, S4, S2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_first c (grid0.coords t0_0) _ _ _ _ _ _ _ _ _ _ _ _ _ _ _ _ _ _ _ _ _ _ _ _ _ _ _ _ _ _ _ _ _ _ 0#32 (blk0 V c 0 t0_0) (blk0 V c 1 t0_0) (blk0 V c 2 t0_0) (blk0 V c 3 t0_0) (blk0 V c 4 t0_0) (blk0 V c 5 t0_0) (blk0 V c 6 t0_0) (blk0 V c 7 t0_0) ((first0 _).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [S0 S1 S2]
    · isplitl [S0]; · iexact S0
      isplitl [S1]; · iexact S1
      iexact S2
    isplitl [S3]; · iexact S3
    isplitl [S4]; · iexact S4
    unfold bodyPost
    iintro ⟨H0, H1, H2, H3, H4, H5, H6, H7, H8, H9, H10, H11, S0, S1, S2, S3, S4⟩
    isplitl [S0 S1 S2 S3 S4 HR]
    · isplitl [S0 S1 S2 S3 S4]
      · isplitl [S0]; · iexact S0
        isplitl [S1]; · iexact S1
        isplitl [S3]; · iexact S3
        isplitl [S4]; · iexact S4
        iexact S2
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [show inv0 V c t.val = inv0 V c (t.val - 1 + 1) from by rw [Nat.sub_add_cancel (Nat.one_le_iff_ne_zero.mpr h0)]]
    unfold inv0
    iintro ⟨⟨⟨S0, S1, S3, S4, S2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_later c (grid0.coords t) _ _ _ _ _ _ _ _ _ _ _ _ _ _ _ _ _ _ _ _ _ _ _ _ _ _ _ _ _ _ _ _ _ _ 0#32 (blk0 V c 0 t) (blk0 V c 1 t) (blk0 V c 2 t) (blk0 V c 3 t) (blk0 V c 4 t) (blk0 V c 5 t) (blk0 V c 6 t) (blk0 V c 7 t) (k0_pay15 (grad0 V c)) (k0_pay17 (look0 V c)) (xAny (look0 V c)) (fun h => h0 ((first0 _).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [S0 S1 S2]
    · isplitl [S0]; · iexact S0
      isplitl [S1]; · iexact S1
      iexact S2
    isplitl [S3]; · iexact S3
    isplitl [S4]; · iexact S4
    unfold bodyPost
    iintro ⟨H0, H1, H2, H3, H4, H5, H6, H7, H8, H9, H10, H11, S0, S1, S2, S3, S4⟩
    isplitl [S0 S1 S2 S3 S4 HR]
    · isplitl [S0 S1 S2 S3 S4]
      · isplitl [S0]; · iexact S0
        isplitl [S1]; · iexact S1
        isplitl [S3]; · iexact S3
        isplitl [S4]; · iexact S4
        iexact S2
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem row0 (t : Fin cfg0.N) : defs₀ (F := F) .tc cfg0.body (cfg0.bodyArgs t (cfg0.slots t)) = bodyAt0 t := by
  unfold defs₀; rw [Defs.onTc_tc]; try rfl

theorem obligation0 (c : Dev nD) : BodyObligation (dat0 V c) (defs₀ (F := F)) Variants.none () Set.univ := fun t => by
  rw [bigSep_W0, bigSep_W0, row0]
  exact triple_restated (sound0 V c t) rfl .rfl fun _ => .rfl

theorem hin0 (c : Dev nD) : iprop(Pipeline.scopedRest spec0 c ∗ BI.emp) ⊢ (dat0 V c).Φ 0 := by
  rw [show (dat0 V c).Φ 0 = Pipeline.scopedRest spec0 c from rfl]
  iintro ⟨H, -⟩; iexact H

theorem hout0 (c : Dev nD) : (dat0 V c).Φ (Fin.last cfg0.N) ⊢ iprop(Pipeline.scopedRest spec0 c ∗ BI.emp) := by
  rw [show (dat0 V c).Φ (Fin.last cfg0.N) = inv0 V c (7 + 1) from congrArg (inv0 V c) N_0, rest0_eq]
  unfold inv0
  iintro ⟨⟨S0, S1, S3, S4, S2⟩, HR⟩
  isplitl
  · isplitl [S0 S1 S2 S3 S4]
    · isplitl [S0]; · iexists _; iexact S0
      isplitl [S1]; · iexists _; iexact S1
      isplitl [S3]; · iexact S3
      isplitl [S4]; · iexact S4
      iexists _; iexact S2
    iexact HR
  iempintro
end

end Cert.KernelIdeal.Gen
end
-- ==== Proof.Region1.lean ====
module

public import proofs.«01_k».proof.Proof.Bodies
public import proofs.«01_k».proof.Proof.Gen.KernelIdeal.Launch
public import proofs.«01_k».proof.Proof.Gen.KernelIdeal.Points

/-! Update call 1: what its windows hold, and its body at every grid point. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : Dev nD → Valuation τ sig (Elt F))

/-- Window `w`'s block at point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The gradients and the lookups, the same at every point. -/
def grad1 (c : Dev nD) : Vec F S512x128 .f32 := blk1 V c 5 t1_0
def look1 (c : Dev nD) : Vec F S512x256 .i32 := blk1 V c 6 t1_0

/-- The gradient tile at point `t`. -/
def gt1 (c : Dev nD) (t : Fin cfg1.N) : Vec F S128x1024 .f32 := gAt 8#32 (grid1.coords t) (blk1 V c 0 t) (k0_pay15 (grad1 V c)) (k0_pay17 (look1 V c)) (xAny (look1 V c))

/-- The scratch between points: at anything before the first, then filled from the gradients and the lookups. -/
def inv1 (c : Dev nD) : ℕ → sProp 𝕄
  | 0 => Pipeline.scopedRest spec1 c
  | _ + 1 => iprop(iprop(owns (c : Thread nD τ) (Memref.whole cc1_scratch0) fullShare (k0_pay15 (grad1 V c)) ∗ owns (c : Thread nD τ) (Memref.whole cc1_scratch1) fullShare (k0_pay17 (look1 V c)) ∗ (∃ d, owns (c : Thread nD τ) (Memref.whole cc1_scratch3) fullShare d) ∗ (∃ d, owns (c : Thread nD τ) (Memref.whole cc1_scratch4) fullShare d) ∗ owns (c : Thread nD τ) (Memref.whole cc1_scratch2) fullShare (xAny (look1 V c)))
      ∗ Pipeline.scopedRestBut spec1 c [cc1_scratch0, cc1_scratch1, cc1_scratch3, cc1_scratch4, cc1_scratch2])

theorem rest1_eq (c : Dev nD) : (Pipeline.scopedRest spec1 c : sProp 𝕄) =
    iprop(iprop((∃ d, owns (c : Thread nD τ) (Memref.whole cc1_scratch0) fullShare d) ∗ (∃ d, owns (c : Thread nD τ) (Memref.whole cc1_scratch1) fullShare d) ∗ (∃ d, owns (c : Thread nD τ) (Memref.whole cc1_scratch3) fullShare d) ∗ (∃ d, owns (c : Thread nD τ) (Memref.whole cc1_scratch4) fullShare d) ∗ (∃ d, owns (c : Thread nD τ) (Memref.whole cc1_scratch2) fullShare d))
      ∗ Pipeline.scopedRestBut spec1 c [cc1_scratch0, cc1_scratch1, cc1_scratch3, cc1_scratch4, cc1_scratch2]) := by
  rw [scopedRest1_split]; simp only [owns_whole]; try rfl

/-- The call's windows: inputs at their blocks, outputs at the body's values. -/
def dat1 (c : Dev nD) : Dat τ (Elt F) Unit ℕ (UR sig nD τ) ℕ cfg1 c where
  A w := V c (Proc.devRef .tc (Pipeline.arrRef spec1 w))
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => tCodes (blk1 V c 1 t) (blk1 V c 2 t) (blk1 V c 3 t) (blk1 V c 4 t) (blk1 V c 7 t) (gt1 V c t)
    | ⟨9, _⟩ => tScale (blk1 V c 1 t) (blk1 V c 2 t) (blk1 V c 3 t) (blk1 V c 4 t) (gt1 V c t)
    | ⟨10, _⟩ => tBias (blk1 V c 1 t) (blk1 V c 2 t) (blk1 V c 3 t) (blk1 V c 4 t) (gt1 V c t)
    | ⟨11, _⟩ => tState (blk1 V c 4 t) (gt1 V c t)
  Φ t := inv1 V c t.val
  q _ := fullShare
  owed _ := 0

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem after1_8 (c : Dev nD) (t : Fin cfg1.N) : (dat1 V c).after 8 t = tCodes (blk1 V c 1 t) (blk1 V c 2 t) (blk1 V c 3 t) (blk1 V c 4 t) (blk1 V c 7 t) (gt1 V c t) := by dsimp only [dat1]
theorem after1_9 (c : Dev nD) (t : Fin cfg1.N) : (dat1 V c).after 9 t = tScale (blk1 V c 1 t) (blk1 V c 2 t) (blk1 V c 3 t) (blk1 V c 4 t) (gt1 V c t) := by dsimp only [dat1]
theorem after1_10 (c : Dev nD) (t : Fin cfg1.N) : (dat1 V c).after 10 t = tBias (blk1 V c 1 t) (blk1 V c 2 t) (blk1 V c 3 t) (blk1 V c 4 t) (gt1 V c t) := by dsimp only [dat1]
theorem after1_11 (c : Dev nD) (t : Fin cfg1.N) : (dat1 V c).after 11 t = tState (blk1 V c 4 t) (gt1 V c t) := by dsimp only [dat1]
theorem A1_eq (c : Dev nD) (w : Fin cfg1.W) : (dat1 V c).A w = V c (Proc.devRef .tc (Pipeline.arrRef spec1 w)) := by dsimp only [dat1]
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A1_eq]; try rfl) t d).trans
    (by unfold Dat.fetched Dat.blockOf blk1; rw [A1_eq]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A1_eq]; try rfl) t d).trans
    (by unfold Dat.fetched Dat.blockOf blk1; rw [A1_eq]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [A1_eq]; try rfl) t d).trans
    (by unfold Dat.fetched Dat.blockOf blk1; rw [A1_eq]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [A1_eq]; try rfl) t d).trans
    (by unfold Dat.fetched Dat.blockOf blk1; rw [A1_eq]; try rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [A1_eq]; try rfl) t d).trans
    (by unfold Dat.fetched Dat.blockOf blk1; rw [A1_eq]; try rfl)
theorem before1_5 (c : Dev nD) (t : Fin cfg1.N) (d) : (dat1 V c).before 5 t d = blk1 V c 5 t :=
  ((dat1 V c).before_in_eq_fetched 5 rfl (fun _ => rfl) (fun _ _ _ => rfl) (fun t => by rw [after1_5]; unfold Dat.blockOf blk1; rw [A1_eq]; try rfl) t d).trans
    (by unfold Dat.fetched Dat.blockOf blk1; rw [A1_eq]; try rfl)
theorem before1_6 (c : Dev nD) (t : Fin cfg1.N) (d) : (dat1 V c).before 6 t d = blk1 V c 6 t :=
  ((dat1 V c).before_in_eq_fetched 6 rfl (fun _ => rfl) (fun _ _ _ => rfl) (fun t => by rw [after1_6]; unfold Dat.blockOf blk1; rw [A1_eq]; try rfl) t d).trans
    (by unfold Dat.fetched Dat.blockOf blk1; rw [A1_eq]; try rfl)
theorem before1_7 (c : Dev nD) (t : Fin cfg1.N) (d) : (dat1 V c).before 7 t d = blk1 V c 7 t :=
  ((dat1 V c).before_in_eq_fetched 7 rfl (fun _ => rfl) (fun _ _ _ => rfl) (fun t => by rw [after1_7]; unfold Dat.blockOf blk1; rw [A1_eq]; try rfl) t d).trans
    (by unfold Dat.fetched Dat.blockOf blk1; rw [A1_eq]; try rfl)

/-- The fill happens at the first point only. -/
theorem first1 (t : Fin cfg1.N) : isFirst (grid1.coords t) ↔ t.val = 0 := by
  have ht : t.val < 8 := Nat.lt_of_lt_of_eq t.isLt N_1
  have e0 : (grid1.coords t 0).val = t.val / 1 % 8 := Pipeline.Grid.coords_val t 0 (by decide) rfl
  have h8 : t.val % 8 = 0 ↔ t.val = 0 := by omega
  rw [← h8]
  simp only [isFirst, e0]
  word_cmp

theorem body1_spell (t : Fin cfg1.N) : bodyAt1 (F := F) t = bodyProg (F := F) (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) 8#32 :=
  cc1_eq _ _ _ _ _ _ _ _ _ _ _ _ _ _ _ _ _ _ _ _ _ _ _ _ _ _ _ _ _ _ _ _ _ _ _ _ _ _ _ _ _ _ _

set_option maxHeartbeats 1600000 in
/-- The body at any point. -/
theorem sound1 (c : Dev nD) (t : Fin cfg1.N) :
    iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d))
    ∗ (∃ d, owns (c : Thread nD τ) (win1_6.stage (cfg1.slots t 6)) fullShare ((dat1 V c).before 6 t d))
    ∗ (∃ d, owns (c : Thread nD τ) (win1_7.stage (cfg1.slots t 7)) fullShare ((dat1 V c).before 7 t d))
    ∗ (∃ d, owns (c : Thread nD τ) (win1_8.stage (cfg1.slots t 8)) fullShare ((dat1 V c).before 8 t d))
    ∗ (∃ d, owns (c : Thread nD τ) (win1_9.stage (cfg1.slots t 9)) fullShare ((dat1 V c).before 9 t d))
    ∗ (∃ d, owns (c : Thread nD τ) (win1_10.stage (cfg1.slots t 10)) fullShare ((dat1 V c).before 10 t d))
    ∗ (∃ d, owns (c : Thread nD τ) (win1_11.stage (cfg1.slots t 11)) fullShare ((dat1 V c).before 11 t d)))
    ⊢ wp frame (wpE (defs₀ (F := F)) Variants.none c none) Set.univ (bodyAt1 t) (fun _ => iprop((dat1 V c).Φ t.succ ∗ (dat1 V c).owesAt () t.succ
    ∗ owns (c : Thread nD τ) (win1_0.stage (cfg1.slots t 0)) fullShare ((dat1 V c).after 0 t)
    ∗ owns (c : Thread nD τ) (win1_1.stage (cfg1.slots t 1)) fullShare ((dat1 V c).after 1 t)
    ∗ owns (c : Thread nD τ) (win1_2.stage (cfg1.slots t 2)) fullShare ((dat1 V c).after 2 t)
    ∗ owns (c : Thread nD τ) (win1_3.stage (cfg1.slots t 3)) fullShare ((dat1 V c).after 3 t)
    ∗ owns (c : Thread nD τ) (win1_4.stage (cfg1.slots t 4)) fullShare ((dat1 V c).after 4 t)
    ∗ owns (c : Thread nD τ) (win1_5.stage (cfg1.slots t 5)) fullShare ((dat1 V c).after 5 t)
    ∗ owns (c : Thread nD τ) (win1_6.stage (cfg1.slots t 6)) fullShare ((dat1 V c).after 6 t)
    ∗ owns (c : Thread nD τ) (win1_7.stage (cfg1.slots t 7)) fullShare ((dat1 V c).after 7 t)
    ∗ owns (c : Thread nD τ) (win1_8.stage (cfg1.slots t 8)) fullShare ((dat1 V c).after 8 t)
    ∗ owns (c : Thread nD τ) (win1_9.stage (cfg1.slots t 9)) fullShare ((dat1 V c).after 9 t)
    ∗ owns (c : Thread nD τ) (win1_10.stage (cfg1.slots t 10)) fullShare ((dat1 V c).after 10 t)
    ∗ owns (c : Thread nD τ) (win1_11.stage (cfg1.slots t 11)) fullShare ((dat1 V c).after 11 t))) := by
  rw [body1_spell]
  simp only [before1_0, before1_1, before1_2, before1_3, before1_4, before1_5, before1_6, before1_7, after1_0, after1_1, after1_2, after1_3, after1_4, after1_5, after1_6, after1_7, after1_8, after1_9, after1_10, after1_11]
  rw [show (dat1 V c).owesAt () t.succ = (dat1 V c).owesAt () t.castSucc from rfl,
    show (dat1 V c).Φ t.succ = inv1 V c (t.val + 1) from rfl, show (dat1 V c).Φ t.castSucc = inv1 V c t.val from rfl]
  by_cases h0 : t.val = 0
  · obtain rfl : t = t1_0 := Fin.ext h0
    rw [show inv1 V c (t1_0 : Fin cfg1.N).val = Pipeline.scopedRest spec1 c from rfl, rest1_eq]
    unfold inv1
    iintro ⟨⟨⟨S0, S1, S3, S4, S2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_first c (grid1.coords t1_0) _ _ _ _ _ _ _ _ _ _ _ _ _ _ _ _ _ _ _ _ _ _ _ _ _ _ _ _ _ _ _ _ _ _ 8#32 (blk1 V c 0 t1_0) (blk1 V c 1 t1_0) (blk1 V c 2 t1_0) (blk1 V c 3 t1_0) (blk1 V c 4 t1_0) (blk1 V c 5 t1_0) (blk1 V c 6 t1_0) (blk1 V c 7 t1_0) ((first1 _).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [S0 S1 S2]
    · isplitl [S0]; · iexact S0
      isplitl [S1]; · iexact S1
      iexact S2
    isplitl [S3]; · iexact S3
    isplitl [S4]; · iexact S4
    unfold bodyPost
    iintro ⟨H0, H1, H2, H3, H4, H5, H6, H7, H8, H9, H10, H11, S0, S1, S2, S3, S4⟩
    isplitl [S0 S1 S2 S3 S4 HR]
    · isplitl [S0 S1 S2 S3 S4]
      · isplitl [S0]; · iexact S0
        isplitl [S1]; · iexact S1
        isplitl [S3]; · iexact S3
        isplitl [S4]; · iexact S4
        iexact S2
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [show inv1 V c t.val = inv1 V c (t.val - 1 + 1) from by rw [Nat.sub_add_cancel (Nat.one_le_iff_ne_zero.mpr h0)]]
    unfold inv1
    iintro ⟨⟨⟨S0, S1, S3, S4, S2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_later c (grid1.coords t) _ _ _ _ _ _ _ _ _ _ _ _ _ _ _ _ _ _ _ _ _ _ _ _ _ _ _ _ _ _ _ _ _ _ 8#32 (blk1 V c 0 t) (blk1 V c 1 t) (blk1 V c 2 t) (blk1 V c 3 t) (blk1 V c 4 t) (blk1 V c 5 t) (blk1 V c 6 t) (blk1 V c 7 t) (k0_pay15 (grad1 V c)) (k0_pay17 (look1 V c)) (xAny (look1 V c)) (fun h => h0 ((first1 _).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [S0 S1 S2]
    · isplitl [S0]; · iexact S0
      isplitl [S1]; · iexact S1
      iexact S2
    isplitl [S3]; · iexact S3
    isplitl [S4]; · iexact S4
    unfold bodyPost
    iintro ⟨H0, H1, H2, H3, H4, H5, H6, H7, H8, H9, H10, H11, S0, S1, S2, S3, S4⟩
    isplitl [S0 S1 S2 S3 S4 HR]
    · isplitl [S0 S1 S2 S3 S4]
      · isplitl [S0]; · iexact S0
        isplitl [S1]; · iexact S1
        isplitl [S3]; · iexact S3
        isplitl [S4]; · iexact S4
        iexact S2
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem row1 (t : Fin cfg1.N) : defs₀ (F := F) .tc cfg1.body (cfg1.bodyArgs t (cfg1.slots t)) = bodyAt1 t := by
  unfold defs₀; rw [Defs.onTc_tc]; try rfl

theorem obligation1 (c : Dev nD) : BodyObligation (dat1 V c) (defs₀ (F := F)) Variants.none () Set.univ := fun t => by
  rw [bigSep_W1, bigSep_W1, row1]
  exact triple_restated (sound1 V c t) rfl .rfl fun _ => .rfl

theorem hin1 (c : Dev nD) : iprop(Pipeline.scopedRest spec1 c ∗ BI.emp) ⊢ (dat1 V c).Φ 0 := by
  rw [show (dat1 V c).Φ 0 = Pipeline.scopedRest spec1 c from rfl]
  iintro ⟨H, -⟩; iexact H

theorem hout1 (c : Dev nD) : (dat1 V c).Φ (Fin.last cfg1.N) ⊢ iprop(Pipeline.scopedRest spec1 c ∗ BI.emp) := by
  rw [show (dat1 V c).Φ (Fin.last cfg1.N) = inv1 V c (7 + 1) from congrArg (inv1 V c) N_1, rest1_eq]
  unfold inv1
  iintro ⟨⟨S0, S1, S3, S4, S2⟩, HR⟩
  isplitl
  · isplitl [S0 S1 S2 S3 S4]
    · isplitl [S0]; · iexists _; iexact S0
      isplitl [S1]; · iexists _; iexact S1
      isplitl [S3]; · iexact S3
      isplitl [S4]; · iexact S4
      iexists _; iexact S2
    iexact HR
  iempintro
end

end Cert.KernelIdeal.Gen
end
-- ==== Proof.Region2.lean ====
module

public import proofs.«01_k».proof.Proof.Bodies
public import proofs.«01_k».proof.Proof.Gen.KernelIdeal.Launch
public import proofs.«01_k».proof.Proof.Gen.KernelIdeal.Points

/-! Update call 2: what its windows hold, and its body at every grid point. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : Dev nD → Valuation τ sig (Elt F))

/-- Window `w`'s block at point `t`, read off its array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- The gradients and the lookups, the same at every point. -/
def grad2 (c : Dev nD) : Vec F S512x128 .f32 := blk2 V c 5 t2_0
def look2 (c : Dev nD) : Vec F S512x256 .i32 := blk2 V c 6 t2_0

/-- The gradient tile at point `t`. -/
def gt2 (c : Dev nD) (t : Fin cfg2.N) : Vec F S128x1024 .f32 := gAt 16#32 (grid2.coords t) (blk2 V c 0 t) (k0_pay15 (grad2 V c)) (k0_pay17 (look2 V c)) (xAny (look2 V c))

/-- The scratch between points: at anything before the first, then filled from the gradients and the lookups. -/
def inv2 (c : Dev nD) : ℕ → sProp 𝕄
  | 0 => Pipeline.scopedRest spec2 c
  | _ + 1 => iprop(iprop(owns (c : Thread nD τ) (Memref.whole cc2_scratch0) fullShare (k0_pay15 (grad2 V c)) ∗ owns (c : Thread nD τ) (Memref.whole cc2_scratch1) fullShare (k0_pay17 (look2 V c)) ∗ (∃ d, owns (c : Thread nD τ) (Memref.whole cc2_scratch3) fullShare d) ∗ (∃ d, owns (c : Thread nD τ) (Memref.whole cc2_scratch4) fullShare d) ∗ owns (c : Thread nD τ) (Memref.whole cc2_scratch2) fullShare (xAny (look2 V c)))
      ∗ Pipeline.scopedRestBut spec2 c [cc2_scratch0, cc2_scratch1, cc2_scratch3, cc2_scratch4, cc2_scratch2])

theorem rest2_eq (c : Dev nD) : (Pipeline.scopedRest spec2 c : sProp 𝕄) =
    iprop(iprop((∃ d, owns (c : Thread nD τ) (Memref.whole cc2_scratch0) fullShare d) ∗ (∃ d, owns (c : Thread nD τ) (Memref.whole cc2_scratch1) fullShare d) ∗ (∃ d, owns (c : Thread nD τ) (Memref.whole cc2_scratch3) fullShare d) ∗ (∃ d, owns (c : Thread nD τ) (Memref.whole cc2_scratch4) fullShare d) ∗ (∃ d, owns (c : Thread nD τ) (Memref.whole cc2_scratch2) fullShare d))
      ∗ Pipeline.scopedRestBut spec2 c [cc2_scratch0, cc2_scratch1, cc2_scratch3, cc2_scratch4, cc2_scratch2]) := by
  rw [scopedRest2_split]; simp only [owns_whole]; try rfl

/-- The call's windows: inputs at their blocks, outputs at the body's values. -/
def dat2 (c : Dev nD) : Dat τ (Elt F) Unit ℕ (UR sig nD τ) ℕ cfg2 c where
  A w := V c (Proc.devRef .tc (Pipeline.arrRef spec2 w))
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => tCodes (blk2 V c 1 t) (blk2 V c 2 t) (blk2 V c 3 t) (blk2 V c 4 t) (blk2 V c 7 t) (gt2 V c t)
    | ⟨9, _⟩ => tScale (blk2 V c 1 t) (blk2 V c 2 t) (blk2 V c 3 t) (blk2 V c 4 t) (gt2 V c t)
    | ⟨10, _⟩ => tBias (blk2 V c 1 t) (blk2 V c 2 t) (blk2 V c 3 t) (blk2 V c 4 t) (gt2 V c t)
    | ⟨11, _⟩ => tState (blk2 V c 4 t) (gt2 V c t)
  Φ t := inv2 V c t.val
  q _ := fullShare
  owed _ := 0

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = blk2 V c 5 t := by dsimp only [dat2]
theorem after2_6 (c : Dev nD) (t : Fin cfg2.N) : (dat2 V c).after 6 t = blk2 V c 6 t := by dsimp only [dat2]
theorem after2_7 (c : Dev nD) (t : Fin cfg2.N) : (dat2 V c).after 7 t = blk2 V c 7 t := by dsimp only [dat2]
theorem after2_8 (c : Dev nD) (t : Fin cfg2.N) : (dat2 V c).after 8 t = tCodes (blk2 V c 1 t) (blk2 V c 2 t) (blk2 V c 3 t) (blk2 V c 4 t) (blk2 V c 7 t) (gt2 V c t) := by dsimp only [dat2]
theorem after2_9 (c : Dev nD) (t : Fin cfg2.N) : (dat2 V c).after 9 t = tScale (blk2 V c 1 t) (blk2 V c 2 t) (blk2 V c 3 t) (blk2 V c 4 t) (gt2 V c t) := by dsimp only [dat2]
theorem after2_10 (c : Dev nD) (t : Fin cfg2.N) : (dat2 V c).after 10 t = tBias (blk2 V c 1 t) (blk2 V c 2 t) (blk2 V c 3 t) (blk2 V c 4 t) (gt2 V c t) := by dsimp only [dat2]
theorem after2_11 (c : Dev nD) (t : Fin cfg2.N) : (dat2 V c).after 11 t = tState (blk2 V c 4 t) (gt2 V c t) := by dsimp only [dat2]
theorem A2_eq (c : Dev nD) (w : Fin cfg2.W) : (dat2 V c).A w = V c (Proc.devRef .tc (Pipeline.arrRef spec2 w)) := by dsimp only [dat2]
theorem before2_0 (c : Dev nD) (t : Fin cfg2.N) (d) : (dat2 V c).before 0 t d = blk2 V c 0 t :=
  ((dat2 V c).before_in_eq_fetched 0 rfl (fun _ => rfl) (fun _ _ _ => rfl) (fun t => by rw [after2_0]; unfold Dat.blockOf blk2; rw [A2_eq]; try rfl) t d).trans
    (by unfold Dat.fetched Dat.blockOf blk2; rw [A2_eq]; try rfl)
theorem before2_1 (c : Dev nD) (t : Fin cfg2.N) (d) : (dat2 V c).before 1 t d = blk2 V c 1 t :=
  ((dat2 V c).before_in_eq_fetched 1 rfl (fun _ => rfl) (fun _ _ _ => rfl) (fun t => by rw [after2_1]; unfold Dat.blockOf blk2; rw [A2_eq]; try rfl) t d).trans
    (by unfold Dat.fetched Dat.blockOf blk2; rw [A2_eq]; try rfl)
theorem before2_2 (c : Dev nD) (t : Fin cfg2.N) (d) : (dat2 V c).before 2 t d = blk2 V c 2 t :=
  ((dat2 V c).before_in_eq_fetched 2 rfl (fun _ => rfl) (fun _ _ _ => rfl) (fun t => by rw [after2_2]; unfold Dat.blockOf blk2; rw [A2_eq]; try rfl) t d).trans
    (by unfold Dat.fetched Dat.blockOf blk2; rw [A2_eq]; try rfl)
theorem before2_3 (c : Dev nD) (t : Fin cfg2.N) (d) : (dat2 V c).before 3 t d = blk2 V c 3 t :=
  ((dat2 V c).before_in_eq_fetched 3 rfl (fun _ => rfl) (fun _ _ _ => rfl) (fun t => by rw [after2_3]; unfold Dat.blockOf blk2; rw [A2_eq]; try rfl) t d).trans
    (by unfold Dat.fetched Dat.blockOf blk2; rw [A2_eq]; try rfl)
theorem before2_4 (c : Dev nD) (t : Fin cfg2.N) (d) : (dat2 V c).before 4 t d = blk2 V c 4 t :=
  ((dat2 V c).before_in_eq_fetched 4 rfl (fun _ => rfl) (fun _ _ _ => rfl) (fun t => by rw [after2_4]; unfold Dat.blockOf blk2; rw [A2_eq]; try rfl) t d).trans
    (by unfold Dat.fetched Dat.blockOf blk2; rw [A2_eq]; try rfl)
theorem before2_5 (c : Dev nD) (t : Fin cfg2.N) (d) : (dat2 V c).before 5 t d = blk2 V c 5 t :=
  ((dat2 V c).before_in_eq_fetched 5 rfl (fun _ => rfl) (fun _ _ _ => rfl) (fun t => by rw [after2_5]; unfold Dat.blockOf blk2; rw [A2_eq]; try rfl) t d).trans
    (by unfold Dat.fetched Dat.blockOf blk2; rw [A2_eq]; try rfl)
theorem before2_6 (c : Dev nD) (t : Fin cfg2.N) (d) : (dat2 V c).before 6 t d = blk2 V c 6 t :=
  ((dat2 V c).before_in_eq_fetched 6 rfl (fun _ => rfl) (fun _ _ _ => rfl) (fun t => by rw [after2_6]; unfold Dat.blockOf blk2; rw [A2_eq]; try rfl) t d).trans
    (by unfold Dat.fetched Dat.blockOf blk2; rw [A2_eq]; try rfl)
theorem before2_7 (c : Dev nD) (t : Fin cfg2.N) (d) : (dat2 V c).before 7 t d = blk2 V c 7 t :=
  ((dat2 V c).before_in_eq_fetched 7 rfl (fun _ => rfl) (fun _ _ _ => rfl) (fun t => by rw [after2_7]; unfold Dat.blockOf blk2; rw [A2_eq]; try rfl) t d).trans
    (by unfold Dat.fetched Dat.blockOf blk2; rw [A2_eq]; try rfl)

/-- The fill happens at the first point only. -/
theorem first2 (t : Fin cfg2.N) : isFirst (grid2.coords t) ↔ t.val = 0 := by
  have ht : t.val < 8 := Nat.lt_of_lt_of_eq t.isLt N_2
  have e0 : (grid2.coords t 0).val = t.val / 1 % 8 := Pipeline.Grid.coords_val t 0 (by decide) rfl
  have h8 : t.val % 8 = 0 ↔ t.val = 0 := by omega
  rw [← h8]
  simp only [isFirst, e0]
  word_cmp

theorem body2_spell (t : Fin cfg2.N) : bodyAt2 (F := F) t = bodyProg (F := F) (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) (win2_9.stage (cfg2.slots t 9)) (hstage2_9 ((cfg2.slots t 9).cast nbuf2_9)) (win2_10.stage (cfg2.slots t 10)) (hstage2_10 ((cfg2.slots t 10).cast nbuf2_10)) (win2_11.stage (cfg2.slots t 11)) (hstage2_11 ((cfg2.slots t 11).cast nbuf2_11)) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) 16#32 :=
  cc2_eq _ _ _ _ _ _ _ _ _ _ _ _ _ _ _ _ _ _ _ _ _ _ _ _ _ _ _ _ _ _ _ _ _ _ _ _ _ _ _ _ _ _ _

set_option maxHeartbeats 1600000 in
/-- The body at any point. -/
theorem sound2 (c : Dev nD) (t : Fin cfg2.N) :
    iprop((dat2 V c).Φ t.castSucc ∗ (dat2 V c).owesAt () t.castSucc
    ∗ (∃ d, owns (c : Thread nD τ) (win2_0.stage (cfg2.slots t 0)) fullShare ((dat2 V c).before 0 t d))
    ∗ (∃ d, owns (c : Thread nD τ) (win2_1.stage (cfg2.slots t 1)) fullShare ((dat2 V c).before 1 t d))
    ∗ (∃ d, owns (c : Thread nD τ) (win2_2.stage (cfg2.slots t 2)) fullShare ((dat2 V c).before 2 t d))
    ∗ (∃ d, owns (c : Thread nD τ) (win2_3.stage (cfg2.slots t 3)) fullShare ((dat2 V c).before 3 t d))
    ∗ (∃ d, owns (c : Thread nD τ) (win2_4.stage (cfg2.slots t 4)) fullShare ((dat2 V c).before 4 t d))
    ∗ (∃ d, owns (c : Thread nD τ) (win2_5.stage (cfg2.slots t 5)) fullShare ((dat2 V c).before 5 t d))
    ∗ (∃ d, owns (c : Thread nD τ) (win2_6.stage (cfg2.slots t 6)) fullShare ((dat2 V c).before 6 t d))
    ∗ (∃ d, owns (c : Thread nD τ) (win2_7.stage (cfg2.slots t 7)) fullShare ((dat2 V c).before 7 t d))
    ∗ (∃ d, owns (c : Thread nD τ) (win2_8.stage (cfg2.slots t 8)) fullShare ((dat2 V c).before 8 t d))
    ∗ (∃ d, owns (c : Thread nD τ) (win2_9.stage (cfg2.slots t 9)) fullShare ((dat2 V c).before 9 t d))
    ∗ (∃ d, owns (c : Thread nD τ) (win2_10.stage (cfg2.slots t 10)) fullShare ((dat2 V c).before 10 t d))
    ∗ (∃ d, owns (c : Thread nD τ) (win2_11.stage (cfg2.slots t 11)) fullShare ((dat2 V c).before 11 t d)))
    ⊢ wp frame (wpE (defs₀ (F := F)) Variants.none c none) Set.univ (bodyAt2 t) (fun _ => iprop((dat2 V c).Φ t.succ ∗ (dat2 V c).owesAt () t.succ
    ∗ owns (c : Thread nD τ) (win2_0.stage (cfg2.slots t 0)) fullShare ((dat2 V c).after 0 t)
    ∗ owns (c : Thread nD τ) (win2_1.stage (cfg2.slots t 1)) fullShare ((dat2 V c).after 1 t)
    ∗ owns (c : Thread nD τ) (win2_2.stage (cfg2.slots t 2)) fullShare ((dat2 V c).after 2 t)
    ∗ owns (c : Thread nD τ) (win2_3.stage (cfg2.slots t 3)) fullShare ((dat2 V c).after 3 t)
    ∗ owns (c : Thread nD τ) (win2_4.stage (cfg2.slots t 4)) fullShare ((dat2 V c).after 4 t)
    ∗ owns (c : Thread nD τ) (win2_5.stage (cfg2.slots t 5)) fullShare ((dat2 V c).after 5 t)
    ∗ owns (c : Thread nD τ) (win2_6.stage (cfg2.slots t 6)) fullShare ((dat2 V c).after 6 t)
    ∗ owns (c : Thread nD τ) (win2_7.stage (cfg2.slots t 7)) fullShare ((dat2 V c).after 7 t)
    ∗ owns (c : Thread nD τ) (win2_8.stage (cfg2.slots t 8)) fullShare ((dat2 V c).after 8 t)
    ∗ owns (c : Thread nD τ) (win2_9.stage (cfg2.slots t 9)) fullShare ((dat2 V c).after 9 t)
    ∗ owns (c : Thread nD τ) (win2_10.stage (cfg2.slots t 10)) fullShare ((dat2 V c).after 10 t)
    ∗ owns (c : Thread nD τ) (win2_11.stage (cfg2.slots t 11)) fullShare ((dat2 V c).after 11 t))) := by
  rw [body2_spell]
  simp only [before2_0, before2_1, before2_2, before2_3, before2_4, before2_5, before2_6, before2_7, after2_0, after2_1, after2_2, after2_3, after2_4, after2_5, after2_6, after2_7, after2_8, after2_9, after2_10, after2_11]
  rw [show (dat2 V c).owesAt () t.succ = (dat2 V c).owesAt () t.castSucc from rfl,
    show (dat2 V c).Φ t.succ = inv2 V c (t.val + 1) from rfl, show (dat2 V c).Φ t.castSucc = inv2 V c t.val from rfl]
  by_cases h0 : t.val = 0
  · obtain rfl : t = t2_0 := Fin.ext h0
    rw [show inv2 V c (t2_0 : Fin cfg2.N).val = Pipeline.scopedRest spec2 c from rfl, rest2_eq]
    unfold inv2
    iintro ⟨⟨⟨S0, S1, S3, S4, S2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_first c (grid2.coords t2_0) _ _ _ _ _ _ _ _ _ _ _ _ _ _ _ _ _ _ _ _ _ _ _ _ _ _ _ _ _ _ _ _ _ _ 16#32 (blk2 V c 0 t2_0) (blk2 V c 1 t2_0) (blk2 V c 2 t2_0) (blk2 V c 3 t2_0) (blk2 V c 4 t2_0) (blk2 V c 5 t2_0) (blk2 V c 6 t2_0) (blk2 V c 7 t2_0) ((first2 _).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [S0 S1 S2]
    · isplitl [S0]; · iexact S0
      isplitl [S1]; · iexact S1
      iexact S2
    isplitl [S3]; · iexact S3
    isplitl [S4]; · iexact S4
    unfold bodyPost
    iintro ⟨H0, H1, H2, H3, H4, H5, H6, H7, H8, H9, H10, H11, S0, S1, S2, S3, S4⟩
    isplitl [S0 S1 S2 S3 S4 HR]
    · isplitl [S0 S1 S2 S3 S4]
      · isplitl [S0]; · iexact S0
        isplitl [S1]; · iexact S1
        isplitl [S3]; · iexact S3
        isplitl [S4]; · iexact S4
        iexact S2
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [show inv2 V c t.val = inv2 V c (t.val - 1 + 1) from by rw [Nat.sub_add_cancel (Nat.one_le_iff_ne_zero.mpr h0)]]
    unfold inv2
    iintro ⟨⟨⟨S0, S1, S3, S4, S2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_later c (grid2.coords t) _ _ _ _ _ _ _ _ _ _ _ _ _ _ _ _ _ _ _ _ _ _ _ _ _ _ _ _ _ _ _ _ _ _ 16#32 (blk2 V c 0 t) (blk2 V c 1 t) (blk2 V c 2 t) (blk2 V c 3 t) (blk2 V c 4 t) (blk2 V c 5 t) (blk2 V c 6 t) (blk2 V c 7 t) (k0_pay15 (grad2 V c)) (k0_pay17 (look2 V c)) (xAny (look2 V c)) (fun h => h0 ((first2 _).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [S0 S1 S2]
    · isplitl [S0]; · iexact S0
      isplitl [S1]; · iexact S1
      iexact S2
    isplitl [S3]; · iexact S3
    isplitl [S4]; · iexact S4
    unfold bodyPost
    iintro ⟨H0, H1, H2, H3, H4, H5, H6, H7, H8, H9, H10, H11, S0, S1, S2, S3, S4⟩
    isplitl [S0 S1 S2 S3 S4 HR]
    · isplitl [S0 S1 S2 S3 S4]
      · isplitl [S0]; · iexact S0
        isplitl [S1]; · iexact S1
        isplitl [S3]; · iexact S3
        isplitl [S4]; · iexact S4
        iexact S2
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem row2 (t : Fin cfg2.N) : defs₀ (F := F) .tc cfg2.body (cfg2.bodyArgs t (cfg2.slots t)) = bodyAt2 t := by
  unfold defs₀; rw [Defs.onTc_tc]; try rfl

theorem obligation2 (c : Dev nD) : BodyObligation (dat2 V c) (defs₀ (F := F)) Variants.none () Set.univ := fun t => by
  rw [bigSep_W2, bigSep_W2, row2]
  exact triple_restated (sound2 V c t) rfl .rfl fun _ => .rfl

theorem hin2 (c : Dev nD) : iprop(Pipeline.scopedRest spec2 c ∗ BI.emp) ⊢ (dat2 V c).Φ 0 := by
  rw [show (dat2 V c).Φ 0 = Pipeline.scopedRest spec2 c from rfl]
  iintro ⟨H, -⟩; iexact H

theorem hout2 (c : Dev nD) : (dat2 V c).Φ (Fin.last cfg2.N) ⊢ iprop(Pipeline.scopedRest spec2 c ∗ BI.emp) := by
  rw [show (dat2 V c).Φ (Fin.last cfg2.N) = inv2 V c (7 + 1) from congrArg (inv2 V c) N_2, rest2_eq]
  unfold inv2
  iintro ⟨⟨S0, S1, S3, S4, S2⟩, HR⟩
  isplitl
  · isplitl [S0 S1 S2 S3 S4]
    · isplitl [S0]; · iexists _; iexact S0
      isplitl [S1]; · iexists _; iexact S1
      isplitl [S3]; · iexact S3
      isplitl [S4]; · iexact S4
      iexists _; iexact S2
    iexact HR
  iempintro
end

end Cert.KernelIdeal.Gen
end
-- ==== Proof.Region3.lean ====
module

public import proofs.«01_k».proof.Proof.Bodies
public import proofs.«01_k».proof.Proof.Gen.KernelIdeal.Launch
public import proofs.«01_k».proof.Proof.Gen.KernelIdeal.Points

/-! Update call 3: what its windows hold, and its body at every grid point. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : Dev nD → Valuation τ sig (Elt F))

/-- Window `w`'s block at point `t`, read off its array as the call finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Proc.devRef .tc (Pipeline.arrRef spec3 w)))

/-- The gradients and the lookups, the same at every point. -/
def grad3 (c : Dev nD) : Vec F S512x128 .f32 := blk3 V c 5 t3_0
def look3 (c : Dev nD) : Vec F S512x256 .i32 := blk3 V c 6 t3_0

/-- The gradient tile at point `t`. -/
def gt3 (c : Dev nD) (t : Fin cfg3.N) : Vec F S128x1024 .f32 := gAt 24#32 (grid3.coords t) (blk3 V c 0 t) (k0_pay15 (grad3 V c)) (k0_pay17 (look3 V c)) (xAny (look3 V c))

/-- The scratch between points: at anything before the first, then filled from the gradients and the lookups. -/
def inv3 (c : Dev nD) : ℕ → sProp 𝕄
  | 0 => Pipeline.scopedRest spec3 c
  | _ + 1 => iprop(iprop(owns (c : Thread nD τ) (Memref.whole cc3_scratch0) fullShare (k0_pay15 (grad3 V c)) ∗ owns (c : Thread nD τ) (Memref.whole cc3_scratch1) fullShare (k0_pay17 (look3 V c)) ∗ (∃ d, owns (c : Thread nD τ) (Memref.whole cc3_scratch3) fullShare d) ∗ (∃ d, owns (c : Thread nD τ) (Memref.whole cc3_scratch4) fullShare d) ∗ owns (c : Thread nD τ) (Memref.whole cc3_scratch2) fullShare (xAny (look3 V c)))
      ∗ Pipeline.scopedRestBut spec3 c [cc3_scratch0, cc3_scratch1, cc3_scratch3, cc3_scratch4, cc3_scratch2])

theorem rest3_eq (c : Dev nD) : (Pipeline.scopedRest spec3 c : sProp 𝕄) =
    iprop(iprop((∃ d, owns (c : Thread nD τ) (Memref.whole cc3_scratch0) fullShare d) ∗ (∃ d, owns (c : Thread nD τ) (Memref.whole cc3_scratch1) fullShare d) ∗ (∃ d, owns (c : Thread nD τ) (Memref.whole cc3_scratch3) fullShare d) ∗ (∃ d, owns (c : Thread nD τ) (Memref.whole cc3_scratch4) fullShare d) ∗ (∃ d, owns (c : Thread nD τ) (Memref.whole cc3_scratch2) fullShare d))
      ∗ Pipeline.scopedRestBut spec3 c [cc3_scratch0, cc3_scratch1, cc3_scratch3, cc3_scratch4, cc3_scratch2]) := by
  rw [scopedRest3_split]; simp only [owns_whole]; try rfl

/-- The call's windows: inputs at their blocks, outputs at the body's values. -/
def dat3 (c : Dev nD) : Dat τ (Elt F) Unit ℕ (UR sig nD τ) ℕ cfg3 c where
  A w := V c (Proc.devRef .tc (Pipeline.arrRef spec3 w))
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => blk3 V c 6 t
    | ⟨7, _⟩ => blk3 V c 7 t
    | ⟨8, _⟩ => tCodes (blk3 V c 1 t) (blk3 V c 2 t) (blk3 V c 3 t) (blk3 V c 4 t) (blk3 V c 7 t) (gt3 V c t)
    | ⟨9, _⟩ => tScale (blk3 V c 1 t) (blk3 V c 2 t) (blk3 V c 3 t) (blk3 V c 4 t) (gt3 V c t)
    | ⟨10, _⟩ => tBias (blk3 V c 1 t) (blk3 V c 2 t) (blk3 V c 3 t) (blk3 V c 4 t) (gt3 V c t)
    | ⟨11, _⟩ => tState (blk3 V c 4 t) (gt3 V c t)
  Φ t := inv3 V c t.val
  q _ := fullShare
  owed _ := 0

theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = blk3 V c 3 t := by dsimp only [dat3]
theorem after3_4 (c : Dev nD) (t : Fin cfg3.N) : (dat3 V c).after 4 t = blk3 V c 4 t := by dsimp only [dat3]
theorem after3_5 (c : Dev nD) (t : Fin cfg3.N) : (dat3 V c).after 5 t = blk3 V c 5 t := by dsimp only [dat3]
theorem after3_6 (c : Dev nD) (t : Fin cfg3.N) : (dat3 V c).after 6 t = blk3 V c 6 t := by dsimp only [dat3]
theorem after3_7 (c : Dev nD) (t : Fin cfg3.N) : (dat3 V c).after 7 t = blk3 V c 7 t := by dsimp only [dat3]
theorem after3_8 (c : Dev nD) (t : Fin cfg3.N) : (dat3 V c).after 8 t = tCodes (blk3 V c 1 t) (blk3 V c 2 t) (blk3 V c 3 t) (blk3 V c 4 t) (blk3 V c 7 t) (gt3 V c t) := by dsimp only [dat3]
theorem after3_9 (c : Dev nD) (t : Fin cfg3.N) : (dat3 V c).after 9 t = tScale (blk3 V c 1 t) (blk3 V c 2 t) (blk3 V c 3 t) (blk3 V c 4 t) (gt3 V c t) := by dsimp only [dat3]
theorem after3_10 (c : Dev nD) (t : Fin cfg3.N) : (dat3 V c).after 10 t = tBias (blk3 V c 1 t) (blk3 V c 2 t) (blk3 V c 3 t) (blk3 V c 4 t) (gt3 V c t) := by dsimp only [dat3]
theorem after3_11 (c : Dev nD) (t : Fin cfg3.N) : (dat3 V c).after 11 t = tState (blk3 V c 4 t) (gt3 V c t) := by dsimp only [dat3]
theorem A3_eq (c : Dev nD) (w : Fin cfg3.W) : (dat3 V c).A w = V c (Proc.devRef .tc (Pipeline.arrRef spec3 w)) := by dsimp only [dat3]
theorem before3_0 (c : Dev nD) (t : Fin cfg3.N) (d) : (dat3 V c).before 0 t d = blk3 V c 0 t :=
  ((dat3 V c).before_in_eq_fetched 0 rfl (fun _ => rfl) (fun _ _ _ => rfl) (fun t => by rw [after3_0]; unfold Dat.blockOf blk3; rw [A3_eq]; try rfl) t d).trans
    (by unfold Dat.fetched Dat.blockOf blk3; rw [A3_eq]; try rfl)
theorem before3_1 (c : Dev nD) (t : Fin cfg3.N) (d) : (dat3 V c).before 1 t d = blk3 V c 1 t :=
  ((dat3 V c).before_in_eq_fetched 1 rfl (fun _ => rfl) (fun _ _ _ => rfl) (fun t => by rw [after3_1]; unfold Dat.blockOf blk3; rw [A3_eq]; try rfl) t d).trans
    (by unfold Dat.fetched Dat.blockOf blk3; rw [A3_eq]; try rfl)
theorem before3_2 (c : Dev nD) (t : Fin cfg3.N) (d) : (dat3 V c).before 2 t d = blk3 V c 2 t :=
  ((dat3 V c).before_in_eq_fetched 2 rfl (fun _ => rfl) (fun _ _ _ => rfl) (fun t => by rw [after3_2]; unfold Dat.blockOf blk3; rw [A3_eq]; try rfl) t d).trans
    (by unfold Dat.fetched Dat.blockOf blk3; rw [A3_eq]; try rfl)
theorem before3_3 (c : Dev nD) (t : Fin cfg3.N) (d) : (dat3 V c).before 3 t d = blk3 V c 3 t :=
  ((dat3 V c).before_in_eq_fetched 3 rfl (fun _ => rfl) (fun _ _ _ => rfl) (fun t => by rw [after3_3]; unfold Dat.blockOf blk3; rw [A3_eq]; try rfl) t d).trans
    (by unfold Dat.fetched Dat.blockOf blk3; rw [A3_eq]; try rfl)
theorem before3_4 (c : Dev nD) (t : Fin cfg3.N) (d) : (dat3 V c).before 4 t d = blk3 V c 4 t :=
  ((dat3 V c).before_in_eq_fetched 4 rfl (fun _ => rfl) (fun _ _ _ => rfl) (fun t => by rw [after3_4]; unfold Dat.blockOf blk3; rw [A3_eq]; try rfl) t d).trans
    (by unfold Dat.fetched Dat.blockOf blk3; rw [A3_eq]; try rfl)
theorem before3_5 (c : Dev nD) (t : Fin cfg3.N) (d) : (dat3 V c).before 5 t d = blk3 V c 5 t :=
  ((dat3 V c).before_in_eq_fetched 5 rfl (fun _ => rfl) (fun _ _ _ => rfl) (fun t => by rw [after3_5]; unfold Dat.blockOf blk3; rw [A3_eq]; try rfl) t d).trans
    (by unfold Dat.fetched Dat.blockOf blk3; rw [A3_eq]; try rfl)
theorem before3_6 (c : Dev nD) (t : Fin cfg3.N) (d) : (dat3 V c).before 6 t d = blk3 V c 6 t :=
  ((dat3 V c).before_in_eq_fetched 6 rfl (fun _ => rfl) (fun _ _ _ => rfl) (fun t => by rw [after3_6]; unfold Dat.blockOf blk3; rw [A3_eq]; try rfl) t d).trans
    (by unfold Dat.fetched Dat.blockOf blk3; rw [A3_eq]; try rfl)
theorem before3_7 (c : Dev nD) (t : Fin cfg3.N) (d) : (dat3 V c).before 7 t d = blk3 V c 7 t :=
  ((dat3 V c).before_in_eq_fetched 7 rfl (fun _ => rfl) (fun _ _ _ => rfl) (fun t => by rw [after3_7]; unfold Dat.blockOf blk3; rw [A3_eq]; try rfl) t d).trans
    (by unfold Dat.fetched Dat.blockOf blk3; rw [A3_eq]; try rfl)

/-- The fill happens at the first point only. -/
theorem first3 (t : Fin cfg3.N) : isFirst (grid3.coords t) ↔ t.val = 0 := by
  have ht : t.val < 8 := Nat.lt_of_lt_of_eq t.isLt N_3
  have e0 : (grid3.coords t 0).val = t.val / 1 % 8 := Pipeline.Grid.coords_val t 0 (by decide) rfl
  have h8 : t.val % 8 = 0 ↔ t.val = 0 := by omega
  rw [← h8]
  simp only [isFirst, e0]
  word_cmp

theorem body3_spell (t : Fin cfg3.N) : bodyAt3 (F := F) t = bodyProg (F := F) (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4)) (win3_5.stage (cfg3.slots t 5)) (hstage3_5 ((cfg3.slots t 5).cast nbuf3_5)) (win3_6.stage (cfg3.slots t 6)) (hstage3_6 ((cfg3.slots t 6).cast nbuf3_6)) (win3_7.stage (cfg3.slots t 7)) (hstage3_7 ((cfg3.slots t 7).cast nbuf3_7)) (win3_8.stage (cfg3.slots t 8)) (hstage3_8 ((cfg3.slots t 8).cast nbuf3_8)) (win3_9.stage (cfg3.slots t 9)) (hstage3_9 ((cfg3.slots t 9).cast nbuf3_9)) (win3_10.stage (cfg3.slots t 10)) (hstage3_10 ((cfg3.slots t 10).cast nbuf3_10)) (win3_11.stage (cfg3.slots t 11)) (hstage3_11 ((cfg3.slots t 11).cast nbuf3_11)) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) 24#32 :=
  cc3_eq _ _ _ _ _ _ _ _ _ _ _ _ _ _ _ _ _ _ _ _ _ _ _ _ _ _ _ _ _ _ _ _ _ _ _ _ _ _ _ _ _ _ _

set_option maxHeartbeats 1600000 in
/-- The body at any point. -/
theorem sound3 (c : Dev nD) (t : Fin cfg3.N) :
    iprop((dat3 V c).Φ t.castSucc ∗ (dat3 V c).owesAt () t.castSucc
    ∗ (∃ d, owns (c : Thread nD τ) (win3_0.stage (cfg3.slots t 0)) fullShare ((dat3 V c).before 0 t d))
    ∗ (∃ d, owns (c : Thread nD τ) (win3_1.stage (cfg3.slots t 1)) fullShare ((dat3 V c).before 1 t d))
    ∗ (∃ d, owns (c : Thread nD τ) (win3_2.stage (cfg3.slots t 2)) fullShare ((dat3 V c).before 2 t d))
    ∗ (∃ d, owns (c : Thread nD τ) (win3_3.stage (cfg3.slots t 3)) fullShare ((dat3 V c).before 3 t d))
    ∗ (∃ d, owns (c : Thread nD τ) (win3_4.stage (cfg3.slots t 4)) fullShare ((dat3 V c).before 4 t d))
    ∗ (∃ d, owns (c : Thread nD τ) (win3_5.stage (cfg3.slots t 5)) fullShare ((dat3 V c).before 5 t d))
    ∗ (∃ d, owns (c : Thread nD τ) (win3_6.stage (cfg3.slots t 6)) fullShare ((dat3 V c).before 6 t d))
    ∗ (∃ d, owns (c : Thread nD τ) (win3_7.stage (cfg3.slots t 7)) fullShare ((dat3 V c).before 7 t d))
    ∗ (∃ d, owns (c : Thread nD τ) (win3_8.stage (cfg3.slots t 8)) fullShare ((dat3 V c).before 8 t d))
    ∗ (∃ d, owns (c : Thread nD τ) (win3_9.stage (cfg3.slots t 9)) fullShare ((dat3 V c).before 9 t d))
    ∗ (∃ d, owns (c : Thread nD τ) (win3_10.stage (cfg3.slots t 10)) fullShare ((dat3 V c).before 10 t d))
    ∗ (∃ d, owns (c : Thread nD τ) (win3_11.stage (cfg3.slots t 11)) fullShare ((dat3 V c).before 11 t d)))
    ⊢ wp frame (wpE (defs₀ (F := F)) Variants.none c none) Set.univ (bodyAt3 t) (fun _ => iprop((dat3 V c).Φ t.succ ∗ (dat3 V c).owesAt () t.succ
    ∗ owns (c : Thread nD τ) (win3_0.stage (cfg3.slots t 0)) fullShare ((dat3 V c).after 0 t)
    ∗ owns (c : Thread nD τ) (win3_1.stage (cfg3.slots t 1)) fullShare ((dat3 V c).after 1 t)
    ∗ owns (c : Thread nD τ) (win3_2.stage (cfg3.slots t 2)) fullShare ((dat3 V c).after 2 t)
    ∗ owns (c : Thread nD τ) (win3_3.stage (cfg3.slots t 3)) fullShare ((dat3 V c).after 3 t)
    ∗ owns (c : Thread nD τ) (win3_4.stage (cfg3.slots t 4)) fullShare ((dat3 V c).after 4 t)
    ∗ owns (c : Thread nD τ) (win3_5.stage (cfg3.slots t 5)) fullShare ((dat3 V c).after 5 t)
    ∗ owns (c : Thread nD τ) (win3_6.stage (cfg3.slots t 6)) fullShare ((dat3 V c).after 6 t)
    ∗ owns (c : Thread nD τ) (win3_7.stage (cfg3.slots t 7)) fullShare ((dat3 V c).after 7 t)
    ∗ owns (c : Thread nD τ) (win3_8.stage (cfg3.slots t 8)) fullShare ((dat3 V c).after 8 t)
    ∗ owns (c : Thread nD τ) (win3_9.stage (cfg3.slots t 9)) fullShare ((dat3 V c).after 9 t)
    ∗ owns (c : Thread nD τ) (win3_10.stage (cfg3.slots t 10)) fullShare ((dat3 V c).after 10 t)
    ∗ owns (c : Thread nD τ) (win3_11.stage (cfg3.slots t 11)) fullShare ((dat3 V c).after 11 t))) := by
  rw [body3_spell]
  simp only [before3_0, before3_1, before3_2, before3_3, before3_4, before3_5, before3_6, before3_7, after3_0, after3_1, after3_2, after3_3, after3_4, after3_5, after3_6, after3_7, after3_8, after3_9, after3_10, after3_11]
  rw [show (dat3 V c).owesAt () t.succ = (dat3 V c).owesAt () t.castSucc from rfl,
    show (dat3 V c).Φ t.succ = inv3 V c (t.val + 1) from rfl, show (dat3 V c).Φ t.castSucc = inv3 V c t.val from rfl]
  by_cases h0 : t.val = 0
  · obtain rfl : t = t3_0 := Fin.ext h0
    rw [show inv3 V c (t3_0 : Fin cfg3.N).val = Pipeline.scopedRest spec3 c from rfl, rest3_eq]
    unfold inv3
    iintro ⟨⟨⟨S0, S1, S3, S4, S2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_first c (grid3.coords t3_0) _ _ _ _ _ _ _ _ _ _ _ _ _ _ _ _ _ _ _ _ _ _ _ _ _ _ _ _ _ _ _ _ _ _ 24#32 (blk3 V c 0 t3_0) (blk3 V c 1 t3_0) (blk3 V c 2 t3_0) (blk3 V c 3 t3_0) (blk3 V c 4 t3_0) (blk3 V c 5 t3_0) (blk3 V c 6 t3_0) (blk3 V c 7 t3_0) ((first3 _).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [S0 S1 S2]
    · isplitl [S0]; · iexact S0
      isplitl [S1]; · iexact S1
      iexact S2
    isplitl [S3]; · iexact S3
    isplitl [S4]; · iexact S4
    unfold bodyPost
    iintro ⟨H0, H1, H2, H3, H4, H5, H6, H7, H8, H9, H10, H11, S0, S1, S2, S3, S4⟩
    isplitl [S0 S1 S2 S3 S4 HR]
    · isplitl [S0 S1 S2 S3 S4]
      · isplitl [S0]; · iexact S0
        isplitl [S1]; · iexact S1
        isplitl [S3]; · iexact S3
        isplitl [S4]; · iexact S4
        iexact S2
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [show inv3 V c t.val = inv3 V c (t.val - 1 + 1) from by rw [Nat.sub_add_cancel (Nat.one_le_iff_ne_zero.mpr h0)]]
    unfold inv3
    iintro ⟨⟨⟨S0, S1, S3, S4, S2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_later c (grid3.coords t) _ _ _ _ _ _ _ _ _ _ _ _ _ _ _ _ _ _ _ _ _ _ _ _ _ _ _ _ _ _ _ _ _ _ 24#32 (blk3 V c 0 t) (blk3 V c 1 t) (blk3 V c 2 t) (blk3 V c 3 t) (blk3 V c 4 t) (blk3 V c 5 t) (blk3 V c 6 t) (blk3 V c 7 t) (k0_pay15 (grad3 V c)) (k0_pay17 (look3 V c)) (xAny (look3 V c)) (fun h => h0 ((first3 _).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [S0 S1 S2]
    · isplitl [S0]; · iexact S0
      isplitl [S1]; · iexact S1
      iexact S2
    isplitl [S3]; · iexact S3
    isplitl [S4]; · iexact S4
    unfold bodyPost
    iintro ⟨H0, H1, H2, H3, H4, H5, H6, H7, H8, H9, H10, H11, S0, S1, S2, S3, S4⟩
    isplitl [S0 S1 S2 S3 S4 HR]
    · isplitl [S0 S1 S2 S3 S4]
      · isplitl [S0]; · iexact S0
        isplitl [S1]; · iexact S1
        isplitl [S3]; · iexact S3
        isplitl [S4]; · iexact S4
        iexact S2
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem row3 (t : Fin cfg3.N) : defs₀ (F := F) .tc cfg3.body (cfg3.bodyArgs t (cfg3.slots t)) = bodyAt3 t := by
  unfold defs₀; rw [Defs.onTc_tc]; try rfl

theorem obligation3 (c : Dev nD) : BodyObligation (dat3 V c) (defs₀ (F := F)) Variants.none () Set.univ := fun t => by
  rw [bigSep_W3, bigSep_W3, row3]
  exact triple_restated (sound3 V c t) rfl .rfl fun _ => .rfl

theorem hin3 (c : Dev nD) : iprop(Pipeline.scopedRest spec3 c ∗ BI.emp) ⊢ (dat3 V c).Φ 0 := by
  rw [show (dat3 V c).Φ 0 = Pipeline.scopedRest spec3 c from rfl]
  iintro ⟨H, -⟩; iexact H

theorem hout3 (c : Dev nD) : (dat3 V c).Φ (Fin.last cfg3.N) ⊢ iprop(Pipeline.scopedRest spec3 c ∗ BI.emp) := by
  rw [show (dat3 V c).Φ (Fin.last cfg3.N) = inv3 V c (7 + 1) from congrArg (inv3 V c) N_3, rest3_eq]
  unfold inv3
  iintro ⟨⟨S0, S1, S3, S4, S2⟩, HR⟩
  isplitl
  · isplitl [S0 S1 S2 S3 S4]
    · isplitl [S0]; · iexists _; iexact S0
      isplitl [S1]; · iexists _; iexact S1
      isplitl [S3]; · iexact S3
      isplitl [S4]; · iexact S4
      iexists _; iexact S2
    iexact HR
  iempintro
end

end Cert.KernelIdeal.Gen
end
-- ==== Proof.Chain.lean ====
module

public import proofs.«01_k».proof.Proof.Region0
public import proofs.«01_k».proof.Proof.Region1
public import proofs.«01_k».proof.Proof.Region2
public import proofs.«01_k».proof.Proof.Region3
public import proofs.«01_k».proof.Proof.Gen.KernelIdeal.Regions
public import Idealize.ShloMosaic.Lib.Pipeline.RegionArraysS
public import Idealize.ShloMosaic.Lib.Claim

/-! The four update calls in turn, with the host lines between them: what every buffer holds after each, and the whole run. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers before and after each call. -/
def W0 (c : Dev nD) : Valuation τ sig (Elt F) := StableHlo.after hostOps0 (V0 m c)
def A0 (c : Dev nD) : Valuation τ sig (Elt F) := Pipeline.afterRegion (dat0 (W0 m) c) (W0 m c)
def W1 (c : Dev nD) : Valuation τ sig (Elt F) := StableHlo.after hostOps1 (A0 m c)
def A1 (c : Dev nD) : Valuation τ sig (Elt F) := Pipeline.afterRegion (dat1 (W1 m) c) (W1 m c)
def W2 (c : Dev nD) : Valuation τ sig (Elt F) := StableHlo.after hostOps2 (A1 m c)
def A2 (c : Dev nD) : Valuation τ sig (Elt F) := Pipeline.afterRegion (dat2 (W2 m) c) (W2 m c)
def W3 (c : Dev nD) : Valuation τ sig (Elt F) := StableHlo.after hostOps3 (A2 m c)
def A3 (c : Dev nD) : Valuation τ sig (Elt F) := Pipeline.afterRegion (dat3 (W3 m) c) (W3 m c)

def pdats (p : Fin 4) (c : Dev nD) : Dat τ (Elt F) Unit ℕ (UR sig nD τ) ℕ (cfgs p) c := match p with
  | ⟨0, _⟩ => dat0 (W0 m) c
  | ⟨1, _⟩ => dat1 (W1 m) c
  | ⟨2, _⟩ => dat2 (W2 m) c
  | ⟨3, _⟩ => dat3 (W3 m) c

/-- No core owes another anything; every staging wait sits at one level. -/
abbrev lev : GSem nD τ sig → Finset Unit := fun g => if g.1.2 = .tc then {()} else ∅
abbrev lvl : GSem nD τ sig → Unit → ℕ := fun _ _ => 0

/-- What rides beside the buffers: the core owes nothing. -/
abbrev rest (c : Dev nD) : sProp 𝕄 := iprop((∃ Wd, owes (c : Thread nD τ) (0 : CellTallies nD τ sig Unit) Wd) ∗ BI.emp ∗ BI.emp)

theorem cut0 : Pipeline.LevelCut (pcfgs (F := F)) adm () lev lvl 0 (fun _ => (0 : CellTallies nD τ sig Unit)) (fun _ => (0 : ℕ)) where
  hι _ _ _ := by simp [lev]
  hιb _ _ _ := Nat.le_refl 0
  hD _ _ _ h := absurd h (Nat.lt_irrefl 0)

set_option backward.isDefEq.respectTransparency.types false in
def reg0 : Pipeline.RegionSeg (pcfgs (F := F)) adm (pdats m) () defs₀ Variants.none lev lvl 0 :=
  Pipeline.RegionSeg.ofHeldIn (pcfgs (F := F)) adm (pdats m) () defs₀ Variants.none lev lvl 0 (fun _ => 0) (Pipeline.ucRefs τ sig) (fun _ => BI.emp) (fun _ => BI.emp)
    launch0.toP rfl (fun c => (obligation0 (W0 m) c).loose) (fun _ _ => rfl) (fun _ => rfl) (fun c => (dat0 (W0 m) c).share_full fun _ => rfl)
    (hin0 (W0 m)) (hout0 (W0 m)) (fun _ => (0 : ℕ)) cut0 (fun _ => BI.emp) (W0 m) (fun _ _ => rfl)

theorem sub0 : Pipeline.arrRefs (τ := τ) (pcfgs (F := F) 0).spec ⊆ Pipeline.ucRefs τ sig := Pipeline.arrRefs_sub_ucRefs _ launch0.win.arr_unscoped

theorem pre0 (c : Dev nD) : iprop(StableHlo.held (c : Thread nD τ) (Pipeline.ucRefs τ sig) (W0 m c) ∗ rest c) ⊢ (reg0 m).pre c := by
  unfold reg0; exact Pipeline.RegionSeg.ofHeldIn_pre (D := fun _ => 0) (X := fun _ => BI.emp) (R := fun _ => BI.emp) (sub0 (F := F)) c

theorem post0 (c : Dev nD) : (reg0 m).post c ⊢ iprop(StableHlo.held (c : Thread nD τ) (Pipeline.ucRefs τ sig) (A0 m c) ∗ rest c) := by
  unfold reg0; exact Pipeline.RegionSeg.ofHeldIn_post (D := fun _ => 0) (Y := fun _ => BI.emp) (R := fun _ => BI.emp) (sub0 (F := F)) c

def host0 : Pipeline.HostSeg (Ix := Unit) (Name := ℕ) (U := UR sig nD τ) (Lvl := ℕ) (pcfgs (F := F)) defs₀ Variants.none lev lvl :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) rest

theorem cut1 : Pipeline.LevelCut (pcfgs (F := F)) adm () lev lvl 1 (fun _ => (0 : CellTallies nD τ sig Unit)) (fun _ => (0 : ℕ)) where
  hι _ _ _ := by simp [lev]
  hιb _ _ _ := Nat.le_refl 0
  hD _ _ _ h := absurd h (Nat.lt_irrefl 0)

set_option backward.isDefEq.respectTransparency.types false in
def reg1 : Pipeline.RegionSeg (pcfgs (F := F)) adm (pdats m) () defs₀ Variants.none lev lvl 1 :=
  Pipeline.RegionSeg.ofHeldIn (pcfgs (F := F)) adm (pdats m) () defs₀ Variants.none lev lvl 1 (fun _ => 0) (Pipeline.ucRefs τ sig) (fun _ => BI.emp) (fun _ => BI.emp)
    launch1.toP rfl (fun c => (obligation1 (W1 m) c).loose) (fun _ _ => rfl) (fun _ => rfl) (fun c => (dat1 (W1 m) c).share_full fun _ => rfl)
    (hin1 (W1 m)) (hout1 (W1 m)) (fun _ => (0 : ℕ)) cut1 (fun _ => BI.emp) (W1 m) (fun _ _ => rfl)

theorem sub1 : Pipeline.arrRefs (τ := τ) (pcfgs (F := F) 1).spec ⊆ Pipeline.ucRefs τ sig := Pipeline.arrRefs_sub_ucRefs _ launch1.win.arr_unscoped

theorem pre1 (c : Dev nD) : iprop(StableHlo.held (c : Thread nD τ) (Pipeline.ucRefs τ sig) (W1 m c) ∗ rest c) ⊢ (reg1 m).pre c := by
  unfold reg1; exact Pipeline.RegionSeg.ofHeldIn_pre (D := fun _ => 0) (X := fun _ => BI.emp) (R := fun _ => BI.emp) (sub1 (F := F)) c

theorem post1 (c : Dev nD) : (reg1 m).post c ⊢ iprop(StableHlo.held (c : Thread nD τ) (Pipeline.ucRefs τ sig) (A1 m c) ∗ rest c) := by
  unfold reg1; exact Pipeline.RegionSeg.ofHeldIn_post (D := fun _ => 0) (Y := fun _ => BI.emp) (R := fun _ => BI.emp) (sub1 (F := F)) c

def host1 : Pipeline.HostSeg (Ix := Unit) (Name := ℕ) (U := UR sig nD τ) (Lvl := ℕ) (pcfgs (F := F)) defs₀ Variants.none lev lvl :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (A0 m) rest

theorem cut2 : Pipeline.LevelCut (pcfgs (F := F)) adm () lev lvl 2 (fun _ => (0 : CellTallies nD τ sig Unit)) (fun _ => (0 : ℕ)) where
  hι _ _ _ := by simp [lev]
  hιb _ _ _ := Nat.le_refl 0
  hD _ _ _ h := absurd h (Nat.lt_irrefl 0)

set_option backward.isDefEq.respectTransparency.types false in
def reg2 : Pipeline.RegionSeg (pcfgs (F := F)) adm (pdats m) () defs₀ Variants.none lev lvl 2 :=
  Pipeline.RegionSeg.ofHeldIn (pcfgs (F := F)) adm (pdats m) () defs₀ Variants.none lev lvl 2 (fun _ => 0) (Pipeline.ucRefs τ sig) (fun _ => BI.emp) (fun _ => BI.emp)
    launch2.toP rfl (fun c => (obligation2 (W2 m) c).loose) (fun _ _ => rfl) (fun _ => rfl) (fun c => (dat2 (W2 m) c).share_full fun _ => rfl)
    (hin2 (W2 m)) (hout2 (W2 m)) (fun _ => (0 : ℕ)) cut2 (fun _ => BI.emp) (W2 m) (fun _ _ => rfl)

theorem sub2 : Pipeline.arrRefs (τ := τ) (pcfgs (F := F) 2).spec ⊆ Pipeline.ucRefs τ sig := Pipeline.arrRefs_sub_ucRefs _ launch2.win.arr_unscoped

theorem pre2 (c : Dev nD) : iprop(StableHlo.held (c : Thread nD τ) (Pipeline.ucRefs τ sig) (W2 m c) ∗ rest c) ⊢ (reg2 m).pre c := by
  unfold reg2; exact Pipeline.RegionSeg.ofHeldIn_pre (D := fun _ => 0) (X := fun _ => BI.emp) (R := fun _ => BI.emp) (sub2 (F := F)) c

theorem post2 (c : Dev nD) : (reg2 m).post c ⊢ iprop(StableHlo.held (c : Thread nD τ) (Pipeline.ucRefs τ sig) (A2 m c) ∗ rest c) := by
  unfold reg2; exact Pipeline.RegionSeg.ofHeldIn_post (D := fun _ => 0) (Y := fun _ => BI.emp) (R := fun _ => BI.emp) (sub2 (F := F)) c

def host2 : Pipeline.HostSeg (Ix := Unit) (Name := ℕ) (U := UR sig nD τ) (Lvl := ℕ) (pcfgs (F := F)) defs₀ Variants.none lev lvl :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (A1 m) rest

theorem cut3 : Pipeline.LevelCut (pcfgs (F := F)) adm () lev lvl 3 (fun _ => (0 : CellTallies nD τ sig Unit)) (fun _ => (0 : ℕ)) where
  hι _ _ _ := by simp [lev]
  hιb _ _ _ := Nat.le_refl 0
  hD _ _ _ h := absurd h (Nat.lt_irrefl 0)

set_option backward.isDefEq.respectTransparency.types false in
def reg3 : Pipeline.RegionSeg (pcfgs (F := F)) adm (pdats m) () defs₀ Variants.none lev lvl 3 :=
  Pipeline.RegionSeg.ofHeldIn (pcfgs (F := F)) adm (pdats m) () defs₀ Variants.none lev lvl 3 (fun _ => 0) (Pipeline.ucRefs τ sig) (fun _ => BI.emp) (fun _ => BI.emp)
    launch3.toP rfl (fun c => (obligation3 (W3 m) c).loose) (fun _ _ => rfl) (fun _ => rfl) (fun c => (dat3 (W3 m) c).share_full fun _ => rfl)
    (hin3 (W3 m)) (hout3 (W3 m)) (fun _ => (0 : ℕ)) cut3 (fun _ => BI.emp) (W3 m) (fun _ _ => rfl)

theorem sub3 : Pipeline.arrRefs (τ := τ) (pcfgs (F := F) 3).spec ⊆ Pipeline.ucRefs τ sig := Pipeline.arrRefs_sub_ucRefs _ launch3.win.arr_unscoped

theorem pre3 (c : Dev nD) : iprop(StableHlo.held (c : Thread nD τ) (Pipeline.ucRefs τ sig) (W3 m c) ∗ rest c) ⊢ (reg3 m).pre c := by
  unfold reg3; exact Pipeline.RegionSeg.ofHeldIn_pre (D := fun _ => 0) (X := fun _ => BI.emp) (R := fun _ => BI.emp) (sub3 (F := F)) c

theorem post3 (c : Dev nD) : (reg3 m).post c ⊢ iprop(StableHlo.held (c : Thread nD τ) (Pipeline.ucRefs τ sig) (A3 m c) ∗ rest c) := by
  unfold reg3; exact Pipeline.RegionSeg.ofHeldIn_post (D := fun _ => 0) (Y := fun _ => BI.emp) (R := fun _ => BI.emp) (sub3 (F := F)) c

def host3 : Pipeline.HostSeg (Ix := Unit) (Name := ℕ) (U := UR sig nD τ) (Lvl := ℕ) (pcfgs (F := F)) defs₀ Variants.none lev lvl :=
  Pipeline.HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (A2 m) rest

abbrev segments : List (Pipeline.Seg (pcfgs (F := F)) adm (pdats m) () defs₀ Variants.none lev lvl) :=
  [.host (host0 m), .region (reg0 m), .host (host1 m), .region (reg1 m), .host (host2 m), .region (reg2 m), .host (host3 m), .region (reg3 m)]

set_option backward.isDefEq.respectTransparency.types false in
/-- Every run ends, with every buffer that outlives the calls at `A3` and every counter at zero. -/
theorem run_all : θ_run defs (onTc (τ := τ) (main (F := F))) ⟨m, fun _ => 0, ρ⟩
    (fun r => (∀ c : Dev nD, ∀ b ∈ Pipeline.ucRefs τ sig, r.2.mem (c, b) = A3 m c b) ∧ r.2.sem = fun _ => 0) := by
  refine Pipeline.θ_run_regions_kit_dev_sems (pcfgs (F := F)) adm (pdats m) () cellOf_inj emb₁ defs₀ Variants.none lev lvl m ρ main
    (fun _ => segments m)
    (fun c Q => by
      rewrite [main_chain c, Pipeline.Seg.run_eq_chain,
        show (segments m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      dsimp (config := { failIfUnchanged := false }) only
      exact .rfl)
    (fun c => by simp only [segments, Pipeline.Seg.pipes_host, Pipeline.Seg.pipes_region, Pipeline.Seg.pipes_nil]; decide) (O₀ := 0) (hL := fun g h => if_neg h)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (A3 m c))
    (hch := fun c => ⟨.rfl, pre0 m c, post0 m c, pre1 m c, post1 m c, pre2 m c, post2 m c, pre3 m c, (post3 m c).trans ?_⟩)
    (hinit := ?_) (QY := fun c s => ∀ b ∈ Pipeline.ucRefs τ sig, s.mem (c, b) = A3 m c b)
    (hfin := fun c s' => ?_) (hQ := fun _ h hz => ⟨h, funext fun g => hz g (.inr (regions_no_unscoped g.2))⟩)
  · iintro ⟨Hh, HO, -, -⟩
    isplitl [Hh]; · iexact Hh
    iexact HO
  · refine Pipeline.initEach lev lvl fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    isplitl [HO]; · iexists ∅; iexact HO
    isplitl <;> iempintro
  · unfold StableHlo.held
    iintro ⟨Hh, HSI⟩
    ihave Hr := (pointsTo_read_all (Pipeline.ucRefs τ sig) (fun b => ((c : Thread nD τ).1, b)) (A3 m c) s') $$ [Hh HSI]
    · isplitl [Hh] <;> iassumption
    icases Hr with ⟨%h, HSI⟩
    imodintro
    isplitr; · ipureintro; exact h
    iexact HSI

/-! ## What is left alone -/

theorem outs0 : ∀ w : Fin cfg0.W, (cfg0.win w).isOut = true → Pipeline.arrRef spec0 w ∈ ([main_v3_0, main_v3_1, main_v3_2, main_v3_3] : List (Ref sig .tc)) := by decide
theorem A0_of (c : Dev nD) (r : Ref sig .tc) (h : r ∉ ([main_v3_0, main_v3_1, main_v3_2, main_v3_3] : List (Ref sig .tc))) : A0 m c r = W0 m c r :=
  Pipeline.afterRegion_keeps (dat0 (W0 m) c) (W0 m c) launch0.win.arr_inj (A0_eq (W0 m) c) r fun w e => by
    by_contra ho
    exact h (e ▸ outs0 w (Bool.eq_true_of_not_eq_false ho))
theorem W0_of (c : Dev nD) (r : Ref sig .tc) (h : r ∉ hostOps0_W) : W0 m c r = V0 m c r :=
  StableHlo.after_of_writes_sub hostOps0 _ hostOps0_writes h

theorem outs1 : ∀ w : Fin cfg1.W, (cfg1.win w).isOut = true → Pipeline.arrRef spec1 w ∈ ([main_v7_0, main_v7_1, main_v7_2, main_v7_3] : List (Ref sig .tc)) := by decide
theorem A1_of (c : Dev nD) (r : Ref sig .tc) (h : r ∉ ([main_v7_0, main_v7_1, main_v7_2, main_v7_3] : List (Ref sig .tc))) : A1 m c r = W1 m c r :=
  Pipeline.afterRegion_keeps (dat1 (W1 m) c) (W1 m c) launch1.win.arr_inj (A1_eq (W1 m) c) r fun w e => by
    by_contra ho
    exact h (e ▸ outs1 w (Bool.eq_true_of_not_eq_false ho))
theorem W1_of (c : Dev nD) (r : Ref sig .tc) (h : r ∉ hostOps1_W) : W1 m c r = A0 m c r :=
  StableHlo.after_of_writes_sub hostOps1 _ hostOps1_writes h

theorem outs2 : ∀ w : Fin cfg2.W, (cfg2.win w).isOut = true → Pipeline.arrRef spec2 w ∈ ([main_v11_0, main_v11_1, main_v11_2, main_v11_3] : List (Ref sig .tc)) := by decide
theorem A2_of (c : Dev nD) (r : Ref sig .tc) (h : r ∉ ([main_v11_0, main_v11_1, main_v11_2, main_v11_3] : List (Ref sig .tc))) : A2 m c r = W2 m c r :=
  Pipeline.afterRegion_keeps (dat2 (W2 m) c) (W2 m c) launch2.win.arr_inj (A2_eq (W2 m) c) r fun w e => by
    by_contra ho
    exact h (e ▸ outs2 w (Bool.eq_true_of_not_eq_false ho))
theorem W2_of (c : Dev nD) (r : Ref sig .tc) (h : r ∉ hostOps2_W) : W2 m c r = A1 m c r :=
  StableHlo.after_of_writes_sub hostOps2 _ hostOps2_writes h

theorem outs3 : ∀ w : Fin cfg3.W, (cfg3.win w).isOut = true → Pipeline.arrRef spec3 w ∈ ([main_v15_0, main_v15_1, main_v15_2, main_v15_3] : List (Ref sig .tc)) := by decide
theorem A3_of (c : Dev nD) (r : Ref sig .tc) (h : r ∉ ([main_v15_0, main_v15_1, main_v15_2, main_v15_3] : List (Ref sig .tc))) : A3 m c r = W3 m c r :=
  Pipeline.afterRegion_keeps (dat3 (W3 m) c) (W3 m c) launch3.win.arr_inj (A3_eq (W3 m) c) r fun w e => by
    by_contra ho
    exact h (e ▸ outs3 w (Bool.eq_true_of_not_eq_false ho))
theorem W3_of (c : Dev nD) (r : Ref sig .tc) (h : r ∉ hostOps3_W) : W3 m c r = A2 m c r :=
  StableHlo.after_of_writes_sub hostOps3 _ hostOps3_writes h

/-- A buffer nothing writes is as launched before each call and at the end. -/
abbrev allW : List (Ref sig .tc) := hostOps0_W ++ [main_v3_0, main_v3_1, main_v3_2, main_v3_3] ++ hostOps1_W ++ hostOps2_W ++ hostOps3_W
theorem W0_arg (c : Dev nD) (r : Ref sig .tc) (h : r ∉ allW) : W0 m c r = m ((c : Thread nD τ).loc r) :=
  W0_of m c r fun h' => h (List.mem_append_left _ (List.mem_append_left _ (List.mem_append_left _ (List.mem_append_left _ h'))))
theorem A0_arg (c : Dev nD) (r : Ref sig .tc) (h : r ∉ allW) : A0 m c r = m ((c : Thread nD τ).loc r) :=
  (A0_of m c r fun h' => h (List.mem_append_left _ (List.mem_append_left _ (List.mem_append_left _ (List.mem_append_right _ h'))))).trans (W0_arg m c r h)
theorem W1_arg (c : Dev nD) (r : Ref sig .tc) (h : r ∉ allW) : W1 m c r = m ((c : Thread nD τ).loc r) :=
  (W1_of m c r fun h' => h (List.mem_append_left _ (List.mem_append_left _ (List.mem_append_right _ h')))).trans (A0_arg m c r h)
theorem A1_arg (c : Dev nD) (r : Ref sig .tc) (h : r ∉ allW) : A1 m c r = m ((c : Thread nD τ).loc r) :=
  (A1_of m c r fun h' => h (List.mem_append_left _ (List.mem_append_left _ (List.mem_append_right _ ((by decide : ([main_v7_0, main_v7_1, main_v7_2, main_v7_3] : List (Ref sig .tc)) ⊆ hostOps1_W) h'))))).trans (W1_arg m c r h)
theorem W2_arg (c : Dev nD) (r : Ref sig .tc) (h : r ∉ allW) : W2 m c r = m ((c : Thread nD τ).loc r) :=
  (W2_of m c r fun h' => h (List.mem_append_left _ (List.mem_append_right _ h'))).trans (A1_arg m c r h)
theorem A2_arg (c : Dev nD) (r : Ref sig .tc) (h : r ∉ allW) : A2 m c r = m ((c : Thread nD τ).loc r) :=
  (A2_of m c r fun h' => h (List.mem_append_left _ (List.mem_append_right _ ((by decide : ([main_v11_0, main_v11_1, main_v11_2, main_v11_3] : List (Ref sig .tc)) ⊆ hostOps2_W) h')))).trans (W2_arg m c r h)
theorem W3_arg (c : Dev nD) (r : Ref sig .tc) (h : r ∉ allW) : W3 m c r = m ((c : Thread nD τ).loc r) :=
  (W3_of m c r fun h' => h (List.mem_append_right _ h')).trans (A2_arg m c r h)
theorem A3_arg (c : Dev nD) (r : Ref sig .tc) (h : r ∉ allW) : A3 m c r = m ((c : Thread nD τ).loc r) :=
  (A3_of m c r fun h' => h (List.mem_append_right _ ((by decide : ([main_v15_0, main_v15_1, main_v15_2, main_v15_3] : List (Ref sig .tc)) ⊆ hostOps3_W) h'))).trans (W3_arg m c r h)

theorem uc (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

/-- Every run ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22))
      ∧ r.2.sem = fun _ => 0) :=
  (θ_run defs _ _).mono (fun r h => ⟨fun c => by
    have k : ∀ x : Ref sig .tc, x.isScoped = false → x ∉ allW → r.2.mem ((c.tc : Thread nD τ).loc x) = m ((c.tc : Thread nD τ).loc x) :=
      fun x hx hw => (h.1 c _ (uc x hx)).trans (A3_arg m c x hw)
    refine ⟨?_, ?_, ?_, ?_, ?_, ?_, ?_, ?_, ?_, ?_, ?_, ?_, ?_, ?_, ?_, ?_, ?_, ?_, ?_, ?_, ?_, ?_, ?_⟩ <;> exact k _ (by decide) (by decide), h.2⟩) (run_all m ρ)

end Cert.KernelIdeal.Gen
end
-- ==== Proof.Bits.BodyDefs.lean ====
module

public import proofs.«01_k».proof.Proof.Gen.Kernel.Skeleton
public import proofs.«01_k».proof.Proof.Gen.Kernel.Launch
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

/-! What one grid point computes, as functions of the blocks it reads: the gradient tile, the new optimizer state,
the updated weights, and the requantised codes with their scale and bias. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles -/

/-- Columns 0 to 127 of a 128 x 1024 tile. -/
abbrev rcol0 : Rect S128x1024 := Rect.unit (s := S128x1024) ![0, 0] S128x128.size inb_S128x1024_S128x128_0_0
/-- Columns 128 to 255 of a 128 x 1024 tile. -/
abbrev rcol1 : Rect S128x1024 := Rect.unit (s := S128x1024) ![0, 128] S128x128.size inb_S128x1024_S128x128_0_128
/-- Columns 256 to 383 of a 128 x 1024 tile. -/
abbrev rcol2 : Rect S128x1024 := Rect.unit (s := S128x1024) ![0, 256] S128x128.size inb_S128x1024_S128x128_0_256
/-- Columns 384 to 511 of a 128 x 1024 tile. -/
abbrev rcol3 : Rect S128x1024 := Rect.unit (s := S128x1024) ![0, 384] S128x128.size inb_S128x1024_S128x128_0_384
/-- Columns 512 to 639 of a 128 x 1024 tile. -/
abbrev rcol4 : Rect S128x1024 := Rect.unit (s := S128x1024) ![0, 512] S128x128.size inb_S128x1024_S128x128_0_512
/-- Columns 640 to 767 of a 128 x 1024 tile. -/
abbrev rcol5 : Rect S128x1024 := Rect.unit (s := S128x1024) ![0, 640] S128x128.size inb_S128x1024_S128x128_0_640
/-- Columns 768 to 895 of a 128 x 1024 tile. -/
abbrev rcol6 : Rect S128x1024 := Rect.unit (s := S128x1024) ![0, 768] S128x128.size inb_S128x1024_S128x128_0_768
/-- Columns 896 to 1023 of a 128 x 1024 tile. -/
abbrev rcol7 : Rect S128x1024 := Rect.unit (s := S128x1024) ![0, 896] S128x128.size inb_S128x1024_S128x128_0_896
/-- Rows 0 to 127 of a 1024 x 128 block. -/
abbrev rrow0 : Rect S1024x128 := Rect.unit (s := S1024x128) ![0, 0] S128x128.size inb_S1024x128_S128x128_0_0
/-- Rows 128 to 255 of a 1024 x 128 block. -/
abbrev rrow1 : Rect S1024x128 := Rect.unit (s := S1024x128) ![128, 0] S128x128.size inb_S1024x128_S128x128_128_0
/-- Rows 256 to 383 of a 1024 x 128 block. -/
abbrev rrow2 : Rect S1024x128 := Rect.unit (s := S1024x128) ![256, 0] S128x128.size inb_S1024x128_S128x128_256_0
/-- Rows 384 to 511 of a 1024 x 128 block. -/
abbrev rrow3 : Rect S1024x128 := Rect.unit (s := S1024x128) ![384, 0] S128x128.size inb_S1024x128_S128x128_384_0
/-- Rows 512 to 639 of a 1024 x 128 block. -/
abbrev rrow4 : Rect S1024x128 := Rect.unit (s := S1024x128) ![512, 0] S128x128.size inb_S1024x128_S128x128_512_0
/-- Rows 640 to 767 of a 1024 x 128 block. -/
abbrev rrow5 : Rect S1024x128 := Rect.unit (s := S1024x128) ![640, 0] S128x128.size inb_S1024x128_S128x128_640_0
/-- Rows 768 to 895 of a 1024 x 128 block. -/
abbrev rrow6 : Rect S1024x128 := Rect.unit (s := S1024x128) ![768, 0] S128x128.size inb_S1024x128_S128x128_768_0
/-- Rows 896 to 1023 of a 1024 x 128 block. -/
abbrev rrow7 : Rect S1024x128 := Rect.unit (s := S1024x128) ![896, 0] S128x128.size inb_S1024x128_S128x128_896_0
/-- Block 0 of the eight count blocks of a grid point. -/
abbrev rcnt0 : Rect S16x8x8x128 := Rect.unit (s := S16x8x8x128) ![0, 0, 0, 0] S16x1x8x128.size inb_S16x8x8x128_S16x1x8x128_0_0_0_0
/-- Block 1 of the eight count blocks of a grid point. -/
abbrev rcnt1 : Rect S16x8x8x128 := Rect.unit (s := S16x8x8x128) ![0, 1, 0, 0] S16x1x8x128.size inb_S16x8x8x128_S16x1x8x128_0_1_0_0
/-- Block 2 of the eight count blocks of a grid point. -/
abbrev rcnt2 : Rect S16x8x8x128 := Rect.unit (s := S16x8x8x128) ![0, 2, 0, 0] S16x1x8x128.size inb_S16x8x8x128_S16x1x8x128_0_2_0_0
/-- Block 3 of the eight count blocks of a grid point. -/
abbrev rcnt3 : Rect S16x8x8x128 := Rect.unit (s := S16x8x8x128) ![0, 3, 0, 0] S16x1x8x128.size inb_S16x8x8x128_S16x1x8x128_0_3_0_0
/-- Block 4 of the eight count blocks of a grid point. -/
abbrev rcnt4 : Rect S16x8x8x128 := Rect.unit (s := S16x8x8x128) ![0, 4, 0, 0] S16x1x8x128.size inb_S16x8x8x128_S16x1x8x128_0_4_0_0
/-- Block 5 of the eight count blocks of a grid point. -/
abbrev rcnt5 : Rect S16x8x8x128 := Rect.unit (s := S16x8x8x128) ![0, 5, 0, 0] S16x1x8x128.size inb_S16x8x8x128_S16x1x8x128_0_5_0_0
/-- Block 6 of the eight count blocks of a grid point. -/
abbrev rcnt6 : Rect S16x8x8x128 := Rect.unit (s := S16x8x8x128) ![0, 6, 0, 0] S16x1x8x128.size inb_S16x8x8x128_S16x1x8x128_0_6_0_0
/-- Block 7 of the eight count blocks of a grid point. -/
abbrev rcnt7 : Rect S16x8x8x128 := Rect.unit (s := S16x8x8x128) ![0, 7, 0, 0] S16x1x8x128.size inb_S16x8x8x128_S16x1x8x128_0_7_0_0
/-- The whole of a 128 x 1024 tile. -/
abbrev rtile : Rect S128x1024 := Rect.unit (s := S128x1024) ![0, 0] S128x1024.size inb_S128x1024_S128x1024_0_0

/-! ## The gradient tile -/

/-- The product of the gradient parts with the packed counts. -/
def gBase (x1 : Vec F S16x8x8x128 .i32) (x13 : Vec F S384x512 .bf16) : FVec F S128x1024 .f32 :=
  k0_pay26 (k0_pay19 (View.ld x1 rcnt0)) (k0_pay20 (View.ld x1 rcnt1)) (k0_pay21 (View.ld x1 rcnt2)) (k0_pay22 (View.ld x1 rcnt3))
    (k0_pay23 (View.ld x1 rcnt4)) (k0_pay24 (View.ld x1 rcnt5)) (k0_pay25 (View.ld x1 rcnt6)) (View.ld x1 rcnt7) x13

/-- One 128-column update: the bags all of whose lookups are the slot `b + offset + lane` are counted once more. -/
def gAdd (b off : BitVec 32) (x13 : Vec F S384x512 .bf16) (x14 : Vec F S512x128 .i32) (g : Vec F S128x128 .f32) : FVec F S128x128 .f32 :=
  have ind : IVec S512x128 1 := cmpi .eq x14 (addi (iota .tc S512x128 32 [1] iota_S512x128_d1_w32) (broadcast S512x128 (Scalar.addi b off)))
  have one : FVec F S512x128 .bf16 := truncf .bf16 (sitofp .f32 (extui 32 ind natLt_1_32)) bitsLt_bf16_f32
  have p : FVec F S384x128 .f32 := matmul dot_S384x512_S512x128_S384x128_1_0_0_1_n_n none x13 one (constant S384x128 .f32 0x00000000#32)
  have hi : FVec F S128x128 .f32 := extractStridedSlice S128x128 ![0, 0] p slices_S384x128_o0_0_S128x128
  have mid : FVec F S128x128 .f32 := extractStridedSlice S128x128 ![128, 0] p slices_S384x128_o128_0_S128x128
  have lo : FVec F S128x128 .f32 := extractStridedSlice S128x128 ![256, 0] p slices_S384x128_o256_0_S128x128
  shapeCast S128x128 (addf g (addf hi (addf mid lo))) shapeCasts_S128x128_S128x128

/-- The writes into the tile: the product, ... -/
def gL0 (gb : Vec F S128x1024 .f32) : List (View.Piece (Elt F) S128x1024 .f32) := [⟨rtile, gb⟩]
/-- ... then column block 0. -/
def gL1 (b : BitVec 32) (x13 : Vec F S384x512 .bf16) (x14 : Vec F S512x128 .i32) (gb : Vec F S128x1024 .f32) : List (View.Piece (Elt F) S128x1024 .f32) :=
  ⟨rcol0, gAdd b 0#32 x13 x14 (View.ld (View.canon (gL0 gb)) rcol0)⟩ :: gL0 gb
/-- ... then column block 1. -/
def gL2 (b : BitVec 32) (x13 : Vec F S384x512 .bf16) (x14 : Vec F S512x128 .i32) (gb : Vec F S128x1024 .f32) : List (View.Piece (Elt F) S128x1024 .f32) :=
  ⟨rcol1, gAdd b 128#32 x13 x14 (View.ld (View.canon (gL1 b x13 x14 gb)) rcol1)⟩ :: gL1 b x13 x14 gb
/-- ... then column block 2. -/
def gL3 (b : BitVec 32) (x13 : Vec F S384x512 .bf16) (x14 : Vec F S512x128 .i32) (gb : Vec F S128x1024 .f32) : List (View.Piece (Elt F) S128x1024 .f32) :=
  ⟨rcol2, gAdd b 256#32 x13 x14 (View.ld (View.canon (gL2 b x13 x14 gb)) rcol2)⟩ :: gL2 b x13 x14 gb
/-- ... then column block 3. -/
def gL4 (b : BitVec 32) (x13 : Vec F S384x512 .bf16) (x14 : Vec F S512x128 .i32) (gb : Vec F S128x1024 .f32) : List (View.Piece (Elt F) S128x1024 .f32) :=
  ⟨rcol3, gAdd b 384#32 x13 x14 (View.ld (View.canon (gL3 b x13 x14 gb)) rcol3)⟩ :: gL3 b x13 x14 gb
/-- ... then column block 4. -/
def gL5 (b : BitVec 32) (x13 : Vec F S384x512 .bf16) (x14 : Vec F S512x128 .i32) (gb : Vec F S128x1024 .f32) : List (View.Piece (Elt F) S128x1024 .f32) :=
  ⟨rcol4, gAdd b 512#32 x13 x14 (View.ld (View.canon (gL4 b x13 x14 gb)) rcol4)⟩ :: gL4 b x13 x14 gb
/-- ... then column block 5. -/
def gL6 (b : BitVec 32) (x13 : Vec F S384x512 .bf16) (x14 : Vec F S512x128 .i32) (gb : Vec F S128x1024 .f32) : List (View.Piece (Elt F) S128x1024 .f32) :=
  ⟨rcol5, gAdd b 640#32 x13 x14 (View.ld (View.canon (gL5 b x13 x14 gb)) rcol5)⟩ :: gL5 b x13 x14 gb
/-- ... then column block 6. -/
def gL7 (b : BitVec 32) (x13 : Vec F S384x512 .bf16) (x14 : Vec F S512x128 .i32) (gb : Vec F S128x1024 .f32) : List (View.Piece (Elt F) S128x1024 .f32) :=
  ⟨rcol6, gAdd b 768#32 x13 x14 (View.ld (View.canon (gL6 b x13 x14 gb)) rcol6)⟩ :: gL6 b x13 x14 gb
/-- ... then column block 7. -/
def gL8 (b : BitVec 32) (x13 : Vec F S384x512 .bf16) (x14 : Vec F S512x128 .i32) (gb : Vec F S128x1024 .f32) : List (View.Piece (Elt F) S128x1024 .f32) :=
  ⟨rcol7, gAdd b 896#32 x13 x14 (View.ld (View.canon (gL7 b x13 x14 gb)) rcol7)⟩ :: gL7 b x13 x14 gb

/-- Whether some bag has all its lookups equal (`x15` holds the largest common slot, or -1). -/
abbrev anyFull (x15 : Vec F S1 .i32) : Prop :=
  Scalar.cmpi .ne (Scalar.extui (Scalar.cmpi .sge (View.ld x15 (Rect.unit (s := S1) ![0] S1.size inb_S1_S1_0) (Shape.Idx.first (numel1_S1.symm ▸ Nat.one_pos))) 0#32) : BitVec 32) 0#32 = 1#1

/-- The gradient tile of a grid point whose first slot is `b`. -/
def gTile (b : BitVec 32) (x1 : Vec F S16x8x8x128 .i32) (x13 : Vec F S384x512 .bf16) (x14 : Vec F S512x128 .i32) (x15 : Vec F S1 .i32) : Vec F S128x1024 .f32 :=
  if anyFull x15 then View.canon (gL8 b x13 x14 (gBase x1 x13)) else View.canon (gL0 (gBase x1 x13))

/-! ## The update and the requantisation -/

section
variable (x2 : Vec F S256x128 .i32) (x3 x4 x5 : Vec F S8x128 .f32) (x8 : Vec F S1024x128 .i32) (G : Vec F S128x1024 .f32)

/-- The new optimizer state. -/
def tState : FVec F S8x128 .f32 :=
  k0_pay31 (k0_pay28 (View.ld G rcol0) (View.ld G rcol0)) (k0_pay29 (View.ld G rcol1) (View.ld G rcol1)) (k0_pay30 (View.ld G rcol2) (View.ld G rcol2)) (View.ld G rcol3) (View.ld G rcol3) (View.ld G rcol4) (View.ld G rcol4) (View.ld G rcol5) (View.ld G rcol5) (View.ld G rcol6) (View.ld G rcol6) (View.ld G rcol7) (View.ld G rcol7) x5
/-- The square root of the state with the small constant added. -/
def tRoot : FVec F S8x128 .f32 :=
  k0_pay32 (k0_pay28 (View.ld G rcol0) (View.ld G rcol0)) (k0_pay29 (View.ld G rcol1) (View.ld G rcol1)) (k0_pay30 (View.ld G rcol2) (View.ld G rcol2)) (View.ld G rcol3) (View.ld G rcol3) (View.ld G rcol4) (View.ld G rcol4) (View.ld G rcol5) (View.ld G rcol5) (View.ld G rcol6) (View.ld G rcol6) (View.ld G rcol7) (View.ld G rcol7) x5
/-- The first half of the packed codes, transposed. -/
def tWLo : IVec S128x128 32 :=
  k0_pay36 (View.ld x2 (Rect.unit (s := S256x128) ![0, 0] S128x128.size inb_S256x128_S128x128_0_0))
/-- The second half of the packed codes, transposed. -/
def tWHi : IVec S128x128 32 :=
  k0_pay37 (View.ld x2 (Rect.unit (s := S256x128) ![128, 0] S128x128.size inb_S256x128_S128x128_128_0))
/-- The updated weights of column block 0. -/
def tW0 : FVec F S128x128 .f32 :=
  k0_pay39 (tRoot x5 G) x3 x4 (View.ld x2 (Rect.unit (s := S256x128) ![0, 0] S128x128.size inb_S256x128_S128x128_0_0)) (View.ld G rcol0)
/-- The updated weights of column block 1. -/
def tW1 : FVec F S128x128 .f32 :=
  k0_pay44 (k0_pay33 (tRoot x5 G)) (k0_pay34 x3) (k0_pay35 x4) (tWHi x2) k0_pay42 (View.ld G rcol1)
/-- The updated weights of column block 2. -/
def tW2 : FVec F S128x128 .f32 :=
  k0_pay48 (k0_pay33 (tRoot x5 G)) (k0_pay34 x3) (k0_pay35 x4) (tWLo x2) (View.ld G rcol2)
/-- The updated weights of column block 3. -/
def tW3 : FVec F S128x128 .f32 :=
  k0_pay52 (k0_pay33 (tRoot x5 G)) (k0_pay34 x3) (k0_pay35 x4) (tWHi x2) (View.ld G rcol3)
/-- The updated weights of column block 4. -/
def tW4 : FVec F S128x128 .f32 :=
  k0_pay56 (k0_pay33 (tRoot x5 G)) (k0_pay34 x3) (k0_pay35 x4) (tWLo x2) (View.ld G rcol4)
/-- The updated weights of column block 5. -/
def tW5 : FVec F S128x128 .f32 :=
  k0_pay60 (k0_pay33 (tRoot x5 G)) (k0_pay34 x3) (k0_pay35 x4) (tWHi x2) (View.ld G rcol5)
/-- The updated weights of column block 6. -/
def tW6 : FVec F S128x128 .f32 :=
  k0_pay64 (k0_pay63 (k0_pay33 (tRoot x5 G)) (k0_pay34 x3) (k0_pay35 x4) (tWLo x2) (View.ld G rcol6))
/-- The updated weights of column block 7. -/
def tW7 : FVec F S128x128 .f32 :=
  k0_pay66 (k0_pay33 (tRoot x5 G)) (k0_pay34 x3) (k0_pay35 x4) (tWHi x2) (View.ld G rcol7)
/-- The new bias: the least updated weight of each slot. -/
def tBias : FVec F S8x128 .f32 :=
  k0_pay67 (k0_pay33 (tRoot x5 G)) (k0_pay34 x3) (k0_pay35 x4) (tWHi x2) (k0_pay40 (tRoot x5 G) x3 x4 (View.ld x2 (Rect.unit (s := S256x128) ![0, 0] S128x128.size inb_S256x128_S128x128_0_0)) (View.ld G rcol0)) (k0_pay45 (k0_pay33 (tRoot x5 G)) (k0_pay34 x3) (k0_pay35 x4) (tWHi x2) k0_pay42 (View.ld G rcol1)) (k0_pay49 (k0_pay33 (tRoot x5 G)) (k0_pay34 x3) (k0_pay35 x4) (tWLo x2) (View.ld G rcol2)) (k0_pay53 (k0_pay33 (tRoot x5 G)) (k0_pay34 x3) (k0_pay35 x4) (tWHi x2) (View.ld G rcol3)) (k0_pay57 (k0_pay55 (k0_pay33 (tRoot x5 G)) (k0_pay34 x3) (k0_pay35 x4) (tWLo x2) (View.ld G rcol4))) (k0_pay61 (k0_pay33 (tRoot x5 G)) (k0_pay34 x3) (k0_pay35 x4) (tWHi x2) (View.ld G rcol5)) (k0_pay63 (k0_pay33 (tRoot x5 G)) (k0_pay34 x3) (k0_pay35 x4) (tWLo x2) (View.ld G rcol6)) (View.ld G rcol7)
/-- The factor a weight above the bias is multiplied by. -/
def tInv : FVec F S8x128 .f32 :=
  k0_pay69 (k0_pay33 (tRoot x5 G)) (k0_pay34 x3) (k0_pay35 x4) (tWHi x2) (k0_pay40 (tRoot x5 G) x3 x4 (View.ld x2 (Rect.unit (s := S256x128) ![0, 0] S128x128.size inb_S256x128_S128x128_0_0)) (View.ld G rcol0)) (k0_pay41 (tRoot x5 G) x3 x4 (View.ld x2 (Rect.unit (s := S256x128) ![0, 0] S128x128.size inb_S256x128_S128x128_0_0)) (View.ld G rcol0)) (k0_pay45 (k0_pay33 (tRoot x5 G)) (k0_pay34 x3) (k0_pay35 x4) (tWHi x2) k0_pay42 (View.ld G rcol1)) (k0_pay46 (k0_pay33 (tRoot x5 G)) (k0_pay34 x3) (k0_pay35 x4) (tWHi x2) k0_pay42 (View.ld G rcol1)) (k0_pay49 (k0_pay33 (tRoot x5 G)) (k0_pay34 x3) (k0_pay35 x4) (tWLo x2) (View.ld G rcol2)) (k0_pay50 (k0_pay47 (k0_pay33 (tRoot x5 G)) (k0_pay34 x3) (k0_pay35 x4) (tWLo x2) (View.ld G rcol2))) (k0_pay53 (k0_pay33 (tRoot x5 G)) (k0_pay34 x3) (k0_pay35 x4) (tWHi x2) (View.ld G rcol3)) (k0_pay54 (k0_pay33 (tRoot x5 G)) (k0_pay34 x3) (k0_pay35 x4) (tWHi x2) (View.ld G rcol3)) (k0_pay57 (k0_pay55 (k0_pay33 (tRoot x5 G)) (k0_pay34 x3) (k0_pay35 x4) (tWLo x2) (View.ld G rcol4))) (k0_pay58 (k0_pay55 (k0_pay33 (tRoot x5 G)) (k0_pay34 x3) (k0_pay35 x4) (tWLo x2) (View.ld G rcol4))) (k0_pay61 (k0_pay33 (tRoot x5 G)) (k0_pay34 x3) (k0_pay35 x4) (tWHi x2) (View.ld G rcol5)) (k0_pay62 (k0_pay33 (tRoot x5 G)) (k0_pay34 x3) (k0_pay35 x4) (tWHi x2) (View.ld G rcol5)) (k0_pay63 (k0_pay33 (tRoot x5 G)) (k0_pay34 x3) (k0_pay35 x4) (tWLo x2) (View.ld G rcol6)) (View.ld G rcol7)
/-- The new scale. -/
def tScale : FVec F S8x128 .f32 :=
  k0_pay70 (k0_pay33 (tRoot x5 G)) (k0_pay34 x3) (k0_pay35 x4) (tWHi x2) (k0_pay40 (tRoot x5 G) x3 x4 (View.ld x2 (Rect.unit (s := S256x128) ![0, 0] S128x128.size inb_S256x128_S128x128_0_0)) (View.ld G rcol0)) (k0_pay41 (tRoot x5 G) x3 x4 (View.ld x2 (Rect.unit (s := S256x128) ![0, 0] S128x128.size inb_S256x128_S128x128_0_0)) (View.ld G rcol0)) (k0_pay45 (k0_pay33 (tRoot x5 G)) (k0_pay34 x3) (k0_pay35 x4) (tWHi x2) k0_pay42 (View.ld G rcol1)) (k0_pay46 (k0_pay33 (tRoot x5 G)) (k0_pay34 x3) (k0_pay35 x4) (tWHi x2) k0_pay42 (View.ld G rcol1)) (k0_pay49 (k0_pay33 (tRoot x5 G)) (k0_pay34 x3) (k0_pay35 x4) (tWLo x2) (View.ld G rcol2)) (k0_pay50 (k0_pay47 (k0_pay33 (tRoot x5 G)) (k0_pay34 x3) (k0_pay35 x4) (tWLo x2) (View.ld G rcol2))) (k0_pay53 (k0_pay33 (tRoot x5 G)) (k0_pay34 x3) (k0_pay35 x4) (tWHi x2) (View.ld G rcol3)) (k0_pay54 (k0_pay33 (tRoot x5 G)) (k0_pay34 x3) (k0_pay35 x4) (tWHi x2) (View.ld G rcol3)) (k0_pay57 (k0_pay55 (k0_pay33 (tRoot x5 G)) (k0_pay34 x3) (k0_pay35 x4) (tWLo x2) (View.ld G rcol4))) (k0_pay58 (k0_pay55 (k0_pay33 (tRoot x5 G)) (k0_pay34 x3) (k0_pay35 x4) (tWLo x2) (View.ld G rcol4))) (k0_pay61 (k0_pay33 (tRoot x5 G)) (k0_pay34 x3) (k0_pay35 x4) (tWHi x2) (View.ld G rcol5)) (k0_pay62 (k0_pay33 (tRoot x5 G)) (k0_pay34 x3) (k0_pay35 x4) (tWHi x2) (View.ld G rcol5)) (k0_pay63 (k0_pay33 (tRoot x5 G)) (k0_pay34 x3) (k0_pay35 x4) (tWLo x2) (View.ld G rcol6)) (View.ld G rcol7)
/-- The writes of the updated weights. -/
def tWL : List (View.Piece (Elt F) S128x1024 .f32) :=
  [⟨rcol7, tW7 x2 x3 x4 x5 G⟩, ⟨rcol6, tW6 x2 x3 x4 x5 G⟩, ⟨rcol5, tW5 x2 x3 x4 x5 G⟩, ⟨rcol4, tW4 x2 x3 x4 x5 G⟩, ⟨rcol3, tW3 x2 x3 x4 x5 G⟩, ⟨rcol2, tW2 x2 x3 x4 x5 G⟩, ⟨rcol1, tW1 x2 x3 x4 x5 G⟩, ⟨rcol0, tW0 x2 x3 x4 x5 G⟩]
/-- The codes of row block 0. -/
def tC0 : IVec S128x128 8 :=
  k0_pay71 (tBias x2 x3 x4 x5 G) (tInv x2 x3 x4 x5 G) (View.ld (View.canon (tWL x2 x3 x4 x5 G)) rcol0) (View.ld x8 rrow0)
/-- The codes of row block 1. -/
def tC1 : IVec S128x128 8 :=
  k0_pay73 (k0_pay72 (tBias x2 x3 x4 x5 G) (tInv x2 x3 x4 x5 G) (View.ld (View.canon (tWL x2 x3 x4 x5 G)) rcol1) (View.ld x8 rrow1)) (Scalar.ofBits .f32 0x00000000#32) (Scalar.ofBits .f32 0x437F0000#32)
/-- The codes of row block 2. -/
def tC2 : IVec S128x128 8 :=
  k0_pay74 (tBias x2 x3 x4 x5 G) (tInv x2 x3 x4 x5 G) (View.ld (View.canon (tWL x2 x3 x4 x5 G)) rcol2) (View.ld x8 rrow2)
/-- The codes of row block 3. -/
def tC3 : IVec S128x128 8 :=
  k0_pay77 (k0_pay75 (tBias x2 x3 x4 x5 G) (tInv x2 x3 x4 x5 G) (View.ld (View.canon (tWL x2 x3 x4 x5 G)) rcol3)) (k0_pay76 (View.ld x8 rrow3))
/-- The codes of row block 4. -/
def tC4 : IVec S128x128 8 :=
  k0_pay78 (tBias x2 x3 x4 x5 G) (tInv x2 x3 x4 x5 G) (View.ld (View.canon (tWL x2 x3 x4 x5 G)) rcol4) (View.ld x8 rrow4)
/-- The codes of row block 5. -/
def tC5 : IVec S128x128 8 :=
  k0_pay81 (k0_pay79 (tBias x2 x3 x4 x5 G) (View.ld (View.canon (tWL x2 x3 x4 x5 G)) rcol5)) (k0_pay80 (tInv x2 x3 x4 x5 G)) (View.ld x8 rrow5)
/-- The codes of row block 6. -/
def tC6 : IVec S128x128 8 :=
  k0_pay82 (tBias x2 x3 x4 x5 G) (tInv x2 x3 x4 x5 G) (View.ld (View.canon (tWL x2 x3 x4 x5 G)) rcol6) (View.ld x8 rrow6)
/-- The codes of row block 7. -/
def tC7 : IVec S128x128 8 :=
  k0_pay1 (tBias x2 x3 x4 x5 G) (tInv x2 x3 x4 x5 G) (View.ld (View.canon (tWL x2 x3 x4 x5 G)) rcol7) (View.ld x8 rrow7)
/-- The writes of the codes. -/
def tCL : List (View.Piece (Elt F) S1024x128 .i8) :=
  [⟨rrow7, tC7 x2 x3 x4 x5 x8 G⟩, ⟨rrow6, tC6 x2 x3 x4 x5 x8 G⟩, ⟨rrow5, tC5 x2 x3 x4 x5 x8 G⟩, ⟨rrow4, tC4 x2 x3 x4 x5 x8 G⟩, ⟨rrow3, tC3 x2 x3 x4 x5 x8 G⟩, ⟨rrow2, tC2 x2 x3 x4 x5 x8 G⟩, ⟨rrow1, tC1 x2 x3 x4 x5 x8 G⟩, ⟨rrow0, tC0 x2 x3 x4 x5 x8 G⟩]
/-- The codes of a grid point. -/
def tCodes : Vec F S1024x128 .i8 := View.canon (tCL x2 x3 x4 x5 x8 G)
end

/-! ## The writes cover their buffers -/

theorem rtile_mem (y : S128x1024.Idx) : y ∈ rtile.set := by
  refine Rect.mem_set_unit.mpr fun a => ?_
  have h := (y a).isLt
  fin_cases a <;> exact ⟨Nat.zero_le _, by simpa using h⟩

theorem gL0_cover (gb : Vec F S128x1024 .f32) (y : S128x1024.Idx) : ∃ p ∈ gL0 gb, y ∈ p.1.set :=
  ⟨⟨rtile, gb⟩, List.mem_cons_self, rtile_mem y⟩

theorem gL8_cover (b : BitVec 32) (x13 : Vec F S384x512 .bf16) (x14 : Vec F S512x128 .i32) (gb : Vec F S128x1024 .f32) (y : S128x1024.Idx) :
    ∃ p ∈ gL8 b x13 x14 gb, y ∈ p.1.set :=
  ⟨⟨rtile, gb⟩, by simp only [gL8, gL7, gL6, gL5, gL4, gL3, gL2, gL1, gL0, List.mem_cons, true_or, or_true], rtile_mem y⟩

/-- The eight column blocks cover the tile. -/
theorem rcol_cover (y : S128x1024.Idx) :
    y ∈ rcol0.set ∨ y ∈ rcol1.set ∨ y ∈ rcol2.set ∨ y ∈ rcol3.set ∨ y ∈ rcol4.set ∨ y ∈ rcol5.set ∨ y ∈ rcol6.set ∨ y ∈ rcol7.set := by
  have h0 : (y 0).val < 128 := (y 0).isLt
  have h1 : (y 1).val < 1024 := (y 1).isLt
  have key : ∀ (m : ℕ) (inb), 128 * m ≤ (y 1).val → (y 1).val < 128 * m + 128 →
      y ∈ (Rect.unit (s := S128x1024) ![0, 128 * m] S128x128.size inb).set := by
    intro m inb hl hu
    refine Rect.mem_set_unit.mpr fun a => ?_
    fin_cases a
    · exact ⟨Nat.zero_le _, by simpa using h0⟩
    · exact ⟨hl, hu⟩
  obtain ⟨m, hm⟩ : ∃ m, m = (y 1).val / 128 := ⟨_, rfl⟩
  have hlt : m < 8 := by omega
  have hl : 128 * m ≤ (y 1).val := by omega
  have hu : (y 1).val < 128 * m + 128 := by omega
  interval_cases m
  · exact .inl (key 0 _ hl hu)
  · exact .inr (.inl (key 1 _ hl hu))
  · exact .inr (.inr (.inl (key 2 _ hl hu)))
  · exact .inr (.inr (.inr (.inl (key 3 _ hl hu))))
  · exact .inr (.inr (.inr (.inr (.inl (key 4 _ hl hu)))))
  · exact .inr (.inr (.inr (.inr (.inr (.inl (key 5 _ hl hu))))))
  · exact .inr (.inr (.inr (.inr (.inr (.inr (.inl (key 6 _ hl hu)))))))
  · exact .inr (.inr (.inr (.inr (.inr (.inr (.inr (key 7 _ hl hu)))))))

/-- The eight row blocks cover the block of codes. -/
theorem rrow_cover (y : S1024x128.Idx) :
    y ∈ rrow0.set ∨ y ∈ rrow1.set ∨ y ∈ rrow2.set ∨ y ∈ rrow3.set ∨ y ∈ rrow4.set ∨ y ∈ rrow5.set ∨ y ∈ rrow6.set ∨ y ∈ rrow7.set := by
  have h0 : (y 0).val < 1024 := (y 0).isLt
  have h1 : (y 1).val < 128 := (y 1).isLt
  have key : ∀ (m : ℕ) (inb), 128 * m ≤ (y 0).val → (y 0).val < 128 * m + 128 →
      y ∈ (Rect.unit (s := S1024x128) ![128 * m, 0] S128x128.size inb).set := by
    intro m inb hl hu
    refine Rect.mem_set_unit.mpr fun a => ?_
    fin_cases a
    · exact ⟨hl, hu⟩
    · exact ⟨Nat.zero_le _, by simpa using h1⟩
  obtain ⟨m, hm⟩ : ∃ m, m = (y 0).val / 128 := ⟨_, rfl⟩
  have hlt : m < 8 := by omega
  have hl : 128 * m ≤ (y 0).val := by omega
  have hu : (y 0).val < 128 * m + 128 := by omega
  interval_cases m
  · exact .inl (key 0 _ hl hu)
  · exact .inr (.inl (key 1 _ hl hu))
  · exact .inr (.inr (.inl (key 2 _ hl hu)))
  · exact .inr (.inr (.inr (.inl (key 3 _ hl hu))))
  · exact .inr (.inr (.inr (.inr (.inl (key 4 _ hl hu)))))
  · exact .inr (.inr (.inr (.inr (.inr (.inl (key 5 _ hl hu))))))
  · exact .inr (.inr (.inr (.inr (.inr (.inr (.inl (key 6 _ hl hu)))))))
  · exact .inr (.inr (.inr (.inr (.inr (.inr (.inr (key 7 _ hl hu)))))))

theorem tCL_cover (x2 : Vec F S256x128 .i32) (x3 x4 x5 : Vec F S8x128 .f32) (x8 : Vec F S1024x128 .i32) (G : Vec F S128x1024 .f32) (y : S1024x128.Idx) :
    ∃ p ∈ tCL x2 x3 x4 x5 x8 G, y ∈ p.1.set := by
  simp only [tCL, List.exists_mem_cons_iff, List.not_mem_nil, false_and, exists_false, or_false]
  rcases rrow_cover y with h | h | h | h | h | h | h | h <;> simp only [h, true_or, or_true]

end Cert.Kernel.Gen
end
-- ==== Proof.Bits.Body.lean ====
module

public import proofs.«01_k».proof.Proof.Bits.BodyDefs

/-! The run of the update kernel's body at one grid point: from the blocks it reads to the blocks it writes. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem whole_mem {S : Shape} {off : Fin S.rank → ℕ} (inb : ∀ a, off a + S.size a ≤ S.size a) (h : ∀ a, off a = 0) (y : S.Idx) :
    y ∈ (Rect.unit off S.size inb).set :=
  Rect.mem_set_unit.mpr fun a => by rw [h a]; exact ⟨Nat.zero_le _, by simpa using (y a).isLt⟩

/-- A whole-buffer store leaves its payload. -/
theorem read_writes_whole {sp : Space} {κ : Kind} {S : Shape} {e : EltTy} (v : View sig κ sp S e) (f : v.ty.Contents (Elt F)) {off : Fin S.rank → ℕ}
    (inb : ∀ a, off a + S.size a ≤ S.size a) (w : S.Idx → Elt F e) (h : ∀ a, off a = 0) :
    v.read (Elt F) (v.writes (Elt F) f [⟨Rect.unit off S.size inb, w⟩]) = w :=
  (View.read_writes_eq_canon _ _ _ fun y => ⟨_, List.mem_cons_self, whole_mem inb h y⟩).trans (View.canon_cons_unit_lit' inb w [] h)

section
variable (a0 : BitVec 32) (x1 : Vec F S16x8x8x128 .i32) (x13 : Vec F S384x512 .bf16) (x14 : Vec F S512x128 .i32) (x15 : Vec F S1 .i32)
/-- Column block 0 of the gradient tile. -/
abbrev gcol0 : Vec F S128x128 .f32 := View.ld (gTile (Scalar.muli (Scalar.addi 0#32 a0) 1024#32) x1 x13 x14 x15) rcol0
/-- Column block 1 of the gradient tile. -/
abbrev gcol1 : Vec F S128x128 .f32 := View.ld (gTile (Scalar.muli (Scalar.addi 0#32 a0) 1024#32) x1 x13 x14 x15) rcol1
/-- Column block 2 of the gradient tile. -/
abbrev gcol2 : Vec F S128x128 .f32 := View.ld (gTile (Scalar.muli (Scalar.addi 0#32 a0) 1024#32) x1 x13 x14 x15) rcol2
end

/-- The largest common slot of a bag all of whose lookups are equal, or -1. -/
def xAny (x7 : Vec F S512x256 .i32) : Vec F S1 .i32 := fun _ => extractAt ![0, 0, 0] (k0_pay18 x7) inpos_S1x1x1_p0_0_0

/-- The first grid point's condition. -/
abbrev isFirst (i : grid0.Coords) : Prop :=
  Scalar.cmpi .ne (Scalar.extui (Scalar.cmpi .eq (BitVec.ofNat 32 (i 0).val) 0#32) : BitVec 32) 0#32 = 1#1

section
variable (c : Dev nD) (i : grid0.Coords) (arg1 : Memref sig .tc .vmem S16x8x8x128 .i32) (harg1 : arg1.IsWhole) (arg2 : Memref sig .tc .vmem S256x128 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S512x128 .f32) (harg6 : arg6.IsWhole) (arg7 : Memref sig .tc .vmem S512x256 .i32) (harg7 : arg7.IsWhole) (arg8 : Memref sig .tc .vmem S1024x128 .i32) (harg8 : arg8.IsWhole) (arg9 : Memref sig .tc .vmem S1024x128 .i8) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S384x512 .bf16) (harg13 : arg13.IsWhole) (arg14 : Memref sig .tc .vmem S512x128 .i32) (harg14 : arg14.IsWhole) (arg15 : Memref sig .tc .smem S1 .i32) (harg15 : arg15.IsWhole) (arg16 : Memref sig .tc .vmem S128x1024 .f32) (harg16 : arg16.IsWhole) (arg17 : Memref sig .tc .vmem S128x1024 .f32) (harg17 : arg17.IsWhole)

/-- The first part of the body at the first grid point: the scratch is filled. -/
theorem part5_first (x1 : Vec F S16x8x8x128 .i32) (x6 : Vec F S512x128 .f32) (x7 : Vec F S512x256 .i32) (h : isFirst i) (E : Set ℕ) (K : _ → sProp 𝕄) :
    iprop(owns (c : Thread nD τ) arg1 fullShare x1 ∗ owns (c : Thread nD τ) arg6 fullShare x6 ∗ owns (c : Thread nD τ) arg7 fullShare x7 ∗ (∃ d, owns (c : Thread nD τ) arg13 fullShare d) ∗ (∃ d, owns (c : Thread nD τ) arg14 fullShare d) ∗ (∃ d, owns (c : Thread nD τ) arg15 fullShare d)
      ∗ (iprop(owns (c : Thread nD τ) arg1 fullShare x1 ∗ owns (c : Thread nD τ) arg6 fullShare x6 ∗ owns (c : Thread nD τ) arg7 fullShare x7 ∗ owns (c : Thread nD τ) arg13 fullShare (k0_pay15 x6) ∗ owns (c : Thread nD τ) arg14 fullShare (k0_pay17 x7) ∗ owns (c : Thread nD τ) arg15 fullShare (xAny x7)) -∗ K ⟨BitVec.ofNat 32 (i 0).val, k0_pay19 (View.ld x1 rcnt0), k0_pay20 (View.ld x1 rcnt1), k0_pay21 (View.ld x1 rcnt2), k0_pay22 (View.ld x1 rcnt3), k0_pay23 (View.ld x1 rcnt4), k0_pay24 (View.ld x1 rcnt5), k0_pay25 (View.ld x1 rcnt6)⟩))
      ⊢ wp frame (wpE (defs₀ (F := F)) Variants.none c none) E (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [k0_part5_eq_skeleton]
  unfold k0_part5_skel owns
  iintro ⟨⟨%f1, %hf1, H1⟩, ⟨%f6, %hf6, H6⟩, ⟨%f7, %hf7, H7⟩, ⟨%d13, %f13, -, H13⟩, ⟨%d14, %f14, -, H14⟩, ⟨%d15, %f15, -, H15⟩, Hk⟩
  obtain rfl := harg1.eq_unread hf1; obtain rfl := harg6.eq_unread hf6; obtain rfl := harg7.eq_unread hf7
  sl_exec (disch := exact h)
  sl_step
  have l0 : View.readAt (Elt F) arg1.view (rcnt0).toLoadRect (harg1.unread x1) = View.ld x1 rcnt0 := by
    rw [View.readAt_eq_ld, harg1.read_unread]
  have l1 : View.readAt (Elt F) arg1.view (rcnt1).toLoadRect (harg1.unread x1) = View.ld x1 rcnt1 := by
    rw [View.readAt_eq_ld, harg1.read_unread]
  have l2 : View.readAt (Elt F) arg1.view (rcnt2).toLoadRect (harg1.unread x1) = View.ld x1 rcnt2 := by
    rw [View.readAt_eq_ld, harg1.read_unread]
  have l3 : View.readAt (Elt F) arg1.view (rcnt3).toLoadRect (harg1.unread x1) = View.ld x1 rcnt3 := by
    rw [View.readAt_eq_ld, harg1.read_unread]
  have l4 : View.readAt (Elt F) arg1.view (rcnt4).toLoadRect (harg1.unread x1) = View.ld x1 rcnt4 := by
    rw [View.readAt_eq_ld, harg1.read_unread]
  have l5 : View.readAt (Elt F) arg1.view (rcnt5).toLoadRect (harg1.unread x1) = View.ld x1 rcnt5 := by
    rw [View.readAt_eq_ld, harg1.read_unread]
  have l6 : View.readAt (Elt F) arg1.view (rcnt6).toLoadRect (harg1.unread x1) = View.ld x1 rcnt6 := by
    rw [View.readAt_eq_ld, harg1.read_unread]
  have w6 : View.readAt (Elt F) arg6.view (Rect.unit (s := S512x128) ![0, 0] S512x128.size inb_S512x128_S512x128_0_0).toLoadRect (harg6.unread x6) = x6 := by
    rw [View.readAt_eq_ld, harg6.read_unread]; exact View.ld_unit_lit' _ _ (by decide)
  have w7 : View.readAt (Elt F) arg7.view (Rect.unit (s := S512x256) ![0, 0] S512x256.size inb_S512x256_S512x256_0_0).toLoadRect (harg7.unread x7) = x7 := by
    rw [View.readAt_eq_ld, harg7.read_unread]; exact View.ld_unit_lit' _ _ (by decide)
  delta part5_first.sl.r part5_first.sl.v0 part5_first.sl.v1 part5_first.sl.v2 part5_first.sl.v512
  simp only [l0, l1, l2, l3, l4, l5, l6, w6, w7]
  iapply Hk
  isplitl [H1]
  · iexists _; isplitr; · ipureintro; exact harg1.read_unread _
    iexact H1
  isplitl [H6]
  · iexists _; isplitr; · ipureintro; exact harg6.read_unread _
    iexact H6
  isplitl [H7]
  · iexists _; isplitr; · ipureintro; exact harg7.read_unread _
    iexact H7
  isplitl [H13]
  · iexists _; isplitr; swap; · iexact H13
    ipureintro; exact read_writes_whole _ _ inb_S384x512_S384x512_0_0 _ (by decide)
  isplitl [H14]
  · iexists _; isplitr; swap; · iexact H14
    ipureintro; exact read_writes_whole _ _ inb_S512x128_S512x128_0_0 _ (by decide)
  iexists _; isplitr; swap; · iexact H15
  ipureintro; exact read_writes_whole _ _ inb_S1_S1_0 _ (by decide)

/-- The first part of the body at a later grid point: the scratch is kept. -/
theorem part5_later (x1 : Vec F S16x8x8x128 .i32) (h : ¬ isFirst i) (E : Set ℕ) (K : _ → sProp 𝕄) :
    iprop(owns (c : Thread nD τ) arg1 fullShare x1
      ∗ (iprop(owns (c : Thread nD τ) arg1 fullShare x1) -∗ K ⟨BitVec.ofNat 32 (i 0).val, k0_pay19 (View.ld x1 rcnt0), k0_pay20 (View.ld x1 rcnt1), k0_pay21 (View.ld x1 rcnt2), k0_pay22 (View.ld x1 rcnt3), k0_pay23 (View.ld x1 rcnt4), k0_pay24 (View.ld x1 rcnt5), k0_pay25 (View.ld x1 rcnt6)⟩))
      ⊢ wp frame (wpE (defs₀ (F := F)) Variants.none c none) E (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [k0_part5_eq_skeleton]
  unfold k0_part5_skel owns
  iintro ⟨⟨%f1, %hf1, H1⟩, Hk⟩
  obtain rfl := harg1.eq_unread hf1
  sl_exec (disch := exact h)
  sl_step
  have l0 : View.readAt (Elt F) arg1.view (rcnt0).toLoadRect (harg1.unread x1) = View.ld x1 rcnt0 := by
    rw [View.readAt_eq_ld, harg1.read_unread]
  have l1 : View.readAt (Elt F) arg1.view (rcnt1).toLoadRect (harg1.unread x1) = View.ld x1 rcnt1 := by
    rw [View.readAt_eq_ld, harg1.read_unread]
  have l2 : View.readAt (Elt F) arg1.view (rcnt2).toLoadRect (harg1.unread x1) = View.ld x1 rcnt2 := by
    rw [View.readAt_eq_ld, harg1.read_unread]
  have l3 : View.readAt (Elt F) arg1.view (rcnt3).toLoadRect (harg1.unread x1) = View.ld x1 rcnt3 := by
    rw [View.readAt_eq_ld, harg1.read_unread]
  have l4 : View.readAt (Elt F) arg1.view (rcnt4).toLoadRect (harg1.unread x1) = View.ld x1 rcnt4 := by
    rw [View.readAt_eq_ld, harg1.read_unread]
  have l5 : View.readAt (Elt F) arg1.view (rcnt5).toLoadRect (harg1.unread x1) = View.ld x1 rcnt5 := by
    rw [View.readAt_eq_ld, harg1.read_unread]
  have l6 : View.readAt (Elt F) arg1.view (rcnt6).toLoadRect (harg1.unread x1) = View.ld x1 rcnt6 := by
    rw [View.readAt_eq_ld, harg1.read_unread]
  simp only [l0, l1, l2, l3, l4, l5, l6]
  iapply Hk
  iexists _; isplitr; · ipureintro; exact harg1.read_unread _
  iexact H1

theorem part6_no (x13 : Vec F S384x512 .bf16) (x14 : Vec F S512x128 .i32) (x15 : Vec F S1 .i32) (x1 : Vec F S16x8x8x128 .i32) (a0 : BitVec 32)
    (h : ¬ anyFull x15) (E : Set ℕ) (K : _ → sProp 𝕄) :
    iprop(owns (c : Thread nD τ) arg1 fullShare x1 ∗ owns (c : Thread nD τ) arg13 fullShare x13 ∗ owns (c : Thread nD τ) arg14 fullShare x14 ∗ owns (c : Thread nD τ) arg15 fullShare x15 ∗ (∃ d, owns (c : Thread nD τ) arg16 fullShare d)
      ∗ (iprop(owns (c : Thread nD τ) arg1 fullShare x1 ∗ owns (c : Thread nD τ) arg13 fullShare x13 ∗ owns (c : Thread nD τ) arg14 fullShare x14 ∗ owns (c : Thread nD τ) arg15 fullShare x15 ∗ owns (c : Thread nD τ) arg16 fullShare (gTile (Scalar.muli (Scalar.addi 0#32 a0) 1024#32) x1 x13 x14 x15)) -∗
          K ⟨k0_pay28 (gcol0 a0 x1 x13 x14 x15) (gcol0 a0 x1 x13 x14 x15), k0_pay29 (gcol1 a0 x1 x13 x14 x15) (gcol1 a0 x1 x13 x14 x15), k0_pay30 (gcol2 a0 x1 x13 x14 x15) (gcol2 a0 x1 x13 x14 x15)⟩))
      ⊢ wp frame (wpE (defs₀ (F := F)) Variants.none c none) E (k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 (k0_pay19 (View.ld x1 rcnt0)) (k0_pay20 (View.ld x1 rcnt1)) (k0_pay21 (View.ld x1 rcnt2)) (k0_pay22 (View.ld x1 rcnt3)) (k0_pay23 (View.ld x1 rcnt4)) (k0_pay24 (View.ld x1 rcnt5)) (k0_pay25 (View.ld x1 rcnt6))) K := by
  have h' : ¬ (Scalar.cmpi .ne (Scalar.extui (Scalar.cmpi .sge (arg15.view.readAt (Elt F) (Rect.unit (s := S1) ![0] S1.size inb_S1_S1_0).toLoadRect (harg15.unread x15) (Shape.Idx.first (numel1_S1.symm ▸ Nat.one_pos))) 0#32) : BitVec 32) 0#32 = 1#1) := by
    rw [View.readAt_eq_ld, harg15.read_unread]; exact h
  simp only [k0_part6_eq_skeleton, k0_part1_eq_skeleton, k0_part2_eq_skeleton, k0_part3_eq_skeleton, k0_part4_eq_skeleton]
  unfold k0_part6_skel owns
  iintro ⟨⟨%f1, %hf1, H1⟩, ⟨%f13, %hf13, H13⟩, ⟨%f14, %hf14, H14⟩, ⟨%f15, %hf15, H15⟩, ⟨%d16, %f16, -, H16⟩, Hk⟩
  obtain rfl := harg1.eq_unread hf1; obtain rfl := harg13.eq_unread hf13; obtain rfl := harg14.eq_unread hf14; obtain rfl := harg15.eq_unread hf15
  sl_exec (disch := exact h')
  sl_step
  have w13 : View.readAt (Elt F) arg13.view (Rect.unit (s := S384x512) ![0, 0] S384x512.size inb_S384x512_S384x512_0_0).toLoadRect (harg13.unread x13) = x13 := by
    rw [View.readAt_eq_ld, harg13.read_unread]; exact View.ld_unit_lit' _ _ (by decide)
  have eT : gTile (Scalar.muli (Scalar.addi 0#32 a0) 1024#32) x1 x13 x14 x15 = View.canon (gL0 (gBase x1 x13)) := if_neg h
  have eH : part6_no.sl.H16_1 c arg1 harg1 arg13 harg13 x13 x1 = gL0 (gBase x1 x13) := by
    delta part6_no.sl.H16_1 part6_no.sl.r part6_no.sl.v41 part6_no.sl.v42 part6_no.sl.v43 part6_no.sl.v44 part6_no.sl.v49 part6_no.sl.v54
    simp only [View.readCov_eq_canon', View.readAt_eq_ld _ (harg1.unread x1), harg1.read_unread, w13]
    rfl
  have e0 : part6_no.sl.v44 c arg1 harg1 arg13 harg13 arg16 x13 x1 = gcol0 a0 x1 x13 x14 x15 := by
    delta part6_no.sl.v44
    simp only [View.readCov_eq_canon', eH, gcol0, eT]
  have e1 : part6_no.sl.v49 c arg1 harg1 arg13 harg13 arg16 x13 x1 = gcol1 a0 x1 x13 x14 x15 := by
    delta part6_no.sl.v49
    simp only [View.readCov_eq_canon', eH, gcol1, eT]
  have e2 : part6_no.sl.v54 c arg1 harg1 arg13 harg13 arg16 x13 x1 = gcol2 a0 x1 x13 x14 x15 := by
    delta part6_no.sl.v54
    simp only [View.readCov_eq_canon', eH, gcol2, eT]
  rw [e0, e1, e2, eH]
  iapply Hk
  isplitl [H1]
  · iexists _; isplitr; · ipureintro; exact harg1.read_unread _
    iexact H1
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  iexists _; isplitr; swap; · iexact H16
  ipureintro; exact (View.read_writes_eq_canon _ _ _ (gL0_cover _)).trans eT.symm

set_option maxHeartbeats 1000000 in
theorem part6_yes (x13 : Vec F S384x512 .bf16) (x14 : Vec F S512x128 .i32) (x15 : Vec F S1 .i32) (x1 : Vec F S16x8x8x128 .i32) (a0 : BitVec 32)
    (h : anyFull x15) (E : Set ℕ) (K : _ → sProp 𝕄) :
    iprop(owns (c : Thread nD τ) arg1 fullShare x1 ∗ owns (c : Thread nD τ) arg13 fullShare x13 ∗ owns (c : Thread nD τ) arg14 fullShare x14 ∗ owns (c : Thread nD τ) arg15 fullShare x15 ∗ (∃ d, owns (c : Thread nD τ) arg16 fullShare d)
      ∗ (iprop(owns (c : Thread nD τ) arg1 fullShare x1 ∗ owns (c : Thread nD τ) arg13 fullShare x13 ∗ owns (c : Thread nD τ) arg14 fullShare x14 ∗ owns (c : Thread nD τ) arg15 fullShare x15 ∗ owns (c : Thread nD τ) arg16 fullShare (gTile (Scalar.muli (Scalar.addi 0#32 a0) 1024#32) x1 x13 x14 x15)) -∗
          K ⟨k0_pay28 (gcol0 a0 x1 x13 x14 x15) (gcol0 a0 x1 x13 x14 x15), k0_pay29 (gcol1 a0 x1 x13 x14 x15) (gcol1 a0 x1 x13 x14 x15), k0_pay30 (gcol2 a0 x1 x13 x14 x15) (gcol2 a0 x1 x13 x14 x15)⟩))
      ⊢ wp frame (wpE (defs₀ (F := F)) Variants.none c none) E (k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 (k0_pay19 (View.ld x1 rcnt0)) (k0_pay20 (View.ld x1 rcnt1)) (k0_pay21 (View.ld x1 rcnt2)) (k0_pay22 (View.ld x1 rcnt3)) (k0_pay23 (View.ld x1 rcnt4)) (k0_pay24 (View.ld x1 rcnt5)) (k0_pay25 (View.ld x1 rcnt6))) K := by
  have h' : (Scalar.cmpi .ne (Scalar.extui (Scalar.cmpi .sge (arg15.view.readAt (Elt F) (Rect.unit (s := S1) ![0] S1.size inb_S1_S1_0).toLoadRect (harg15.unread x15) (Shape.Idx.first (numel1_S1.symm ▸ Nat.one_pos))) 0#32) : BitVec 32) 0#32 = 1#1) := by
    rw [View.readAt_eq_ld, harg15.read_unread]; exact h
  simp only [k0_part6_eq_skeleton, k0_part1_eq_skeleton, k0_part2_eq_skeleton, k0_part3_eq_skeleton, k0_part4_eq_skeleton]
  unfold k0_part6_skel owns
  iintro ⟨⟨%f1, %hf1, H1⟩, ⟨%f13, %hf13, H13⟩, ⟨%f14, %hf14, H14⟩, ⟨%f15, %hf15, H15⟩, ⟨%d16, %f16, -, H16⟩, Hk⟩
  obtain rfl := harg1.eq_unread hf1; obtain rfl := harg13.eq_unread hf13; obtain rfl := harg14.eq_unread hf14; obtain rfl := harg15.eq_unread hf15
  sl_exec (disch := exact h')
  sl_step
  have w13 : View.readAt (Elt F) arg13.view (Rect.unit (s := S384x512) ![0, 0] S384x512.size inb_S384x512_S384x512_0_0).toLoadRect (harg13.unread x13) = x13 := by
    rw [View.readAt_eq_ld, harg13.read_unread]; exact View.ld_unit_lit' _ _ (by decide)
  have w14 : View.readAt (Elt F) arg14.view (Rect.unit (s := S512x128) ![0, 0] S512x128.size inb_S512x128_S512x128_0_0).toLoadRect (harg14.unread x14) = x14 := by
    rw [View.readAt_eq_ld, harg14.read_unread]; exact View.ld_unit_lit' _ _ (by decide)
  have eT : gTile (Scalar.muli (Scalar.addi 0#32 a0) 1024#32) x1 x13 x14 x15 = View.canon (gL8 (Scalar.muli (Scalar.addi 0#32 a0) 1024#32) x13 x14 (gBase x1 x13)) := if_pos h
  have eH : part6_yes.sl.H16_9 c arg1 harg1 arg13 harg13 arg14 harg14 arg16 x13 x14 x1 a0 = gL8 (Scalar.muli (Scalar.addi 0#32 a0) 1024#32) x13 x14 (gBase x1 x13) := by
    delta part6_yes.sl.H16_1 part6_yes.sl.H16_2 part6_yes.sl.H16_3 part6_yes.sl.H16_4 part6_yes.sl.H16_5 part6_yes.sl.H16_6 part6_yes.sl.H16_7 part6_yes.sl.H16_8 part6_yes.sl.H16_9 part6_yes.sl.r part6_yes.sl.r_1 part6_yes.sl.r_2 part6_yes.sl.r_3 part6_yes.sl.r_4 part6_yes.sl.r_5 part6_yes.sl.v41 part6_yes.sl.v42 part6_yes.sl.v43 part6_yes.sl.v44 part6_yes.sl.v483 part6_yes.sl.v484 part6_yes.sl.v49 part6_yes.sl.v493 part6_yes.sl.v514 part6_yes.sl.v535 part6_yes.sl.v54 part6_yes.sl.v556 part6_yes.sl.v577 part6_yes.sl.v598 part6_yes.sl.v619 part6_yes.sl.v640
    simp only [View.readCov_eq_canon', View.readAt_eq_ld _ (harg1.unread x1), harg1.read_unread, w13, w14]
    rfl
  have e0 : part6_yes.sl.v44 c arg1 harg1 arg13 harg13 arg14 harg14 arg16 x13 x14 x1 a0 = gcol0 a0 x1 x13 x14 x15 := by
    delta part6_yes.sl.v44
    simp only [View.readCov_eq_canon', eH, gcol0, eT]
  have e1 : part6_yes.sl.v49 c arg1 harg1 arg13 harg13 arg14 harg14 arg16 x13 x14 x1 a0 = gcol1 a0 x1 x13 x14 x15 := by
    delta part6_yes.sl.v49
    simp only [View.readCov_eq_canon', eH, gcol1, eT]
  have e2 : part6_yes.sl.v54 c arg1 harg1 arg13 harg13 arg14 harg14 arg16 x13 x14 x1 a0 = gcol2 a0 x1 x13 x14 x15 := by
    delta part6_yes.sl.v54
    simp only [View.readCov_eq_canon', eH, gcol2, eT]
  rw [e0, e1, e2, eH]
  iapply Hk
  isplitl [H1]
  · iexists _; isplitr; · ipureintro; exact harg1.read_unread _
    iexact H1
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  iexists _; isplitr; swap; · iexact H16
  ipureintro; exact (View.read_writes_eq_canon _ _ _ (gL8_cover _ _ _ _)).trans eT.symm

theorem part6 (x13 : Vec F S384x512 .bf16) (x14 : Vec F S512x128 .i32) (x15 : Vec F S1 .i32) (x1 : Vec F S16x8x8x128 .i32) (a0 : BitVec 32)
    (E : Set ℕ) (K : _ → sProp 𝕄) :
    iprop(owns (c : Thread nD τ) arg1 fullShare x1 ∗ owns (c : Thread nD τ) arg13 fullShare x13 ∗ owns (c : Thread nD τ) arg14 fullShare x14 ∗ owns (c : Thread nD τ) arg15 fullShare x15 ∗ (∃ d, owns (c : Thread nD τ) arg16 fullShare d)
      ∗ (iprop(owns (c : Thread nD τ) arg1 fullShare x1 ∗ owns (c : Thread nD τ) arg13 fullShare x13 ∗ owns (c : Thread nD τ) arg14 fullShare x14 ∗ owns (c : Thread nD τ) arg15 fullShare x15 ∗ owns (c : Thread nD τ) arg16 fullShare (gTile (Scalar.muli (Scalar.addi 0#32 a0) 1024#32) x1 x13 x14 x15)) -∗
          K ⟨k0_pay28 (gcol0 a0 x1 x13 x14 x15) (gcol0 a0 x1 x13 x14 x15), k0_pay29 (gcol1 a0 x1 x13 x14 x15) (gcol1 a0 x1 x13 x14 x15), k0_pay30 (gcol2 a0 x1 x13 x14 x15) (gcol2 a0 x1 x13 x14 x15)⟩))
      ⊢ wp frame (wpE (defs₀ (F := F)) Variants.none c none) E (k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 (k0_pay19 (View.ld x1 rcnt0)) (k0_pay20 (View.ld x1 rcnt1)) (k0_pay21 (View.ld x1 rcnt2)) (k0_pay22 (View.ld x1 rcnt3)) (k0_pay23 (View.ld x1 rcnt4)) (k0_pay24 (View.ld x1 rcnt5)) (k0_pay25 (View.ld x1 rcnt6))) K := by
  by_cases h : anyFull x15
  · exact part6_yes c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x13 x14 x15 x1 a0 h E K
  · exact part6_no c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x13 x14 x15 x1 a0 h E K

/-- The rest of the body, after the gradient tile. -/
def tailProg (v48 v53 v58 : FVec F S1x128 .f32) : Prog (TpuEff nD τ sig (Elt F) Λ₀ .tc) PUnit := do
  let ⟨v89, v90⟩ : Σ' (v89 : FVec F S8x128 .f32), FVec F S8x128 .f32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v48 v53 v58
  let ⟨v94, v97, v99, v101, v103, v124, v126, v127⟩ : Σ' (v94 : FVec F S8x128 .f32) (v97 : FVec F S8x128 .f32) (v99 : FVec F S8x128 .f32) (v101 : IVec S128x128 32) (v103 : IVec S128x128 32) (v124 : FVec F S1x128 .f32) (v126 : FVec F S1x128 .f32), IVec S128x128 32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v89 v90
  let ⟨v147, v149, v165, v170⟩ : Σ' (v147 : FVec F S1x128 .f32) (v149 : FVec F S1x128 .f32) (v165 : FVec F S128x128 .f32), FVec F S1x128 .f32 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v94 v97 v99 v101 v103 v127
  let ⟨v172, v193, v195, v211⟩ : Σ' (v172 : FVec F S1x128 .f32) (v193 : FVec F S1x128 .f32) (v195 : FVec F S1x128 .f32), FVec F S128x128 .f32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v94 v97 v99 v101 v103 v165
  let ⟨v216, v218, v239, v241, v257⟩ : Σ' (v216 : FVec F S1x128 .f32) (v218 : FVec F S1x128 .f32) (v239 : FVec F S1x128 .f32) (v241 : FVec F S1x128 .f32), FVec F S128x128 .f32 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v94 v97 v99 v101 v103 v211
  let ⟨v288, v294⟩ : Σ' (v288 : FVec F S8x128 .f32), FVec F S8x128 .f32 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v94 v97 v99 v103 v124 v126 v147 v149 v170 v172 v193 v195 v216 v218 v239 v241 v257
  let ⟨v337, cst_163, cst_164⟩ : Σ' (v337 : FVec F S128x128 .f32) (cst_163 : F .f32), F .f32 ← k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v288 v294
  let ⟨v375, v378⟩ : Σ' (v375 : FVec F S128x128 .f32), IVec S128x128 32 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v288 v294 v337 cst_163 cst_164
  let ⟨v417, v419⟩ : Σ' (v417 : FVec F S128x128 .f32), FVec F S128x128 .f32 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v288 v294 v375 v378
  k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v288 v294 v417 v419
  let v460 : Vec F S128x128 .f32 ← Prog.lift (.load arg17 (Rect.unit (s := S128x1024) ![0, 896] S128x128.size inb_S128x1024_S128x128_0_896).toLoadRect (View.loadsAt_vmem h_S128x128))
  let v468 : Vec F S128x128 .i32 ← Prog.lift (.load arg8 (Rect.unit (s := S1024x128) ![896, 0] S128x128.size inb_S1024x128_S128x128_896_0).toLoadRect (View.loadsAt_vmem h_S128x128))
  let v482 : Vec F S128x128 .i8 ← Prog.lift (.load arg9 (Rect.unit (s := S1024x128) ![896, 0] S128x128.size inb_S1024x128_S128x128_896_0).toLoadRect (View.loadsAt_vmem h_S128x128))
  Prog.lift (.store arg9 (Rect.unit (s := S1024x128) ![896, 0] S128x128.size inb_S1024x128_S128x128_896_0) (k0_pay1 v288 v294 v460 v468) Finset.univ (View.stores_vmem h_S128x128 (harg9.storeExact_slice rfl _ packedi8_S1024x128_S128x128_896_0) (fun _ => rfl)) (.inl rfl))
  pure ⟨⟩

/-- The body, its first slot counted from `b` blocks on. -/
def bodyProg (b : BitVec 32) : Prog (TpuEff nD τ sig (Elt F) Λ₀ .tc) PUnit := do
  let ⟨arg0, v5, v8, v11, v14, v17, v20, v23⟩ : Σ' (arg0 : BitVec 32) (v5 : IVec S128x128 32) (v8 : IVec S128x128 32) (v11 : IVec S128x128 32) (v14 : IVec S128x128 32) (v17 : IVec S128x128 32) (v20 : IVec S128x128 32), IVec S128x128 32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
  let ⟨v48, v53, v58⟩ : Σ' (v48 : FVec F S1x128 .f32) (v53 : FVec F S1x128 .f32), FVec F S1x128 .f32 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (Scalar.addi b arg0) v5 v8 v11 v14 v17 v20 v23
  tailProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v48 v53 v58

set_option maxHeartbeats 4000000 in
theorem tail (x2 : Vec F S256x128 .i32) (x3 x4 x5 : Vec F S8x128 .f32) (x8 : Vec F S1024x128 .i32) (G : Vec F S128x1024 .f32)
    (E : Set ℕ) (K : _ → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare x8 ∗ owns (c : Thread nD τ) arg16 fullShare G ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg17 fullShare d)
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare x8 ∗ owns (c : Thread nD τ) arg16 fullShare G ∗ owns (c : Thread nD τ) arg9 fullShare (tCodes x2 x3 x4 x5 x8 G) ∗ owns (c : Thread nD τ) arg10 fullShare (tScale x2 x3 x4 x5 G) ∗ owns (c : Thread nD τ) arg11 fullShare (tBias x2 x3 x4 x5 G) ∗ owns (c : Thread nD τ) arg12 fullShare (tState x5 G) ∗ (∃ d, owns (c : Thread nD τ) arg17 fullShare d)) -∗ K ⟨⟩))
      ⊢ wp frame (wpE (defs₀ (F := F)) Variants.none c none) E (tailProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay28 (View.ld G rcol0) (View.ld G rcol0)) (k0_pay29 (View.ld G rcol1) (View.ld G rcol1)) (k0_pay30 (View.ld G rcol2) (View.ld G rcol2))) K := by
  unfold tailProg
  simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f2, %hf2, H2⟩, ⟨%f3, %hf3, H3⟩, ⟨%f4, %hf4, H4⟩, ⟨%f5, %hf5, H5⟩, ⟨%f8, %hf8, H8⟩, ⟨%f16, %hf16, H16⟩, ⟨%d9, %f9, -, H9⟩, ⟨%d10, %f10, -, H10⟩, ⟨%d11, %f11, -, H11⟩, ⟨%d12, %f12, -, H12⟩, ⟨%d17, %f17, -, H17⟩, Hk⟩
  obtain rfl := harg2.eq_unread hf2; obtain rfl := harg3.eq_unread hf3; obtain rfl := harg4.eq_unread hf4; obtain rfl := harg5.eq_unread hf5; obtain rfl := harg8.eq_unread hf8; obtain rfl := harg16.eq_unread hf16
  sl_exec
  sl_step
  have w3 : View.readAt (Elt F) arg3.view (Rect.unit (s := S8x128) ![0, 0] S8x128.size inb_S8x128_S8x128_0_0).toLoadRect (harg3.unread x3) = x3 := by
    rw [View.readAt_eq_ld, harg3.read_unread]; exact View.ld_unit_lit' _ _ (by decide)
  have w4 : View.readAt (Elt F) arg4.view (Rect.unit (s := S8x128) ![0, 0] S8x128.size inb_S8x128_S8x128_0_0).toLoadRect (harg4.unread x4) = x4 := by
    rw [View.readAt_eq_ld, harg4.read_unread]; exact View.ld_unit_lit' _ _ (by decide)
  have w5 : View.readAt (Elt F) arg5.view (Rect.unit (s := S8x128) ![0, 0] S8x128.size inb_S8x128_S8x128_0_0).toLoadRect (harg5.unread x5) = x5 := by
    rw [View.readAt_eq_ld, harg5.read_unread]; exact View.ld_unit_lit' _ _ (by decide)
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H8]
  · iexists _; isplitr; · ipureintro; exact harg8.read_unread _
    iexact H8
  isplitl [H16]
  · iexists _; isplitr; · ipureintro; exact harg16.read_unread _
    iexact H16
  isplitl [H9]
  · iexists _; isplitr; swap
    · iexact H9
    ipureintro
    refine Eq.trans (congrArg (fun L => arg9.view.read (Elt F) (arg9.view.writes (Elt F) f9 L)) (?_ : _ = tCL x2 x3 x4 x5 x8 G)) (View.read_writes_eq_canon _ _ _ (tCL_cover x2 x3 x4 x5 x8 G))
    delta tail.sl.H17_8 tail.sl.cst_163 tail.sl.cst_164 tail.sl.r tail.sl.r_1 tail.sl.r_10 tail.sl.r_11 tail.sl.r_12 tail.sl.r_13 tail.sl.r_14 tail.sl.r_15 tail.sl.r_16 tail.sl.r_17 tail.sl.r_18 tail.sl.r_19 tail.sl.r_2 tail.sl.r_20 tail.sl.r_21 tail.sl.r_22 tail.sl.r_23 tail.sl.r_24 tail.sl.r_25 tail.sl.r_26 tail.sl.r_27 tail.sl.r_28 tail.sl.r_3 tail.sl.r_4 tail.sl.r_5 tail.sl.r_6 tail.sl.r_7 tail.sl.r_8 tail.sl.r_9 tail.sl.v299 tail.sl.v322 tail.sl.v345 tail.sl.v368 tail.sl.v391 tail.sl.v414 tail.sl.v437 tail.sl.v460
    simp only [View.readCov_eq_canon', View.readAt_eq_ld _ (harg16.unread G), harg16.read_unread, View.readAt_eq_ld _ (harg8.unread x8), harg8.read_unread, View.readAt_eq_ld _ (harg2.unread x2), harg2.read_unread, w3, w4, w5]
    rfl
  isplitl [H10]
  · iexists _; isplitr; swap
    · iexact H10
    ipureintro
    refine (read_writes_whole _ _ inb_S8x128_S8x128_0_0 _ (by decide)).trans ?_
    delta tail.sl.H17_8 tail.sl.cst_163 tail.sl.cst_164 tail.sl.r tail.sl.r_1 tail.sl.r_10 tail.sl.r_11 tail.sl.r_12 tail.sl.r_13 tail.sl.r_14 tail.sl.r_15 tail.sl.r_16 tail.sl.r_17 tail.sl.r_18 tail.sl.r_19 tail.sl.r_2 tail.sl.r_20 tail.sl.r_21 tail.sl.r_22 tail.sl.r_23 tail.sl.r_24 tail.sl.r_25 tail.sl.r_26 tail.sl.r_27 tail.sl.r_28 tail.sl.r_3 tail.sl.r_4 tail.sl.r_5 tail.sl.r_6 tail.sl.r_7 tail.sl.r_8 tail.sl.r_9 tail.sl.v299 tail.sl.v322 tail.sl.v345 tail.sl.v368 tail.sl.v391 tail.sl.v414 tail.sl.v437 tail.sl.v460
    simp only [View.readCov_eq_canon', View.readAt_eq_ld _ (harg16.unread G), harg16.read_unread, View.readAt_eq_ld _ (harg8.unread x8), harg8.read_unread, View.readAt_eq_ld _ (harg2.unread x2), harg2.read_unread, w3, w4, w5]
    rfl
  isplitl [H11]
  · iexists _; isplitr; swap
    · iexact H11
    ipureintro
    refine (read_writes_whole _ _ inb_S8x128_S8x128_0_0 _ (by decide)).trans ?_
    delta tail.sl.H17_8 tail.sl.cst_163 tail.sl.cst_164 tail.sl.r tail.sl.r_1 tail.sl.r_10 tail.sl.r_11 tail.sl.r_12 tail.sl.r_13 tail.sl.r_14 tail.sl.r_15 tail.sl.r_16 tail.sl.r_17 tail.sl.r_18 tail.sl.r_19 tail.sl.r_2 tail.sl.r_20 tail.sl.r_21 tail.sl.r_22 tail.sl.r_23 tail.sl.r_24 tail.sl.r_25 tail.sl.r_26 tail.sl.r_27 tail.sl.r_28 tail.sl.r_3 tail.sl.r_4 tail.sl.r_5 tail.sl.r_6 tail.sl.r_7 tail.sl.r_8 tail.sl.r_9 tail.sl.v299 tail.sl.v322 tail.sl.v345 tail.sl.v368 tail.sl.v391 tail.sl.v414 tail.sl.v437 tail.sl.v460
    simp only [View.readCov_eq_canon', View.readAt_eq_ld _ (harg16.unread G), harg16.read_unread, View.readAt_eq_ld _ (harg8.unread x8), harg8.read_unread, View.readAt_eq_ld _ (harg2.unread x2), harg2.read_unread, w3, w4, w5]
    rfl
  isplitl [H12]
  · iexists _; isplitr; swap
    · iexact H12
    ipureintro
    refine (read_writes_whole _ _ inb_S8x128_S8x128_0_0 _ (by decide)).trans ?_
    delta tail.sl.H17_8 tail.sl.cst_163 tail.sl.cst_164 tail.sl.r tail.sl.r_1 tail.sl.r_10 tail.sl.r_11 tail.sl.r_12 tail.sl.r_13 tail.sl.r_14 tail.sl.r_15 tail.sl.r_16 tail.sl.r_17 tail.sl.r_18 tail.sl.r_19 tail.sl.r_2 tail.sl.r_20 tail.sl.r_21 tail.sl.r_22 tail.sl.r_23 tail.sl.r_24 tail.sl.r_25 tail.sl.r_26 tail.sl.r_27 tail.sl.r_28 tail.sl.r_3 tail.sl.r_4 tail.sl.r_5 tail.sl.r_6 tail.sl.r_7 tail.sl.r_8 tail.sl.r_9 tail.sl.v299 tail.sl.v322 tail.sl.v345 tail.sl.v368 tail.sl.v391 tail.sl.v414 tail.sl.v437 tail.sl.v460
    simp only [View.readCov_eq_canon', View.readAt_eq_ld _ (harg16.unread G), harg16.read_unread, View.readAt_eq_ld _ (harg8.unread x8), harg8.read_unread, View.readAt_eq_ld _ (harg2.unread x2), harg2.read_unread, w3, w4, w5]
    rfl
  iexists _, _; isplitr; swap
  · iexact H17
  ipureintro; rfl
end

end Cert.Kernel.Gen
end
-- ==== Proof.Bits.Bodies.lean ====
module

public import proofs.«01_k».proof.Proof.Bits.Body

/-! The body of each of the four update calls, at the first grid point and at a later one. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first slot of grid point `i` of a call whose blocks are counted from `b` on. -/
def slotBase (b : BitVec 32) (i : grid0.Coords) : BitVec 32 := Scalar.muli (Scalar.addi 0#32 (Scalar.addi b (BitVec.ofNat 32 (i 0).val))) 1024#32

/-- The gradient tile of grid point `i`. -/
def gAt (b : BitVec 32) (i : grid0.Coords) (x1 : Vec F S16x8x8x128 .i32) (x13 : Vec F S384x512 .bf16) (x14 : Vec F S512x128 .i32) (x15 : Vec F S1 .i32) : Vec F S128x1024 .f32 :=
  gTile (slotBase b i) x1 x13 x14 x15

section
variable (c : Dev nD) (i : grid0.Coords) (arg1 : Memref sig .tc .vmem S16x8x8x128 .i32) (harg1 : arg1.IsWhole) (arg2 : Memref sig .tc .vmem S256x128 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S512x128 .f32) (harg6 : arg6.IsWhole) (arg7 : Memref sig .tc .vmem S512x256 .i32) (harg7 : arg7.IsWhole) (arg8 : Memref sig .tc .vmem S1024x128 .i32) (harg8 : arg8.IsWhole) (arg9 : Memref sig .tc .vmem S1024x128 .i8) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S384x512 .bf16) (harg13 : arg13.IsWhole) (arg14 : Memref sig .tc .vmem S512x128 .i32) (harg14 : arg14.IsWhole) (arg15 : Memref sig .tc .smem S1 .i32) (harg15 : arg15.IsWhole) (arg16 : Memref sig .tc .vmem S128x1024 .f32) (harg16 : arg16.IsWhole) (arg17 : Memref sig .tc .vmem S128x1024 .f32) (harg17 : arg17.IsWhole)

/-- What the body leaves: inputs as they were, the four output blocks at their values, the carried scratch at its. -/
def bodyPost (b : BitVec 32) (x1 : Vec F S16x8x8x128 .i32) (x2 : Vec F S256x128 .i32) (x3 x4 x5 : Vec F S8x128 .f32) (x6 : Vec F S512x128 .f32) (x7 : Vec F S512x256 .i32) (x8 : Vec F S1024x128 .i32) (x13 : Vec F S384x512 .bf16) (x14 : Vec F S512x128 .i32) (x15 : Vec F S1 .i32) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (tCodes x2 x3 x4 x5 x8 (gAt b i x1 x13 x14 x15)) ∗ owns (c : Thread nD τ) arg10 fullShare (tScale x2 x3 x4 x5 (gAt b i x1 x13 x14 x15)) ∗ owns (c : Thread nD τ) arg11 fullShare (tBias x2 x3 x4 x5 (gAt b i x1 x13 x14 x15)) ∗ owns (c : Thread nD τ) arg12 fullShare (tState x5 (gAt b i x1 x13 x14 x15)) ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg17 fullShare d))

theorem body_of (b : BitVec 32) (x1 : Vec F S16x8x8x128 .i32) (x2 : Vec F S256x128 .i32) (x3 x4 x5 : Vec F S8x128 .f32) (x6 : Vec F S512x128 .f32) (x7 : Vec F S512x256 .i32) (x8 : Vec F S1024x128 .i32) (x13 : Vec F S384x512 .bf16) (x14 : Vec F S512x128 .i32) (x15 : Vec F S1 .i32) (Pre : sProp 𝕄) (E : Set ℕ)
    (h5 : ∀ K5 : _ → sProp 𝕄, iprop(owns (c : Thread nD τ) arg1 fullShare x1 ∗ owns (c : Thread nD τ) arg6 fullShare x6 ∗ owns (c : Thread nD τ) arg7 fullShare x7 ∗ Pre
      ∗ (iprop(owns (c : Thread nD τ) arg1 fullShare x1 ∗ owns (c : Thread nD τ) arg6 fullShare x6 ∗ owns (c : Thread nD τ) arg7 fullShare x7 ∗ owns (c : Thread nD τ) arg13 fullShare x13 ∗ owns (c : Thread nD τ) arg14 fullShare x14 ∗ owns (c : Thread nD τ) arg15 fullShare x15) -∗ K5 ⟨BitVec.ofNat 32 (i 0).val, k0_pay19 (View.ld x1 rcnt0), k0_pay20 (View.ld x1 rcnt1), k0_pay21 (View.ld x1 rcnt2), k0_pay22 (View.ld x1 rcnt3), k0_pay23 (View.ld x1 rcnt4), k0_pay24 (View.ld x1 rcnt5), k0_pay25 (View.ld x1 rcnt6)⟩))
      ⊢ wp frame (wpE (defs₀ (F := F)) Variants.none c none) E (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K5)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ Pre ∗ (∃ d, owns (c : Thread nD τ) arg16 fullShare d) ∗ (∃ d, owns (c : Thread nD τ) arg17 fullShare d)
      ∗ (bodyPost c i arg1 arg2 arg3 arg4 arg5 arg6 arg7 arg8 arg9 arg10 arg11 arg12 arg13 arg14 arg15 arg16 arg17 b x1 x2 x3 x4 x5 x6 x7 x8 x13 x14 x15 -∗ K ⟨⟩))
      ⊢ wp frame (wpE (defs₀ (F := F)) Variants.none c none) E (bodyProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 b) K := by
  unfold bodyProg
  rw [wp_bind]
  iintro ⟨H1, H2, H3, H4, H5, H6, H7, H8, H9, H10, H11, H12, HP, H16, H17, Hk⟩
  iapply (h5 _)
  isplitl [H1]; · iexact H1
  isplitl [H6]; · iexact H6
  isplitl [H7]; · iexact H7
  isplitl [HP]; · iexact HP
  iintro ⟨H1, H6, H7, H13, H14, H15⟩
  dsimp only
  rw [wp_bind]
  iapply (part6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x13 x14 x15 x1 (Scalar.addi b (BitVec.ofNat 32 (i 0).val)) E _)
  isplitl [H1]; · iexact H1
  isplitl [H13]; · iexact H13
  isplitl [H14]; · iexact H14
  isplitl [H15]; · iexact H15
  isplitl [H16]; · iexact H16
  iintro ⟨H1, H13, H14, H15, H16⟩
  dsimp only
  iapply (tail c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x8 (gAt b i x1 x13 x14 x15) E K)
  isplitl [H2]; · iexact H2
  isplitl [H3]; · iexact H3
  isplitl [H4]; · iexact H4
  isplitl [H5]; · iexact H5
  isplitl [H8]; · iexact H8
  isplitl [H16]; · iexact H16
  isplitl [H9]; · iexact H9
  isplitl [H10]; · iexact H10
  isplitl [H11]; · iexact H11
  isplitl [H12]; · iexact H12
  isplitl [H17]; · iexact H17
  iintro ⟨H2, H3, H4, H5, H8, H16, H9, H10, H11, H12, H17⟩
  iapply Hk
  unfold bodyPost
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iexact H17

/-- The first grid point: the carried scratch is filled from the gradients and the lookups. -/
theorem body_first (b : BitVec 32) (x1 : Vec F S16x8x8x128 .i32) (x2 : Vec F S256x128 .i32) (x3 x4 x5 : Vec F S8x128 .f32) (x6 : Vec F S512x128 .f32) (x7 : Vec F S512x256 .i32) (x8 : Vec F S1024x128 .i32) (h : isFirst i) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ iprop((∃ d, owns (c : Thread nD τ) arg13 fullShare d) ∗ (∃ d, owns (c : Thread nD τ) arg14 fullShare d) ∗ (∃ d, owns (c : Thread nD τ) arg15 fullShare d)) ∗ (∃ d, owns (c : Thread nD τ) arg16 fullShare d) ∗ (∃ d, owns (c : Thread nD τ) arg17 fullShare d)
      ∗ (bodyPost c i arg1 arg2 arg3 arg4 arg5 arg6 arg7 arg8 arg9 arg10 arg11 arg12 arg13 arg14 arg15 arg16 arg17 b x1 x2 x3 x4 x5 x6 x7 x8 (k0_pay15 x6) (k0_pay17 x7) (xAny x7) -∗ K ⟨⟩))
      ⊢ wp frame (wpE (defs₀ (F := F)) Variants.none c none) E (bodyProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 b) K := by
  refine body_of c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 b x1 x2 x3 x4 x5 x6 x7 x8 _ _ _ _ E (fun K5 => ?_) K
  refine .trans ?_ (part5_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x6 x7 h E K5)
  iintro ⟨H1, H6, H7, ⟨H13, H14, H15⟩, Hk⟩
  isplitl [H1]; · iexact H1
  isplitl [H6]; · iexact H6
  isplitl [H7]; · iexact H7
  isplitl [H13]; · iexact H13
  isplitl [H14]; · iexact H14
  isplitl [H15]; · iexact H15
  iexact Hk

/-- A later grid point: the carried scratch is kept. -/
theorem body_later (b : BitVec 32) (x1 : Vec F S16x8x8x128 .i32) (x2 : Vec F S256x128 .i32) (x3 x4 x5 : Vec F S8x128 .f32) (x6 : Vec F S512x128 .f32) (x7 : Vec F S512x256 .i32) (x8 : Vec F S1024x128 .i32) (x13 : Vec F S384x512 .bf16) (x14 : Vec F S512x128 .i32) (x15 : Vec F S1 .i32) (h : ¬ isFirst i) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ iprop(owns (c : Thread nD τ) arg13 fullShare x13 ∗ owns (c : Thread nD τ) arg14 fullShare x14 ∗ owns (c : Thread nD τ) arg15 fullShare x15) ∗ (∃ d, owns (c : Thread nD τ) arg16 fullShare d) ∗ (∃ d, owns (c : Thread nD τ) arg17 fullShare d)
      ∗ (bodyPost c i arg1 arg2 arg3 arg4 arg5 arg6 arg7 arg8 arg9 arg10 arg11 arg12 arg13 arg14 arg15 arg16 arg17 b x1 x2 x3 x4 x5 x6 x7 x8 x13 x14 x15 -∗ K ⟨⟩))
      ⊢ wp frame (wpE (defs₀ (F := F)) Variants.none c none) E (bodyProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 b) K := by
  refine body_of c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 b x1 x2 x3 x4 x5 x6 x7 x8 x13 x14 x15 _ E (fun K5 => ?_) K
  refine .trans ?_ (part5_later c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 h E K5)
  iintro ⟨H1, H6, H7, ⟨H13, H14, H15⟩, Hk⟩
  isplitl [H1]; · iexact H1
  iintro H1
  iapply Hk
  isplitl [H1]; · iexact H1
  isplitl [H6]; · iexact H6
  isplitl [H7]; · iexact H7
  isplitl [H13]; · iexact H13
  isplitl [H14]; · iexact H14
  iexact H15
end

/-! ## The four bodies are the one body -/

theorem zero_addi (x : BitVec 32) : Scalar.addi 0#32 x = x := BitVec.zero_add x

theorem cc0_eq (i : grid0.Coords) (arg1 : Memref sig .tc .vmem S16x8x8x128 .i32) (harg1 : arg1.IsWhole) (arg2 : Memref sig .tc .vmem S256x128 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S512x128 .f32) (harg6 : arg6.IsWhole) (arg7 : Memref sig .tc .vmem S512x256 .i32) (harg7 : arg7.IsWhole) (arg8 : Memref sig .tc .vmem S1024x128 .i32) (harg8 : arg8.IsWhole) (arg9 : Memref sig .tc .vmem S1024x128 .i8) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S384x512 .bf16) (harg13 : arg13.IsWhole) (arg14 : Memref sig .tc .vmem S512x128 .i32) (harg14 : arg14.IsWhole) (arg15 : Memref sig .tc .smem S1 .i32) (harg15 : arg15.IsWhole) (arg16 : Memref sig .tc .vmem S128x1024 .f32) (harg16 : arg16.IsWhole) (arg17 : Memref sig .tc .vmem S128x1024 .f32) (harg17 : arg17.IsWhole) :
    cc0_tc_update0 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = bodyProg (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 0#32 := by
  unfold bodyProg
  simp only [zero_addi]
  rfl

section
variable (i : grid1.Coords) (arg1 : Memref sig .tc .vmem S16x8x8x128 .i32) (harg1 : arg1.IsWhole) (arg2 : Memref sig .tc .vmem S256x128 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S512x128 .f32) (harg6 : arg6.IsWhole) (arg7 : Memref sig .tc .vmem S512x256 .i32) (harg7 : arg7.IsWhole) (arg8 : Memref sig .tc .vmem S1024x128 .i32) (harg8 : arg8.IsWhole) (arg9 : Memref sig .tc .hbm S32768x128 .i8) (harg9 : arg9.IsWhole) (arg10 : Memref sig .tc .hbm S256x128 .f32) (harg10 : arg10.IsWhole) (arg11 : Memref sig .tc .hbm S256x128 .f32) (harg11 : arg11.IsWhole) (arg12 : Memref sig .tc .hbm S256x128 .f32) (harg12 : arg12.IsWhole) (arg13 : Memref sig .tc .vmem S1024x128 .i8) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S384x512 .bf16) (harg17 : arg17.IsWhole) (arg18 : Memref sig .tc .vmem S512x128 .i32) (harg18 : arg18.IsWhole) (arg19 : Memref sig .tc .smem S1 .i32) (harg19 : arg19.IsWhole) (arg20 : Memref sig .tc .vmem S128x1024 .f32) (harg20 : arg20.IsWhole) (arg21 : Memref sig .tc .vmem S128x1024 .f32) (harg21 : arg21.IsWhole)
theorem k1_part1_shift (arg0 : BitVec 32) : k1_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 = k0_part1 (F := F) i arg1 harg1 arg2 harg2 arg3 harg3 arg4 harg4 arg5 harg5 arg6 harg6 arg7 harg7 arg8 harg8 arg13 harg13 arg14 harg14 arg15 harg15 arg16 harg16 arg17 harg17 arg18 harg18 arg19 harg19 arg20 harg20 arg21 harg21 (Scalar.addi 8#32 arg0) := by
  rw [k1_part1_eq_skeleton, k0_part1_eq_skeleton]
  unfold k1_part1_skel k0_part1_skel k1_pay4 k0_pay4 k1_pay5 k0_pay5 k1_pay2 k0_pay2 k1_pay3 k0_pay3
  simp only [zero_addi]

theorem k1_part6_shift (arg0 : BitVec 32) (v5 : IVec S128x128 32) (v8 : IVec S128x128 32) (v11 : IVec S128x128 32) (v14 : IVec S128x128 32) (v17 : IVec S128x128 32) (v20 : IVec S128x128 32) (v23 : IVec S128x128 32) : k1_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v5 v8 v11 v14 v17 v20 v23 = k0_part6 (F := F) i arg1 harg1 arg2 harg2 arg3 harg3 arg4 harg4 arg5 harg5 arg6 harg6 arg7 harg7 arg8 harg8 arg13 harg13 arg14 harg14 arg15 harg15 arg16 harg16 arg17 harg17 arg18 harg18 arg19 harg19 arg20 harg20 arg21 harg21 (Scalar.addi 8#32 arg0) v5 v8 v11 v14 v17 v20 v23 := by
  rw [k1_part6_eq_skeleton, k0_part6_eq_skeleton]
  unfold k1_part6_skel k0_part6_skel
  simp only [k1_part1_shift]
  rfl

theorem cc1_eq : cc1_tc_update1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = bodyProg (F := F) i arg1 harg1 arg2 harg2 arg3 harg3 arg4 harg4 arg5 harg5 arg6 harg6 arg7 harg7 arg8 harg8 arg13 harg13 arg14 harg14 arg15 harg15 arg16 harg16 arg17 harg17 arg18 harg18 arg19 harg19 arg20 harg20 arg21 harg21 8#32 := by
  unfold bodyProg
  simp only [← k1_part6_shift i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21]
  rfl
end

section
variable (i : grid2.Coords) (arg1 : Memref sig .tc .vmem S16x8x8x128 .i32) (harg1 : arg1.IsWhole) (arg2 : Memref sig .tc .vmem S256x128 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S512x128 .f32) (harg6 : arg6.IsWhole) (arg7 : Memref sig .tc .vmem S512x256 .i32) (harg7 : arg7.IsWhole) (arg8 : Memref sig .tc .vmem S1024x128 .i32) (harg8 : arg8.IsWhole) (arg9 : Memref sig .tc .hbm S32768x128 .i8) (harg9 : arg9.IsWhole) (arg10 : Memref sig .tc .hbm S256x128 .f32) (harg10 : arg10.IsWhole) (arg11 : Memref sig .tc .hbm S256x128 .f32) (harg11 : arg11.IsWhole) (arg12 : Memref sig .tc .hbm S256x128 .f32) (harg12 : arg12.IsWhole) (arg13 : Memref sig .tc .vmem S1024x128 .i8) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S384x512 .bf16) (harg17 : arg17.IsWhole) (arg18 : Memref sig .tc .vmem S512x128 .i32) (harg18 : arg18.IsWhole) (arg19 : Memref sig .tc .smem S1 .i32) (harg19 : arg19.IsWhole) (arg20 : Memref sig .tc .vmem S128x1024 .f32) (harg20 : arg20.IsWhole) (arg21 : Memref sig .tc .vmem S128x1024 .f32) (harg21 : arg21.IsWhole)
theorem k2_part1_shift (arg0 : BitVec 32) : k2_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 = k0_part1 (F := F) i arg1 harg1 arg2 harg2 arg3 harg3 arg4 harg4 arg5 harg5 arg6 harg6 arg7 harg7 arg8 harg8 arg13 harg13 arg14 harg14 arg15 harg15 arg16 harg16 arg17 harg17 arg18 harg18 arg19 harg19 arg20 harg20 arg21 harg21 (Scalar.addi 16#32 arg0) := by
  rw [k2_part1_eq_skeleton, k0_part1_eq_skeleton]
  unfold k2_part1_skel k0_part1_skel k2_pay4 k0_pay4 k2_pay5 k0_pay5 k2_pay2 k0_pay2 k2_pay3 k0_pay3
  simp only [zero_addi]

theorem k2_part6_shift (arg0 : BitVec 32) (v5 : IVec S128x128 32) (v8 : IVec S128x128 32) (v11 : IVec S128x128 32) (v14 : IVec S128x128 32) (v17 : IVec S128x128 32) (v20 : IVec S128x128 32) (v23 : IVec S128x128 32) : k2_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v5 v8 v11 v14 v17 v20 v23 = k0_part6 (F := F) i arg1 harg1 arg2 harg2 arg3 harg3 arg4 harg4 arg5 harg5 arg6 harg6 arg7 harg7 arg8 harg8 arg13 harg13 arg14 harg14 arg15 harg15 arg16 harg16 arg17 harg17 arg18 harg18 arg19 harg19 arg20 harg20 arg21 harg21 (Scalar.addi 16#32 arg0) v5 v8 v11 v14 v17 v20 v23 := by
  rw [k2_part6_eq_skeleton, k0_part6_eq_skeleton]
  unfold k2_part6_skel k0_part6_skel
  simp only [k2_part1_shift]
  rfl

theorem cc2_eq : cc2_tc_update2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = bodyProg (F := F) i arg1 harg1 arg2 harg2 arg3 harg3 arg4 harg4 arg5 harg5 arg6 harg6 arg7 harg7 arg8 harg8 arg13 harg13 arg14 harg14 arg15 harg15 arg16 harg16 arg17 harg17 arg18 harg18 arg19 harg19 arg20 harg20 arg21 harg21 16#32 := by
  unfold bodyProg
  simp only [← k2_part6_shift i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21]
  rfl
end

section
variable (i : grid3.Coords) (arg1 : Memref sig .tc .vmem S16x8x8x128 .i32) (harg1 : arg1.IsWhole) (arg2 : Memref sig .tc .vmem S256x128 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S512x128 .f32) (harg6 : arg6.IsWhole) (arg7 : Memref sig .tc .vmem S512x256 .i32) (harg7 : arg7.IsWhole) (arg8 : Memref sig .tc .vmem S1024x128 .i32) (harg8 : arg8.IsWhole) (arg9 : Memref sig .tc .hbm S32768x128 .i8) (harg9 : arg9.IsWhole) (arg10 : Memref sig .tc .hbm S256x128 .f32) (harg10 : arg10.IsWhole) (arg11 : Memref sig .tc .hbm S256x128 .f32) (harg11 : arg11.IsWhole) (arg12 : Memref sig .tc .hbm S256x128 .f32) (harg12 : arg12.IsWhole) (arg13 : Memref sig .tc .vmem S1024x128 .i8) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S384x512 .bf16) (harg17 : arg17.IsWhole) (arg18 : Memref sig .tc .vmem S512x128 .i32) (harg18 : arg18.IsWhole) (arg19 : Memref sig .tc .smem S1 .i32) (harg19 : arg19.IsWhole) (arg20 : Memref sig .tc .vmem S128x1024 .f32) (harg20 : arg20.IsWhole) (arg21 : Memref sig .tc .vmem S128x1024 .f32) (harg21 : arg21.IsWhole)
theorem k3_part1_shift (arg0 : BitVec 32) : k3_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 = k0_part1 (F := F) i arg1 harg1 arg2 harg2 arg3 harg3 arg4 harg4 arg5 harg5 arg6 harg6 arg7 harg7 arg8 harg8 arg13 harg13 arg14 harg14 arg15 harg15 arg16 harg16 arg17 harg17 arg18 harg18 arg19 harg19 arg20 harg20 arg21 harg21 (Scalar.addi 24#32 arg0) := by
  rw [k3_part1_eq_skeleton, k0_part1_eq_skeleton]
  unfold k3_part1_skel k0_part1_skel k3_pay4 k0_pay4 k3_pay5 k0_pay5 k3_pay2 k0_pay2 k3_pay3 k0_pay3
  simp only [zero_addi]

theorem k3_part6_shift (arg0 : BitVec 32) (v5 : IVec S128x128 32) (v8 : IVec S128x128 32) (v11 : IVec S128x128 32) (v14 : IVec S128x128 32) (v17 : IVec S128x128 32) (v20 : IVec S128x128 32) (v23 : IVec S128x128 32) : k3_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v5 v8 v11 v14 v17 v20 v23 = k0_part6 (F := F) i arg1 harg1 arg2 harg2 arg3 harg3 arg4 harg4 arg5 harg5 arg6 harg6 arg7 harg7 arg8 harg8 arg13 harg13 arg14 harg14 arg15 harg15 arg16 harg16 arg17 harg17 arg18 harg18 arg19 harg19 arg20 harg20 arg21 harg21 (Scalar.addi 24#32 arg0) v5 v8 v11 v14 v17 v20 v23 := by
  rw [k3_part6_eq_skeleton, k0_part6_eq_skeleton]
  unfold k3_part6_skel k0_part6_skel
  simp only [k3_part1_shift]
  rfl

theorem cc3_eq : cc3_tc_update3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = bodyProg (F := F) i arg1 harg1 arg2 harg2 arg3 harg3 arg4 harg4 arg5 harg5 arg6 harg6 arg7 harg7 arg8 harg8 arg13 harg13 arg14 harg14 arg15 harg15 arg16 harg16 arg17 harg17 arg18 harg18 arg19 harg19 arg20 harg20 arg21 harg21 24#32 := by
  unfold bodyProg
  simp only [← k3_part6_shift i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21]
  rfl
end

end Cert.Kernel.Gen
end
-- ==== Proof.Bits.Region0.lean ====
module

public import proofs.«01_k».proof.Proof.Bits.Bodies
public import proofs.«01_k».proof.Proof.Gen.Kernel.Launch
public import proofs.«01_k».proof.Proof.Gen.Kernel.Points

/-! Update call 0: what its windows hold, and its body at every grid point. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : Dev nD → Valuation τ sig (Elt F))

/-- Window `w`'s block at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The gradients and the lookups, the same at every point. -/
def grad0 (c : Dev nD) : Vec F S512x128 .f32 := blk0 V c 5 t0_0
def look0 (c : Dev nD) : Vec F S512x256 .i32 := blk0 V c 6 t0_0

/-- The gradient tile at point `t`. -/
def gt0 (c : Dev nD) (t : Fin cfg0.N) : Vec F S128x1024 .f32 := gAt 0#32 (grid0.coords t) (blk0 V c 0 t) (k0_pay15 (grad0 V c)) (k0_pay17 (look0 V c)) (xAny (look0 V c))

/-- The scratch between points: at anything before the first, then filled from the gradients and the lookups. -/
def inv0 (c : Dev nD) : ℕ → sProp 𝕄
  | 0 => Pipeline.scopedRest spec0 c
  | _ + 1 => iprop(iprop(owns (c : Thread nD τ) (Memref.whole cc0_scratch0) fullShare (k0_pay15 (grad0 V c)) ∗ owns (c : Thread nD τ) (Memref.whole cc0_scratch1) fullShare (k0_pay17 (look0 V c)) ∗ (∃ d, owns (c : Thread nD τ) (Memref.whole cc0_scratch3) fullShare d) ∗ (∃ d, owns (c : Thread nD τ) (Memref.whole cc0_scratch4) fullShare d) ∗ owns (c : Thread nD τ) (Memref.whole cc0_scratch2) fullShare (xAny (look0 V c)))
      ∗ Pipeline.scopedRestBut spec0 c [cc0_scratch0, cc0_scratch1, cc0_scratch3, cc0_scratch4, cc0_scratch2])

theorem rest0_eq (c : Dev nD) : (Pipeline.scopedRest spec0 c : sProp 𝕄) =
    iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch2) fullShare d))
      ∗ Pipeline.scopedRestBut spec0 c [cc0_scratch0, cc0_scratch1, cc0_scratch3, cc0_scratch4, cc0_scratch2]) := by
  rw [scopedRest0_split]; simp only [owns_whole]; try rfl

/-- The call's windows: inputs at their blocks, outputs at the body's values. -/
def dat0 (c : Dev nD) : Dat τ (Elt F) Unit ℕ (UR sig nD τ) ℕ cfg0 c where
  A w := V c (Proc.devRef .tc (Pipeline.arrRef spec0 w))
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => tCodes (blk0 V c 1 t) (blk0 V c 2 t) (blk0 V c 3 t) (blk0 V c 4 t) (blk0 V c 7 t) (gt0 V c t)
    | ⟨9, _⟩ => tScale (blk0 V c 1 t) (blk0 V c 2 t) (blk0 V c 3 t) (blk0 V c 4 t) (gt0 V c t)
    | ⟨10, _⟩ => tBias (blk0 V c 1 t) (blk0 V c 2 t) (blk0 V c 3 t) (blk0 V c 4 t) (gt0 V c t)
    | ⟨11, _⟩ => tState (blk0 V c 4 t) (gt0 V c t)
  Φ t := inv0 V c t.val
  q _ := fullShare
  owed _ := 0

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = blk0 V c 7 t := by dsimp only [dat0]
theorem after0_8 (c : Dev nD) (t : Fin cfg0.N) : (dat0 V c).after 8 t = tCodes (blk0 V c 1 t) (blk0 V c 2 t) (blk0 V c 3 t) (blk0 V c 4 t) (blk0 V c 7 t) (gt0 V c t) := by dsimp only [dat0]
theorem after0_9 (c : Dev nD) (t : Fin cfg0.N) : (dat0 V c).after 9 t = tScale (blk0 V c 1 t) (blk0 V c 2 t) (blk0 V c 3 t) (blk0 V c 4 t) (gt0 V c t) := by dsimp only [dat0]
theorem after0_10 (c : Dev nD) (t : Fin cfg0.N) : (dat0 V c).after 10 t = tBias (blk0 V c 1 t) (blk0 V c 2 t) (blk0 V c 3 t) (blk0 V c 4 t) (gt0 V c t) := by dsimp only [dat0]
theorem after0_11 (c : Dev nD) (t : Fin cfg0.N) : (dat0 V c).after 11 t = tState (blk0 V c 4 t) (gt0 V c t) := by dsimp only [dat0]
theorem A0_eq (c : Dev nD) (w : Fin cfg0.W) : (dat0 V c).A w = V c (Proc.devRef .tc (Pipeline.arrRef spec0 w)) := by dsimp only [dat0]
theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A0_eq]; try rfl) t d).trans
    (by unfold Dat.fetched Dat.blockOf blk0; rw [A0_eq]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A0_eq]; try rfl) t d).trans
    (by unfold Dat.fetched Dat.blockOf blk0; rw [A0_eq]; try rfl)
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [A0_eq]; try rfl) t d).trans
    (by unfold Dat.fetched Dat.blockOf blk0; rw [A0_eq]; try rfl)
theorem before0_3 (c : Dev nD) (t : Fin cfg0.N) (d) : (dat0 V c).before 3 t d = blk0 V c 3 t :=
  ((dat0 V c).before_in_eq_fetched 3 rfl (fun _ => rfl) (fun _ _ _ => rfl) (fun t => by rw [after0_3]; unfold Dat.blockOf blk0; rw [A0_eq]; try rfl) t d).trans
    (by unfold Dat.fetched Dat.blockOf blk0; rw [A0_eq]; try rfl)
theorem before0_4 (c : Dev nD) (t : Fin cfg0.N) (d) : (dat0 V c).before 4 t d = blk0 V c 4 t :=
  ((dat0 V c).before_in_eq_fetched 4 rfl (fun _ => rfl) (fun _ _ _ => rfl) (fun t => by rw [after0_4]; unfold Dat.blockOf blk0; rw [A0_eq]; try rfl) t d).trans
    (by unfold Dat.fetched Dat.blockOf blk0; rw [A0_eq]; try rfl)
theorem before0_5 (c : Dev nD) (t : Fin cfg0.N) (d) : (dat0 V c).before 5 t d = blk0 V c 5 t :=
  ((dat0 V c).before_in_eq_fetched 5 rfl (fun _ => rfl) (fun _ _ _ => rfl) (fun t => by rw [after0_5]; unfold Dat.blockOf blk0; rw [A0_eq]; try rfl) t d).trans
    (by unfold Dat.fetched Dat.blockOf blk0; rw [A0_eq]; try rfl)
theorem before0_6 (c : Dev nD) (t : Fin cfg0.N) (d) : (dat0 V c).before 6 t d = blk0 V c 6 t :=
  ((dat0 V c).before_in_eq_fetched 6 rfl (fun _ => rfl) (fun _ _ _ => rfl) (fun t => by rw [after0_6]; unfold Dat.blockOf blk0; rw [A0_eq]; try rfl) t d).trans
    (by unfold Dat.fetched Dat.blockOf blk0; rw [A0_eq]; try rfl)
theorem before0_7 (c : Dev nD) (t : Fin cfg0.N) (d) : (dat0 V c).before 7 t d = blk0 V c 7 t :=
  ((dat0 V c).before_in_eq_fetched 7 rfl (fun _ => rfl) (fun _ _ _ => rfl) (fun t => by rw [after0_7]; unfold Dat.blockOf blk0; rw [A0_eq]; try rfl) t d).trans
    (by unfold Dat.fetched Dat.blockOf blk0; rw [A0_eq]; try rfl)

/-- The fill happens at the first point only. -/
theorem first0 (t : Fin cfg0.N) : isFirst (grid0.coords t) ↔ t.val = 0 := by
  have ht : t.val < 8 := Nat.lt_of_lt_of_eq t.isLt N_0
  have e0 : (grid0.coords t 0).val = t.val / 1 % 8 := Pipeline.Grid.coords_val t 0 (by decide) rfl
  have h8 : t.val % 8 = 0 ↔ t.val = 0 := by omega
  rw [← h8]
  simp only [isFirst, e0]
  word_cmp

theorem body0_spell (t : Fin cfg0.N) : bodyAt0 (F := F) t = bodyProg (F := F) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) 0#32 :=
  cc0_eq _ _ _ _ _ _ _ _ _ _ _ _ _ _ _ _ _ _ _ _ _ _ _ _ _ _ _ _ _ _ _ _ _ _ _

set_option maxHeartbeats 1600000 in
/-- The body at any point. -/
theorem sound0 (c : Dev nD) (t : Fin cfg0.N) :
    iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d))
    ∗ (∃ d, owns (c : Thread nD τ) (win0_6.stage (cfg0.slots t 6)) fullShare ((dat0 V c).before 6 t d))
    ∗ (∃ d, owns (c : Thread nD τ) (win0_7.stage (cfg0.slots t 7)) fullShare ((dat0 V c).before 7 t d))
    ∗ (∃ d, owns (c : Thread nD τ) (win0_8.stage (cfg0.slots t 8)) fullShare ((dat0 V c).before 8 t d))
    ∗ (∃ d, owns (c : Thread nD τ) (win0_9.stage (cfg0.slots t 9)) fullShare ((dat0 V c).before 9 t d))
    ∗ (∃ d, owns (c : Thread nD τ) (win0_10.stage (cfg0.slots t 10)) fullShare ((dat0 V c).before 10 t d))
    ∗ (∃ d, owns (c : Thread nD τ) (win0_11.stage (cfg0.slots t 11)) fullShare ((dat0 V c).before 11 t d)))
    ⊢ wp frame (wpE (defs₀ (F := F)) Variants.none c none) Set.univ (bodyAt0 t) (fun _ => iprop((dat0 V c).Φ t.succ ∗ (dat0 V c).owesAt () t.succ
    ∗ owns (c : Thread nD τ) (win0_0.stage (cfg0.slots t 0)) fullShare ((dat0 V c).after 0 t)
    ∗ owns (c : Thread nD τ) (win0_1.stage (cfg0.slots t 1)) fullShare ((dat0 V c).after 1 t)
    ∗ owns (c : Thread nD τ) (win0_2.stage (cfg0.slots t 2)) fullShare ((dat0 V c).after 2 t)
    ∗ owns (c : Thread nD τ) (win0_3.stage (cfg0.slots t 3)) fullShare ((dat0 V c).after 3 t)
    ∗ owns (c : Thread nD τ) (win0_4.stage (cfg0.slots t 4)) fullShare ((dat0 V c).after 4 t)
    ∗ owns (c : Thread nD τ) (win0_5.stage (cfg0.slots t 5)) fullShare ((dat0 V c).after 5 t)
    ∗ owns (c : Thread nD τ) (win0_6.stage (cfg0.slots t 6)) fullShare ((dat0 V c).after 6 t)
    ∗ owns (c : Thread nD τ) (win0_7.stage (cfg0.slots t 7)) fullShare ((dat0 V c).after 7 t)
    ∗ owns (c : Thread nD τ) (win0_8.stage (cfg0.slots t 8)) fullShare ((dat0 V c).after 8 t)
    ∗ owns (c : Thread nD τ) (win0_9.stage (cfg0.slots t 9)) fullShare ((dat0 V c).after 9 t)
    ∗ owns (c : Thread nD τ) (win0_10.stage (cfg0.slots t 10)) fullShare ((dat0 V c).after 10 t)
    ∗ owns (c : Thread nD τ) (win0_11.stage (cfg0.slots t 11)) fullShare ((dat0 V c).after 11 t))) := by
  rw [body0_spell]
  simp only [before0_0, before0_1, before0_2, before0_3, before0_4, before0_5, before0_6, before0_7, after0_0, after0_1, after0_2, after0_3, after0_4, after0_5, after0_6, after0_7, after0_8, after0_9, after0_10, after0_11]
  rw [show (dat0 V c).owesAt () t.succ = (dat0 V c).owesAt () t.castSucc from rfl,
    show (dat0 V c).Φ t.succ = inv0 V c (t.val + 1) from rfl, show (dat0 V c).Φ t.castSucc = inv0 V c t.val from rfl]
  by_cases h0 : t.val = 0
  · obtain rfl : t = t0_0 := Fin.ext h0
    rw [show inv0 V c (t0_0 : Fin cfg0.N).val = Pipeline.scopedRest spec0 c from rfl, rest0_eq]
    unfold inv0
    iintro ⟨⟨⟨S0, S1, S3, S4, S2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_first c (grid0.coords t0_0) _ _ _ _ _ _ _ _ _ _ _ _ _ _ _ _ _ _ _ _ _ _ _ _ _ _ _ _ _ _ _ _ _ _ 0#32 (blk0 V c 0 t0_0) (blk0 V c 1 t0_0) (blk0 V c 2 t0_0) (blk0 V c 3 t0_0) (blk0 V c 4 t0_0) (blk0 V c 5 t0_0) (blk0 V c 6 t0_0) (blk0 V c 7 t0_0) ((first0 _).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [S0 S1 S2]
    · isplitl [S0]; · iexact S0
      isplitl [S1]; · iexact S1
      iexact S2
    isplitl [S3]; · iexact S3
    isplitl [S4]; · iexact S4
    unfold bodyPost
    iintro ⟨H0, H1, H2, H3, H4, H5, H6, H7, H8, H9, H10, H11, S0, S1, S2, S3, S4⟩
    isplitl [S0 S1 S2 S3 S4 HR]
    · isplitl [S0 S1 S2 S3 S4]
      · isplitl [S0]; · iexact S0
        isplitl [S1]; · iexact S1
        isplitl [S3]; · iexact S3
        isplitl [S4]; · iexact S4
        iexact S2
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [show inv0 V c t.val = inv0 V c (t.val - 1 + 1) from by rw [Nat.sub_add_cancel (Nat.one_le_iff_ne_zero.mpr h0)]]
    unfold inv0
    iintro ⟨⟨⟨S0, S1, S3, S4, S2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_later c (grid0.coords t) _ _ _ _ _ _ _ _ _ _ _ _ _ _ _ _ _ _ _ _ _ _ _ _ _ _ _ _ _ _ _ _ _ _ 0#32 (blk0 V c 0 t) (blk0 V c 1 t) (blk0 V c 2 t) (blk0 V c 3 t) (blk0 V c 4 t) (blk0 V c 5 t) (blk0 V c 6 t) (blk0 V c 7 t) (k0_pay15 (grad0 V c)) (k0_pay17 (look0 V c)) (xAny (look0 V c)) (fun h => h0 ((first0 _).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [S0 S1 S2]
    · isplitl [S0]; · iexact S0
      isplitl [S1]; · iexact S1
      iexact S2
    isplitl [S3]; · iexact S3
    isplitl [S4]; · iexact S4
    unfold bodyPost
    iintro ⟨H0, H1, H2, H3, H4, H5, H6, H7, H8, H9, H10, H11, S0, S1, S2, S3, S4⟩
    isplitl [S0 S1 S2 S3 S4 HR]
    · isplitl [S0 S1 S2 S3 S4]
      · isplitl [S0]; · iexact S0
        isplitl [S1]; · iexact S1
        isplitl [S3]; · iexact S3
        isplitl [S4]; · iexact S4
        iexact S2
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem row0 (t : Fin cfg0.N) : defs₀ (F := F) .tc cfg0.body (cfg0.bodyArgs t (cfg0.slots t)) = bodyAt0 t := by
  unfold defs₀; rw [Defs.onTc_tc]; try rfl

theorem obligation0 (c : Dev nD) : BodyObligation (dat0 V c) (defs₀ (F := F)) Variants.none () Set.univ := fun t => by
  rw [bigSep_W0, bigSep_W0, row0]
  exact triple_restated (sound0 V c t) rfl .rfl fun _ => .rfl

theorem hin0 (c : Dev nD) : iprop(Pipeline.scopedRest spec0 c ∗ BI.emp) ⊢ (dat0 V c).Φ 0 := by
  rw [show (dat0 V c).Φ 0 = Pipeline.scopedRest spec0 c from rfl]
  iintro ⟨H, -⟩; iexact H

theorem hout0 (c : Dev nD) : (dat0 V c).Φ (Fin.last cfg0.N) ⊢ iprop(Pipeline.scopedRest spec0 c ∗ BI.emp) := by
  rw [show (dat0 V c).Φ (Fin.last cfg0.N) = inv0 V c (7 + 1) from congrArg (inv0 V c) N_0, rest0_eq]
  unfold inv0
  iintro ⟨⟨S0, S1, S3, S4, S2⟩, HR⟩
  isplitl
  · isplitl [S0 S1 S2 S3 S4]
    · isplitl [S0]; · iexists _; iexact S0
      isplitl [S1]; · iexists _; iexact S1
      isplitl [S3]; · iexact S3
      isplitl [S4]; · iexact S4
      iexists _; iexact S2
    iexact HR
  iempintro
end

end Cert.Kernel.Gen
end
-- ==== Proof.Bits.Region1.lean ====
module

public import proofs.«01_k».proof.Proof.Bits.Bodies
public import proofs.«01_k».proof.Proof.Gen.Kernel.Launch
public import proofs.«01_k».proof.Proof.Gen.Kernel.Points

/-! Update call 1: what its windows hold, and its body at every grid point. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : Dev nD → Valuation τ sig (Elt F))

/-- Window `w`'s block at point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The gradients and the lookups, the same at every point. -/
def grad1 (c : Dev nD) : Vec F S512x128 .f32 := blk1 V c 5 t1_0
def look1 (c : Dev nD) : Vec F S512x256 .i32 := blk1 V c 6 t1_0

/-- The gradient tile at point `t`. -/
def gt1 (c : Dev nD) (t : Fin cfg1.N) : Vec F S128x1024 .f32 := gAt 8#32 (grid1.coords t) (blk1 V c 0 t) (k0_pay15 (grad1 V c)) (k0_pay17 (look1 V c)) (xAny (look1 V c))

/-- The scratch between points: at anything before the first, then filled from the gradients and the lookups. -/
def inv1 (c : Dev nD) : ℕ → sProp 𝕄
  | 0 => Pipeline.scopedRest spec1 c
  | _ + 1 => iprop(iprop(owns (c : Thread nD τ) (Memref.whole cc1_scratch0) fullShare (k0_pay15 (grad1 V c)) ∗ owns (c : Thread nD τ) (Memref.whole cc1_scratch1) fullShare (k0_pay17 (look1 V c)) ∗ (∃ d, owns (c : Thread nD τ) (Memref.whole cc1_scratch3) fullShare d) ∗ (∃ d, owns (c : Thread nD τ) (Memref.whole cc1_scratch4) fullShare d) ∗ owns (c : Thread nD τ) (Memref.whole cc1_scratch2) fullShare (xAny (look1 V c)))
      ∗ Pipeline.scopedRestBut spec1 c [cc1_scratch0, cc1_scratch1, cc1_scratch3, cc1_scratch4, cc1_scratch2])

theorem rest1_eq (c : Dev nD) : (Pipeline.scopedRest spec1 c : sProp 𝕄) =
    iprop(iprop((∃ d, owns (c : Thread nD τ) (Memref.whole cc1_scratch0) fullShare d) ∗ (∃ d, owns (c : Thread nD τ) (Memref.whole cc1_scratch1) fullShare d) ∗ (∃ d, owns (c : Thread nD τ) (Memref.whole cc1_scratch3) fullShare d) ∗ (∃ d, owns (c : Thread nD τ) (Memref.whole cc1_scratch4) fullShare d) ∗ (∃ d, owns (c : Thread nD τ) (Memref.whole cc1_scratch2) fullShare d))
      ∗ Pipeline.scopedRestBut spec1 c [cc1_scratch0, cc1_scratch1, cc1_scratch3, cc1_scratch4, cc1_scratch2]) := by
  rw [scopedRest1_split]; simp only [owns_whole]; try rfl

/-- The call's windows: inputs at their blocks, outputs at the body's values. -/
def dat1 (c : Dev nD) : Dat τ (Elt F) Unit ℕ (UR sig nD τ) ℕ cfg1 c where
  A w := V c (Proc.devRef .tc (Pipeline.arrRef spec1 w))
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => tCodes (blk1 V c 1 t) (blk1 V c 2 t) (blk1 V c 3 t) (blk1 V c 4 t) (blk1 V c 7 t) (gt1 V c t)
    | ⟨9, _⟩ => tScale (blk1 V c 1 t) (blk1 V c 2 t) (blk1 V c 3 t) (blk1 V c 4 t) (gt1 V c t)
    | ⟨10, _⟩ => tBias (blk1 V c 1 t) (blk1 V c 2 t) (blk1 V c 3 t) (blk1 V c 4 t) (gt1 V c t)
    | ⟨11, _⟩ => tState (blk1 V c 4 t) (gt1 V c t)
  Φ t := inv1 V c t.val
  q _ := fullShare
  owed _ := 0

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem after1_8 (c : Dev nD) (t : Fin cfg1.N) : (dat1 V c).after 8 t = tCodes (blk1 V c 1 t) (blk1 V c 2 t) (blk1 V c 3 t) (blk1 V c 4 t) (blk1 V c 7 t) (gt1 V c t) := by dsimp only [dat1]
theorem after1_9 (c : Dev nD) (t : Fin cfg1.N) : (dat1 V c).after 9 t = tScale (blk1 V c 1 t) (blk1 V c 2 t) (blk1 V c 3 t) (blk1 V c 4 t) (gt1 V c t) := by dsimp only [dat1]
theorem after1_10 (c : Dev nD) (t : Fin cfg1.N) : (dat1 V c).after 10 t = tBias (blk1 V c 1 t) (blk1 V c 2 t) (blk1 V c 3 t) (blk1 V c 4 t) (gt1 V c t) := by dsimp only [dat1]
theorem after1_11 (c : Dev nD) (t : Fin cfg1.N) : (dat1 V c).after 11 t = tState (blk1 V c 4 t) (gt1 V c t) := by dsimp only [dat1]
theorem A1_eq (c : Dev nD) (w : Fin cfg1.W) : (dat1 V c).A w = V c (Proc.devRef .tc (Pipeline.arrRef spec1 w)) := by dsimp only [dat1]
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A1_eq]; try rfl) t d).trans
    (by unfold Dat.fetched Dat.blockOf blk1; rw [A1_eq]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A1_eq]; try rfl) t d).trans
    (by unfold Dat.fetched Dat.blockOf blk1; rw [A1_eq]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [A1_eq]; try rfl) t d).trans
    (by unfold Dat.fetched Dat.blockOf blk1; rw [A1_eq]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [A1_eq]; try rfl) t d).trans
    (by unfold Dat.fetched Dat.blockOf blk1; rw [A1_eq]; try rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [A1_eq]; try rfl) t d).trans
    (by unfold Dat.fetched Dat.blockOf blk1; rw [A1_eq]; try rfl)
theorem before1_5 (c : Dev nD) (t : Fin cfg1.N) (d) : (dat1 V c).before 5 t d = blk1 V c 5 t :=
  ((dat1 V c).before_in_eq_fetched 5 rfl (fun _ => rfl) (fun _ _ _ => rfl) (fun t => by rw [after1_5]; unfold Dat.blockOf blk1; rw [A1_eq]; try rfl) t d).trans
    (by unfold Dat.fetched Dat.blockOf blk1; rw [A1_eq]; try rfl)
theorem before1_6 (c : Dev nD) (t : Fin cfg1.N) (d) : (dat1 V c).before 6 t d = blk1 V c 6 t :=
  ((dat1 V c).before_in_eq_fetched 6 rfl (fun _ => rfl) (fun _ _ _ => rfl) (fun t => by rw [after1_6]; unfold Dat.blockOf blk1; rw [A1_eq]; try rfl) t d).trans
    (by unfold Dat.fetched Dat.blockOf blk1; rw [A1_eq]; try rfl)
theorem before1_7 (c : Dev nD) (t : Fin cfg1.N) (d) : (dat1 V c).before 7 t d = blk1 V c 7 t :=
  ((dat1 V c).before_in_eq_fetched 7 rfl (fun _ => rfl) (fun _ _ _ => rfl) (fun t => by rw [after1_7]; unfold Dat.blockOf blk1; rw [A1_eq]; try rfl) t d).trans
    (by unfold Dat.fetched Dat.blockOf blk1; rw [A1_eq]; try rfl)

/-- The fill happens at the first point only. -/
theorem first1 (t : Fin cfg1.N) : isFirst (grid1.coords t) ↔ t.val = 0 := by
  have ht : t.val < 8 := Nat.lt_of_lt_of_eq t.isLt N_1
  have e0 : (grid1.coords t 0).val = t.val / 1 % 8 := Pipeline.Grid.coords_val t 0 (by decide) rfl
  have h8 : t.val % 8 = 0 ↔ t.val = 0 := by omega
  rw [← h8]
  simp only [isFirst, e0]
  word_cmp

theorem body1_spell (t : Fin cfg1.N) : bodyAt1 (F := F) t = bodyProg (F := F) (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) 8#32 :=
  cc1_eq _ _ _ _ _ _ _ _ _ _ _ _ _ _ _ _ _ _ _ _ _ _ _ _ _ _ _ _ _ _ _ _ _ _ _ _ _ _ _ _ _ _ _

set_option maxHeartbeats 1600000 in
/-- The body at any point. -/
theorem sound1 (c : Dev nD) (t : Fin cfg1.N) :
    iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d))
    ∗ (∃ d, owns (c : Thread nD τ) (win1_6.stage (cfg1.slots t 6)) fullShare ((dat1 V c).before 6 t d))
    ∗ (∃ d, owns (c : Thread nD τ) (win1_7.stage (cfg1.slots t 7)) fullShare ((dat1 V c).before 7 t d))
    ∗ (∃ d, owns (c : Thread nD τ) (win1_8.stage (cfg1.slots t 8)) fullShare ((dat1 V c).before 8 t d))
    ∗ (∃ d, owns (c : Thread nD τ) (win1_9.stage (cfg1.slots t 9)) fullShare ((dat1 V c).before 9 t d))
    ∗ (∃ d, owns (c : Thread nD τ) (win1_10.stage (cfg1.slots t 10)) fullShare ((dat1 V c).before 10 t d))
    ∗ (∃ d, owns (c : Thread nD τ) (win1_11.stage (cfg1.slots t 11)) fullShare ((dat1 V c).before 11 t d)))
    ⊢ wp frame (wpE (defs₀ (F := F)) Variants.none c none) Set.univ (bodyAt1 t) (fun _ => iprop((dat1 V c).Φ t.succ ∗ (dat1 V c).owesAt () t.succ
    ∗ owns (c : Thread nD τ) (win1_0.stage (cfg1.slots t 0)) fullShare ((dat1 V c).after 0 t)
    ∗ owns (c : Thread nD τ) (win1_1.stage (cfg1.slots t 1)) fullShare ((dat1 V c).after 1 t)
    ∗ owns (c : Thread nD τ) (win1_2.stage (cfg1.slots t 2)) fullShare ((dat1 V c).after 2 t)
    ∗ owns (c : Thread nD τ) (win1_3.stage (cfg1.slots t 3)) fullShare ((dat1 V c).after 3 t)
    ∗ owns (c : Thread nD τ) (win1_4.stage (cfg1.slots t 4)) fullShare ((dat1 V c).after 4 t)
    ∗ owns (c : Thread nD τ) (win1_5.stage (cfg1.slots t 5)) fullShare ((dat1 V c).after 5 t)
    ∗ owns (c : Thread nD τ) (win1_6.stage (cfg1.slots t 6)) fullShare ((dat1 V c).after 6 t)
    ∗ owns (c : Thread nD τ) (win1_7.stage (cfg1.slots t 7)) fullShare ((dat1 V c).after 7 t)
    ∗ owns (c : Thread nD τ) (win1_8.stage (cfg1.slots t 8)) fullShare ((dat1 V c).after 8 t)
    ∗ owns (c : Thread nD τ) (win1_9.stage (cfg1.slots t 9)) fullShare ((dat1 V c).after 9 t)
    ∗ owns (c : Thread nD τ) (win1_10.stage (cfg1.slots t 10)) fullShare ((dat1 V c).after 10 t)
    ∗ owns (c : Thread nD τ) (win1_11.stage (cfg1.slots t 11)) fullShare ((dat1 V c).after 11 t))) := by
  rw [body1_spell]
  simp only [before1_0, before1_1, before1_2, before1_3, before1_4, before1_5, before1_6, before1_7, after1_0, after1_1, after1_2, after1_3, after1_4, after1_5, after1_6, after1_7, after1_8, after1_9, after1_10, after1_11]
  rw [show (dat1 V c).owesAt () t.succ = (dat1 V c).owesAt () t.castSucc from rfl,
    show (dat1 V c).Φ t.succ = inv1 V c (t.val + 1) from rfl, show (dat1 V c).Φ t.castSucc = inv1 V c t.val from rfl]
  by_cases h0 : t.val = 0
  · obtain rfl : t = t1_0 := Fin.ext h0
    rw [show inv1 V c (t1_0 : Fin cfg1.N).val = Pipeline.scopedRest spec1 c from rfl, rest1_eq]
    unfold inv1
    iintro ⟨⟨⟨S0, S1, S3, S4, S2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_first c (grid1.coords t1_0) _ _ _ _ _ _ _ _ _ _ _ _ _ _ _ _ _ _ _ _ _ _ _ _ _ _ _ _ _ _ _ _ _ _ 8#32 (blk1 V c 0 t1_0) (blk1 V c 1 t1_0) (blk1 V c 2 t1_0) (blk1 V c 3 t1_0) (blk1 V c 4 t1_0) (blk1 V c 5 t1_0) (blk1 V c 6 t1_0) (blk1 V c 7 t1_0) ((first1 _).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [S0 S1 S2]
    · isplitl [S0]; · iexact S0
      isplitl [S1]; · iexact S1
      iexact S2
    isplitl [S3]; · iexact S3
    isplitl [S4]; · iexact S4
    unfold bodyPost
    iintro ⟨H0, H1, H2, H3, H4, H5, H6, H7, H8, H9, H10, H11, S0, S1, S2, S3, S4⟩
    isplitl [S0 S1 S2 S3 S4 HR]
    · isplitl [S0 S1 S2 S3 S4]
      · isplitl [S0]; · iexact S0
        isplitl [S1]; · iexact S1
        isplitl [S3]; · iexact S3
        isplitl [S4]; · iexact S4
        iexact S2
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [show inv1 V c t.val = inv1 V c (t.val - 1 + 1) from by rw [Nat.sub_add_cancel (Nat.one_le_iff_ne_zero.mpr h0)]]
    unfold inv1
    iintro ⟨⟨⟨S0, S1, S3, S4, S2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_later c (grid1.coords t) _ _ _ _ _ _ _ _ _ _ _ _ _ _ _ _ _ _ _ _ _ _ _ _ _ _ _ _ _ _ _ _ _ _ 8#32 (blk1 V c 0 t) (blk1 V c 1 t) (blk1 V c 2 t) (blk1 V c 3 t) (blk1 V c 4 t) (blk1 V c 5 t) (blk1 V c 6 t) (blk1 V c 7 t) (k0_pay15 (grad1 V c)) (k0_pay17 (look1 V c)) (xAny (look1 V c)) (fun h => h0 ((first1 _).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [S0 S1 S2]
    · isplitl [S0]; · iexact S0
      isplitl [S1]; · iexact S1
      iexact S2
    isplitl [S3]; · iexact S3
    isplitl [S4]; · iexact S4
    unfold bodyPost
    iintro ⟨H0, H1, H2, H3, H4, H5, H6, H7, H8, H9, H10, H11, S0, S1, S2, S3, S4⟩
    isplitl [S0 S1 S2 S3 S4 HR]
    · isplitl [S0 S1 S2 S3 S4]
      · isplitl [S0]; · iexact S0
        isplitl [S1]; · iexact S1
        isplitl [S3]; · iexact S3
        isplitl [S4]; · iexact S4
        iexact S2
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem row1 (t : Fin cfg1.N) : defs₀ (F := F) .tc cfg1.body (cfg1.bodyArgs t (cfg1.slots t)) = bodyAt1 t := by
  unfold defs₀; rw [Defs.onTc_tc]; try rfl

theorem obligation1 (c : Dev nD) : BodyObligation (dat1 V c) (defs₀ (F := F)) Variants.none () Set.univ := fun t => by
  rw [bigSep_W1, bigSep_W1, row1]
  exact triple_restated (sound1 V c t) rfl .rfl fun _ => .rfl

theorem hin1 (c : Dev nD) : iprop(Pipeline.scopedRest spec1 c ∗ BI.emp) ⊢ (dat1 V c).Φ 0 := by
  rw [show (dat1 V c).Φ 0 = Pipeline.scopedRest spec1 c from rfl]
  iintro ⟨H, -⟩; iexact H

theorem hout1 (c : Dev nD) : (dat1 V c).Φ (Fin.last cfg1.N) ⊢ iprop(Pipeline.scopedRest spec1 c ∗ BI.emp) := by
  rw [show (dat1 V c).Φ (Fin.last cfg1.N) = inv1 V c (7 + 1) from congrArg (inv1 V c) N_1, rest1_eq]
  unfold inv1
  iintro ⟨⟨S0, S1, S3, S4, S2⟩, HR⟩
  isplitl
  · isplitl [S0 S1 S2 S3 S4]
    · isplitl [S0]; · iexists _; iexact S0
      isplitl [S1]; · iexists _; iexact S1
      isplitl [S3]; · iexact S3
      isplitl [S4]; · iexact S4
      iexists _; iexact S2
    iexact HR
  iempintro
end

end Cert.Kernel.Gen
end
-- ==== Proof.Bits.Region2.lean ====
module

public import proofs.«01_k».proof.Proof.Bits.Bodies
public import proofs.«01_k».proof.Proof.Gen.Kernel.Launch
public import proofs.«01_k».proof.Proof.Gen.Kernel.Points

/-! Update call 2: what its windows hold, and its body at every grid point. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : Dev nD → Valuation τ sig (Elt F))

/-- Window `w`'s block at point `t`, read off its array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- The gradients and the lookups, the same at every point. -/
def grad2 (c : Dev nD) : Vec F S512x128 .f32 := blk2 V c 5 t2_0
def look2 (c : Dev nD) : Vec F S512x256 .i32 := blk2 V c 6 t2_0

/-- The gradient tile at point `t`. -/
def gt2 (c : Dev nD) (t : Fin cfg2.N) : Vec F S128x1024 .f32 := gAt 16#32 (grid2.coords t) (blk2 V c 0 t) (k0_pay15 (grad2 V c)) (k0_pay17 (look2 V c)) (xAny (look2 V c))

/-- The scratch between points: at anything before the first, then filled from the gradients and the lookups. -/
def inv2 (c : Dev nD) : ℕ → sProp 𝕄
  | 0 => Pipeline.scopedRest spec2 c
  | _ + 1 => iprop(iprop(owns (c : Thread nD τ) (Memref.whole cc2_scratch0) fullShare (k0_pay15 (grad2 V c)) ∗ owns (c : Thread nD τ) (Memref.whole cc2_scratch1) fullShare (k0_pay17 (look2 V c)) ∗ (∃ d, owns (c : Thread nD τ) (Memref.whole cc2_scratch3) fullShare d) ∗ (∃ d, owns (c : Thread nD τ) (Memref.whole cc2_scratch4) fullShare d) ∗ owns (c : Thread nD τ) (Memref.whole cc2_scratch2) fullShare (xAny (look2 V c)))
      ∗ Pipeline.scopedRestBut spec2 c [cc2_scratch0, cc2_scratch1, cc2_scratch3, cc2_scratch4, cc2_scratch2])

theorem rest2_eq (c : Dev nD) : (Pipeline.scopedRest spec2 c : sProp 𝕄) =
    iprop(iprop((∃ d, owns (c : Thread nD τ) (Memref.whole cc2_scratch0) fullShare d) ∗ (∃ d, owns (c : Thread nD τ) (Memref.whole cc2_scratch1) fullShare d) ∗ (∃ d, owns (c : Thread nD τ) (Memref.whole cc2_scratch3) fullShare d) ∗ (∃ d, owns (c : Thread nD τ) (Memref.whole cc2_scratch4) fullShare d) ∗ (∃ d, owns (c : Thread nD τ) (Memref.whole cc2_scratch2) fullShare d))
      ∗ Pipeline.scopedRestBut spec2 c [cc2_scratch0, cc2_scratch1, cc2_scratch3, cc2_scratch4, cc2_scratch2]) := by
  rw [scopedRest2_split]; simp only [owns_whole]; try rfl

/-- The call's windows: inputs at their blocks, outputs at the body's values. -/
def dat2 (c : Dev nD) : Dat τ (Elt F) Unit ℕ (UR sig nD τ) ℕ cfg2 c where
  A w := V c (Proc.devRef .tc (Pipeline.arrRef spec2 w))
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => tCodes (blk2 V c 1 t) (blk2 V c 2 t) (blk2 V c 3 t) (blk2 V c 4 t) (blk2 V c 7 t) (gt2 V c t)
    | ⟨9, _⟩ => tScale (blk2 V c 1 t) (blk2 V c 2 t) (blk2 V c 3 t) (blk2 V c 4 t) (gt2 V c t)
    | ⟨10, _⟩ => tBias (blk2 V c 1 t) (blk2 V c 2 t) (blk2 V c 3 t) (blk2 V c 4 t) (gt2 V c t)
    | ⟨11, _⟩ => tState (blk2 V c 4 t) (gt2 V c t)
  Φ t := inv2 V c t.val
  q _ := fullShare
  owed _ := 0

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = blk2 V c 5 t := by dsimp only [dat2]
theorem after2_6 (c : Dev nD) (t : Fin cfg2.N) : (dat2 V c).after 6 t = blk2 V c 6 t := by dsimp only [dat2]
theorem after2_7 (c : Dev nD) (t : Fin cfg2.N) : (dat2 V c).after 7 t = blk2 V c 7 t := by dsimp only [dat2]
theorem after2_8 (c : Dev nD) (t : Fin cfg2.N) : (dat2 V c).after 8 t = tCodes (blk2 V c 1 t) (blk2 V c 2 t) (blk2 V c 3 t) (blk2 V c 4 t) (blk2 V c 7 t) (gt2 V c t) := by dsimp only [dat2]
theorem after2_9 (c : Dev nD) (t : Fin cfg2.N) : (dat2 V c).after 9 t = tScale (blk2 V c 1 t) (blk2 V c 2 t) (blk2 V c 3 t) (blk2 V c 4 t) (gt2 V c t) := by dsimp only [dat2]
theorem after2_10 (c : Dev nD) (t : Fin cfg2.N) : (dat2 V c).after 10 t = tBias (blk2 V c 1 t) (blk2 V c 2 t) (blk2 V c 3 t) (blk2 V c 4 t) (gt2 V c t) := by dsimp only [dat2]
theorem after2_11 (c : Dev nD) (t : Fin cfg2.N) : (dat2 V c).after 11 t = tState (blk2 V c 4 t) (gt2 V c t) := by dsimp only [dat2]
theorem A2_eq (c : Dev nD) (w : Fin cfg2.W) : (dat2 V c).A w = V c (Proc.devRef .tc (Pipeline.arrRef spec2 w)) := by dsimp only [dat2]
theorem before2_0 (c : Dev nD) (t : Fin cfg2.N) (d) : (dat2 V c).before 0 t d = blk2 V c 0 t :=
  ((dat2 V c).before_in_eq_fetched 0 rfl (fun _ => rfl) (fun _ _ _ => rfl) (fun t => by rw [after2_0]; unfold Dat.blockOf blk2; rw [A2_eq]; try rfl) t d).trans
    (by unfold Dat.fetched Dat.blockOf blk2; rw [A2_eq]; try rfl)
theorem before2_1 (c : Dev nD) (t : Fin cfg2.N) (d) : (dat2 V c).before 1 t d = blk2 V c 1 t :=
  ((dat2 V c).before_in_eq_fetched 1 rfl (fun _ => rfl) (fun _ _ _ => rfl) (fun t => by rw [after2_1]; unfold Dat.blockOf blk2; rw [A2_eq]; try rfl) t d).trans
    (by unfold Dat.fetched Dat.blockOf blk2; rw [A2_eq]; try rfl)
theorem before2_2 (c : Dev nD) (t : Fin cfg2.N) (d) : (dat2 V c).before 2 t d = blk2 V c 2 t :=
  ((dat2 V c).before_in_eq_fetched 2 rfl (fun _ => rfl) (fun _ _ _ => rfl) (fun t => by rw [after2_2]; unfold Dat.blockOf blk2; rw [A2_eq]; try rfl) t d).trans
    (by unfold Dat.fetched Dat.blockOf blk2; rw [A2_eq]; try rfl)
theorem before2_3 (c : Dev nD) (t : Fin cfg2.N) (d) : (dat2 V c).before 3 t d = blk2 V c 3 t :=
  ((dat2 V c).before_in_eq_fetched 3 rfl (fun _ => rfl) (fun _ _ _ => rfl) (fun t => by rw [after2_3]; unfold Dat.blockOf blk2; rw [A2_eq]; try rfl) t d).trans
    (by unfold Dat.fetched Dat.blockOf blk2; rw [A2_eq]; try rfl)
theorem before2_4 (c : Dev nD) (t : Fin cfg2.N) (d) : (dat2 V c).before 4 t d = blk2 V c 4 t :=
  ((dat2 V c).before_in_eq_fetched 4 rfl (fun _ => rfl) (fun _ _ _ => rfl) (fun t => by rw [after2_4]; unfold Dat.blockOf blk2; rw [A2_eq]; try rfl) t d).trans
    (by unfold Dat.fetched Dat.blockOf blk2; rw [A2_eq]; try rfl)
theorem before2_5 (c : Dev nD) (t : Fin cfg2.N) (d) : (dat2 V c).before 5 t d = blk2 V c 5 t :=
  ((dat2 V c).before_in_eq_fetched 5 rfl (fun _ => rfl) (fun _ _ _ => rfl) (fun t => by rw [after2_5]; unfold Dat.blockOf blk2; rw [A2_eq]; try rfl) t d).trans
    (by unfold Dat.fetched Dat.blockOf blk2; rw [A2_eq]; try rfl)
theorem before2_6 (c : Dev nD) (t : Fin cfg2.N) (d) : (dat2 V c).before 6 t d = blk2 V c 6 t :=
  ((dat2 V c).before_in_eq_fetched 6 rfl (fun _ => rfl) (fun _ _ _ => rfl) (fun t => by rw [after2_6]; unfold Dat.blockOf blk2; rw [A2_eq]; try rfl) t d).trans
    (by unfold Dat.fetched Dat.blockOf blk2; rw [A2_eq]; try rfl)
theorem before2_7 (c : Dev nD) (t : Fin cfg2.N) (d) : (dat2 V c).before 7 t d = blk2 V c 7 t :=
  ((dat2 V c).before_in_eq_fetched 7 rfl (fun _ => rfl) (fun _ _ _ => rfl) (fun t => by rw [after2_7]; unfold Dat.blockOf blk2; rw [A2_eq]; try rfl) t d).trans
    (by unfold Dat.fetched Dat.blockOf blk2; rw [A2_eq]; try rfl)

/-- The fill happens at the first point only. -/
theorem first2 (t : Fin cfg2.N) : isFirst (grid2.coords t) ↔ t.val = 0 := by
  have ht : t.val < 8 := Nat.lt_of_lt_of_eq t.isLt N_2
  have e0 : (grid2.coords t 0).val = t.val / 1 % 8 := Pipeline.Grid.coords_val t 0 (by decide) rfl
  have h8 : t.val % 8 = 0 ↔ t.val = 0 := by omega
  rw [← h8]
  simp only [isFirst, e0]
  word_cmp

theorem body2_spell (t : Fin cfg2.N) : bodyAt2 (F := F) t = bodyProg (F := F) (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) (win2_9.stage (cfg2.slots t 9)) (hstage2_9 ((cfg2.slots t 9).cast nbuf2_9)) (win2_10.stage (cfg2.slots t 10)) (hstage2_10 ((cfg2.slots t 10).cast nbuf2_10)) (win2_11.stage (cfg2.slots t 11)) (hstage2_11 ((cfg2.slots t 11).cast nbuf2_11)) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) 16#32 :=
  cc2_eq _ _ _ _ _ _ _ _ _ _ _ _ _ _ _ _ _ _ _ _ _ _ _ _ _ _ _ _ _ _ _ _ _ _ _ _ _ _ _ _ _ _ _

set_option maxHeartbeats 1600000 in
/-- The body at any point. -/
theorem sound2 (c : Dev nD) (t : Fin cfg2.N) :
    iprop((dat2 V c).Φ t.castSucc ∗ (dat2 V c).owesAt () t.castSucc
    ∗ (∃ d, owns (c : Thread nD τ) (win2_0.stage (cfg2.slots t 0)) fullShare ((dat2 V c).before 0 t d))
    ∗ (∃ d, owns (c : Thread nD τ) (win2_1.stage (cfg2.slots t 1)) fullShare ((dat2 V c).before 1 t d))
    ∗ (∃ d, owns (c : Thread nD τ) (win2_2.stage (cfg2.slots t 2)) fullShare ((dat2 V c).before 2 t d))
    ∗ (∃ d, owns (c : Thread nD τ) (win2_3.stage (cfg2.slots t 3)) fullShare ((dat2 V c).before 3 t d))
    ∗ (∃ d, owns (c : Thread nD τ) (win2_4.stage (cfg2.slots t 4)) fullShare ((dat2 V c).before 4 t d))
    ∗ (∃ d, owns (c : Thread nD τ) (win2_5.stage (cfg2.slots t 5)) fullShare ((dat2 V c).before 5 t d))
    ∗ (∃ d, owns (c : Thread nD τ) (win2_6.stage (cfg2.slots t 6)) fullShare ((dat2 V c).before 6 t d))
    ∗ (∃ d, owns (c : Thread nD τ) (win2_7.stage (cfg2.slots t 7)) fullShare ((dat2 V c).before 7 t d))
    ∗ (∃ d, owns (c : Thread nD τ) (win2_8.stage (cfg2.slots t 8)) fullShare ((dat2 V c).before 8 t d))
    ∗ (∃ d, owns (c : Thread nD τ) (win2_9.stage (cfg2.slots t 9)) fullShare ((dat2 V c).before 9 t d))
    ∗ (∃ d, owns (c : Thread nD τ) (win2_10.stage (cfg2.slots t 10)) fullShare ((dat2 V c).before 10 t d))
    ∗ (∃ d, owns (c : Thread nD τ) (win2_11.stage (cfg2.slots t 11)) fullShare ((dat2 V c).before 11 t d)))
    ⊢ wp frame (wpE (defs₀ (F := F)) Variants.none c none) Set.univ (bodyAt2 t) (fun _ => iprop((dat2 V c).Φ t.succ ∗ (dat2 V c).owesAt () t.succ
    ∗ owns (c : Thread nD τ) (win2_0.stage (cfg2.slots t 0)) fullShare ((dat2 V c).after 0 t)
    ∗ owns (c : Thread nD τ) (win2_1.stage (cfg2.slots t 1)) fullShare ((dat2 V c).after 1 t)
    ∗ owns (c : Thread nD τ) (win2_2.stage (cfg2.slots t 2)) fullShare ((dat2 V c).after 2 t)
    ∗ owns (c : Thread nD τ) (win2_3.stage (cfg2.slots t 3)) fullShare ((dat2 V c).after 3 t)
    ∗ owns (c : Thread nD τ) (win2_4.stage (cfg2.slots t 4)) fullShare ((dat2 V c).after 4 t)
    ∗ owns (c : Thread nD τ) (win2_5.stage (cfg2.slots t 5)) fullShare ((dat2 V c).after 5 t)
    ∗ owns (c : Thread nD τ) (win2_6.stage (cfg2.slots t 6)) fullShare ((dat2 V c).after 6 t)
    ∗ owns (c : Thread nD τ) (win2_7.stage (cfg2.slots t 7)) fullShare ((dat2 V c).after 7 t)
    ∗ owns (c : Thread nD τ) (win2_8.stage (cfg2.slots t 8)) fullShare ((dat2 V c).after 8 t)
    ∗ owns (c : Thread nD τ) (win2_9.stage (cfg2.slots t 9)) fullShare ((dat2 V c).after 9 t)
    ∗ owns (c : Thread nD τ) (win2_10.stage (cfg2.slots t 10)) fullShare ((dat2 V c).after 10 t)
    ∗ owns (c : Thread nD τ) (win2_11.stage (cfg2.slots t 11)) fullShare ((dat2 V c).after 11 t))) := by
  rw [body2_spell]
  simp only [before2_0, before2_1, before2_2, before2_3, before2_4, before2_5, before2_6, before2_7, after2_0, after2_1, after2_2, after2_3, after2_4, after2_5, after2_6, after2_7, after2_8, after2_9, after2_10, after2_11]
  rw [show (dat2 V c).owesAt () t.succ = (dat2 V c).owesAt () t.castSucc from rfl,
    show (dat2 V c).Φ t.succ = inv2 V c (t.val + 1) from rfl, show (dat2 V c).Φ t.castSucc = inv2 V c t.val from rfl]
  by_cases h0 : t.val = 0
  · obtain rfl : t = t2_0 := Fin.ext h0
    rw [show inv2 V c (t2_0 : Fin cfg2.N).val = Pipeline.scopedRest spec2 c from rfl, rest2_eq]
    unfold inv2
    iintro ⟨⟨⟨S0, S1, S3, S4, S2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_first c (grid2.coords t2_0) _ _ _ _ _ _ _ _ _ _ _ _ _ _ _ _ _ _ _ _ _ _ _ _ _ _ _ _ _ _ _ _ _ _ 16#32 (blk2 V c 0 t2_0) (blk2 V c 1 t2_0) (blk2 V c 2 t2_0) (blk2 V c 3 t2_0) (blk2 V c 4 t2_0) (blk2 V c 5 t2_0) (blk2 V c 6 t2_0) (blk2 V c 7 t2_0) ((first2 _).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [S0 S1 S2]
    · isplitl [S0]; · iexact S0
      isplitl [S1]; · iexact S1
      iexact S2
    isplitl [S3]; · iexact S3
    isplitl [S4]; · iexact S4
    unfold bodyPost
    iintro ⟨H0, H1, H2, H3, H4, H5, H6, H7, H8, H9, H10, H11, S0, S1, S2, S3, S4⟩
    isplitl [S0 S1 S2 S3 S4 HR]
    · isplitl [S0 S1 S2 S3 S4]
      · isplitl [S0]; · iexact S0
        isplitl [S1]; · iexact S1
        isplitl [S3]; · iexact S3
        isplitl [S4]; · iexact S4
        iexact S2
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [show inv2 V c t.val = inv2 V c (t.val - 1 + 1) from by rw [Nat.sub_add_cancel (Nat.one_le_iff_ne_zero.mpr h0)]]
    unfold inv2
    iintro ⟨⟨⟨S0, S1, S3, S4, S2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_later c (grid2.coords t) _ _ _ _ _ _ _ _ _ _ _ _ _ _ _ _ _ _ _ _ _ _ _ _ _ _ _ _ _ _ _ _ _ _ 16#32 (blk2 V c 0 t) (blk2 V c 1 t) (blk2 V c 2 t) (blk2 V c 3 t) (blk2 V c 4 t) (blk2 V c 5 t) (blk2 V c 6 t) (blk2 V c 7 t) (k0_pay15 (grad2 V c)) (k0_pay17 (look2 V c)) (xAny (look2 V c)) (fun h => h0 ((first2 _).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [S0 S1 S2]
    · isplitl [S0]; · iexact S0
      isplitl [S1]; · iexact S1
      iexact S2
    isplitl [S3]; · iexact S3
    isplitl [S4]; · iexact S4
    unfold bodyPost
    iintro ⟨H0, H1, H2, H3, H4, H5, H6, H7, H8, H9, H10, H11, S0, S1, S2, S3, S4⟩
    isplitl [S0 S1 S2 S3 S4 HR]
    · isplitl [S0 S1 S2 S3 S4]
      · isplitl [S0]; · iexact S0
        isplitl [S1]; · iexact S1
        isplitl [S3]; · iexact S3
        isplitl [S4]; · iexact S4
        iexact S2
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem row2 (t : Fin cfg2.N) : defs₀ (F := F) .tc cfg2.body (cfg2.bodyArgs t (cfg2.slots t)) = bodyAt2 t := by
  unfold defs₀; rw [Defs.onTc_tc]; try rfl

theorem obligation2 (c : Dev nD) : BodyObligation (dat2 V c) (defs₀ (F := F)) Variants.none () Set.univ := fun t => by
  rw [bigSep_W2, bigSep_W2, row2]
  exact triple_restated (sound2 V c t) rfl .rfl fun _ => .rfl

theorem hin2 (c : Dev nD) : iprop(Pipeline.scopedRest spec2 c ∗ BI.emp) ⊢ (dat2 V c).Φ 0 := by
  rw [show (dat2 V c).Φ 0 = Pipeline.scopedRest spec2 c from rfl]
  iintro ⟨H, -⟩; iexact H

theorem hout2 (c : Dev nD) : (dat2 V c).Φ (Fin.last cfg2.N) ⊢ iprop(Pipeline.scopedRest spec2 c ∗ BI.emp) := by
  rw [show (dat2 V c).Φ (Fin.last cfg2.N) = inv2 V c (7 + 1) from congrArg (inv2 V c) N_2, rest2_eq]
  unfold inv2
  iintro ⟨⟨S0, S1, S3, S4, S2⟩, HR⟩
  isplitl
  · isplitl [S0 S1 S2 S3 S4]
    · isplitl [S0]; · iexists _; iexact S0
      isplitl [S1]; · iexists _; iexact S1
      isplitl [S3]; · iexact S3
      isplitl [S4]; · iexact S4
      iexists _; iexact S2
    iexact HR
  iempintro
end

end Cert.Kernel.Gen
end
-- ==== Proof.Bits.Region3.lean ====
module

public import proofs.«01_k».proof.Proof.Bits.Bodies
public import proofs.«01_k».proof.Proof.Gen.Kernel.Launch
public import proofs.«01_k».proof.Proof.Gen.Kernel.Points

/-! Update call 3: what its windows hold, and its body at every grid point. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : Dev nD → Valuation τ sig (Elt F))

/-- Window `w`'s block at point `t`, read off its array as the call finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Proc.devRef .tc (Pipeline.arrRef spec3 w)))

/-- The gradients and the lookups, the same at every point. -/
def grad3 (c : Dev nD) : Vec F S512x128 .f32 := blk3 V c 5 t3_0
def look3 (c : Dev nD) : Vec F S512x256 .i32 := blk3 V c 6 t3_0

/-- The gradient tile at point `t`. -/
def gt3 (c : Dev nD) (t : Fin cfg3.N) : Vec F S128x1024 .f32 := gAt 24#32 (grid3.coords t) (blk3 V c 0 t) (k0_pay15 (grad3 V c)) (k0_pay17 (look3 V c)) (xAny (look3 V c))

/-- The scratch between points: at anything before the first, then filled from the gradients and the lookups. -/
def inv3 (c : Dev nD) : ℕ → sProp 𝕄
  | 0 => Pipeline.scopedRest spec3 c
  | _ + 1 => iprop(iprop(owns (c : Thread nD τ) (Memref.whole cc3_scratch0) fullShare (k0_pay15 (grad3 V c)) ∗ owns (c : Thread nD τ) (Memref.whole cc3_scratch1) fullShare (k0_pay17 (look3 V c)) ∗ (∃ d, owns (c : Thread nD τ) (Memref.whole cc3_scratch3) fullShare d) ∗ (∃ d, owns (c : Thread nD τ) (Memref.whole cc3_scratch4) fullShare d) ∗ owns (c : Thread nD τ) (Memref.whole cc3_scratch2) fullShare (xAny (look3 V c)))
      ∗ Pipeline.scopedRestBut spec3 c [cc3_scratch0, cc3_scratch1, cc3_scratch3, cc3_scratch4, cc3_scratch2])

theorem rest3_eq (c : Dev nD) : (Pipeline.scopedRest spec3 c : sProp 𝕄) =
    iprop(iprop((∃ d, owns (c : Thread nD τ) (Memref.whole cc3_scratch0) fullShare d) ∗ (∃ d, owns (c : Thread nD τ) (Memref.whole cc3_scratch1) fullShare d) ∗ (∃ d, owns (c : Thread nD τ) (Memref.whole cc3_scratch3) fullShare d) ∗ (∃ d, owns (c : Thread nD τ) (Memref.whole cc3_scratch4) fullShare d) ∗ (∃ d, owns (c : Thread nD τ) (Memref.whole cc3_scratch2) fullShare d))
      ∗ Pipeline.scopedRestBut spec3 c [cc3_scratch0, cc3_scratch1, cc3_scratch3, cc3_scratch4, cc3_scratch2]) := by
  rw [scopedRest3_split]; simp only [owns_whole]; try rfl

/-- The call's windows: inputs at their blocks, outputs at the body's values. -/
def dat3 (c : Dev nD) : Dat τ (Elt F) Unit ℕ (UR sig nD τ) ℕ cfg3 c where
  A w := V c (Proc.devRef .tc (Pipeline.arrRef spec3 w))
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => blk3 V c 6 t
    | ⟨7, _⟩ => blk3 V c 7 t
    | ⟨8, _⟩ => tCodes (blk3 V c 1 t) (blk3 V c 2 t) (blk3 V c 3 t) (blk3 V c 4 t) (blk3 V c 7 t) (gt3 V c t)
    | ⟨9, _⟩ => tScale (blk3 V c 1 t) (blk3 V c 2 t) (blk3 V c 3 t) (blk3 V c 4 t) (gt3 V c t)
    | ⟨10, _⟩ => tBias (blk3 V c 1 t) (blk3 V c 2 t) (blk3 V c 3 t) (blk3 V c 4 t) (gt3 V c t)
    | ⟨11, _⟩ => tState (blk3 V c 4 t) (gt3 V c t)
  Φ t := inv3 V c t.val
  q _ := fullShare
  owed _ := 0

theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = blk3 V c 3 t := by dsimp only [dat3]
theorem after3_4 (c : Dev nD) (t : Fin cfg3.N) : (dat3 V c).after 4 t = blk3 V c 4 t := by dsimp only [dat3]
theorem after3_5 (c : Dev nD) (t : Fin cfg3.N) : (dat3 V c).after 5 t = blk3 V c 5 t := by dsimp only [dat3]
theorem after3_6 (c : Dev nD) (t : Fin cfg3.N) : (dat3 V c).after 6 t = blk3 V c 6 t := by dsimp only [dat3]
theorem after3_7 (c : Dev nD) (t : Fin cfg3.N) : (dat3 V c).after 7 t = blk3 V c 7 t := by dsimp only [dat3]
theorem after3_8 (c : Dev nD) (t : Fin cfg3.N) : (dat3 V c).after 8 t = tCodes (blk3 V c 1 t) (blk3 V c 2 t) (blk3 V c 3 t) (blk3 V c 4 t) (blk3 V c 7 t) (gt3 V c t) := by dsimp only [dat3]
theorem after3_9 (c : Dev nD) (t : Fin cfg3.N) : (dat3 V c).after 9 t = tScale (blk3 V c 1 t) (blk3 V c 2 t) (blk3 V c 3 t) (blk3 V c 4 t) (gt3 V c t) := by dsimp only [dat3]
theorem after3_10 (c : Dev nD) (t : Fin cfg3.N) : (dat3 V c).after 10 t = tBias (blk3 V c 1 t) (blk3 V c 2 t) (blk3 V c 3 t) (blk3 V c 4 t) (gt3 V c t) := by dsimp only [dat3]
theorem after3_11 (c : Dev nD) (t : Fin cfg3.N) : (dat3 V c).after 11 t = tState (blk3 V c 4 t) (gt3 V c t) := by dsimp only [dat3]
theorem A3_eq (c : Dev nD) (w : Fin cfg3.W) : (dat3 V c).A w = V c (Proc.devRef .tc (Pipeline.arrRef spec3 w)) := by dsimp only [dat3]
theorem before3_0 (c : Dev nD) (t : Fin cfg3.N) (d) : (dat3 V c).before 0 t d = blk3 V c 0 t :=
  ((dat3 V c).before_in_eq_fetched 0 rfl (fun _ => rfl) (fun _ _ _ => rfl) (fun t => by rw [after3_0]; unfold Dat.blockOf blk3; rw [A3_eq]; try rfl) t d).trans
    (by unfold Dat.fetched Dat.blockOf blk3; rw [A3_eq]; try rfl)
theorem before3_1 (c : Dev nD) (t : Fin cfg3.N) (d) : (dat3 V c).before 1 t d = blk3 V c 1 t :=
  ((dat3 V c).before_in_eq_fetched 1 rfl (fun _ => rfl) (fun _ _ _ => rfl) (fun t => by rw [after3_1]; unfold Dat.blockOf blk3; rw [A3_eq]; try rfl) t d).trans
    (by unfold Dat.fetched Dat.blockOf blk3; rw [A3_eq]; try rfl)
theorem before3_2 (c : Dev nD) (t : Fin cfg3.N) (d) : (dat3 V c).before 2 t d = blk3 V c 2 t :=
  ((dat3 V c).before_in_eq_fetched 2 rfl (fun _ => rfl) (fun _ _ _ => rfl) (fun t => by rw [after3_2]; unfold Dat.blockOf blk3; rw [A3_eq]; try rfl) t d).trans
    (by unfold Dat.fetched Dat.blockOf blk3; rw [A3_eq]; try rfl)
theorem before3_3 (c : Dev nD) (t : Fin cfg3.N) (d) : (dat3 V c).before 3 t d = blk3 V c 3 t :=
  ((dat3 V c).before_in_eq_fetched 3 rfl (fun _ => rfl) (fun _ _ _ => rfl) (fun t => by rw [after3_3]; unfold Dat.blockOf blk3; rw [A3_eq]; try rfl) t d).trans
    (by unfold Dat.fetched Dat.blockOf blk3; rw [A3_eq]; try rfl)
theorem before3_4 (c : Dev nD) (t : Fin cfg3.N) (d) : (dat3 V c).before 4 t d = blk3 V c 4 t :=
  ((dat3 V c).before_in_eq_fetched 4 rfl (fun _ => rfl) (fun _ _ _ => rfl) (fun t => by rw [after3_4]; unfold Dat.blockOf blk3; rw [A3_eq]; try rfl) t d).trans
    (by unfold Dat.fetched Dat.blockOf blk3; rw [A3_eq]; try rfl)
theorem before3_5 (c : Dev nD) (t : Fin cfg3.N) (d) : (dat3 V c).before 5 t d = blk3 V c 5 t :=
  ((dat3 V c).before_in_eq_fetched 5 rfl (fun _ => rfl) (fun _ _ _ => rfl) (fun t => by rw [after3_5]; unfold Dat.blockOf blk3; rw [A3_eq]; try rfl) t d).trans
    (by unfold Dat.fetched Dat.blockOf blk3; rw [A3_eq]; try rfl)
theorem before3_6 (c : Dev nD) (t : Fin cfg3.N) (d) : (dat3 V c).before 6 t d = blk3 V c 6 t :=
  ((dat3 V c).before_in_eq_fetched 6 rfl (fun _ => rfl) (fun _ _ _ => rfl) (fun t => by rw [after3_6]; unfold Dat.blockOf blk3; rw [A3_eq]; try rfl) t d).trans
    (by unfold Dat.fetched Dat.blockOf blk3; rw [A3_eq]; try rfl)
theorem before3_7 (c : Dev nD) (t : Fin cfg3.N) (d) : (dat3 V c).before 7 t d = blk3 V c 7 t :=
  ((dat3 V c).before_in_eq_fetched 7 rfl (fun _ => rfl) (fun _ _ _ => rfl) (fun t => by rw [after3_7]; unfold Dat.blockOf blk3; rw [A3_eq]; try rfl) t d).trans
    (by unfold Dat.fetched Dat.blockOf blk3; rw [A3_eq]; try rfl)

/-- The fill happens at the first point only. -/
theorem first3 (t : Fin cfg3.N) : isFirst (grid3.coords t) ↔ t.val = 0 := by
  have ht : t.val < 8 := Nat.lt_of_lt_of_eq t.isLt N_3
  have e0 : (grid3.coords t 0).val = t.val / 1 % 8 := Pipeline.Grid.coords_val t 0 (by decide) rfl
  have h8 : t.val % 8 = 0 ↔ t.val = 0 := by omega
  rw [← h8]
  simp only [isFirst, e0]
  word_cmp

theorem body3_spell (t : Fin cfg3.N) : bodyAt3 (F := F) t = bodyProg (F := F) (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4)) (win3_5.stage (cfg3.slots t 5)) (hstage3_5 ((cfg3.slots t 5).cast nbuf3_5)) (win3_6.stage (cfg3.slots t 6)) (hstage3_6 ((cfg3.slots t 6).cast nbuf3_6)) (win3_7.stage (cfg3.slots t 7)) (hstage3_7 ((cfg3.slots t 7).cast nbuf3_7)) (win3_8.stage (cfg3.slots t 8)) (hstage3_8 ((cfg3.slots t 8).cast nbuf3_8)) (win3_9.stage (cfg3.slots t 9)) (hstage3_9 ((cfg3.slots t 9).cast nbuf3_9)) (win3_10.stage (cfg3.slots t 10)) (hstage3_10 ((cfg3.slots t 10).cast nbuf3_10)) (win3_11.stage (cfg3.slots t 11)) (hstage3_11 ((cfg3.slots t 11).cast nbuf3_11)) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) 24#32 :=
  cc3_eq _ _ _ _ _ _ _ _ _ _ _ _ _ _ _ _ _ _ _ _ _ _ _ _ _ _ _ _ _ _ _ _ _ _ _ _ _ _ _ _ _ _ _

set_option maxHeartbeats 1600000 in
/-- The body at any point. -/
theorem sound3 (c : Dev nD) (t : Fin cfg3.N) :
    iprop((dat3 V c).Φ t.castSucc ∗ (dat3 V c).owesAt () t.castSucc
    ∗ (∃ d, owns (c : Thread nD τ) (win3_0.stage (cfg3.slots t 0)) fullShare ((dat3 V c).before 0 t d))
    ∗ (∃ d, owns (c : Thread nD τ) (win3_1.stage (cfg3.slots t 1)) fullShare ((dat3 V c).before 1 t d))
    ∗ (∃ d, owns (c : Thread nD τ) (win3_2.stage (cfg3.slots t 2)) fullShare ((dat3 V c).before 2 t d))
    ∗ (∃ d, owns (c : Thread nD τ) (win3_3.stage (cfg3.slots t 3)) fullShare ((dat3 V c).before 3 t d))
    ∗ (∃ d, owns (c : Thread nD τ) (win3_4.stage (cfg3.slots t 4)) fullShare ((dat3 V c).before 4 t d))
    ∗ (∃ d, owns (c : Thread nD τ) (win3_5.stage (cfg3.slots t 5)) fullShare ((dat3 V c).before 5 t d))
    ∗ (∃ d, owns (c : Thread nD τ) (win3_6.stage (cfg3.slots t 6)) fullShare ((dat3 V c).before 6 t d))
    ∗ (∃ d, owns (c : Thread nD τ) (win3_7.stage (cfg3.slots t 7)) fullShare ((dat3 V c).before 7 t d))
    ∗ (∃ d, owns (c : Thread nD τ) (win3_8.stage (cfg3.slots t 8)) fullShare ((dat3 V c).before 8 t d))
    ∗ (∃ d, owns (c : Thread nD τ) (win3_9.stage (cfg3.slots t 9)) fullShare ((dat3 V c).before 9 t d))
    ∗ (∃ d, owns (c : Thread nD τ) (win3_10.stage (cfg3.slots t 10)) fullShare ((dat3 V c).before 10 t d))
    ∗ (∃ d, owns (c : Thread nD τ) (win3_11.stage (cfg3.slots t 11)) fullShare ((dat3 V c).before 11 t d)))
    ⊢ wp frame (wpE (defs₀ (F := F)) Variants.none c none) Set.univ (bodyAt3 t) (fun _ => iprop((dat3 V c).Φ t.succ ∗ (dat3 V c).owesAt () t.succ
    ∗ owns (c : Thread nD τ) (win3_0.stage (cfg3.slots t 0)) fullShare ((dat3 V c).after 0 t)
    ∗ owns (c : Thread nD τ) (win3_1.stage (cfg3.slots t 1)) fullShare ((dat3 V c).after 1 t)
    ∗ owns (c : Thread nD τ) (win3_2.stage (cfg3.slots t 2)) fullShare ((dat3 V c).after 2 t)
    ∗ owns (c : Thread nD τ) (win3_3.stage (cfg3.slots t 3)) fullShare ((dat3 V c).after 3 t)
    ∗ owns (c : Thread nD τ) (win3_4.stage (cfg3.slots t 4)) fullShare ((dat3 V c).after 4 t)
    ∗ owns (c : Thread nD τ) (win3_5.stage (cfg3.slots t 5)) fullShare ((dat3 V c).after 5 t)
    ∗ owns (c : Thread nD τ) (win3_6.stage (cfg3.slots t 6)) fullShare ((dat3 V c).after 6 t)
    ∗ owns (c : Thread nD τ) (win3_7.stage (cfg3.slots t 7)) fullShare ((dat3 V c).after 7 t)
    ∗ owns (c : Thread nD τ) (win3_8.stage (cfg3.slots t 8)) fullShare ((dat3 V c).after 8 t)
    ∗ owns (c : Thread nD τ) (win3_9.stage (cfg3.slots t 9)) fullShare ((dat3 V c).after 9 t)
    ∗ owns (c : Thread nD τ) (win3_10.stage (cfg3.slots t 10)) fullShare ((dat3 V c).after 10 t)
    ∗ owns (c : Thread nD τ) (win3_11.stage (cfg3.slots t 11)) fullShare ((dat3 V c).after 11 t))) := by
  rw [body3_spell]
  simp only [before3_0, before3_1, before3_2, before3_3, before3_4, before3_5, before3_6, before3_7, after3_0, after3_1, after3_2, after3_3, after3_4, after3_5, after3_6, after3_7, after3_8, after3_9, after3_10, after3_11]
  rw [show (dat3 V c).owesAt () t.succ = (dat3 V c).owesAt () t.castSucc from rfl,
    show (dat3 V c).Φ t.succ = inv3 V c (t.val + 1) from rfl, show (dat3 V c).Φ t.castSucc = inv3 V c t.val from rfl]
  by_cases h0 : t.val = 0
  · obtain rfl : t = t3_0 := Fin.ext h0
    rw [show inv3 V c (t3_0 : Fin cfg3.N).val = Pipeline.scopedRest spec3 c from rfl, rest3_eq]
    unfold inv3
    iintro ⟨⟨⟨S0, S1, S3, S4, S2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_first c (grid3.coords t3_0) _ _ _ _ _ _ _ _ _ _ _ _ _ _ _ _ _ _ _ _ _ _ _ _ _ _ _ _ _ _ _ _ _ _ 24#32 (blk3 V c 0 t3_0) (blk3 V c 1 t3_0) (blk3 V c 2 t3_0) (blk3 V c 3 t3_0) (blk3 V c 4 t3_0) (blk3 V c 5 t3_0) (blk3 V c 6 t3_0) (blk3 V c 7 t3_0) ((first3 _).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [S0 S1 S2]
    · isplitl [S0]; · iexact S0
      isplitl [S1]; · iexact S1
      iexact S2
    isplitl [S3]; · iexact S3
    isplitl [S4]; · iexact S4
    unfold bodyPost
    iintro ⟨H0, H1, H2, H3, H4, H5, H6, H7, H8, H9, H10, H11, S0, S1, S2, S3, S4⟩
    isplitl [S0 S1 S2 S3 S4 HR]
    · isplitl [S0 S1 S2 S3 S4]
      · isplitl [S0]; · iexact S0
        isplitl [S1]; · iexact S1
        isplitl [S3]; · iexact S3
        isplitl [S4]; · iexact S4
        iexact S2
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [show inv3 V c t.val = inv3 V c (t.val - 1 + 1) from by rw [Nat.sub_add_cancel (Nat.one_le_iff_ne_zero.mpr h0)]]
    unfold inv3
    iintro ⟨⟨⟨S0, S1, S3, S4, S2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_later c (grid3.coords t) _ _ _ _ _ _ _ _ _ _ _ _ _ _ _ _ _ _ _ _ _ _ _ _ _ _ _ _ _ _ _ _ _ _ 24#32 (blk3 V c 0 t) (blk3 V c 1 t) (blk3 V c 2 t) (blk3 V c 3 t) (blk3 V c 4 t) (blk3 V c 5 t) (blk3 V c 6 t) (blk3 V c 7 t) (k0_pay15 (grad3 V c)) (k0_pay17 (look3 V c)) (xAny (look3 V c)) (fun h => h0 ((first3 _).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [S0 S1 S2]
    · isplitl [S0]; · iexact S0
      isplitl [S1]; · iexact S1
      iexact S2
    isplitl [S3]; · iexact S3
    isplitl [S4]; · iexact S4
    unfold bodyPost
    iintro ⟨H0, H1, H2, H3, H4, H5, H6, H7, H8, H9, H10, H11, S0, S1, S2, S3, S4⟩
    isplitl [S0 S1 S2 S3 S4 HR]
    · isplitl [S0 S1 S2 S3 S4]
      · isplitl [S0]; · iexact S0
        isplitl [S1]; · iexact S1
        isplitl [S3]; · iexact S3
        isplitl [S4]; · iexact S4
        iexact S2
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem row3 (t : Fin cfg3.N) : defs₀ (F := F) .tc cfg3.body (cfg3.bodyArgs t (cfg3.slots t)) = bodyAt3 t := by
  unfold defs₀; rw [Defs.onTc_tc]; try rfl

theorem obligation3 (c : Dev nD) : BodyObligation (dat3 V c) (defs₀ (F := F)) Variants.none () Set.univ := fun t => by
  rw [bigSep_W3, bigSep_W3, row3]
  exact triple_restated (sound3 V c t) rfl .rfl fun _ => .rfl

theorem hin3 (c : Dev nD) : iprop(Pipeline.scopedRest spec3 c ∗ BI.emp) ⊢ (dat3 V c).Φ 0 := by
  rw [show (dat3 V c).Φ 0 = Pipeline.scopedRest spec3 c from rfl]
  iintro ⟨H, -⟩; iexact H

theorem hout3 (c : Dev nD) : (dat3 V c).Φ (Fin.last cfg3.N) ⊢ iprop(Pipeline.scopedRest spec3 c ∗ BI.emp) := by
  rw [show (dat3 V c).Φ (Fin.last cfg3.N) = inv3 V c (7 + 1) from congrArg (inv3 V c) N_3, rest3_eq]
  unfold inv3
  iintro ⟨⟨S0, S1, S3, S4, S2⟩, HR⟩
  isplitl
  · isplitl [S0 S1 S2 S3 S4]
    · isplitl [S0]; · iexists _; iexact S0
      isplitl [S1]; · iexists _; iexact S1
      isplitl [S3]; · iexact S3
      isplitl [S4]; · iexact S4
      iexists _; iexact S2
    iexact HR
  iempintro
end

end Cert.Kernel.Gen
end
-- ==== Proof.Bits.Chain.lean ====
module

public import proofs.«01_k».proof.Proof.Bits.Region0
public import proofs.«01_k».proof.Proof.Bits.Region1
public import proofs.«01_k».proof.Proof.Bits.Region2
public import proofs.«01_k».proof.Proof.Bits.Region3
public import proofs.«01_k».proof.Proof.Gen.Kernel.Regions
public import Idealize.ShloMosaic.Lib.Pipeline.RegionArraysS
public import Idealize.ShloMosaic.Lib.Claim

/-! The four update calls in turn, with the host lines between them: what every buffer holds after each, and the whole run. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers before and after each call. -/
def W0 (c : Dev nD) : Valuation τ sig (Elt F) := StableHlo.after hostOps0 (V0 m c)
def A0 (c : Dev nD) : Valuation τ sig (Elt F) := Pipeline.afterRegion (dat0 (W0 m) c) (W0 m c)
def W1 (c : Dev nD) : Valuation τ sig (Elt F) := StableHlo.after hostOps1 (A0 m c)
def A1 (c : Dev nD) : Valuation τ sig (Elt F) := Pipeline.afterRegion (dat1 (W1 m) c) (W1 m c)
def W2 (c : Dev nD) : Valuation τ sig (Elt F) := StableHlo.after hostOps2 (A1 m c)
def A2 (c : Dev nD) : Valuation τ sig (Elt F) := Pipeline.afterRegion (dat2 (W2 m) c) (W2 m c)
def W3 (c : Dev nD) : Valuation τ sig (Elt F) := StableHlo.after hostOps3 (A2 m c)
def A3 (c : Dev nD) : Valuation τ sig (Elt F) := Pipeline.afterRegion (dat3 (W3 m) c) (W3 m c)

def pdats (p : Fin 4) (c : Dev nD) : Dat τ (Elt F) Unit ℕ (UR sig nD τ) ℕ (cfgs p) c := match p with
  | ⟨0, _⟩ => dat0 (W0 m) c
  | ⟨1, _⟩ => dat1 (W1 m) c
  | ⟨2, _⟩ => dat2 (W2 m) c
  | ⟨3, _⟩ => dat3 (W3 m) c

/-- No core owes another anything; every staging wait sits at one level. -/
abbrev lev : GSem nD τ sig → Finset Unit := fun g => if g.1.2 = .tc then {()} else ∅
abbrev lvl : GSem nD τ sig → Unit → ℕ := fun _ _ => 0

/-- What rides beside the buffers: the core owes nothing. -/
abbrev rest (c : Dev nD) : sProp 𝕄 := iprop((∃ Wd, owes (c : Thread nD τ) (0 : CellTallies nD τ sig Unit) Wd) ∗ BI.emp ∗ BI.emp)

theorem cut0 : Pipeline.LevelCut (pcfgs (F := F)) adm () lev lvl 0 (fun _ => (0 : CellTallies nD τ sig Unit)) (fun _ => (0 : ℕ)) where
  hι _ _ _ := by simp [lev]
  hιb _ _ _ := Nat.le_refl 0
  hD _ _ _ h := absurd h (Nat.lt_irrefl 0)

set_option backward.isDefEq.respectTransparency.types false in
def reg0 : Pipeline.RegionSeg (pcfgs (F := F)) adm (pdats m) () defs₀ Variants.none lev lvl 0 :=
  Pipeline.RegionSeg.ofHeldIn (pcfgs (F := F)) adm (pdats m) () defs₀ Variants.none lev lvl 0 (fun _ => 0) (Pipeline.ucRefs τ sig) (fun _ => BI.emp) (fun _ => BI.emp)
    launch0.toP rfl (fun c => (obligation0 (W0 m) c).loose) (fun _ _ => rfl) (fun _ => rfl) (fun c => (dat0 (W0 m) c).share_full fun _ => rfl)
    (hin0 (W0 m)) (hout0 (W0 m)) (fun _ => (0 : ℕ)) cut0 (fun _ => BI.emp) (W0 m) (fun _ _ => rfl)

theorem sub0 : Pipeline.arrRefs (τ := τ) (pcfgs (F := F) 0).spec ⊆ Pipeline.ucRefs τ sig := Pipeline.arrRefs_sub_ucRefs _ launch0.win.arr_unscoped

theorem pre0 (c : Dev nD) : iprop(StableHlo.held (c : Thread nD τ) (Pipeline.ucRefs τ sig) (W0 m c) ∗ rest c) ⊢ (reg0 m).pre c := by
  unfold reg0; exact Pipeline.RegionSeg.ofHeldIn_pre (D := fun _ => 0) (X := fun _ => BI.emp) (R := fun _ => BI.emp) (sub0 (F := F)) c

theorem post0 (c : Dev nD) : (reg0 m).post c ⊢ iprop(StableHlo.held (c : Thread nD τ) (Pipeline.ucRefs τ sig) (A0 m c) ∗ rest c) := by
  unfold reg0; exact Pipeline.RegionSeg.ofHeldIn_post (D := fun _ => 0) (Y := fun _ => BI.emp) (R := fun _ => BI.emp) (sub0 (F := F)) c

def host0 : Pipeline.HostSeg (Ix := Unit) (Name := ℕ) (U := UR sig nD τ) (Lvl := ℕ) (pcfgs (F := F)) defs₀ Variants.none lev lvl :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) rest

theorem cut1 : Pipeline.LevelCut (pcfgs (F := F)) adm () lev lvl 1 (fun _ => (0 : CellTallies nD τ sig Unit)) (fun _ => (0 : ℕ)) where
  hι _ _ _ := by simp [lev]
  hιb _ _ _ := Nat.le_refl 0
  hD _ _ _ h := absurd h (Nat.lt_irrefl 0)

set_option backward.isDefEq.respectTransparency.types false in
def reg1 : Pipeline.RegionSeg (pcfgs (F := F)) adm (pdats m) () defs₀ Variants.none lev lvl 1 :=
  Pipeline.RegionSeg.ofHeldIn (pcfgs (F := F)) adm (pdats m) () defs₀ Variants.none lev lvl 1 (fun _ => 0) (Pipeline.ucRefs τ sig) (fun _ => BI.emp) (fun _ => BI.emp)
    launch1.toP rfl (fun c => (obligation1 (W1 m) c).loose) (fun _ _ => rfl) (fun _ => rfl) (fun c => (dat1 (W1 m) c).share_full fun _ => rfl)
    (hin1 (W1 m)) (hout1 (W1 m)) (fun _ => (0 : ℕ)) cut1 (fun _ => BI.emp) (W1 m) (fun _ _ => rfl)

theorem sub1 : Pipeline.arrRefs (τ := τ) (pcfgs (F := F) 1).spec ⊆ Pipeline.ucRefs τ sig := Pipeline.arrRefs_sub_ucRefs _ launch1.win.arr_unscoped

theorem pre1 (c : Dev nD) : iprop(StableHlo.held (c : Thread nD τ) (Pipeline.ucRefs τ sig) (W1 m c) ∗ rest c) ⊢ (reg1 m).pre c := by
  unfold reg1; exact Pipeline.RegionSeg.ofHeldIn_pre (D := fun _ => 0) (X := fun _ => BI.emp) (R := fun _ => BI.emp) (sub1 (F := F)) c

theorem post1 (c : Dev nD) : (reg1 m).post c ⊢ iprop(StableHlo.held (c : Thread nD τ) (Pipeline.ucRefs τ sig) (A1 m c) ∗ rest c) := by
  unfold reg1; exact Pipeline.RegionSeg.ofHeldIn_post (D := fun _ => 0) (Y := fun _ => BI.emp) (R := fun _ => BI.emp) (sub1 (F := F)) c

def host1 : Pipeline.HostSeg (Ix := Unit) (Name := ℕ) (U := UR sig nD τ) (Lvl := ℕ) (pcfgs (F := F)) defs₀ Variants.none lev lvl :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (A0 m) rest

theorem cut2 : Pipeline.LevelCut (pcfgs (F := F)) adm () lev lvl 2 (fun _ => (0 : CellTallies nD τ sig Unit)) (fun _ => (0 : ℕ)) where
  hι _ _ _ := by simp [lev]
  hιb _ _ _ := Nat.le_refl 0
  hD _ _ _ h := absurd h (Nat.lt_irrefl 0)

set_option backward.isDefEq.respectTransparency.types false in
def reg2 : Pipeline.RegionSeg (pcfgs (F := F)) adm (pdats m) () defs₀ Variants.none lev lvl 2 :=
  Pipeline.RegionSeg.ofHeldIn (pcfgs (F := F)) adm (pdats m) () defs₀ Variants.none lev lvl 2 (fun _ => 0) (Pipeline.ucRefs τ sig) (fun _ => BI.emp) (fun _ => BI.emp)
    launch2.toP rfl (fun c => (obligation2 (W2 m) c).loose) (fun _ _ => rfl) (fun _ => rfl) (fun c => (dat2 (W2 m) c).share_full fun _ => rfl)
    (hin2 (W2 m)) (hout2 (W2 m)) (fun _ => (0 : ℕ)) cut2 (fun _ => BI.emp) (W2 m) (fun _ _ => rfl)

theorem sub2 : Pipeline.arrRefs (τ := τ) (pcfgs (F := F) 2).spec ⊆ Pipeline.ucRefs τ sig := Pipeline.arrRefs_sub_ucRefs _ launch2.win.arr_unscoped

theorem pre2 (c : Dev nD) : iprop(StableHlo.held (c : Thread nD τ) (Pipeline.ucRefs τ sig) (W2 m c) ∗ rest c) ⊢ (reg2 m).pre c := by
  unfold reg2; exact Pipeline.RegionSeg.ofHeldIn_pre (D := fun _ => 0) (X := fun _ => BI.emp) (R := fun _ => BI.emp) (sub2 (F := F)) c

theorem post2 (c : Dev nD) : (reg2 m).post c ⊢ iprop(StableHlo.held (c : Thread nD τ) (Pipeline.ucRefs τ sig) (A2 m c) ∗ rest c) := by
  unfold reg2; exact Pipeline.RegionSeg.ofHeldIn_post (D := fun _ => 0) (Y := fun _ => BI.emp) (R := fun _ => BI.emp) (sub2 (F := F)) c

def host2 : Pipeline.HostSeg (Ix := Unit) (Name := ℕ) (U := UR sig nD τ) (Lvl := ℕ) (pcfgs (F := F)) defs₀ Variants.none lev lvl :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (A1 m) rest

theorem cut3 : Pipeline.LevelCut (pcfgs (F := F)) adm () lev lvl 3 (fun _ => (0 : CellTallies nD τ sig Unit)) (fun _ => (0 : ℕ)) where
  hι _ _ _ := by simp [lev]
  hιb _ _ _ := Nat.le_refl 0
  hD _ _ _ h := absurd h (Nat.lt_irrefl 0)

set_option backward.isDefEq.respectTransparency.types false in
def reg3 : Pipeline.RegionSeg (pcfgs (F := F)) adm (pdats m) () defs₀ Variants.none lev lvl 3 :=
  Pipeline.RegionSeg.ofHeldIn (pcfgs (F := F)) adm (pdats m) () defs₀ Variants.none lev lvl 3 (fun _ => 0) (Pipeline.ucRefs τ sig) (fun _ => BI.emp) (fun _ => BI.emp)
    launch3.toP rfl (fun c => (obligation3 (W3 m) c).loose) (fun _ _ => rfl) (fun _ => rfl) (fun c => (dat3 (W3 m) c).share_full fun _ => rfl)
    (hin3 (W3 m)) (hout3 (W3 m)) (fun _ => (0 : ℕ)) cut3 (fun _ => BI.emp) (W3 m) (fun _ _ => rfl)

theorem sub3 : Pipeline.arrRefs (τ := τ) (pcfgs (F := F) 3).spec ⊆ Pipeline.ucRefs τ sig := Pipeline.arrRefs_sub_ucRefs _ launch3.win.arr_unscoped

theorem pre3 (c : Dev nD) : iprop(StableHlo.held (c : Thread nD τ) (Pipeline.ucRefs τ sig) (W3 m c) ∗ rest c) ⊢ (reg3 m).pre c := by
  unfold reg3; exact Pipeline.RegionSeg.ofHeldIn_pre (D := fun _ => 0) (X := fun _ => BI.emp) (R := fun _ => BI.emp) (sub3 (F := F)) c

theorem post3 (c : Dev nD) : (reg3 m).post c ⊢ iprop(StableHlo.held (c : Thread nD τ) (Pipeline.ucRefs τ sig) (A3 m c) ∗ rest c) := by
  unfold reg3; exact Pipeline.RegionSeg.ofHeldIn_post (D := fun _ => 0) (Y := fun _ => BI.emp) (R := fun _ => BI.emp) (sub3 (F := F)) c

def host3 : Pipeline.HostSeg (Ix := Unit) (Name := ℕ) (U := UR sig nD τ) (Lvl := ℕ) (pcfgs (F := F)) defs₀ Variants.none lev lvl :=
  Pipeline.HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (A2 m) rest

abbrev segments : List (Pipeline.Seg (pcfgs (F := F)) adm (pdats m) () defs₀ Variants.none lev lvl) :=
  [.host (host0 m), .region (reg0 m), .host (host1 m), .region (reg1 m), .host (host2 m), .region (reg2 m), .host (host3 m), .region (reg3 m)]

set_option backward.isDefEq.respectTransparency.types false in
/-- Every run ends, with every buffer that outlives the calls at `A3` and every counter at zero. -/
theorem run_all : θ_run defs (onTc (τ := τ) (main (F := F))) ⟨m, fun _ => 0, ρ⟩
    (fun r => (∀ c : Dev nD, ∀ b ∈ Pipeline.ucRefs τ sig, r.2.mem (c, b) = A3 m c b) ∧ r.2.sem = fun _ => 0) := by
  refine Pipeline.θ_run_regions_kit_dev_sems (pcfgs (F := F)) adm (pdats m) () cellOf_inj emb₁ defs₀ Variants.none lev lvl m ρ main
    (fun _ => segments m)
    (fun c Q => by
      rewrite [main_chain c, Pipeline.Seg.run_eq_chain,
        show (segments m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      dsimp (config := { failIfUnchanged := false }) only
      exact .rfl)
    (fun c => by simp only [segments, Pipeline.Seg.pipes_host, Pipeline.Seg.pipes_region, Pipeline.Seg.pipes_nil]; decide) (O₀ := 0) (hL := fun g h => if_neg h)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (A3 m c))
    (hch := fun c => ⟨.rfl, pre0 m c, post0 m c, pre1 m c, post1 m c, pre2 m c, post2 m c, pre3 m c, (post3 m c).trans ?_⟩)
    (hinit := ?_) (QY := fun c s => ∀ b ∈ Pipeline.ucRefs τ sig, s.mem (c, b) = A3 m c b)
    (hfin := fun c s' => ?_) (hQ := fun _ h hz => ⟨h, funext fun g => hz g (.inr (regions_no_unscoped g.2))⟩)
  · iintro ⟨Hh, HO, -, -⟩
    isplitl [Hh]; · iexact Hh
    iexact HO
  · refine Pipeline.initEach lev lvl fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    isplitl [HO]; · iexists ∅; iexact HO
    isplitl <;> iempintro
  · unfold StableHlo.held
    iintro ⟨Hh, HSI⟩
    ihave Hr := (pointsTo_read_all (Pipeline.ucRefs τ sig) (fun b => ((c : Thread nD τ).1, b)) (A3 m c) s') $$ [Hh HSI]
    · isplitl [Hh] <;> iassumption
    icases Hr with ⟨%h, HSI⟩
    imodintro
    isplitr; · ipureintro; exact h
    iexact HSI

/-! ## What is left alone -/

theorem outs0 : ∀ w : Fin cfg0.W, (cfg0.win w).isOut = true → Pipeline.arrRef spec0 w ∈ ([main_v3_0, main_v3_1, main_v3_2, main_v3_3] : List (Ref sig .tc)) := by decide
theorem A0_of (c : Dev nD) (r : Ref sig .tc) (h : r ∉ ([main_v3_0, main_v3_1, main_v3_2, main_v3_3] : List (Ref sig .tc))) : A0 m c r = W0 m c r :=
  Pipeline.afterRegion_keeps (dat0 (W0 m) c) (W0 m c) launch0.win.arr_inj (A0_eq (W0 m) c) r fun w e => by
    by_contra ho
    exact h (e ▸ outs0 w (Bool.eq_true_of_not_eq_false ho))
theorem W0_of (c : Dev nD) (r : Ref sig .tc) (h : r ∉ hostOps0_W) : W0 m c r = V0 m c r :=
  StableHlo.after_of_writes_sub hostOps0 _ hostOps0_writes h

theorem outs1 : ∀ w : Fin cfg1.W, (cfg1.win w).isOut = true → Pipeline.arrRef spec1 w ∈ ([main_v7_0, main_v7_1, main_v7_2, main_v7_3] : List (Ref sig .tc)) := by decide
theorem A1_of (c : Dev nD) (r : Ref sig .tc) (h : r ∉ ([main_v7_0, main_v7_1, main_v7_2, main_v7_3] : List (Ref sig .tc))) : A1 m c r = W1 m c r :=
  Pipeline.afterRegion_keeps (dat1 (W1 m) c) (W1 m c) launch1.win.arr_inj (A1_eq (W1 m) c) r fun w e => by
    by_contra ho
    exact h (e ▸ outs1 w (Bool.eq_true_of_not_eq_false ho))
theorem W1_of (c : Dev nD) (r : Ref sig .tc) (h : r ∉ hostOps1_W) : W1 m c r = A0 m c r :=
  StableHlo.after_of_writes_sub hostOps1 _ hostOps1_writes h

theorem outs2 : ∀ w : Fin cfg2.W, (cfg2.win w).isOut = true → Pipeline.arrRef spec2 w ∈ ([main_v11_0, main_v11_1, main_v11_2, main_v11_3] : List (Ref sig .tc)) := by decide
theorem A2_of (c : Dev nD) (r : Ref sig .tc) (h : r ∉ ([main_v11_0, main_v11_1, main_v11_2, main_v11_3] : List (Ref sig .tc))) : A2 m c r = W2 m c r :=
  Pipeline.afterRegion_keeps (dat2 (W2 m) c) (W2 m c) launch2.win.arr_inj (A2_eq (W2 m) c) r fun w e => by
    by_contra ho
    exact h (e ▸ outs2 w (Bool.eq_true_of_not_eq_false ho))
theorem W2_of (c : Dev nD) (r : Ref sig .tc) (h : r ∉ hostOps2_W) : W2 m c r = A1 m c r :=
  StableHlo.after_of_writes_sub hostOps2 _ hostOps2_writes h

theorem outs3 : ∀ w : Fin cfg3.W, (cfg3.win w).isOut = true → Pipeline.arrRef spec3 w ∈ ([main_v15_0, main_v15_1, main_v15_2, main_v15_3] : List (Ref sig .tc)) := by decide
theorem A3_of (c : Dev nD) (r : Ref sig .tc) (h : r ∉ ([main_v15_0, main_v15_1, main_v15_2, main_v15_3] : List (Ref sig .tc))) : A3 m c r = W3 m c r :=
  Pipeline.afterRegion_keeps (dat3 (W3 m) c) (W3 m c) launch3.win.arr_inj (A3_eq (W3 m) c) r fun w e => by
    by_contra ho
    exact h (e ▸ outs3 w (Bool.eq_true_of_not_eq_false ho))
theorem W3_of (c : Dev nD) (r : Ref sig .tc) (h : r ∉ hostOps3_W) : W3 m c r = A2 m c r :=
  StableHlo.after_of_writes_sub hostOps3 _ hostOps3_writes h

/-- A buffer nothing writes is as launched before each call and at the end. -/
abbrev allW : List (Ref sig .tc) := hostOps0_W ++ [main_v3_0, main_v3_1, main_v3_2, main_v3_3] ++ hostOps1_W ++ hostOps2_W ++ hostOps3_W
theorem W0_arg (c : Dev nD) (r : Ref sig .tc) (h : r ∉ allW) : W0 m c r = m ((c : Thread nD τ).loc r) :=
  W0_of m c r fun h' => h (List.mem_append_left _ (List.mem_append_left _ (List.mem_append_left _ (List.mem_append_left _ h'))))
theorem A0_arg (c : Dev nD) (r : Ref sig .tc) (h : r ∉ allW) : A0 m c r = m ((c : Thread nD τ).loc r) :=
  (A0_of m c r fun h' => h (List.mem_append_left _ (List.mem_append_left _ (List.mem_append_left _ (List.mem_append_right _ h'))))).trans (W0_arg m c r h)
theorem W1_arg (c : Dev nD) (r : Ref sig .tc) (h : r ∉ allW) : W1 m c r = m ((c : Thread nD τ).loc r) :=
  (W1_of m c r fun h' => h (List.mem_append_left _ (List.mem_append_left _ (List.mem_append_right _ h')))).trans (A0_arg m c r h)
theorem A1_arg (c : Dev nD) (r : Ref sig .tc) (h : r ∉ allW) : A1 m c r = m ((c : Thread nD τ).loc r) :=
  (A1_of m c r fun h' => h (List.mem_append_left _ (List.mem_append_left _ (List.mem_append_right _ ((by decide : ([main_v7_0, main_v7_1, main_v7_2, main_v7_3] : List (Ref sig .tc)) ⊆ hostOps1_W) h'))))).trans (W1_arg m c r h)
theorem W2_arg (c : Dev nD) (r : Ref sig .tc) (h : r ∉ allW) : W2 m c r = m ((c : Thread nD τ).loc r) :=
  (W2_of m c r fun h' => h (List.mem_append_left _ (List.mem_append_right _ h'))).trans (A1_arg m c r h)
theorem A2_arg (c : Dev nD) (r : Ref sig .tc) (h : r ∉ allW) : A2 m c r = m ((c : Thread nD τ).loc r) :=
  (A2_of m c r fun h' => h (List.mem_append_left _ (List.mem_append_right _ ((by decide : ([main_v11_0, main_v11_1, main_v11_2, main_v11_3] : List (Ref sig .tc)) ⊆ hostOps2_W) h')))).trans (W2_arg m c r h)
theorem W3_arg (c : Dev nD) (r : Ref sig .tc) (h : r ∉ allW) : W3 m c r = m ((c : Thread nD τ).loc r) :=
  (W3_of m c r fun h' => h (List.mem_append_right _ h')).trans (A2_arg m c r h)
theorem A3_arg (c : Dev nD) (r : Ref sig .tc) (h : r ∉ allW) : A3 m c r = m ((c : Thread nD τ).loc r) :=
  (A3_of m c r fun h' => h (List.mem_append_right _ ((by decide : ([main_v15_0, main_v15_1, main_v15_2, main_v15_3] : List (Ref sig .tc)) ⊆ hostOps3_W) h'))).trans (W3_arg m c r h)

theorem uc (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

/-- Every run ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22))
      ∧ r.2.sem = fun _ => 0) :=
  (θ_run defs _ _).mono (fun r h => ⟨fun c => by
    have k : ∀ x : Ref sig .tc, x.isScoped = false → x ∉ allW → r.2.mem ((c.tc : Thread nD τ).loc x) = m ((c.tc : Thread nD τ).loc x) :=
      fun x hx hw => (h.1 c _ (uc x hx)).trans (A3_arg m c x hw)
    refine ⟨?_, ?_, ?_, ?_, ?_, ?_, ?_, ?_, ?_, ?_, ?_, ?_, ?_, ?_, ?_, ?_, ?_, ?_, ?_, ?_, ?_, ?_, ?_⟩ <;> exact k _ (by decide) (by decide), h.2⟩) (run_all m ρ)

end Cert.Kernel.Gen
end
-- ==== Proof.RefFrame.lean ====
module

public import proofs.«01_k».proof.Defs
public import proofs.«01_k».proof.Proof.Gen.ReferenceIdeal
public import proofs.«01_k».proof.Proof.Gen.ReferenceIdeal.Run

/-! The reference ends with its arguments unchanged. It has no semaphores, so every counter is zero. -/

@[expose] public section

noncomputable section

namespace Cert.ReferenceIdeal.Value

open Idealize.ShloMosaic Idealize.ShloMosaic.TcCoe Idealize.SL.Sem

theorem no_sems (s : GSem nD τ sig → Int) : s = fun _ => 0 :=
  funext fun g => by
    rcases g with ⟨t, sl⟩
    rcases sl with s | s <;> exact Fin.elim0 s

/-- The reference's frame. -/
theorem frame : Cert.quiescent_ReferenceIdeal (hReferenceIdeal := Cert.ReferenceIdeal.Gen.facts) := fun m ρ _ =>
  (θ_run _ _ _).mono (fun r h => ⟨fun c => (h c).2.2.2.2, no_sems _⟩) (run (F := Ideal) m ρ)

end Cert.ReferenceIdeal.Value
end
-- ==== Proof.Value.Spec.lean ====
module

public import Idealize.ShloMosaic.Lib.Pointwise
public import Idealize.ShloMosaic.PureOps.Ideal.Laws

/-! The update of one row, over the extended reals: its step size, its new weights, its new scale and bias, and its
codes. -/

@[expose] public section

noncomputable section

namespace Cert.Spec

open Idealize.ShloMosaic

/-- The sum of the squares of a row's gradient. -/
def ssq (g : Fin 128 → EReal) : EReal := ∑ d, g d * g d

/-- The new state: the old one and the mean square of the gradient. -/
def state (mo : EReal) (g : Fin 128 → EReal) : EReal := mo + ssq g * Ideal.ofBits .f32 0x3C000000#32

/-- The step of a row whose new state is `st`. -/
def mult (st : EReal) : EReal :=
  Ideal.div (Ideal.ofBits .f32 0x3CA3D70A#32) (Ideal.sqrt st + Ideal.ofBits .f32 0x322BCC77#32)

/-- The value of a word holding a whole number. -/
def num (w : BitVec 32) : EReal := FloatOps.sitofp (F := Ideal) .f32 w

/-- An updated weight: the code scaled and shifted, less the step. -/
def weight (code : BitVec 32) (sc bi st g : EReal) : EReal := num code * sc + bi - mult st * g

/-- The least weight of a row. -/
def least (w : Fin 128 → EReal) : EReal := Finset.univ.fold min (Ideal.ofBits .f32 0x7F800000#32) w

/-- The greatest weight of a row. -/
def most (w : Fin 128 → EReal) : EReal := Finset.univ.fold max (Ideal.ofBits .f32 0xFF800000#32) w

/-- The new scale of a row. -/
def scale (w : Fin 128 → EReal) : EReal := Ideal.div (most w - least w) (Ideal.ofBits .f32 0x437F0000#32)

/-- The factor that takes a weight to its code. -/
def inv (w : Fin 128 → EReal) : EReal :=
  Ideal.div (Ideal.ofBits .f32 0x437F0000#32) (most w - least w + Ideal.ofBits .f32 0x322BCC77#32)

/-- A value `v`, moved up by the random number `r` and rounded down, as a code. -/
def round8 (v r : EReal) : BitVec 8 :=
  BitVec.setWidth 8 (FloatOps.fptosi (F := Ideal) (φ := .f32) 32 (min (Ideal.ofBits .f32 0x437F0000#32)
    (max 0 (Ideal.liftRound Int.floor (v + r * Ideal.ofBits .f32 0x33800000#32)))))

/-- The code of a weight. -/
def code (w : Fin 128 → EReal) (r : EReal) (d : Fin 128) : BitVec 8 := round8 ((w d - least w) * inv w) r

end Cert.Spec
end
-- ==== Proof.Value.Tile.lean ====
module

public import proofs.«01_k».proof.Proof.BodyDefs
public import proofs.«01_k».proof.Proof.Value.Spec
public import Idealize.ShloMosaic.Lib.Pointwise
public import Idealize.ShloMosaic.PureOps.Ideal.Laws

/-! The update and the requantisation of a grid point, read at one slot: each is the row's update of `Spec`. -/

@[expose] public section

set_option maxRecDepth 16384

noncomputable section

namespace Cert.KernelIdeal.Gen

open Idealize.ShloMosaic Idealize.ShloMosaic.TcCoe

/-- Slot `l` of column block `m`, among the 1024 slots of a grid point. -/
def slot (m : Fin 8) (l : Fin 128) : Fin 1024 := ⟨128 * m.val + l.val, by have := m.isLt; have := l.isLt; omega⟩

/-- The row of packed codes that holds slot `l` of column block `m`. -/
def wrow (m : Fin 8) (l : Fin 128) : Fin 256 := ⟨128 * (m.val % 2) + l.val, by have := l.isLt; omega⟩

variable (x2 : Vec Ideal S256x128 .i32) (x3 x4 x5 : Vec Ideal S8x128 .f32) (x8 : Vec Ideal S1024x128 .i32) (G : Vec Ideal S128x1024 .f32)

/-- The gradient of slot `l` of column block `m`. -/
def gCol (m : Fin 8) (l : Fin 128) : Fin 128 → EReal := fun d => G (ix2 d (slot m l))

/-- The code of a slot: a byte of its word. -/
def codeAt (m : Fin 8) (l d : Fin 128) : BitVec 32 :=
  IntOp.andi (IntOp.shrui .vector (x2 (ix2 (wrow m l) d)) (BitVec.ofNat 32 (8 * (m.val / 2)))) 255#32

/-- The updated weights of a slot. -/
def wCol (m : Fin 8) (l : Fin 128) : Fin 128 → EReal := fun d =>
  Spec.weight (codeAt x2 m l d) (x3 (ix2 m l)) (x4 (ix2 m l)) (Spec.state (x5 (ix2 m l)) (gCol G m l)) (gCol G m l d)

theorem tState_apply (m : Fin 8) (l : Fin 128) : tState x5 G (ix2 m l) = Spec.state (x5 (ix2 m l)) (gCol G m l) := by
  unfold tState Spec.state Spec.ssq gCol slot
  pointwise [k0_pay31, k0_pay28, k0_pay29, k0_pay30]
  fin_vals m with hk <;> simp only [hk, Nat.reduceSub, Nat.reduceLT, Nat.reduceMul, Nat.zero_add, ↓reduceDIte]

theorem tRoot_apply (m : Fin 8) (l : Fin 128) :
    tRoot x5 G (ix2 m l) = Ideal.sqrt (Spec.state (x5 (ix2 m l)) (gCol G m l)) := by
  rw [← tState_apply]; rfl

/-- The updated weights of column block `m`. -/
def tWs : Fin 8 → FVec Ideal S128x128 .f32 :=
  ![tW0 x2 x3 x4 x5 G, tW1 x2 x3 x4 x5 G, tW2 x2 x3 x4 x5 G, tW3 x2 x3 x4 x5 G,
    tW4 x2 x3 x4 x5 G, tW5 x2 x3 x4 x5 G, tW6 x2 x3 x4 x5 G, tW7 x2 x3 x4 x5 G]

theorem tWs_apply (m : Fin 8) (d l : Fin 128) : tWs x2 x3 x4 x5 G m (ix2 d l) = wCol x2 x3 x4 x5 G m l d := by
  unfold wCol codeAt Spec.weight Spec.mult Spec.num wrow
  rw [← tRoot_apply]
  unfold gCol slot
  fin_cases m <;> dsimp only [tWs, Matrix.cons_val, tW0, tW1, tW2, tW3, tW4, tW5, tW6, tW7, tWLo, tWHi] <;>
    pointwise [k0_pay39, k0_pay38, k0_pay33, k0_pay34, k0_pay35, k0_pay36, k0_pay37, k0_pay42, k0_pay43, k0_pay44,
      k0_pay47, k0_pay48, k0_pay51, k0_pay52, k0_pay55, k0_pay56, k0_pay59, k0_pay60, k0_pay63, k0_pay64, k0_pay65, k0_pay66]

theorem wCol_eq (m : Fin 8) (l : Fin 128) : wCol x2 x3 x4 x5 G m l = fun d =>
    FloatOps.sitofp (F := Ideal) .f32 (codeAt x2 m l d) * x3 (ix2 m l) + x4 (ix2 m l)
      - Ideal.div (Ideal.ofBits .f32 0x3CA3D70A#32) (tRoot x5 G (ix2 m l) + Ideal.ofBits .f32 0x322BCC77#32) * G (ix2 d (slot m l)) := by
  rw [tRoot_apply]; rfl

/-! ## Writes, read where they wrote -/

/-- A list of writes read under its last write. -/
theorem canon_unit_in {s : Shape} {e : EltTy} {off size : Fin s.rank → ℕ} {inb : ∀ a, off a + size a ≤ s.size a}
    (w : (Rect.unit (s := s) off size inb).shape.Idx → Elt Ideal e) (L : List (View.Piece (Elt Ideal) s e)) (y : s.Idx)
    (x : (Rect.unit (s := s) off size inb).shape.Idx) (h : ∀ a, (y a).val = off a + (x a).val) :
    View.canon (⟨Rect.unit (s := s) off size inb, w⟩ :: L) y = w x := by
  have e : y = (Rect.unit (s := s) off size inb).emb x := by
    funext a; refine Fin.ext ((h a).trans ?_)
    change _ = off a + 1 * (x a).val
    omega
  rw [e]; exact View.canon_cons_emb _ w L x

/-- A list of writes read off its last write. -/
theorem canon_unit_out {s : Shape} {e : EltTy} {off size : Fin s.rank → ℕ} {inb : ∀ a, off a + size a ≤ s.size a}
    (w : (Rect.unit (s := s) off size inb).shape.Idx → Elt Ideal e) (L : List (View.Piece (Elt Ideal) s e)) (y : s.Idx)
    (a : Fin s.rank) (h : (y a).val < off a ∨ off a + size a ≤ (y a).val) :
    View.canon (⟨Rect.unit (s := s) off size inb, w⟩ :: L) y = View.canon L y := by
  refine View.canon_cons_of_not_mem _ L fun hm => ?_
  have hm : y ∈ (Rect.unit (s := s) off size inb).set := hm
  have := Rect.mem_set_unit.mp hm a
  omega

theorem canon_col_in {e : EltTy} {off : ℕ} {inb} (w : S128x128.Idx → Elt Ideal e) (L : List (View.Piece (Elt Ideal) S128x1024 e))
    (d : Fin 128) (c : Fin 1024) (l : Fin 128) (h : c.val = off + l.val) :
    View.canon (⟨Rect.unit (s := S128x1024) ![0, off] S128x128.size inb, w⟩ :: L) (ix2 d c) = w (ix2 d l) := by
  refine canon_unit_in (s := S128x1024) w L _ (ix2 d l) fun a => ?_
  match a with
  | 0 => exact (Nat.zero_add _).symm
  | 1 => exact h

theorem canon_col_out {e : EltTy} {off : ℕ} {inb} (w : S128x128.Idx → Elt Ideal e) (L : List (View.Piece (Elt Ideal) S128x1024 e))
    (d : Fin 128) (c : Fin 1024) (h : c.val < off ∨ off + 128 ≤ c.val) :
    View.canon (⟨Rect.unit (s := S128x1024) ![0, off] S128x128.size inb, w⟩ :: L) (ix2 d c) = View.canon L (ix2 d c) :=
  canon_unit_out (s := S128x1024) w L _ 1 h

theorem canon_row_in {e : EltTy} {off : ℕ} {inb} (w : S128x128.Idx → Elt Ideal e) (L : List (View.Piece (Elt Ideal) S1024x128 e))
    (d : Fin 128) (c : Fin 1024) (l : Fin 128) (h : c.val = off + l.val) :
    View.canon (⟨Rect.unit (s := S1024x128) ![off, 0] S128x128.size inb, w⟩ :: L) (ix2 c d) = w (ix2 l d) := by
  refine canon_unit_in (s := S1024x128) w L _ (ix2 l d) fun a => ?_
  match a with
  | 0 => exact h
  | 1 => exact (Nat.zero_add _).symm

theorem canon_row_out {e : EltTy} {off : ℕ} {inb} (w : S128x128.Idx → Elt Ideal e) (L : List (View.Piece (Elt Ideal) S1024x128 e))
    (d : Fin 128) (c : Fin 1024) (h : c.val < off ∨ off + 128 ≤ c.val) :
    View.canon (⟨Rect.unit (s := S1024x128) ![off, 0] S128x128.size inb, w⟩ :: L) (ix2 c d) = View.canon L (ix2 c d) :=
  canon_unit_out (s := S1024x128) w L _ 0 h

/-- The writes of the updated weights, read in column block `m`. -/
theorem tWL_apply (m : Fin 8) (d l : Fin 128) :
    View.canon (tWL x2 x3 x4 x5 G) (ix2 d (slot m l)) = wCol x2 x3 x4 x5 G m l d := by
  rw [← tWs_apply]
  have hl := l.isLt
  have hs : (slot m l).val = 128 * m.val + l.val := rfl
  generalize slot m l = c at hs ⊢
  unfold tWL
  fin_cases m <;> dsimp only at hs <;>
    (repeat (rw [canon_col_out _ _ _ _ (by omega)])) <;>
    exact canon_col_in _ _ _ _ l (by omega)

/-! ## The scale, the bias and the codes -/

theorem fin_of_val {n : ℕ} (m : Fin n) (k : ℕ) (h : k < n) (hk : m.val = k) : m = ⟨k, h⟩ := Fin.ext hk

theorem tBias_apply (m : Fin 8) (l : Fin 128) : tBias x2 x3 x4 x5 G (ix2 m l) = Spec.least (wCol x2 x3 x4 x5 G m l) := by
  rw [wCol_eq]
  unfold Spec.least codeAt wrow slot tBias tWLo tWHi
  pointwise [k0_pay67, k0_pay40, k0_pay45, k0_pay49, k0_pay53, k0_pay57, k0_pay61, k0_pay65, k0_pay38, k0_pay33, k0_pay34,
      k0_pay35, k0_pay36, k0_pay37, k0_pay42, k0_pay43, k0_pay47, k0_pay51, k0_pay55, k0_pay59, k0_pay63]
  fin_vals m with hk <;>
    simp only [hk, Nat.reduceSub, Nat.reduceLT, Nat.reduceMul, Nat.zero_add, Nat.reduceDiv, Nat.reduceMod, ↓reduceDIte] <;>
    (have e := fin_of_val m _ (by decide) hk; subst e; rfl)

theorem tInv_apply (m : Fin 8) (l : Fin 128) : tInv x2 x3 x4 x5 G (ix2 m l) = Spec.inv (wCol x2 x3 x4 x5 G m l) := by
  rw [wCol_eq]
  unfold Spec.inv Spec.most Spec.least codeAt wrow slot tInv tWLo tWHi
  pointwise [k0_pay69, k0_pay68, k0_pay67, k0_pay40, k0_pay45, k0_pay49, k0_pay53, k0_pay57, k0_pay61, k0_pay65, k0_pay41, k0_pay46, k0_pay50, k0_pay54, k0_pay58, k0_pay62, k0_pay38, k0_pay33, k0_pay34,
      k0_pay35, k0_pay36, k0_pay37, k0_pay42, k0_pay43, k0_pay47, k0_pay51, k0_pay55, k0_pay59, k0_pay63]
  fin_vals m with hk <;>
    simp only [hk, Nat.reduceSub, Nat.reduceLT, Nat.reduceMul, Nat.zero_add, Nat.reduceDiv, Nat.reduceMod, ↓reduceDIte] <;>
    (have e := fin_of_val m _ (by decide) hk; subst e; rfl)

theorem tScale_apply (m : Fin 8) (l : Fin 128) : tScale x2 x3 x4 x5 G (ix2 m l) = Spec.scale (wCol x2 x3 x4 x5 G m l) := by
  rw [wCol_eq]
  unfold Spec.scale Spec.most Spec.least codeAt wrow slot tScale tWLo tWHi
  pointwise [k0_pay70, k0_pay68, k0_pay67, k0_pay40, k0_pay45, k0_pay49, k0_pay53, k0_pay57, k0_pay61, k0_pay65, k0_pay41, k0_pay46, k0_pay50, k0_pay54, k0_pay58, k0_pay62, k0_pay38, k0_pay33, k0_pay34,
      k0_pay35, k0_pay36, k0_pay37, k0_pay42, k0_pay43, k0_pay47, k0_pay51, k0_pay55, k0_pay59, k0_pay63]
  fin_vals m with hk <;>
    simp only [hk, Nat.reduceSub, Nat.reduceLT, Nat.reduceMul, Nat.zero_add, Nat.reduceDiv, Nat.reduceMod, ↓reduceDIte] <;>
    (have e := fin_of_val m _ (by decide) hk; subst e; rfl)

/-- The codes of row block `m`. -/
def tCs : Fin 8 → IVec S128x128 8 :=
  ![tC0 x2 x3 x4 x5 x8 G, tC1 x2 x3 x4 x5 x8 G, tC2 x2 x3 x4 x5 x8 G, tC3 x2 x3 x4 x5 x8 G,
    tC4 x2 x3 x4 x5 x8 G, tC5 x2 x3 x4 x5 x8 G, tC6 x2 x3 x4 x5 x8 G, tC7 x2 x3 x4 x5 x8 G]

/-- A slot's random number, as the kernel reads it. -/
def randAt (m : Fin 8) (l d : Fin 128) : EReal := Spec.num (IntOp.shrui .vector (x8 (ix2 (slot m l) d)) 8#32)

theorem tCs_apply (m : Fin 8) (l d : Fin 128) :
    tCs x2 x3 x4 x5 x8 G m (ix2 l d) = Spec.code (wCol x2 x3 x4 x5 G m l) (randAt x8 m l d) d := by
  unfold Spec.code Spec.round8
  rw [← tBias_apply, ← tInv_apply, ← tWL_apply]
  unfold slot randAt Spec.num slot
  fin_cases m <;> dsimp only [tCs, Matrix.cons_val, tC0, tC1, tC2, tC3, tC4, tC5, tC6, tC7] <;>
    pointwise [k0_pay71, k0_pay72, k0_pay73, k0_pay74, k0_pay75, k0_pay76, k0_pay77, k0_pay78, k0_pay79, k0_pay80, k0_pay81, k0_pay82, k0_pay1]

theorem tCodes_apply (m : Fin 8) (l d : Fin 128) :
    tCodes x2 x3 x4 x5 x8 G (ix2 (slot m l) d) = Spec.code (wCol x2 x3 x4 x5 G m l) (randAt x8 m l d) d := by
  rw [← tCs_apply]
  have hl := l.isLt
  have hs : (slot m l).val = 128 * m.val + l.val := rfl
  generalize slot m l = c at hs ⊢
  unfold tCodes tCL
  fin_cases m <;> dsimp only at hs <;>
    (repeat (rw [canon_row_out _ _ _ _ (by omega)])) <;>
    exact canon_row_in _ _ _ _ l (by omega)

end Cert.KernelIdeal.Gen
end
-- ==== Proof.Value.Grad.lean ====
module

public import proofs.«01_k».proof.Proof.Bodies
public import proofs.«01_k».proof.Proof.Value.Tile
public import Idealize.ShloMosaic.Lib.BitcastFour

/-! The gradient tile of a grid point, read at one slot: the sum over the bags of the bag's gradient, times how often the
bag looked the slot up. -/

@[expose] public section

set_option maxRecDepth 16384

noncomputable section

namespace Cert.KernelIdeal.Gen

open Idealize.ShloMosaic Idealize.ShloMosaic.TcCoe

/-- Byte `b` of a word, as a number. -/
def _root_.Cert.Spec.byte (w : BitVec 32) (b : ℕ) : EReal := ((w.toNat / 2 ^ (8 * b) % 256 : ℕ) : EReal)

variable (x1 : Vec Ideal S16x8x8x128 .i32) (gr : Vec Ideal S512x128 .f32) (lk : Vec Ideal S512x256 .i32)

/-- Thirty-two-bit words read at eight bits. -/
theorem bits_apply (v : IVec S128x1024 32) (h) (bag : Fin 512) (c : Fin 1024) :
    bitcast S512x1024 8 v h (ix2 bag c)
      = (v (ix2 ⟨bag.val / 4, by have := bag.isLt; omega⟩ c)).extractLsb' (8 * (bag.val % 4)) 8 := by
  have hrow : S512x1024.row (ix2 bag c) = bag.val := rfl
  apply BitVec.eq_of_getLsbD_eq
  intro q hq
  rw [bitcast_getLsbD v h _ q hq (by decide), BitVec.getLsbD_extractLsb']
  have ep : (S512x1024.row (ix2 bag c) * 8 + q) / 32 = bag.val / 4 := by rw [hrow]; omega
  have eq : (S512x1024.row (ix2 bag c) * 8 + q) % 32 = 8 * (bag.val % 4) + q := by rw [hrow]; omega
  rw [h.srcIdx_congr _ ep _ (fun a ha => by have := h.pos_lt (ix2 bag c) q hq a ha; rw [hrow] at this; omega), eq]
  have e : ∀ hp, h.srcIdx (ix2 bag c) (bag.val / 4) hp = ix2 ⟨bag.val / 4, by have := bag.isLt; omega⟩ c := by
    intro hp
    funext a
    match a with
    | ⟨0, _⟩ => exact Fin.ext (h.srcIdx_row _ _ _ ⟨0, Nat.zero_lt_two⟩ rfl)
    | ⟨1, _⟩ => exact Fin.ext (h.srcIdx_other _ _ _ ⟨1, Nat.one_lt_two⟩ (by show ¬ 1 + 2 = 2; omega))
  rw [e]; simp [hq]

theorem byte_apply (w : BitVec 32) (b : ℕ) (hb : b < 4) :
    FloatOps.uitofp (F := Ideal) .bf16 (w.extractLsb' (8 * b) 8) = Spec.byte w b := by
  have e : (w.extractLsb' (8 * b) 8).toNat = w.toNat / 2 ^ (8 * b) % 256 := by
    rw [BitVec.extractLsb'_toNat, Nat.shiftRight_eq_div_pow]
  show (((w.extractLsb' (8 * b) 8).toNat : ℝ) : EReal) = _
  rw [e]; rfl

/-- How often bag `bag` counts slot `l` of column block `m`. -/
def countAt (m : Fin 8) (l : Fin 128) (bag : Fin 512) : EReal :=
  Spec.byte (x1 (ix4 ⟨bag.val / 32, by have := bag.isLt; omega⟩ m ⟨bag.val / 4 % 8, by omega⟩ l)) (bag.val % 4)

/-- The packed counts side by side. -/
def words : IVec S128x1024 32 :=
  concatenate S128x1024 1 [⟨S128x128, k0_pay19 (View.ld x1 rcnt0)⟩, ⟨S128x128, k0_pay20 (View.ld x1 rcnt1)⟩, ⟨S128x128, k0_pay21 (View.ld x1 rcnt2)⟩,
    ⟨S128x128, k0_pay22 (View.ld x1 rcnt3)⟩, ⟨S128x128, k0_pay23 (View.ld x1 rcnt4)⟩, ⟨S128x128, k0_pay24 (View.ld x1 rcnt5)⟩,
    ⟨S128x128, k0_pay25 (View.ld x1 rcnt6)⟩, ⟨S128x128,
      shapeCast S128x128 (shapeCast S16x8x128 (View.ld x1 rcnt7) shapeCasts_S16x1x8x128_S16x8x128) shapeCasts_S16x8x128_S128x128⟩]
    concatenates_S128x128_S128x128_S128x128_S128x128_S128x128_S128x128_S128x128_S128x128_S128x1024_d1

theorem words_apply (r : Fin 128) (m : Fin 8) (l : Fin 128) :
    words x1 (ix2 r (slot m l)) = x1 (ix4 ⟨r.val / 8, by have := r.isLt; omega⟩ m ⟨r.val % 8, by omega⟩ l) := by
  have hl := l.isLt
  unfold words slot
  have hm := m.isLt
  pointwise [k0_pay19, k0_pay20, k0_pay21, k0_pay22, k0_pay23, k0_pay24, k0_pay25]
  split_ifs <;> refine congrArg₂ (fun m l => x1 (ix4 _ m _ l)) (Fin.ext ?_) (Fin.ext ?_) <;>
    (try dsimp only) <;>
    first
      | omega
      | exact (show (0 : ℕ) = m.val by omega)
      | exact (show (1 : ℕ) = m.val by omega)
      | exact (show (2 : ℕ) = m.val by omega)
      | exact (show (3 : ℕ) = m.val by omega)
      | exact (show (4 : ℕ) = m.val by omega)
      | exact (show (5 : ℕ) = m.val by omega)
      | exact (show (6 : ℕ) = m.val by omega)
      | exact (show (7 : ℕ) = m.val by omega)

theorem count_apply (h) (m : Fin 8) (l : Fin 128) (bag : Fin 512) :
    FloatOps.uitofp (F := Ideal) .bf16 (bitcast S512x1024 8 (words x1) h (ix2 bag (slot m l))) = countAt x1 m l bag := by
  rw [bits_apply, words_apply, byte_apply _ _ (by omega)]
  unfold countAt
  have e : (⟨bag.val / 4 / 8, by have := bag.isLt; omega⟩ : Fin 16) = ⟨bag.val / 32, by have := bag.isLt; omega⟩ := Fin.ext (by dsimp only; omega)
  rw [← e]

/-! ## The three parts of a finite gradient -/

theorem part_hi (d : Fin 128) (b : Fin 512) : k0_pay15 gr (ix2 ⟨d.val, by have := d.isLt; omega⟩ b) = gr (ix2 b d) := by
  pointwise [k0_pay15]

theorem part_mid (h : ∀ j, gr j ≠ ⊥ ∧ gr j ≠ ⊤) (d : Fin 128) (b : Fin 512) :
    k0_pay15 gr (ix2 ⟨128 + d.val, by have := d.isLt; omega⟩ b) = 0 := by
  have h0 : ∀ j, gr j - gr j = 0 := fun j => EReal.sub_self (h j).2 (h j).1
  pointwise [k0_pay15]
  exact h0 _

theorem part_lo (h : ∀ j, gr j ≠ ⊥ ∧ gr j ≠ ⊤) (d : Fin 128) (b : Fin 512) :
    k0_pay15 gr (ix2 ⟨256 + d.val, by have := d.isLt; omega⟩ b) = 0 := by
  have h0 : ∀ j, gr j - gr j = 0 := fun j => EReal.sub_self (h j).2 (h j).1
  pointwise [k0_pay15]
  rw [dif_neg (by omega), dif_neg (by omega), h0, sub_zero]

/-- The product of the three parts with a column. -/
def three (x13 : Vec Ideal S384x512 .bf16) (d : Fin 128) (y : Fin 512 → EReal) : EReal :=
  (∑ x, x13 (ix2 ⟨d.val, by have := d.isLt; omega⟩ x) * y x)
    + ((∑ x, x13 (ix2 ⟨128 + d.val, by have := d.isLt; omega⟩ x) * y x) + ∑ x, x13 (ix2 ⟨256 + d.val, by have := d.isLt; omega⟩ x) * y x)

theorem three_parts (h : ∀ j, gr j ≠ ⊥ ∧ gr j ≠ ⊤) (d : Fin 128) (y : Fin 512 → EReal) :
    three (k0_pay15 gr) d y = ∑ x, gr (ix2 x d) * y x := by
  unfold three
  simp only [part_hi, part_mid gr h, part_lo gr h, zero_mul, Finset.sum_const_zero, add_zero]

theorem gBase_apply (x13 : Vec Ideal S384x512 .bf16) (m : Fin 8) (l d : Fin 128) :
    gBase x1 x13 (ix2 d (slot m l)) = three x13 d (countAt x1 m l) := by
  unfold three
  simp only [← count_apply x1 bitcasts_S128x1024_w32_S512x1024_w8]
  unfold words gBase slot
  pointwise [k0_pay26]

/-- Slot `l` of the 128 slots from `b + off` on, as a word. -/
def slotWord (b off : BitVec 32) (l : Fin 128) : BitVec 32 := IntOp.addi (BitVec.ofNat 32 l.val) (Scalar.addi b off)

theorem one_apply (u v : BitVec 32) :
    FloatOps.sitofp (F := Ideal) .f32 (BitVec.setWidth 32 (IntOp.cmpi CmpIPredicate.eq u v)) = if u = v then 1 else 0 := by
  by_cases h : u = v
  · subst h; rw [if_pos rfl]; show (((BitVec.setWidth 32 (BitVec.ofBool (u == u))).toInt : ℝ) : EReal) = 1
    simp
  · have e : (u == v) = false := beq_false_of_ne h
    rw [if_neg h]; show (((BitVec.setWidth 32 (BitVec.ofBool (u == v))).toInt : ℝ) : EReal) = 0
    rw [e]; simp

theorem gAdd_apply (b off : BitVec 32) (x13 : Vec Ideal S384x512 .bf16) (x14 : Vec Ideal S512x128 .i32) (g : Vec Ideal S128x128 .f32) (d l : Fin 128) :
    gAdd b off x13 x14 g (ix2 d l) = g (ix2 d l) + three x13 d (fun x => if x14 (ix2 x l) = slotWord b off l then 1 else 0) := by
  unfold three slotWord
  simp only [← one_apply]
  unfold gAdd
  pointwise []

theorem ld_col {off : ℕ} {inb} (X : Vec Ideal S128x1024 .f32) (d : Fin 128) (l : Fin 128) (c : Fin 1024) (h : c.val = off + l.val) :
    View.ld X (Rect.unit (s := S128x1024) ![0, off] S128x128.size inb) (ix2 d l) = X (ix2 d c) := by
  have e : (Rect.unit (s := S128x1024) ![0, off] S128x128.size inb).emb (ix2 d l) = ix2 d c := by
    funext a; refine Fin.ext ?_
    match a with
    | 0 => change 0 + 1 * d.val = d.val; omega
    | 1 => change off + 1 * l.val = c.val; omega
  exact congrArg X e

theorem gL0_apply (gb : Vec Ideal S128x1024 .f32) : View.canon (gL0 gb) = gb :=
  View.canon_cons_unit_lit' inb_S128x1024_S128x1024_0_0 gb [] (by decide)

theorem gL8_apply (b : BitVec 32) (x13 : Vec Ideal S384x512 .bf16) (x14 : Vec Ideal S512x128 .i32) (gb : Vec Ideal S128x1024 .f32) (m : Fin 8) (d l : Fin 128) :
    View.canon (gL8 b x13 x14 gb) (ix2 d (slot m l)) = gb (ix2 d (slot m l))
      + three x13 d (fun x => if x14 (ix2 x l) = slotWord b (BitVec.ofNat 32 (128 * m.val)) l then 1 else 0) := by
  have hl := l.isLt
  have hs : (slot m l).val = 128 * m.val + l.val := rfl
  generalize slot m l = c at hs ⊢
  unfold gL8 gL7 gL6 gL5 gL4 gL3 gL2 gL1
  fin_cases m <;> dsimp only at hs <;>
    (repeat (rw [canon_col_out _ _ _ _ (by omega)])) <;>
    refine (canon_col_in _ _ _ _ l (by omega)).trans ?_ <;>
    rw [gAdd_apply, ld_col _ _ _ c (by omega)] <;>
    (repeat (rw [canon_col_out _ _ _ _ (by omega)])) <;>
    rw [gL0_apply] <;> rfl

/-! ## Bags all of whose lookups are one slot -/

/-- Whether all the lookups of a bag are slot `s`. -/
def looks (s : BitVec 32) (bag : Fin 512) : Prop := ∀ q, lk (ix2 bag q) = s

/-- The slot all the lookups of a bag are, or -1. -/
def fullOf (bag : Fin 512) : BitVec 32 :=
  Scalar.select
      (IntOp.cmpi CmpIPredicate.eq (Finset.fold IntOp.minsi (2147483647#32) (fun x => lk (ix2 bag x)) Finset.univ)
        (Finset.fold IntOp.maxsi (2147483648#32) (fun x => lk (ix2 bag x)) Finset.univ))
      (Finset.fold IntOp.minsi (2147483647#32) (fun x => lk (ix2 bag x)) Finset.univ) 4294967295#32

theorem full_apply (bag : Fin 512) (l : Fin 128): k0_pay17 lk (ix2 bag l) = fullOf lk bag := by
  unfold fullOf
  pointwise [k0_pay17, k0_pay16]

theorem minsi_iff (c a b : BitVec 32) : c.toInt ≤ (IntOp.minsi a b).toInt ↔ c.toInt ≤ a.toInt ∧ c.toInt ≤ b.toInt := by
  unfold IntOp.minsi; simp only [BitVec.slt, BitVec.sle, decide_eq_true_eq]; split <;> omega

theorem maxsi_iff (c a b : BitVec 32) : (IntOp.maxsi a b).toInt ≤ c.toInt ↔ a.toInt ≤ c.toInt ∧ b.toInt ≤ c.toInt := by
  unfold IntOp.maxsi; simp only [BitVec.slt, BitVec.sle, decide_eq_true_eq]; split <;> omega

theorem le_min {ι : Type} [Fintype ι] (c : BitVec 32) (f : ι → BitVec 32) :
    c.toInt ≤ (Finset.fold IntOp.minsi 2147483647#32 f Finset.univ).toInt ↔ ∀ x, c.toInt ≤ (f x).toInt := by
  have h := Finset.fold_op_rel_iff_and (op := IntOp.minsi) (r := fun a b : BitVec 32 => a.toInt ≤ b.toInt) (fun {x y z} => minsi_iff x y z)
    (c := c) (b := 2147483647#32) (f := f) (s := Finset.univ)
  have hc : c.toInt ≤ (2147483647#32 : BitVec 32).toInt := by
    have := @BitVec.toInt_lt 32 c; simp at this ⊢; omega
  rw [h]; exact ⟨fun p x => p.2 x (Finset.mem_univ _), fun p => ⟨hc, fun x _ => p x⟩⟩

theorem max_le {ι : Type} [Fintype ι] (c : BitVec 32) (f : ι → BitVec 32) :
    (Finset.fold IntOp.maxsi 2147483648#32 f Finset.univ).toInt ≤ c.toInt ↔ ∀ x, (f x).toInt ≤ c.toInt := by
  have h := Finset.fold_op_rel_iff_and (op := IntOp.maxsi) (r := fun a b : BitVec 32 => b.toInt ≤ a.toInt) (fun {x y z} => maxsi_iff x y z)
    (c := c) (b := 2147483648#32) (f := f) (s := Finset.univ)
  have hc : (2147483648#32 : BitVec 32).toInt ≤ c.toInt := by
    have := @BitVec.le_toInt 32 c; simp at this ⊢; omega
  rw [h]; exact ⟨fun p x => p.2 x (Finset.mem_univ _), fun p => ⟨hc, fun x _ => p x⟩⟩

theorem fullOf_iff (s : BitVec 32) (hs : 0 ≤ s.toInt) (bag : Fin 512) : fullOf lk bag = s ↔ looks lk s bag := by
  unfold fullOf looks
  have hmn := fun x => (le_min _ (fun x => lk (ix2 bag x))).mp le_rfl x
  have hmx := fun x => (max_le _ (fun x => lk (ix2 bag x))).mp le_rfl x
  have hmn' := (le_min s (fun x => lk (ix2 bag x))).mpr
  have hmx' := (max_le s (fun x => lk (ix2 bag x))).mpr
  generalize Finset.fold IntOp.minsi 2147483647#32 (fun x => lk (ix2 bag x)) Finset.univ = mn at *
  generalize Finset.fold IntOp.maxsi 2147483648#32 (fun x => lk (ix2 bag x)) Finset.univ = mx at *
  constructor
  · intro h q
    by_cases e : mn = mx
    · have h : mn = s := by simpa [Scalar.select, IntOp.cmpi, e] using h
      have h1 := hmn q; have h2 := hmx q
      rw [← e, h] at h2; rw [h] at h1
      exact BitVec.eq_of_toInt_eq (le_antisymm h2 h1)
    · exfalso
      have e : (mn == mx) = false := beq_false_of_ne e
      have h : 4294967295#32 = s := by simpa [Scalar.select, IntOp.cmpi, e] using h
      subst h; exact absurd hs (by decide)
  · intro h
    have e1 : mn = s := BitVec.eq_of_toInt_eq (le_antisymm ((hmn 0).trans (by rw [h 0])) (hmn' fun x => by rw [h x]))
    have e2 : mx = s := BitVec.eq_of_toInt_eq (le_antisymm (hmx' fun x => by rw [h x]) (le_trans (by rw [h 0]) (hmx 0)))
    subst e1; subst e2
    simp [Scalar.select, IntOp.cmpi]

/-- If no bag's lookups are all one slot, none are all slot `s`. -/
theorem not_looks (hn : ¬ anyFull (xAny lk)) (s : BitVec 32) (hs : 0 ≤ s.toInt) (bag : Fin 512) : ¬ looks lk s bag := by
  intro h
  apply hn
  have hf := (fullOf_iff lk s hs bag).mpr h
  have key : View.ld (xAny lk) (Rect.unit (s := S1) ![0] S1.size inb_S1_S1_0) (Shape.Idx.first (numel1_S1.symm ▸ Nat.one_pos))
      = Finset.fold IntOp.maxsi 2147483648#32 (fun x : Fin 512 × Fin 1 => fullOf lk x.1) Finset.univ := by
    unfold xAny fullOf
    pointwise [k0_pay18, k0_pay17, k0_pay16]
  have hmx := (max_le _ (fun x : Fin 512 × Fin 1 => fullOf lk x.1)).mp le_rfl (bag, 0)
  unfold anyFull
  rw [key]
  generalize Finset.fold IntOp.maxsi 2147483648#32 (fun x : Fin 512 × Fin 1 => fullOf lk x.1) Finset.univ = mx at *
  have h0 : 0 ≤ mx.toInt := le_trans (by rw [hf]; exact hs) hmx
  have h1 : IntOp.cmpi CmpIPredicate.sge mx 0#32 = 1#1 := by
    simp [IntOp.cmpi, BitVec.sle, h0]
  show IntOp.cmpi CmpIPredicate.ne (BitVec.setWidth 32 (IntOp.cmpi CmpIPredicate.sge mx 0#32)) 0#32 = 1#1
  rw [h1]; rfl

open Classical in
/-- The gradient of a slot: `n` of the bag's lookups counted, and one more for a bag all of whose lookups are the slot. -/
def gSum (cnt : Fin 512 → EReal) (s : BitVec 32) (d : Fin 128) : EReal :=
  ∑ bag, gr (ix2 bag d) * (cnt bag + if looks lk s bag then 1 else 0)

theorem gTile_pos {b : BitVec 32} {x13 : Vec Ideal S384x512 .bf16} {x14 : Vec Ideal S512x128 .i32} {x15 : Vec Ideal S1 .i32} (h : anyFull x15) :
    gTile b x1 x13 x14 x15 = View.canon (gL8 b x13 x14 (gBase x1 x13)) := if_pos h

theorem gTile_neg {b : BitVec 32} {x13 : Vec Ideal S384x512 .bf16} {x14 : Vec Ideal S512x128 .i32} {x15 : Vec Ideal S1 .i32} (h : ¬ anyFull x15) :
    gTile b x1 x13 x14 x15 = View.canon (gL0 (gBase x1 x13)) := if_neg h

theorem count_nonneg (m : Fin 8) (l : Fin 128) (bag : Fin 512) : 0 ≤ countAt x1 m l bag := by
  unfold countAt Spec.byte
  exact Nat.cast_nonneg' _

theorem gTile_apply (h : ∀ j, gr j ≠ ⊥ ∧ gr j ≠ ⊤) (b : BitVec 32) (m : Fin 8) (d l : Fin 128)
    (hs : 0 ≤ (slotWord b (BitVec.ofNat 32 (128 * m.val)) l).toInt) :
    gTile b x1 (k0_pay15 gr) (k0_pay17 lk) (xAny lk) (ix2 d (slot m l))
      = gSum gr lk (countAt x1 m l) (slotWord b (BitVec.ofNat 32 (128 * m.val)) l) d := by
  classical
  unfold gSum
  have e : ∀ bag, gr (ix2 bag d) * (countAt x1 m l bag + if looks lk (slotWord b (BitVec.ofNat 32 (128 * m.val)) l) bag then 1 else 0)
      = gr (ix2 bag d) * countAt x1 m l bag
        + gr (ix2 bag d) * if looks lk (slotWord b (BitVec.ofNat 32 (128 * m.val)) l) bag then 1 else 0 := fun bag =>
    EReal.left_distrib_of_nonneg (count_nonneg x1 m l bag) (by split <;> simp)
  by_cases hn : anyFull (xAny lk)
  · rw [gTile_pos x1 hn, gL8_apply, gBase_apply, three_parts gr h, three_parts gr h, Finset.sum_congr rfl fun bag _ => e bag, Finset.sum_add_distrib]
    refine congrArg (fun z => _ + z) (Finset.sum_congr rfl fun bag _ => ?_)
    rw [full_apply]
    by_cases hh : looks lk (slotWord b (BitVec.ofNat 32 (128 * m.val)) l) bag
    · rw [if_pos hh, if_pos ((fullOf_iff lk _ hs bag).mpr hh)]
    · rw [if_neg hh, if_neg fun q => hh ((fullOf_iff lk _ hs bag).mp q)]
  · rw [gTile_neg x1 hn, gL0_apply, gBase_apply, three_parts gr h]
    refine Finset.sum_congr rfl fun bag _ => ?_
    rw [if_neg (not_looks lk hn _ hs bag), add_zero]

end Cert.KernelIdeal.Gen
end
-- ==== Proof.Value.Chunk.lean ====
module

public import proofs.«01_k».proof.Proof.Value.Grad

/-! One chunk of the table: what its rows become, as functions of what the chunk holds; and the tiles of a grid point
read as rows of the chunk. -/

@[expose] public section

set_option maxRecDepth 16384

noncomputable section

namespace Cert.Spec

open Idealize.ShloMosaic

/-- What the update of one chunk reads. Its 8192 rows stand 128 to a line; `base` is the number of its first row in the
whole table. -/
structure Chunk where
  cnt : Fin 16 → Fin 64 → Fin 8 → Fin 128 → BitVec 32
  wd : Fin 2048 → Fin 128 → BitVec 32
  sc : Fin 64 → Fin 128 → EReal
  bi : Fin 64 → Fin 128 → EReal
  mo : Fin 64 → Fin 128 → EReal
  gr : Fin 512 → Fin 128 → EReal
  lk : Fin 512 → Fin 256 → BitVec 32
  rn : Fin 8192 → Fin 128 → BitVec 32
  base : ℕ

namespace Chunk

variable (X : Chunk) (r : Fin 64) (l : Fin 128)

/-- How often a bag looked a row up. -/
def count (bag : Fin 512) : EReal :=
  byte (X.cnt ⟨bag.val / 32, by have := bag.isLt; omega⟩ r ⟨bag.val / 4 % 8, by omega⟩ l) (bag.val % 4)

open Classical in
/-- The gradient of a row: each bag's, as often as it looked the row up, and once more where it looked up nothing else. -/
def g (d : Fin 128) : EReal :=
  ∑ bag, X.gr bag d * (X.count r l bag + if ∀ q, X.lk bag q = BitVec.ofNat 32 (X.base + (128 * r.val + l.val)) then 1 else 0)

/-- The code of a row at column `d`. -/
def old (d : Fin 128) : BitVec 32 :=
  IntOp.andi (IntOp.shrui .vector (X.wd ⟨256 * (r.val / 8) + (128 * (r.val % 2) + l.val), by have := r.isLt; have := l.isLt; omega⟩ d)
    (BitVec.ofNat 32 (8 * (r.val % 8 / 2)))) 255#32

/-- The new state of a row. -/
def st : EReal := state (X.mo r l) (X.g r l)

/-- The updated weights of a row. -/
def w (d : Fin 128) : EReal := weight (X.old r l d) (X.sc r l) (X.bi r l) (X.st r l) (X.g r l d)

/-- The random number of a row at column `d`. -/
def rand (d : Fin 128) : EReal :=
  num (IntOp.shrui .vector (X.rn ⟨128 * r.val + l.val, by have := r.isLt; have := l.isLt; omega⟩ d) 8#32)

/-- The new codes of a row. -/
def new (d : Fin 128) : BitVec 8 := code (X.w r l) (X.rand r l d) d

end Chunk

end Cert.Spec

namespace Cert.KernelIdeal.Gen

open Idealize.ShloMosaic Idealize.ShloMosaic.TcCoe

theorem slotWord_eq (b : BitVec 32) (n : ℕ) (hb : b = BitVec.ofNat 32 n) (m : Fin 8) (l : Fin 128) :
    slotWord b (BitVec.ofNat 32 (128 * m.val)) l = BitVec.ofNat 32 (n + (128 * m.val + l.val)) := by
  subst hb
  show BitVec.ofNat 32 l.val + (BitVec.ofNat 32 n + BitVec.ofNat 32 (128 * m.val)) = _
  rw [← BitVec.ofNat_add, ← BitVec.ofNat_add]
  congr 1; omega

theorem small_nonneg (n : ℕ) (h : n < 2 ^ 31) : 0 ≤ (BitVec.ofNat 32 n).toInt := by
  rw [BitVec.toInt_ofNat', Int.bmod_eq_of_le] <;> omega

/-- Line `m` of grid point `t`, among the chunk's lines. -/
def line (t m : Fin 8) : Fin 64 := ⟨8 * t.val + m.val, by have := t.isLt; have := m.isLt; omega⟩

section
variable (X : Spec.Chunk) (t : Fin 8) (b : BitVec 32)
variable (x1 : Vec Ideal S16x8x8x128 .i32) (x2 : Vec Ideal S256x128 .i32) (x3 x4 x5 : Vec Ideal S8x128 .f32)
variable (gr : Vec Ideal S512x128 .f32) (lk : Vec Ideal S512x256 .i32) (x8 : Vec Ideal S1024x128 .i32)

/-- The blocks of grid point `t` are the chunk's. -/
structure Fits : Prop where
  base : X.base ≤ 24576
  first : b = BitVec.ofNat 32 (X.base + 1024 * t.val)
  cnt : ∀ p m q l, x1 (ix4 p m q l) = X.cnt p (line t m) q l
  wd : ∀ (q : Fin 256) d, x2 (ix2 q d) = X.wd ⟨256 * t.val + q.val, by have := t.isLt; have := q.isLt; omega⟩ d
  sc : ∀ m l, x3 (ix2 m l) = X.sc (line t m) l
  bi : ∀ m l, x4 (ix2 m l) = X.bi (line t m) l
  mo : ∀ m l, x5 (ix2 m l) = X.mo (line t m) l
  gr : ∀ p d, gr (ix2 p d) = X.gr p d
  lk : ∀ p q, lk (ix2 p q) = X.lk p q
  rn : ∀ (q : Fin 1024) d, x8 (ix2 q d) = X.rn ⟨1024 * t.val + q.val, by have := t.isLt; have := q.isLt; omega⟩ d
  real : ∀ p d, X.gr p d ≠ ⊥ ∧ X.gr p d ≠ ⊤

variable {X t b x1 x2 x3 x4 x5 gr lk x8}
variable (h : Fits X t b x1 x2 x3 x4 x5 gr lk x8) (m : Fin 8) (l d : Fin 128)
include h

local notation "G" => gTile b x1 (k0_pay15 gr) (k0_pay17 lk) (xAny lk)

theorem Fits.g_apply : gCol G m l = X.g (line t m) l := by
  funext d
  have hm := m.isLt; have hl := l.isLt; have ht := t.isLt; have hb := h.base
  have es := slotWord_eq b _ h.first m l
  have hg : ∀ j, gr j ≠ ⊥ ∧ gr j ≠ ⊤ := fun j => by
    have e := h.gr (j 0) (j 1)
    have ej : (ix2 (j 0) (j 1) : S512x128.Idx) = j := by funext a; fin_cases a <;> rfl
    rw [ej] at e; rw [e]; exact h.real _ _
  unfold gCol
  rw [gTile_apply x1 gr lk hg b m d l (by rw [es]; exact small_nonneg _ (by omega)), es]
  unfold gSum Spec.Chunk.g
  refine Finset.sum_congr rfl fun bag _ => ?_
  rw [h.gr]
  have e1 : countAt x1 m l bag = X.count (line t m) l bag := by unfold countAt Spec.Chunk.count; rw [h.cnt]
  have e2 : X.base + 1024 * t.val + (128 * m.val + l.val) = X.base + (128 * (line t m).val + l.val) := by
    show _ = X.base + (128 * (8 * t.val + m.val) + l.val); omega
  rw [e1, e2]
  unfold looks
  simp only [h.lk]

theorem Fits.state_apply : tState x5 G (ix2 m l) = X.st (line t m) l := by
  rw [tState_apply, h.g_apply, h.mo]; rfl

theorem Fits.w_apply : wCol x2 x3 x4 x5 G m l = X.w (line t m) l := by
  have hm := m.isLt; have hl := l.isLt; have ht := t.isLt
  funext d
  unfold wCol
  have e := congrFun (h.g_apply m l) d
  have ec : codeAt x2 m l d = X.old (line t m) l d := by
    unfold codeAt Spec.Chunk.old
    rw [h.wd]
    have e1 : (line t m).val = 8 * t.val + m.val := rfl
    have a1 : 256 * t.val + (wrow m l).val = 256 * ((line t m).val / 8) + (128 * ((line t m).val % 2) + l.val) := by
      show 256 * t.val + (128 * (m.val % 2) + l.val) = _; omega
    have a2 : m.val / 2 = (line t m).val % 8 / 2 := by omega
    rw [← a2]
    exact congrArg (fun z => IntOp.andi (IntOp.shrui .vector (X.wd z d) (BitVec.ofNat 32 (8 * (m.val / 2)))) 255#32) (Fin.ext a1)
  rw [ec, h.sc, h.bi, h.mo, h.g_apply]
  rfl

theorem Fits.bias_apply : tBias x2 x3 x4 x5 G (ix2 m l) = Spec.least (X.w (line t m) l) := by rw [tBias_apply, h.w_apply]

theorem Fits.scale_apply : tScale x2 x3 x4 x5 G (ix2 m l) = Spec.scale (X.w (line t m) l) := by rw [tScale_apply, h.w_apply]

theorem Fits.codes_apply : tCodes x2 x3 x4 x5 x8 G (ix2 (slot m l) d) = X.new (line t m) l d := by
  rw [tCodes_apply, h.w_apply]
  unfold Spec.Chunk.new
  congr 1
  unfold randAt Spec.Chunk.rand
  rw [h.rn]
  congr 3
  apply Fin.ext
  show 1024 * t.val + (128 * m.val + l.val) = 128 * (8 * t.val + m.val) + l.val
  omega

end

end Cert.KernelIdeal.Gen
end
-- ==== Proof.Value.Reference.lean ====
module

public import proofs.«01_k».proof.Proof.Gen.ReferenceIdeal.Run
public import proofs.«01_k».proof.Proof.Value.Chunk

/-! The stages of the reference, one at a time, read at one row of the table. -/

@[expose] public section

set_option maxRecDepth 16384

noncomputable section

namespace Cert.ReferenceIdeal.Value

open Cert.ReferenceIdeal Cert.ReferenceIdeal.Gen Idealize.ShloMosaic Idealize.ShloMosaic.TcCoe

section
variable (p0 p1 p2 p3 : Vec Ideal S16x64x8x128 .i32) (q0 q1 q2 q3 : Vec Ideal S2048x128 .i32) (u0 u1 u2 u3 : Vec Ideal S8192 .f32)
variable (lk : Vec Ideal S512x256 .i32) (gr : Vec Ideal S512x128 .f32) (rn : Vec Ideal S32768x128 .i32)

/-- The shifts of the four bytes of a word. -/
def shifts : IVec S4 32 := muli (broadcastInDim S4 ![] bcast_S_S4 (constantI S_ 32 8#32)) (iotaInDim S4 32 0)

/-- The counts, a byte each. -/
def packed : IVec S4x16x64x8x128 32 :=
  fn_main_v7 (F := Ideal) (broadcastInDim S1x16x64x8x128 ![1, 2, 3, 4] bcast_S16x64x8x128_S1x16x64x8x128_1_2_3_4 p0)
    (broadcastInDim S1x16x64x8x128 ![1, 2, 3, 4] bcast_S16x64x8x128_S1x16x64x8x128_1_2_3_4 p1)
    (broadcastInDim S1x16x64x8x128 ![1, 2, 3, 4] bcast_S16x64x8x128_S1x16x64x8x128_1_2_3_4 p2)
    (broadcastInDim S1x16x64x8x128 ![1, 2, 3, 4] bcast_S16x64x8x128_S1x16x64x8x128_1_2_3_4 p3)
def bytes : IVec S4x16x64x8x128x4 32 :=
  andi (Host.shrui (broadcastInDim S4x16x64x8x128x4 ![0, 1, 2, 3, 4, 5] bcast_S4x16x64x8x128x1_S4x16x64x8x128x4_0_1_2_3_4_5
      (broadcastInDim S4x16x64x8x128x1 ![0, 1, 2, 3, 4] bcast_S4x16x64x8x128_S4x16x64x8x128x1_0_1_2_3_4 (packed p0 p1 p2 p3)))
    (broadcastInDim S4x16x64x8x128x4 ![5] bcast_S4_S4x16x64x8x128x4_5 shifts))
    (broadcastInDim S4x16x64x8x128x4 ![] bcast_S_S4x16x64x8x128x4 (constantI S_ 32 255#32))
def counts : FVec Ideal S512x32768 .f32 :=
  sitofp .f32 (shapeCast S512x32768 (transpose S16x8x4x4x64x128 [1, 3, 5, 0, 2, 4] (bytes p0 p1 p2 p3)
    transposes_S4x16x64x8x128x4_S16x8x4x4x64x128_1_3_5_0_2_4) shapeCasts_S16x8x4x4x64x128_S512x32768)

/-- The gathered codes. -/
def codes : IVec S32768x128 32 :=
  shapeCast S32768x128 (andi (Host.shrui (broadcastInDim S4x8x4x256x128 ![0, 1, 2, 3, 4] bcast_S4x8x1x256x128_S4x8x4x256x128_0_1_2_3_4
      (shapeCast S4x8x1x256x128 (fn_main_v21 (F := Ideal) (broadcastInDim S1x2048x128 ![1, 2] bcast_S2048x128_S1x2048x128_1_2 q0)
        (broadcastInDim S1x2048x128 ![1, 2] bcast_S2048x128_S1x2048x128_1_2 q1)
        (broadcastInDim S1x2048x128 ![1, 2] bcast_S2048x128_S1x2048x128_1_2 q2)
        (broadcastInDim S1x2048x128 ![1, 2] bcast_S2048x128_S1x2048x128_1_2 q3)) shapeCasts_S4x2048x128_S4x8x1x256x128))
      (broadcastInDim S4x8x4x256x128 ![2, 3, 4] bcast_S4x1x1_S4x8x4x256x128_2_3_4 (broadcastInDim S4x1x1 ![0] bcast_S4_S4x1x1_0 shifts)))
    (broadcastInDim S4x8x4x256x128 ![] bcast_S_S4x8x4x256x128 (constantI S_ 32 255#32))) shapeCasts_S4x8x4x256x128_S32768x128

/-- A vector of the whole table, from its chunks. -/
def whole : FVec Ideal S32768 .f32 := fn_main_v30 (F := Ideal) u0 u1 u2 u3

/-- Whether all the lookups of a bag are one slot, and which. -/
def firsts : IVec S512x1 32 := extractStridedSlice S512x1 ![0, 0] lk slices_S512x256_S512x1_0_0
def all : IVec S512 1 :=
  Host.reduce IntOp.andi (cmpi .eq lk (broadcastInDim S512x256 ![0, 1] bcast_S512x1_S512x256_0_1 (firsts lk))) (constantI S_ 1 1#1)
    reducesTo_S512x256_S512_d1 h_S_
def again : FVec Ideal S512x32768 .f32 :=
  select (andi (broadcastInDim S512x32768 ![0, 1] bcast_S512x1_S512x32768_0_1 (broadcastInDim S512x1 ![0] bcast_S512_S512x1_0 (all lk)))
      (cmpi .eq (broadcastInDim S512x32768 ![0, 1] bcast_S512x1_S512x32768_0_1 (firsts lk)) (iotaInDim S512x32768 32 1)))
    (broadcastInDim S512x32768 ![] bcast_S_S512x32768 (constant (F := Ideal) S_ .f32 0x3F800000#32))
    (broadcastInDim S512x32768 ![] bcast_S_S512x32768 (constant (F := Ideal) S_ .f32 0x00000000#32))

/-- The gradients of the rows. -/
def grads (cn ag : FVec Ideal S512x32768 .f32) : FVec Ideal S32768x128 .f32 :=
  Host.dotGeneral (φ₂ := .f32) dot_S32768x512_S512x128_S32768x128_1_0_0_1_n_n none
    (transpose S32768x512 [1, 0] (addf cn ag) transposes_S512x32768_S32768x512_1_0) gr

/-- The new state. -/
def states (mo : FVec Ideal S32768 .f32) (G : FVec Ideal S32768x128 .f32) : FVec Ideal S32768 .f32 :=
  addf mo (Host.divf (Host.reduceAdd (mulf G G) (constant (F := Ideal) S_ .f32 0x00000000#32) reducesTo_S32768x128_S32768_d1 h_S_)
    (broadcastInDim S32768 ![] bcast_S_S32768 (constant (F := Ideal) S_ .f32 0x43000000#32)))

/-- The updated weights. -/
def weights (co : IVec S32768x128 32) (sc bi st : FVec Ideal S32768 .f32) (G : FVec Ideal S32768x128 .f32) : FVec Ideal S32768x128 .f32 :=
  subf (addf (mulf (sitofp .f32 co) (broadcastInDim S32768x128 ![0, 1] bcast_S32768x1_S32768x128_0_1 (broadcastInDim S32768x1 ![0] bcast_S32768_S32768x1_0 sc)))
      (broadcastInDim S32768x128 ![0, 1] bcast_S32768x1_S32768x128_0_1 (broadcastInDim S32768x1 ![0] bcast_S32768_S32768x1_0 bi)))
    (mulf (broadcastInDim S32768x128 ![0, 1] bcast_S32768x1_S32768x128_0_1 (broadcastInDim S32768x1 ![0] bcast_S32768_S32768x1_0
      (Host.divf (broadcastInDim S32768 ![] bcast_S_S32768 (constant (F := Ideal) S_ .f32 0x3CA3D70A#32))
        (addf (Host.sqrt st) (broadcastInDim S32768 ![] bcast_S_S32768 (constant (F := Ideal) S_ .f32 0x322BCC77#32)))))) G)

/-- The least and the greatest weight of each row, and their distance. -/
def leasts (w : FVec Ideal S32768x128 .f32) : FVec Ideal S32768 .f32 :=
  Host.reduce FloatOps.minimumf w (constant (F := Ideal) S_ .f32 0x7F800000#32) reducesTo_S32768x128_S32768_d1 h_S_
def mosts (w : FVec Ideal S32768x128 .f32) : FVec Ideal S32768 .f32 :=
  Host.reduce FloatOps.maximumf w (constant (F := Ideal) S_ .f32 0xFF800000#32) reducesTo_S32768x128_S32768_d1 h_S_
def ranges (w : FVec Ideal S32768x128 .f32) : FVec Ideal S32768 .f32 := subf (mosts w) (leasts w)

def scales (w : FVec Ideal S32768x128 .f32) : FVec Ideal S32768 .f32 :=
  Host.divf (ranges w) (broadcastInDim S32768 ![] bcast_S_S32768 (constant (F := Ideal) S_ .f32 0x437F0000#32))

def invs (w : FVec Ideal S32768x128 .f32) : FVec Ideal S32768 .f32 :=
  Host.divf (broadcastInDim S32768 ![] bcast_S_S32768 (constant (F := Ideal) S_ .f32 0x437F0000#32))
    (addf (ranges w) (broadcastInDim S32768 ![] bcast_S_S32768 (constant (F := Ideal) S_ .f32 0x322BCC77#32)))

/-- The weights less the least one, times the factor, plus the random number. -/
def moved (w : FVec Ideal S32768x128 .f32) : FVec Ideal S32768x128 .f32 :=
  addf (mulf (subf w (broadcastInDim S32768x128 ![0, 1] bcast_S32768x1_S32768x128_0_1 (broadcastInDim S32768x1 ![0] bcast_S32768_S32768x1_0 (leasts w))))
      (broadcastInDim S32768x128 ![0, 1] bcast_S32768x1_S32768x128_0_1 (broadcastInDim S32768x1 ![0] bcast_S32768_S32768x1_0 (invs w))))
    (mulf (uitofp .f32 (Host.shrui rn (broadcastInDim S32768x128 ![] bcast_S_S32768x128 (constantI S_ 32 8#32))))
      (broadcastInDim S32768x128 ![] bcast_S_S32768x128 (constant (F := Ideal) S_ .f32 0x33800000#32)))

/-- The new codes. -/
def rounded (w : FVec Ideal S32768x128 .f32) : IVec S32768x128 8 :=
  trunci 8 (fptosi 32 (minimumf (broadcastInDim S32768x128 ![] bcast_S_S32768x128 (id (constant (F := Ideal) S_ .f32 0x437F0000#32)))
    (maximumf (broadcastInDim S32768x128 ![] bcast_S_S32768x128 (id (constant (F := Ideal) S_ .f32 0x00000000#32))) (Host.floor (moved rn w))))) natLt_8_32

end

section
variable (m : (ℓ : Loc nD τ sig) → Buf (Elt Ideal) ℓ) (c : Dev nD)

/-- The gradients, the states and the weights of the whole table. -/
def gradT : FVec Ideal S32768x128 .f32 :=
  grads (m ((c : Thread nD τ).loc main_arg20)) (counts (m ((c : Thread nD τ).loc main_arg0)) (m ((c : Thread nD τ).loc main_arg5)) (m ((c : Thread nD τ).loc main_arg10)) (m ((c : Thread nD τ).loc main_arg15))) (again (m ((c : Thread nD τ).loc main_arg21)))
def stateT : FVec Ideal S32768 .f32 :=
  states (whole (m ((c : Thread nD τ).loc main_arg4)) (m ((c : Thread nD τ).loc main_arg9)) (m ((c : Thread nD τ).loc main_arg14)) (m ((c : Thread nD τ).loc main_arg19))) (gradT m c)
def weightT : FVec Ideal S32768x128 .f32 :=
  weights (codes (m ((c : Thread nD τ).loc main_arg1)) (m ((c : Thread nD τ).loc main_arg6)) (m ((c : Thread nD τ).loc main_arg11)) (m ((c : Thread nD τ).loc main_arg16)))
    (whole (m ((c : Thread nD τ).loc main_arg2)) (m ((c : Thread nD τ).loc main_arg7)) (m ((c : Thread nD τ).loc main_arg12)) (m ((c : Thread nD τ).loc main_arg17)))
    (whole (m ((c : Thread nD τ).loc main_arg3)) (m ((c : Thread nD τ).loc main_arg8)) (m ((c : Thread nD τ).loc main_arg13)) (m ((c : Thread nD τ).loc main_arg18)))
    (stateT m c) (gradT m c)

theorem out3_eq : res_main_v96 m c = shapeCast S256x128 (stateT m c) shapeCasts_S32768_S256x128 := rfl
theorem out2_eq : res_main_v95 m c = shapeCast S256x128 (leasts (weightT m c)) shapeCasts_S32768_S256x128 := rfl
theorem out1_eq : res_main_v94 m c = shapeCast S256x128 (scales (weightT m c)) shapeCasts_S32768_S256x128 := rfl
theorem out0_eq : res_main_v93 m c = rounded (m ((c : Thread nD τ).loc main_arg22)) (weightT m c) := rfl

end

end Cert.ReferenceIdeal.Value
end
-- ==== Proof.Value.Array.lean ====
module

public import proofs.«01_k».proof.Proof.Value.Chunk
public import Idealize.ShloMosaic.Lib.Pipeline.Value

/-! Shared by the four calls: arrays read at coordinates, and the number of a grid point's first row. -/

@[expose] public section

noncomputable section

namespace Cert.KernelIdeal.Gen

open Idealize.ShloMosaic Idealize.ShloMosaic.TcCoe

variable {α : Type}

theorem read2 {n0 n1 : ℕ} (f : (⟨2, ![n0, n1]⟩ : Shape).Idx → α) (x : (⟨2, ![n0, n1]⟩ : Shape).Idx) (a : Fin n0) (b : Fin n1)
    (h0 : (x 0).val = a.val) (h1 : (x 1).val = b.val) : f x = f (ix2 a b) := by
  congr 1; funext k; apply Fin.ext; fin_cases k
  · exact h0
  · exact h1

theorem read4 {n0 n1 n2 n3 : ℕ} (f : (⟨4, ![n0, n1, n2, n3]⟩ : Shape).Idx → α) (x : (⟨4, ![n0, n1, n2, n3]⟩ : Shape).Idx)
    (a : Fin n0) (b : Fin n1) (c : Fin n2) (d : Fin n3)
    (h0 : (x 0).val = a.val) (h1 : (x 1).val = b.val) (h2 : (x 2).val = c.val) (h3 : (x 3).val = d.val) : f x = f (ix4 a b c d) := by
  congr 1; funext k; apply Fin.ext; fin_cases k
  · exact h0
  · exact h1
  · exact h2
  · exact h3

theorem slotBase_eq (k : ℕ) (i : grid0.Coords) :
    slotBase (BitVec.ofNat 32 k) i = BitVec.ofNat 32 (1024 * k + 1024 * (i 0).val) := by
  show (0#32 + (BitVec.ofNat 32 k + BitVec.ofNat 32 (i 0).val)) * BitVec.ofNat 32 1024 = _
  rw [BitVec.zero_add, ← BitVec.ofNat_add, ← BitVec.ofNat_mul]
  congr 1; ring

/-- A row of a chunk is a slot of one of its lines. -/
theorem line_slot (q : Fin 8192) : ∃ (t m : Fin 8) (l : Fin 128), q.val = 1024 * t.val + (slot m l).val := by
  have hq := q.isLt
  refine ⟨⟨q.val / 1024, by omega⟩, ⟨q.val % 1024 / 128, by omega⟩, ⟨q.val % 128, by omega⟩, ?_⟩
  show q.val = 1024 * (q.val / 1024) + (128 * (q.val % 1024 / 128) + q.val % 128)
  omega

end Cert.KernelIdeal.Gen
end
-- ==== Proof.Value.Region0.lean ====
module

public import proofs.«01_k».proof.Proof.Chain
public import proofs.«01_k».proof.Proof.Value.Array

/-! Update call 0: its output arrays hold the chunk's rows, and what they held before everywhere else. -/

@[expose] public section

set_option maxRecDepth 16384

noncomputable section

namespace Cert.KernelIdeal.Gen

open Idealize.ShloMosaic Idealize.ShloMosaic.TcCoe
open Idealize.ShloMosaic.Pipeline (Dat Cfg Window)

theorem lt0 (t : Fin cfg0.N) : t.val < 8 := Nat.lt_of_lt_of_eq t.isLt N_0

theorem pos0 (t : Fin cfg0.N) : (grid0.coords t 0).val = t.val := by
  have ht := lt0 t
  have e0 : (grid0.coords t 0).val = t.val / 1 % 8 := Pipeline.Grid.coords_val t 0 (by decide) rfl
  omega

/-! The block of each window at point `t`. -/

theorem idx0_0 (t : Fin cfg0.N) : win0_0.index t = ![0, t.val, 0, 0] := by
  have ht := lt0 t
  show cc0_transform_0 (grid0.coords t) = _
  simp only [cc0_transform_0, pos0 t]
  simp [BitVec.toNat_ofNat, Nat.mod_eq_of_lt (show t.val < 4294967296 by omega)]

theorem idx0_1 (t : Fin cfg0.N) : win0_1.index t = ![t.val, 0] := by
  have ht := lt0 t
  show cc0_transform_1 (grid0.coords t) = _
  simp only [cc0_transform_1, pos0 t]
  simp [BitVec.toNat_ofNat, Nat.mod_eq_of_lt (show t.val < 4294967296 by omega)]

theorem idx0_2 (t : Fin cfg0.N) : win0_2.index t = ![t.val, 0] := idx0_1 t
theorem idx0_3 (t : Fin cfg0.N) : win0_3.index t = ![t.val, 0] := idx0_1 t
theorem idx0_4 (t : Fin cfg0.N) : win0_4.index t = ![t.val, 0] := idx0_1 t

theorem idx0_5 (t : Fin cfg0.N) : win0_5.index t = ![0, 0] := rfl
theorem idx0_6 (t : Fin cfg0.N) : win0_6.index t = ![0, 0] := rfl

theorem idx0_7 (t : Fin cfg0.N) : win0_7.index t = ![8 * 0 + t.val, 0] :=
  (by decide +kernel : ∀ t : Fin grid0.N, win0_7.index t = ![8 * 0 + t.val, 0]) t

theorem idx0_8 (t : Fin cfg0.N) : win0_8.index t = ![8 * 0 + t.val, 0] := idx0_7 t
theorem idx0_9 (t : Fin cfg0.N) : win0_9.index t = ![8 * 0 + t.val, 0] := idx0_7 t
theorem idx0_10 (t : Fin cfg0.N) : win0_10.index t = ![8 * 0 + t.val, 0] := idx0_7 t
theorem idx0_11 (t : Fin cfg0.N) : win0_11.index t = ![8 * 0 + t.val, 0] := idx0_7 t

section
variable (V : Dev nD → Valuation τ sig (Elt Ideal)) (c : Dev nD)

/-- What the call finds. -/
def chunk0 : Spec.Chunk where
  cnt p r q l := (V c (Proc.devRef .tc main_arg0) : Vec Ideal S16x64x8x128 .i32) (ix4 p r q l)
  wd q d := (V c (Proc.devRef .tc main_arg1) : Vec Ideal S2048x128 .i32) (ix2 q d)
  sc r l := (V c (Proc.devRef .tc main_v0) : Vec Ideal S64x128 .f32) (ix2 r l)
  bi r l := (V c (Proc.devRef .tc main_v1) : Vec Ideal S64x128 .f32) (ix2 r l)
  mo r l := (V c (Proc.devRef .tc main_v2) : Vec Ideal S64x128 .f32) (ix2 r l)
  gr p d := (V c (Proc.devRef .tc main_arg20) : Vec Ideal S512x128 .f32) (ix2 p d)
  lk p q := (V c (Proc.devRef .tc main_arg21) : Vec Ideal S512x256 .i32) (ix2 p q)
  rn q d := (V c (Proc.devRef .tc main_arg22) : Vec Ideal S32768x128 .i32) (ix2 ⟨8192 * 0 + q.val, by have := q.isLt; omega⟩ d)
  base := 8192 * 0

variable (hr : ∀ p d, (chunk0 V c).gr p d ≠ ⊥ ∧ (chunk0 V c).gr p d ≠ ⊤)
include hr

/-- The blocks of point `t` are the chunk's. -/
theorem fits0 (t : Fin cfg0.N) : Fits (chunk0 V c) ⟨t.val, lt0 t⟩ (slotBase 0#32 (grid0.coords t))
    (blk0 V c 0 t) (blk0 V c 1 t) (blk0 V c 2 t) (blk0 V c 3 t) (blk0 V c 4 t) (grad0 V c) (look0 V c) (blk0 V c 7 t) where
  base := by show 8192 * 0 ≤ 24576; omega
  first := by
    rw [slotBase_eq 0]
    have h := pos0 t
    show BitVec.ofNat 32 (1024 * 0 + 1024 * (grid0.coords t 0).val) = BitVec.ofNat 32 (8192 * 0 + 1024 * t.val)
    rw [h]
  cnt p m q l := read4 (V c (Proc.devRef .tc main_arg0) : Vec Ideal S16x64x8x128 .i32) ((win0_0.rect t).emb (ix4 p m q l)) _ _ _ _
    ((win0_0.rect_emb_val t (ix4 p m q l) 0).trans (by rw [idx0_0]; show 0 * 16 + p.val = p.val; omega))
    ((win0_0.rect_emb_val t (ix4 p m q l) 1).trans (by rw [idx0_0]; show t.val * 8 + m.val = 8 * t.val + m.val; omega))
    ((win0_0.rect_emb_val t (ix4 p m q l) 2).trans (by rw [idx0_0]; show 0 * 8 + q.val = q.val; omega))
    ((win0_0.rect_emb_val t (ix4 p m q l) 3).trans (by rw [idx0_0]; show 0 * 128 + l.val = l.val; omega))
  wd q d := read2 (V c (Proc.devRef .tc main_arg1) : Vec Ideal S2048x128 .i32) ((win0_1.rect t).emb (ix2 q d)) _ _
    ((win0_1.rect_emb_val t (ix2 q d) 0).trans (by rw [idx0_1]; show t.val * 256 + q.val = 256 * t.val + q.val; omega))
    ((win0_1.rect_emb_val t (ix2 q d) 1).trans (by rw [idx0_1]; show 0 * 128 + d.val = d.val; omega))
  sc m l := read2 (V c (Proc.devRef .tc main_v0) : Vec Ideal S64x128 .f32) ((win0_2.rect t).emb (ix2 m l)) _ _
    ((win0_2.rect_emb_val t (ix2 m l) 0).trans (by rw [idx0_2]; show t.val * 8 + m.val = 8 * t.val + m.val; omega))
    ((win0_2.rect_emb_val t (ix2 m l) 1).trans (by rw [idx0_2]; show 0 * 128 + l.val = l.val; omega))
  bi m l := read2 (V c (Proc.devRef .tc main_v1) : Vec Ideal S64x128 .f32) ((win0_3.rect t).emb (ix2 m l)) _ _
    ((win0_3.rect_emb_val t (ix2 m l) 0).trans (by rw [idx0_3]; show t.val * 8 + m.val = 8 * t.val + m.val; omega))
    ((win0_3.rect_emb_val t (ix2 m l) 1).trans (by rw [idx0_3]; show 0 * 128 + l.val = l.val; omega))
  mo m l := read2 (V c (Proc.devRef .tc main_v2) : Vec Ideal S64x128 .f32) ((win0_4.rect t).emb (ix2 m l)) _ _
    ((win0_4.rect_emb_val t (ix2 m l) 0).trans (by rw [idx0_4]; show t.val * 8 + m.val = 8 * t.val + m.val; omega))
    ((win0_4.rect_emb_val t (ix2 m l) 1).trans (by rw [idx0_4]; show 0 * 128 + l.val = l.val; omega))
  gr p d := read2 (V c (Proc.devRef .tc main_arg20) : Vec Ideal S512x128 .f32) ((win0_5.rect t0_0).emb (ix2 p d)) _ _
    ((win0_5.rect_emb_val t0_0 (ix2 p d) 0).trans (by rw [idx0_5]; show 0 * 512 + p.val = p.val; omega))
    ((win0_5.rect_emb_val t0_0 (ix2 p d) 1).trans (by rw [idx0_5]; show 0 * 128 + d.val = d.val; omega))
  lk p q := read2 (V c (Proc.devRef .tc main_arg21) : Vec Ideal S512x256 .i32) ((win0_6.rect t0_0).emb (ix2 p q)) _ _
    ((win0_6.rect_emb_val t0_0 (ix2 p q) 0).trans (by rw [idx0_6]; show 0 * 512 + p.val = p.val; omega))
    ((win0_6.rect_emb_val t0_0 (ix2 p q) 1).trans (by rw [idx0_6]; show 0 * 256 + q.val = q.val; omega))
  rn q d := read2 (V c (Proc.devRef .tc main_arg22) : Vec Ideal S32768x128 .i32) ((win0_7.rect t).emb (ix2 q d)) _ _
    ((win0_7.rect_emb_val t (ix2 q d) 0).trans (by rw [idx0_7]; show (8 * 0 + t.val) * 1024 + q.val = 8192 * 0 + (1024 * t.val + q.val); omega))
    ((win0_7.rect_emb_val t (ix2 q d) 1).trans (by rw [idx0_7]; show 0 * 128 + d.val = d.val; omega))
  real := hr

end

/-! What the call leaves in each output array. -/

/-- Two points write different rows. -/
theorem two0 (t t' : Fin cfg0.N) (h : (![8 * 0 + t.val, 0] : Fin 2 → ℕ) = ![8 * 0 + t'.val, 0]) : t = t' :=
  Fin.ext (by have e : 8 * 0 + t.val = 8 * 0 + t'.val := congrFun h 0; omega)

/-- The point of a line, and the line's place in it. -/
def at0 (r : Fin 64) : Fin cfg0.N := ⟨r.val / 8, by have := r.isLt; exact Nat.lt_of_lt_of_eq (show r.val / 8 < 8 by omega) N_0.symm⟩
def of0 (r : Fin 64) : Fin 8 := ⟨r.val % 8, by omega⟩

theorem line0 (r : Fin 64) : line ⟨(at0 r).val, lt0 (at0 r)⟩ (of0 r) = r :=
  Fin.ext (by show 8 * (r.val / 8) + r.val % 8 = r.val; omega)

section
variable (V : Dev nD → Valuation τ sig (Elt Ideal)) (c : Dev nD)

theorem out0_9 (hr : ∀ p d, (chunk0 V c).gr p d ≠ ⊥ ∧ (chunk0 V c).gr p d ≠ ⊤) (r : Fin 64) (l : Fin 128) (R : Fin 256) (hR : R.val = 64 * 0 + r.val) :
    ((dat0 V c).arrAt 9 cfg0.N : Vec Ideal S256x128 .f32) (ix2 R l) = Spec.scale ((chunk0 V c).w r l) := by
  have e := (dat0 V c).arrAt_emb_eq_flushed 9 (fun t t' _ _ hne => (cfg0.win 9).disjoint_blk fun h => hne (two0 t t' (by rw [← idx0_9, ← idx0_9]; exact h)))
    (at0 r) (flush0_9 _) (ix2 (of0 r) l)
  have e1 : ((dat0 V c).flushed 9 (at0 r) : Vec Ideal S8x128 .f32) (ix2 (of0 r) l) = ((dat0 V c).after 9 (at0 r) : Vec Ideal S8x128 .f32) (ix2 (of0 r) l) := rfl
  have e2 := (fits0 V c hr (at0 r)).scale_apply (of0 r) l
  rw [line0] at e2
  refine (read2 ((dat0 V c).arrAt 9 cfg0.N : Vec Ideal S256x128 .f32) ((win0_9.rect (at0 r)).emb (ix2 (of0 r) l)) R l ?_ ?_).symm.trans
    (e.trans ((e1.trans (by rw [after0_9]; rfl)).trans e2))
  · exact (win0_9.rect_emb_val (at0 r) (ix2 (of0 r) l) 0).trans (by rw [idx0_9, hR]; show (8 * 0 + r.val / 8) * 8 + r.val % 8 = 64 * 0 + r.val; omega)
  · exact (win0_9.rect_emb_val (at0 r) (ix2 (of0 r) l) 1).trans (by rw [idx0_9]; show 0 * 128 + l.val = l.val; omega)

theorem keep0_9 (R : Fin 256) (l : Fin 128) (h : R.val / 64 ≠ 0) :
    ((dat0 V c).arrAt 9 cfg0.N : Vec Ideal S256x128 .f32) (ix2 R l) = (V c (Proc.devRef .tc main_v3_1) : Vec Ideal S256x128 .f32) (ix2 R l) := by
  refine ((dat0 V c).arrAt_apply_of_forall_not_mem 9 cfg0.N (ix2 R l) fun t _ _ hm => ?_).trans (congrFun (A0_eq V c 9) _)
  obtain ⟨y, -, hy⟩ := Finset.mem_map.mp hm
  have e := win0_9.rect_emb_val t y 0
  have e0 : ((win0_9.rect t).emb y 0 : ℕ) = R.val := congrArg Fin.val (congrFun hy 0)
  rw [idx0_9, e0] at e
  change R.val = (8 * 0 + t.val) * 8 + (y 0).val at e
  have hy : (y 0).val < 8 := (y 0).isLt
  have ht := lt0 t
  omega

theorem out0_10 (hr : ∀ p d, (chunk0 V c).gr p d ≠ ⊥ ∧ (chunk0 V c).gr p d ≠ ⊤) (r : Fin 64) (l : Fin 128) (R : Fin 256) (hR : R.val = 64 * 0 + r.val) :
    ((dat0 V c).arrAt 10 cfg0.N : Vec Ideal S256x128 .f32) (ix2 R l) = Spec.least ((chunk0 V c).w r l) := by
  have e := (dat0 V c).arrAt_emb_eq_flushed 10 (fun t t' _ _ hne => (cfg0.win 10).disjoint_blk fun h => hne (two0 t t' (by rw [← idx0_10, ← idx0_10]; exact h)))
    (at0 r) (flush0_10 _) (ix2 (of0 r) l)
  have e1 : ((dat0 V c).flushed 10 (at0 r) : Vec Ideal S8x128 .f32) (ix2 (of0 r) l) = ((dat0 V c).after 10 (at0 r) : Vec Ideal S8x128 .f32) (ix2 (of0 r) l) := rfl
  have e2 := (fits0 V c hr (at0 r)).bias_apply (of0 r) l
  rw [line0] at e2
  refine (read2 ((dat0 V c).arrAt 10 cfg0.N : Vec Ideal S256x128 .f32) ((win0_10.rect (at0 r)).emb (ix2 (of0 r) l)) R l ?_ ?_).symm.trans
    (e.trans ((e1.trans (by rw [after0_10]; rfl)).trans e2))
  · exact (win0_10.rect_emb_val (at0 r) (ix2 (of0 r) l) 0).trans (by rw [idx0_10, hR]; show (8 * 0 + r.val / 8) * 8 + r.val % 8 = 64 * 0 + r.val; omega)
  · exact (win0_10.rect_emb_val (at0 r) (ix2 (of0 r) l) 1).trans (by rw [idx0_10]; show 0 * 128 + l.val = l.val; omega)

theorem keep0_10 (R : Fin 256) (l : Fin 128) (h : R.val / 64 ≠ 0) :
    ((dat0 V c).arrAt 10 cfg0.N : Vec Ideal S256x128 .f32) (ix2 R l) = (V c (Proc.devRef .tc main_v3_2) : Vec Ideal S256x128 .f32) (ix2 R l) := by
  refine ((dat0 V c).arrAt_apply_of_forall_not_mem 10 cfg0.N (ix2 R l) fun t _ _ hm => ?_).trans (congrFun (A0_eq V c 10) _)
  obtain ⟨y, -, hy⟩ := Finset.mem_map.mp hm
  have e := win0_10.rect_emb_val t y 0
  have e0 : ((win0_10.rect t).emb y 0 : ℕ) = R.val := congrArg Fin.val (congrFun hy 0)
  rw [idx0_10, e0] at e
  change R.val = (8 * 0 + t.val) * 8 + (y 0).val at e
  have hy : (y 0).val < 8 := (y 0).isLt
  have ht := lt0 t
  omega

theorem out0_11 (hr : ∀ p d, (chunk0 V c).gr p d ≠ ⊥ ∧ (chunk0 V c).gr p d ≠ ⊤) (r : Fin 64) (l : Fin 128) (R : Fin 256) (hR : R.val = 64 * 0 + r.val) :
    ((dat0 V c).arrAt 11 cfg0.N : Vec Ideal S256x128 .f32) (ix2 R l) = (chunk0 V c).st r l := by
  have e := (dat0 V c).arrAt_emb_eq_flushed 11 (fun t t' _ _ hne => (cfg0.win 11).disjoint_blk fun h => hne (two0 t t' (by rw [← idx0_11, ← idx0_11]; exact h)))
    (at0 r) (flush0_11 _) (ix2 (of0 r) l)
  have e1 : ((dat0 V c).flushed 11 (at0 r) : Vec Ideal S8x128 .f32) (ix2 (of0 r) l) = ((dat0 V c).after 11 (at0 r) : Vec Ideal S8x128 .f32) (ix2 (of0 r) l) := rfl
  have e2 := (fits0 V c hr (at0 r)).state_apply (of0 r) l
  rw [line0] at e2
  refine (read2 ((dat0 V c).arrAt 11 cfg0.N : Vec Ideal S256x128 .f32) ((win0_11.rect (at0 r)).emb (ix2 (of0 r) l)) R l ?_ ?_).symm.trans
    (e.trans ((e1.trans (by rw [after0_11]; rfl)).trans e2))
  · exact (win0_11.rect_emb_val (at0 r) (ix2 (of0 r) l) 0).trans (by rw [idx0_11, hR]; show (8 * 0 + r.val / 8) * 8 + r.val % 8 = 64 * 0 + r.val; omega)
  · exact (win0_11.rect_emb_val (at0 r) (ix2 (of0 r) l) 1).trans (by rw [idx0_11]; show 0 * 128 + l.val = l.val; omega)

theorem keep0_11 (R : Fin 256) (l : Fin 128) (h : R.val / 64 ≠ 0) :
    ((dat0 V c).arrAt 11 cfg0.N : Vec Ideal S256x128 .f32) (ix2 R l) = (V c (Proc.devRef .tc main_v3_3) : Vec Ideal S256x128 .f32) (ix2 R l) := by
  refine ((dat0 V c).arrAt_apply_of_forall_not_mem 11 cfg0.N (ix2 R l) fun t _ _ hm => ?_).trans (congrFun (A0_eq V c 11) _)
  obtain ⟨y, -, hy⟩ := Finset.mem_map.mp hm
  have e := win0_11.rect_emb_val t y 0
  have e0 : ((win0_11.rect t).emb y 0 : ℕ) = R.val := congrArg Fin.val (congrFun hy 0)
  rw [idx0_11, e0] at e
  change R.val = (8 * 0 + t.val) * 8 + (y 0).val at e
  have hy : (y 0).val < 8 := (y 0).isLt
  have ht := lt0 t
  omega

theorem out0_8 (hr : ∀ p d, (chunk0 V c).gr p d ≠ ⊥ ∧ (chunk0 V c).gr p d ≠ ⊤) (r : Fin 64) (l d : Fin 128) (R : Fin 32768) (hR : R.val = 8192 * 0 + (128 * r.val + l.val)) :
    ((dat0 V c).arrAt 8 cfg0.N : Vec Ideal S32768x128 .i8) (ix2 R d) = (chunk0 V c).new r l d := by
  have e := (dat0 V c).arrAt_emb_eq_flushed 8 (fun t t' _ _ hne => (cfg0.win 8).disjoint_blk fun h => hne (two0 t t' (by rw [← idx0_8, ← idx0_8]; exact h)))
    (at0 r) (flush0_8 _) (ix2 (slot (of0 r) l) d)
  have e1 : ((dat0 V c).flushed 8 (at0 r) : Vec Ideal S1024x128 .i8) (ix2 (slot (of0 r) l) d) = ((dat0 V c).after 8 (at0 r) : Vec Ideal S1024x128 .i8) (ix2 (slot (of0 r) l) d) := rfl
  have e2 := (fits0 V c hr (at0 r)).codes_apply (of0 r) l d
  rw [line0] at e2
  refine (read2 ((dat0 V c).arrAt 8 cfg0.N : Vec Ideal S32768x128 .i8) ((win0_8.rect (at0 r)).emb (ix2 (slot (of0 r) l) d)) R d ?_ ?_).symm.trans
    (e.trans ((e1.trans (by rw [after0_8]; rfl)).trans e2))
  · exact (win0_8.rect_emb_val (at0 r) (ix2 (slot (of0 r) l) d) 0).trans (by
      rw [idx0_8, hR]; show (8 * 0 + r.val / 8) * 1024 + (128 * (r.val % 8) + l.val) = 8192 * 0 + (128 * r.val + l.val); omega)
  · exact (win0_8.rect_emb_val (at0 r) (ix2 (slot (of0 r) l) d) 1).trans (by rw [idx0_8]; show 0 * 128 + d.val = d.val; omega)

theorem keep0_8 (R : Fin 32768) (d : Fin 128) (h : R.val / 8192 ≠ 0) :
    ((dat0 V c).arrAt 8 cfg0.N : Vec Ideal S32768x128 .i8) (ix2 R d) = (V c (Proc.devRef .tc main_v3_0) : Vec Ideal S32768x128 .i8) (ix2 R d) := by
  refine ((dat0 V c).arrAt_apply_of_forall_not_mem 8 cfg0.N (ix2 R d) fun t _ _ hm => ?_).trans (congrFun (A0_eq V c 8) _)
  obtain ⟨y, -, hy⟩ := Finset.mem_map.mp hm
  have e := win0_8.rect_emb_val t y 0
  have e0 : ((win0_8.rect t).emb y 0 : ℕ) = R.val := congrArg Fin.val (congrFun hy 0)
  rw [idx0_8, e0] at e
  change R.val = (8 * 0 + t.val) * 1024 + (y 0).val at e
  have hy : (y 0).val < 1024 := (y 0).isLt
  have ht := lt0 t
  omega

end

end Cert.KernelIdeal.Gen
end
-- ==== Proof.Value.Region1.lean ====
module

public import proofs.«01_k».proof.Proof.Chain
public import proofs.«01_k».proof.Proof.Value.Array

/-! Update call 1: its output arrays hold the chunk's rows, and what they held before everywhere else. -/

@[expose] public section

set_option maxRecDepth 16384

noncomputable section

namespace Cert.KernelIdeal.Gen

open Idealize.ShloMosaic Idealize.ShloMosaic.TcCoe
open Idealize.ShloMosaic.Pipeline (Dat Cfg Window)

theorem lt1 (t : Fin cfg1.N) : t.val < 8 := Nat.lt_of_lt_of_eq t.isLt N_1

theorem pos1 (t : Fin cfg1.N) : (grid1.coords t 0).val = t.val := by
  have ht := lt1 t
  have e0 : (grid1.coords t 0).val = t.val / 1 % 8 := Pipeline.Grid.coords_val t 0 (by decide) rfl
  omega

/-! The block of each window at point `t`. -/

theorem idx1_0 (t : Fin cfg1.N) : win1_0.index t = ![0, t.val, 0, 0] := by
  have ht := lt1 t
  show cc1_transform_0 (grid1.coords t) = _
  simp only [cc1_transform_0, pos1 t]
  simp [BitVec.toNat_ofNat, Nat.mod_eq_of_lt (show t.val < 4294967296 by omega)]

theorem idx1_1 (t : Fin cfg1.N) : win1_1.index t = ![t.val, 0] := by
  have ht := lt1 t
  show cc1_transform_1 (grid1.coords t) = _
  simp only [cc1_transform_1, pos1 t]
  simp [BitVec.toNat_ofNat, Nat.mod_eq_of_lt (show t.val < 4294967296 by omega)]

theorem idx1_2 (t : Fin cfg1.N) : win1_2.index t = ![t.val, 0] := idx1_1 t
theorem idx1_3 (t : Fin cfg1.N) : win1_3.index t = ![t.val, 0] := idx1_1 t
theorem idx1_4 (t : Fin cfg1.N) : win1_4.index t = ![t.val, 0] := idx1_1 t

theorem idx1_5 (t : Fin cfg1.N) : win1_5.index t = ![0, 0] := rfl
theorem idx1_6 (t : Fin cfg1.N) : win1_6.index t = ![0, 0] := rfl

theorem idx1_7 (t : Fin cfg1.N) : win1_7.index t = ![8 * 1 + t.val, 0] :=
  (by decide +kernel : ∀ t : Fin grid1.N, win1_7.index t = ![8 * 1 + t.val, 0]) t

theorem idx1_8 (t : Fin cfg1.N) : win1_8.index t = ![8 * 1 + t.val, 0] := idx1_7 t
theorem idx1_9 (t : Fin cfg1.N) : win1_9.index t = ![8 * 1 + t.val, 0] := idx1_7 t
theorem idx1_10 (t : Fin cfg1.N) : win1_10.index t = ![8 * 1 + t.val, 0] := idx1_7 t
theorem idx1_11 (t : Fin cfg1.N) : win1_11.index t = ![8 * 1 + t.val, 0] := idx1_7 t

section
variable (V : Dev nD → Valuation τ sig (Elt Ideal)) (c : Dev nD)

/-- What the call finds. -/
def chunk1 : Spec.Chunk where
  cnt p r q l := (V c (Proc.devRef .tc main_arg5) : Vec Ideal S16x64x8x128 .i32) (ix4 p r q l)
  wd q d := (V c (Proc.devRef .tc main_arg6) : Vec Ideal S2048x128 .i32) (ix2 q d)
  sc r l := (V c (Proc.devRef .tc main_v4) : Vec Ideal S64x128 .f32) (ix2 r l)
  bi r l := (V c (Proc.devRef .tc main_v5) : Vec Ideal S64x128 .f32) (ix2 r l)
  mo r l := (V c (Proc.devRef .tc main_v6) : Vec Ideal S64x128 .f32) (ix2 r l)
  gr p d := (V c (Proc.devRef .tc main_arg20) : Vec Ideal S512x128 .f32) (ix2 p d)
  lk p q := (V c (Proc.devRef .tc main_arg21) : Vec Ideal S512x256 .i32) (ix2 p q)
  rn q d := (V c (Proc.devRef .tc main_arg22) : Vec Ideal S32768x128 .i32) (ix2 ⟨8192 * 1 + q.val, by have := q.isLt; omega⟩ d)
  base := 8192 * 1

variable (hr : ∀ p d, (chunk1 V c).gr p d ≠ ⊥ ∧ (chunk1 V c).gr p d ≠ ⊤)
include hr

/-- The blocks of point `t` are the chunk's. -/
theorem fits1 (t : Fin cfg1.N) : Fits (chunk1 V c) ⟨t.val, lt1 t⟩ (slotBase 8#32 (grid1.coords t))
    (blk1 V c 0 t) (blk1 V c 1 t) (blk1 V c 2 t) (blk1 V c 3 t) (blk1 V c 4 t) (grad1 V c) (look1 V c) (blk1 V c 7 t) where
  base := by show 8192 * 1 ≤ 24576; omega
  first := by
    rw [slotBase_eq 8]
    have h := pos1 t
    show BitVec.ofNat 32 (1024 * 8 + 1024 * (grid1.coords t 0).val) = BitVec.ofNat 32 (8192 * 1 + 1024 * t.val)
    rw [h]
  cnt p m q l := read4 (V c (Proc.devRef .tc main_arg5) : Vec Ideal S16x64x8x128 .i32) ((win1_0.rect t).emb (ix4 p m q l)) _ _ _ _
    ((win1_0.rect_emb_val t (ix4 p m q l) 0).trans (by rw [idx1_0]; show 0 * 16 + p.val = p.val; omega))
    ((win1_0.rect_emb_val t (ix4 p m q l) 1).trans (by rw [idx1_0]; show t.val * 8 + m.val = 8 * t.val + m.val; omega))
    ((win1_0.rect_emb_val t (ix4 p m q l) 2).trans (by rw [idx1_0]; show 0 * 8 + q.val = q.val; omega))
    ((win1_0.rect_emb_val t (ix4 p m q l) 3).trans (by rw [idx1_0]; show 0 * 128 + l.val = l.val; omega))
  wd q d := read2 (V c (Proc.devRef .tc main_arg6) : Vec Ideal S2048x128 .i32) ((win1_1.rect t).emb (ix2 q d)) _ _
    ((win1_1.rect_emb_val t (ix2 q d) 0).trans (by rw [idx1_1]; show t.val * 256 + q.val = 256 * t.val + q.val; omega))
    ((win1_1.rect_emb_val t (ix2 q d) 1).trans (by rw [idx1_1]; show 0 * 128 + d.val = d.val; omega))
  sc m l := read2 (V c (Proc.devRef .tc main_v4) : Vec Ideal S64x128 .f32) ((win1_2.rect t).emb (ix2 m l)) _ _
    ((win1_2.rect_emb_val t (ix2 m l) 0).trans (by rw [idx1_2]; show t.val * 8 + m.val = 8 * t.val + m.val; omega))
    ((win1_2.rect_emb_val t (ix2 m l) 1).trans (by rw [idx1_2]; show 0 * 128 + l.val = l.val; omega))
  bi m l := read2 (V c (Proc.devRef .tc main_v5) : Vec Ideal S64x128 .f32) ((win1_3.rect t).emb (ix2 m l)) _ _
    ((win1_3.rect_emb_val t (ix2 m l) 0).trans (by rw [idx1_3]; show t.val * 8 + m.val = 8 * t.val + m.val; omega))
    ((win1_3.rect_emb_val t (ix2 m l) 1).trans (by rw [idx1_3]; show 0 * 128 + l.val = l.val; omega))
  mo m l := read2 (V c (Proc.devRef .tc main_v6) : Vec Ideal S64x128 .f32) ((win1_4.rect t).emb (ix2 m l)) _ _
    ((win1_4.rect_emb_val t (ix2 m l) 0).trans (by rw [idx1_4]; show t.val * 8 + m.val = 8 * t.val + m.val; omega))
    ((win1_4.rect_emb_val t (ix2 m l) 1).trans (by rw [idx1_4]; show 0 * 128 + l.val = l.val; omega))
  gr p d := read2 (V c (Proc.devRef .tc main_arg20) : Vec Ideal S512x128 .f32) ((win1_5.rect t1_0).emb (ix2 p d)) _ _
    ((win1_5.rect_emb_val t1_0 (ix2 p d) 0).trans (by rw [idx1_5]; show 0 * 512 + p.val = p.val; omega))
    ((win1_5.rect_emb_val t1_0 (ix2 p d) 1).trans (by rw [idx1_5]; show 0 * 128 + d.val = d.val; omega))
  lk p q := read2 (V c (Proc.devRef .tc main_arg21) : Vec Ideal S512x256 .i32) ((win1_6.rect t1_0).emb (ix2 p q)) _ _
    ((win1_6.rect_emb_val t1_0 (ix2 p q) 0).trans (by rw [idx1_6]; show 0 * 512 + p.val = p.val; omega))
    ((win1_6.rect_emb_val t1_0 (ix2 p q) 1).trans (by rw [idx1_6]; show 0 * 256 + q.val = q.val; omega))
  rn q d := read2 (V c (Proc.devRef .tc main_arg22) : Vec Ideal S32768x128 .i32) ((win1_7.rect t).emb (ix2 q d)) _ _
    ((win1_7.rect_emb_val t (ix2 q d) 0).trans (by rw [idx1_7]; show (8 * 1 + t.val) * 1024 + q.val = 8192 * 1 + (1024 * t.val + q.val); omega))
    ((win1_7.rect_emb_val t (ix2 q d) 1).trans (by rw [idx1_7]; show 0 * 128 + d.val = d.val; omega))
  real := hr

end

/-! What the call leaves in each output array. -/

/-- Two points write different rows. -/
theorem two1 (t t' : Fin cfg1.N) (h : (![8 * 1 + t.val, 0] : Fin 2 → ℕ) = ![8 * 1 + t'.val, 0]) : t = t' :=
  Fin.ext (by have e : 8 * 1 + t.val = 8 * 1 + t'.val := congrFun h 0; omega)

/-- The point of a line, and the line's place in it. -/
def at1 (r : Fin 64) : Fin cfg1.N := ⟨r.val / 8, by have := r.isLt; exact Nat.lt_of_lt_of_eq (show r.val / 8 < 8 by omega) N_1.symm⟩
def of1 (r : Fin 64) : Fin 8 := ⟨r.val % 8, by omega⟩

theorem line1 (r : Fin 64) : line ⟨(at1 r).val, lt1 (at1 r)⟩ (of1 r) = r :=
  Fin.ext (by show 8 * (r.val / 8) + r.val % 8 = r.val; omega)

section
variable (V : Dev nD → Valuation τ sig (Elt Ideal)) (c : Dev nD)

theorem out1_9 (hr : ∀ p d, (chunk1 V c).gr p d ≠ ⊥ ∧ (chunk1 V c).gr p d ≠ ⊤) (r : Fin 64) (l : Fin 128) (R : Fin 256) (hR : R.val = 64 * 1 + r.val) :
    ((dat1 V c).arrAt 9 cfg1.N : Vec Ideal S256x128 .f32) (ix2 R l) = Spec.scale ((chunk1 V c).w r l) := by
  have e := (dat1 V c).arrAt_emb_eq_flushed 9 (fun t t' _ _ hne => (cfg1.win 9).disjoint_blk fun h => hne (two1 t t' (by rw [← idx1_9, ← idx1_9]; exact h)))
    (at1 r) (flush1_9 _) (ix2 (of1 r) l)
  have e1 : ((dat1 V c).flushed 9 (at1 r) : Vec Ideal S8x128 .f32) (ix2 (of1 r) l) = ((dat1 V c).after 9 (at1 r) : Vec Ideal S8x128 .f32) (ix2 (of1 r) l) := rfl
  have e2 := (fits1 V c hr (at1 r)).scale_apply (of1 r) l
  rw [line1] at e2
  refine (read2 ((dat1 V c).arrAt 9 cfg1.N : Vec Ideal S256x128 .f32) ((win1_9.rect (at1 r)).emb (ix2 (of1 r) l)) R l ?_ ?_).symm.trans
    (e.trans ((e1.trans (by rw [after1_9]; rfl)).trans e2))
  · exact (win1_9.rect_emb_val (at1 r) (ix2 (of1 r) l) 0).trans (by rw [idx1_9, hR]; show (8 * 1 + r.val / 8) * 8 + r.val % 8 = 64 * 1 + r.val; omega)
  · exact (win1_9.rect_emb_val (at1 r) (ix2 (of1 r) l) 1).trans (by rw [idx1_9]; show 0 * 128 + l.val = l.val; omega)

theorem keep1_9 (R : Fin 256) (l : Fin 128) (h : R.val / 64 ≠ 1) :
    ((dat1 V c).arrAt 9 cfg1.N : Vec Ideal S256x128 .f32) (ix2 R l) = (V c (Proc.devRef .tc main_v7_1) : Vec Ideal S256x128 .f32) (ix2 R l) := by
  refine ((dat1 V c).arrAt_apply_of_forall_not_mem 9 cfg1.N (ix2 R l) fun t _ _ hm => ?_).trans (congrFun (A1_eq V c 9) _)
  obtain ⟨y, -, hy⟩ := Finset.mem_map.mp hm
  have e := win1_9.rect_emb_val t y 0
  have e0 : ((win1_9.rect t).emb y 0 : ℕ) = R.val := congrArg Fin.val (congrFun hy 0)
  rw [idx1_9, e0] at e
  change R.val = (8 * 1 + t.val) * 8 + (y 0).val at e
  have hy : (y 0).val < 8 := (y 0).isLt
  have ht := lt1 t
  omega

theorem out1_10 (hr : ∀ p d, (chunk1 V c).gr p d ≠ ⊥ ∧ (chunk1 V c).gr p d ≠ ⊤) (r : Fin 64) (l : Fin 128) (R : Fin 256) (hR : R.val = 64 * 1 + r.val) :
    ((dat1 V c).arrAt 10 cfg1.N : Vec Ideal S256x128 .f32) (ix2 R l) = Spec.least ((chunk1 V c).w r l) := by
  have e := (dat1 V c).arrAt_emb_eq_flushed 10 (fun t t' _ _ hne => (cfg1.win 10).disjoint_blk fun h => hne (two1 t t' (by rw [← idx1_10, ← idx1_10]; exact h)))
    (at1 r) (flush1_10 _) (ix2 (of1 r) l)
  have e1 : ((dat1 V c).flushed 10 (at1 r) : Vec Ideal S8x128 .f32) (ix2 (of1 r) l) = ((dat1 V c).after 10 (at1 r) : Vec Ideal S8x128 .f32) (ix2 (of1 r) l) := rfl
  have e2 := (fits1 V c hr (at1 r)).bias_apply (of1 r) l
  rw [line1] at e2
  refine (read2 ((dat1 V c).arrAt 10 cfg1.N : Vec Ideal S256x128 .f32) ((win1_10.rect (at1 r)).emb (ix2 (of1 r) l)) R l ?_ ?_).symm.trans
    (e.trans ((e1.trans (by rw [after1_10]; rfl)).trans e2))
  · exact (win1_10.rect_emb_val (at1 r) (ix2 (of1 r) l) 0).trans (by rw [idx1_10, hR]; show (8 * 1 + r.val / 8) * 8 + r.val % 8 = 64 * 1 + r.val; omega)
  · exact (win1_10.rect_emb_val (at1 r) (ix2 (of1 r) l) 1).trans (by rw [idx1_10]; show 0 * 128 + l.val = l.val; omega)

theorem keep1_10 (R : Fin 256) (l : Fin 128) (h : R.val / 64 ≠ 1) :
    ((dat1 V c).arrAt 10 cfg1.N : Vec Ideal S256x128 .f32) (ix2 R l) = (V c (Proc.devRef .tc main_v7_2) : Vec Ideal S256x128 .f32) (ix2 R l) := by
  refine ((dat1 V c).arrAt_apply_of_forall_not_mem 10 cfg1.N (ix2 R l) fun t _ _ hm => ?_).trans (congrFun (A1_eq V c 10) _)
  obtain ⟨y, -, hy⟩ := Finset.mem_map.mp hm
  have e := win1_10.rect_emb_val t y 0
  have e0 : ((win1_10.rect t).emb y 0 : ℕ) = R.val := congrArg Fin.val (congrFun hy 0)
  rw [idx1_10, e0] at e
  change R.val = (8 * 1 + t.val) * 8 + (y 0).val at e
  have hy : (y 0).val < 8 := (y 0).isLt
  have ht := lt1 t
  omega

theorem out1_11 (hr : ∀ p d, (chunk1 V c).gr p d ≠ ⊥ ∧ (chunk1 V c).gr p d ≠ ⊤) (r : Fin 64) (l : Fin 128) (R : Fin 256) (hR : R.val = 64 * 1 + r.val) :
    ((dat1 V c).arrAt 11 cfg1.N : Vec Ideal S256x128 .f32) (ix2 R l) = (chunk1 V c).st r l := by
  have e := (dat1 V c).arrAt_emb_eq_flushed 11 (fun t t' _ _ hne => (cfg1.win 11).disjoint_blk fun h => hne (two1 t t' (by rw [← idx1_11, ← idx1_11]; exact h)))
    (at1 r) (flush1_11 _) (ix2 (of1 r) l)
  have e1 : ((dat1 V c).flushed 11 (at1 r) : Vec Ideal S8x128 .f32) (ix2 (of1 r) l) = ((dat1 V c).after 11 (at1 r) : Vec Ideal S8x128 .f32) (ix2 (of1 r) l) := rfl
  have e2 := (fits1 V c hr (at1 r)).state_apply (of1 r) l
  rw [line1] at e2
  refine (read2 ((dat1 V c).arrAt 11 cfg1.N : Vec Ideal S256x128 .f32) ((win1_11.rect (at1 r)).emb (ix2 (of1 r) l)) R l ?_ ?_).symm.trans
    (e.trans ((e1.trans (by rw [after1_11]; rfl)).trans e2))
  · exact (win1_11.rect_emb_val (at1 r) (ix2 (of1 r) l) 0).trans (by rw [idx1_11, hR]; show (8 * 1 + r.val / 8) * 8 + r.val % 8 = 64 * 1 + r.val; omega)
  · exact (win1_11.rect_emb_val (at1 r) (ix2 (of1 r) l) 1).trans (by rw [idx1_11]; show 0 * 128 + l.val = l.val; omega)

theorem keep1_11 (R : Fin 256) (l : Fin 128) (h : R.val / 64 ≠ 1) :
    ((dat1 V c).arrAt 11 cfg1.N : Vec Ideal S256x128 .f32) (ix2 R l) = (V c (Proc.devRef .tc main_v7_3) : Vec Ideal S256x128 .f32) (ix2 R l) := by
  refine ((dat1 V c).arrAt_apply_of_forall_not_mem 11 cfg1.N (ix2 R l) fun t _ _ hm => ?_).trans (congrFun (A1_eq V c 11) _)
  obtain ⟨y, -, hy⟩ := Finset.mem_map.mp hm
  have e := win1_11.rect_emb_val t y 0
  have e0 : ((win1_11.rect t).emb y 0 : ℕ) = R.val := congrArg Fin.val (congrFun hy 0)
  rw [idx1_11, e0] at e
  change R.val = (8 * 1 + t.val) * 8 + (y 0).val at e
  have hy : (y 0).val < 8 := (y 0).isLt
  have ht := lt1 t
  omega

theorem out1_8 (hr : ∀ p d, (chunk1 V c).gr p d ≠ ⊥ ∧ (chunk1 V c).gr p d ≠ ⊤) (r : Fin 64) (l d : Fin 128) (R : Fin 32768) (hR : R.val = 8192 * 1 + (128 * r.val + l.val)) :
    ((dat1 V c).arrAt 8 cfg1.N : Vec Ideal S32768x128 .i8) (ix2 R d) = (chunk1 V c).new r l d := by
  have e := (dat1 V c).arrAt_emb_eq_flushed 8 (fun t t' _ _ hne => (cfg1.win 8).disjoint_blk fun h => hne (two1 t t' (by rw [← idx1_8, ← idx1_8]; exact h)))
    (at1 r) (flush1_8 _) (ix2 (slot (of1 r) l) d)
  have e1 : ((dat1 V c).flushed 8 (at1 r) : Vec Ideal S1024x128 .i8) (ix2 (slot (of1 r) l) d) = ((dat1 V c).after 8 (at1 r) : Vec Ideal S1024x128 .i8) (ix2 (slot (of1 r) l) d) := rfl
  have e2 := (fits1 V c hr (at1 r)).codes_apply (of1 r) l d
  rw [line1] at e2
  refine (read2 ((dat1 V c).arrAt 8 cfg1.N : Vec Ideal S32768x128 .i8) ((win1_8.rect (at1 r)).emb (ix2 (slot (of1 r) l) d)) R d ?_ ?_).symm.trans
    (e.trans ((e1.trans (by rw [after1_8]; rfl)).trans e2))
  · exact (win1_8.rect_emb_val (at1 r) (ix2 (slot (of1 r) l) d) 0).trans (by
      rw [idx1_8, hR]; show (8 * 1 + r.val / 8) * 1024 + (128 * (r.val % 8) + l.val) = 8192 * 1 + (128 * r.val + l.val); omega)
  · exact (win1_8.rect_emb_val (at1 r) (ix2 (slot (of1 r) l) d) 1).trans (by rw [idx1_8]; show 0 * 128 + d.val = d.val; omega)

theorem keep1_8 (R : Fin 32768) (d : Fin 128) (h : R.val / 8192 ≠ 1) :
    ((dat1 V c).arrAt 8 cfg1.N : Vec Ideal S32768x128 .i8) (ix2 R d) = (V c (Proc.devRef .tc main_v7_0) : Vec Ideal S32768x128 .i8) (ix2 R d) := by
  refine ((dat1 V c).arrAt_apply_of_forall_not_mem 8 cfg1.N (ix2 R d) fun t _ _ hm => ?_).trans (congrFun (A1_eq V c 8) _)
  obtain ⟨y, -, hy⟩ := Finset.mem_map.mp hm
  have e := win1_8.rect_emb_val t y 0
  have e0 : ((win1_8.rect t).emb y 0 : ℕ) = R.val := congrArg Fin.val (congrFun hy 0)
  rw [idx1_8, e0] at e
  change R.val = (8 * 1 + t.val) * 1024 + (y 0).val at e
  have hy : (y 0).val < 1024 := (y 0).isLt
  have ht := lt1 t
  omega

end

end Cert.KernelIdeal.Gen
end
-- ==== Proof.Value.Region2.lean ====
module

public import proofs.«01_k».proof.Proof.Chain
public import proofs.«01_k».proof.Proof.Value.Array

/-! Update call 2: its output arrays hold the chunk's rows, and what they held before everywhere else. -/

@[expose] public section

set_option maxRecDepth 16384

noncomputable section

namespace Cert.KernelIdeal.Gen

open Idealize.ShloMosaic Idealize.ShloMosaic.TcCoe
open Idealize.ShloMosaic.Pipeline (Dat Cfg Window)

theorem lt2 (t : Fin cfg2.N) : t.val < 8 := Nat.lt_of_lt_of_eq t.isLt N_2

theorem pos2 (t : Fin cfg2.N) : (grid2.coords t 0).val = t.val := by
  have ht := lt2 t
  have e0 : (grid2.coords t 0).val = t.val / 1 % 8 := Pipeline.Grid.coords_val t 0 (by decide) rfl
  omega

/-! The block of each window at point `t`. -/

theorem idx2_0 (t : Fin cfg2.N) : win2_0.index t = ![0, t.val, 0, 0] := by
  have ht := lt2 t
  show cc2_transform_0 (grid2.coords t) = _
  simp only [cc2_transform_0, pos2 t]
  simp [BitVec.toNat_ofNat, Nat.mod_eq_of_lt (show t.val < 4294967296 by omega)]

theorem idx2_1 (t : Fin cfg2.N) : win2_1.index t = ![t.val, 0] := by
  have ht := lt2 t
  show cc2_transform_1 (grid2.coords t) = _
  simp only [cc2_transform_1, pos2 t]
  simp [BitVec.toNat_ofNat, Nat.mod_eq_of_lt (show t.val < 4294967296 by omega)]

theorem idx2_2 (t : Fin cfg2.N) : win2_2.index t = ![t.val, 0] := idx2_1 t
theorem idx2_3 (t : Fin cfg2.N) : win2_3.index t = ![t.val, 0] := idx2_1 t
theorem idx2_4 (t : Fin cfg2.N) : win2_4.index t = ![t.val, 0] := idx2_1 t

theorem idx2_5 (t : Fin cfg2.N) : win2_5.index t = ![0, 0] := rfl
theorem idx2_6 (t : Fin cfg2.N) : win2_6.index t = ![0, 0] := rfl

theorem idx2_7 (t : Fin cfg2.N) : win2_7.index t = ![8 * 2 + t.val, 0] :=
  (by decide +kernel : ∀ t : Fin grid2.N, win2_7.index t = ![8 * 2 + t.val, 0]) t

theorem idx2_8 (t : Fin cfg2.N) : win2_8.index t = ![8 * 2 + t.val, 0] := idx2_7 t
theorem idx2_9 (t : Fin cfg2.N) : win2_9.index t = ![8 * 2 + t.val, 0] := idx2_7 t
theorem idx2_10 (t : Fin cfg2.N) : win2_10.index t = ![8 * 2 + t.val, 0] := idx2_7 t
theorem idx2_11 (t : Fin cfg2.N) : win2_11.index t = ![8 * 2 + t.val, 0] := idx2_7 t

section
variable (V : Dev nD → Valuation τ sig (Elt Ideal)) (c : Dev nD)

/-- What the call finds. -/
def chunk2 : Spec.Chunk where
  cnt p r q l := (V c (Proc.devRef .tc main_arg10) : Vec Ideal S16x64x8x128 .i32) (ix4 p r q l)
  wd q d := (V c (Proc.devRef .tc main_arg11) : Vec Ideal S2048x128 .i32) (ix2 q d)
  sc r l := (V c (Proc.devRef .tc main_v8) : Vec Ideal S64x128 .f32) (ix2 r l)
  bi r l := (V c (Proc.devRef .tc main_v9) : Vec Ideal S64x128 .f32) (ix2 r l)
  mo r l := (V c (Proc.devRef .tc main_v10) : Vec Ideal S64x128 .f32) (ix2 r l)
  gr p d := (V c (Proc.devRef .tc main_arg20) : Vec Ideal S512x128 .f32) (ix2 p d)
  lk p q := (V c (Proc.devRef .tc main_arg21) : Vec Ideal S512x256 .i32) (ix2 p q)
  rn q d := (V c (Proc.devRef .tc main_arg22) : Vec Ideal S32768x128 .i32) (ix2 ⟨8192 * 2 + q.val, by have := q.isLt; omega⟩ d)
  base := 8192 * 2

variable (hr : ∀ p d, (chunk2 V c).gr p d ≠ ⊥ ∧ (chunk2 V c).gr p d ≠ ⊤)
include hr

/-- The blocks of point `t` are the chunk's. -/
theorem fits2 (t : Fin cfg2.N) : Fits (chunk2 V c) ⟨t.val, lt2 t⟩ (slotBase 16#32 (grid2.coords t))
    (blk2 V c 0 t) (blk2 V c 1 t) (blk2 V c 2 t) (blk2 V c 3 t) (blk2 V c 4 t) (grad2 V c) (look2 V c) (blk2 V c 7 t) where
  base := by show 8192 * 2 ≤ 24576; omega
  first := by
    rw [slotBase_eq 16]
    have h := pos2 t
    show BitVec.ofNat 32 (1024 * 16 + 1024 * (grid2.coords t 0).val) = BitVec.ofNat 32 (8192 * 2 + 1024 * t.val)
    rw [h]
  cnt p m q l := read4 (V c (Proc.devRef .tc main_arg10) : Vec Ideal S16x64x8x128 .i32) ((win2_0.rect t).emb (ix4 p m q l)) _ _ _ _
    ((win2_0.rect_emb_val t (ix4 p m q l) 0).trans (by rw [idx2_0]; show 0 * 16 + p.val = p.val; omega))
    ((win2_0.rect_emb_val t (ix4 p m q l) 1).trans (by rw [idx2_0]; show t.val * 8 + m.val = 8 * t.val + m.val; omega))
    ((win2_0.rect_emb_val t (ix4 p m q l) 2).trans (by rw [idx2_0]; show 0 * 8 + q.val = q.val; omega))
    ((win2_0.rect_emb_val t (ix4 p m q l) 3).trans (by rw [idx2_0]; show 0 * 128 + l.val = l.val; omega))
  wd q d := read2 (V c (Proc.devRef .tc main_arg11) : Vec Ideal S2048x128 .i32) ((win2_1.rect t).emb (ix2 q d)) _ _
    ((win2_1.rect_emb_val t (ix2 q d) 0).trans (by rw [idx2_1]; show t.val * 256 + q.val = 256 * t.val + q.val; omega))
    ((win2_1.rect_emb_val t (ix2 q d) 1).trans (by rw [idx2_1]; show 0 * 128 + d.val = d.val; omega))
  sc m l := read2 (V c (Proc.devRef .tc main_v8) : Vec Ideal S64x128 .f32) ((win2_2.rect t).emb (ix2 m l)) _ _
    ((win2_2.rect_emb_val t (ix2 m l) 0).trans (by rw [idx2_2]; show t.val * 8 + m.val = 8 * t.val + m.val; omega))
    ((win2_2.rect_emb_val t (ix2 m l) 1).trans (by rw [idx2_2]; show 0 * 128 + l.val = l.val; omega))
  bi m l := read2 (V c (Proc.devRef .tc main_v9) : Vec Ideal S64x128 .f32) ((win2_3.rect t).emb (ix2 m l)) _ _
    ((win2_3.rect_emb_val t (ix2 m l) 0).trans (by rw [idx2_3]; show t.val * 8 + m.val = 8 * t.val + m.val; omega))
    ((win2_3.rect_emb_val t (ix2 m l) 1).trans (by rw [idx2_3]; show 0 * 128 + l.val = l.val; omega))
  mo m l := read2 (V c (Proc.devRef .tc main_v10) : Vec Ideal S64x128 .f32) ((win2_4.rect t).emb (ix2 m l)) _ _
    ((win2_4.rect_emb_val t (ix2 m l) 0).trans (by rw [idx2_4]; show t.val * 8 + m.val = 8 * t.val + m.val; omega))
    ((win2_4.rect_emb_val t (ix2 m l) 1).trans (by rw [idx2_4]; show 0 * 128 + l.val = l.val; omega))
  gr p d := read2 (V c (Proc.devRef .tc main_arg20) : Vec Ideal S512x128 .f32) ((win2_5.rect t2_0).emb (ix2 p d)) _ _
    ((win2_5.rect_emb_val t2_0 (ix2 p d) 0).trans (by rw [idx2_5]; show 0 * 512 + p.val = p.val; omega))
    ((win2_5.rect_emb_val t2_0 (ix2 p d) 1).trans (by rw [idx2_5]; show 0 * 128 + d.val = d.val; omega))
  lk p q := read2 (V c (Proc.devRef .tc main_arg21) : Vec Ideal S512x256 .i32) ((win2_6.rect t2_0).emb (ix2 p q)) _ _
    ((win2_6.rect_emb_val t2_0 (ix2 p q) 0).trans (by rw [idx2_6]; show 0 * 512 + p.val = p.val; omega))
    ((win2_6.rect_emb_val t2_0 (ix2 p q) 1).trans (by rw [idx2_6]; show 0 * 256 + q.val = q.val; omega))
  rn q d := read2 (V c (Proc.devRef .tc main_arg22) : Vec Ideal S32768x128 .i32) ((win2_7.rect t).emb (ix2 q d)) _ _
    ((win2_7.rect_emb_val t (ix2 q d) 0).trans (by rw [idx2_7]; show (8 * 2 + t.val) * 1024 + q.val = 8192 * 2 + (1024 * t.val + q.val); omega))
    ((win2_7.rect_emb_val t (ix2 q d) 1).trans (by rw [idx2_7]; show 0 * 128 + d.val = d.val; omega))
  real := hr

end

/-! What the call leaves in each output array. -/

/-- Two points write different rows. -/
theorem two2 (t t' : Fin cfg2.N) (h : (![8 * 2 + t.val, 0] : Fin 2 → ℕ) = ![8 * 2 + t'.val, 0]) : t = t' :=
  Fin.ext (by have e : 8 * 2 + t.val = 8 * 2 + t'.val := congrFun h 0; omega)

/-- The point of a line, and the line's place in it. -/
def at2 (r : Fin 64) : Fin cfg2.N := ⟨r.val / 8, by have := r.isLt; exact Nat.lt_of_lt_of_eq (show r.val / 8 < 8 by omega) N_2.symm⟩
def of2 (r : Fin 64) : Fin 8 := ⟨r.val % 8, by omega⟩

theorem line2 (r : Fin 64) : line ⟨(at2 r).val, lt2 (at2 r)⟩ (of2 r) = r :=
  Fin.ext (by show 8 * (r.val / 8) + r.val % 8 = r.val; omega)

section
variable (V : Dev nD → Valuation τ sig (Elt Ideal)) (c : Dev nD)

theorem out2_9 (hr : ∀ p d, (chunk2 V c).gr p d ≠ ⊥ ∧ (chunk2 V c).gr p d ≠ ⊤) (r : Fin 64) (l : Fin 128) (R : Fin 256) (hR : R.val = 64 * 2 + r.val) :
    ((dat2 V c).arrAt 9 cfg2.N : Vec Ideal S256x128 .f32) (ix2 R l) = Spec.scale ((chunk2 V c).w r l) := by
  have e := (dat2 V c).arrAt_emb_eq_flushed 9 (fun t t' _ _ hne => (cfg2.win 9).disjoint_blk fun h => hne (two2 t t' (by rw [← idx2_9, ← idx2_9]; exact h)))
    (at2 r) (flush2_9 _) (ix2 (of2 r) l)
  have e1 : ((dat2 V c).flushed 9 (at2 r) : Vec Ideal S8x128 .f32) (ix2 (of2 r) l) = ((dat2 V c).after 9 (at2 r) : Vec Ideal S8x128 .f32) (ix2 (of2 r) l) := rfl
  have e2 := (fits2 V c hr (at2 r)).scale_apply (of2 r) l
  rw [line2] at e2
  refine (read2 ((dat2 V c).arrAt 9 cfg2.N : Vec Ideal S256x128 .f32) ((win2_9.rect (at2 r)).emb (ix2 (of2 r) l)) R l ?_ ?_).symm.trans
    (e.trans ((e1.trans (by rw [after2_9]; rfl)).trans e2))
  · exact (win2_9.rect_emb_val (at2 r) (ix2 (of2 r) l) 0).trans (by rw [idx2_9, hR]; show (8 * 2 + r.val / 8) * 8 + r.val % 8 = 64 * 2 + r.val; omega)
  · exact (win2_9.rect_emb_val (at2 r) (ix2 (of2 r) l) 1).trans (by rw [idx2_9]; show 0 * 128 + l.val = l.val; omega)

theorem keep2_9 (R : Fin 256) (l : Fin 128) (h : R.val / 64 ≠ 2) :
    ((dat2 V c).arrAt 9 cfg2.N : Vec Ideal S256x128 .f32) (ix2 R l) = (V c (Proc.devRef .tc main_v11_1) : Vec Ideal S256x128 .f32) (ix2 R l) := by
  refine ((dat2 V c).arrAt_apply_of_forall_not_mem 9 cfg2.N (ix2 R l) fun t _ _ hm => ?_).trans (congrFun (A2_eq V c 9) _)
  obtain ⟨y, -, hy⟩ := Finset.mem_map.mp hm
  have e := win2_9.rect_emb_val t y 0
  have e0 : ((win2_9.rect t).emb y 0 : ℕ) = R.val := congrArg Fin.val (congrFun hy 0)
  rw [idx2_9, e0] at e
  change R.val = (8 * 2 + t.val) * 8 + (y 0).val at e
  have hy : (y 0).val < 8 := (y 0).isLt
  have ht := lt2 t
  omega

theorem out2_10 (hr : ∀ p d, (chunk2 V c).gr p d ≠ ⊥ ∧ (chunk2 V c).gr p d ≠ ⊤) (r : Fin 64) (l : Fin 128) (R : Fin 256) (hR : R.val = 64 * 2 + r.val) :
    ((dat2 V c).arrAt 10 cfg2.N : Vec Ideal S256x128 .f32) (ix2 R l) = Spec.least ((chunk2 V c).w r l) := by
  have e := (dat2 V c).arrAt_emb_eq_flushed 10 (fun t t' _ _ hne => (cfg2.win 10).disjoint_blk fun h => hne (two2 t t' (by rw [← idx2_10, ← idx2_10]; exact h)))
    (at2 r) (flush2_10 _) (ix2 (of2 r) l)
  have e1 : ((dat2 V c).flushed 10 (at2 r) : Vec Ideal S8x128 .f32) (ix2 (of2 r) l) = ((dat2 V c).after 10 (at2 r) : Vec Ideal S8x128 .f32) (ix2 (of2 r) l) := rfl
  have e2 := (fits2 V c hr (at2 r)).bias_apply (of2 r) l
  rw [line2] at e2
  refine (read2 ((dat2 V c).arrAt 10 cfg2.N : Vec Ideal S256x128 .f32) ((win2_10.rect (at2 r)).emb (ix2 (of2 r) l)) R l ?_ ?_).symm.trans
    (e.trans ((e1.trans (by rw [after2_10]; rfl)).trans e2))
  · exact (win2_10.rect_emb_val (at2 r) (ix2 (of2 r) l) 0).trans (by rw [idx2_10, hR]; show (8 * 2 + r.val / 8) * 8 + r.val % 8 = 64 * 2 + r.val; omega)
  · exact (win2_10.rect_emb_val (at2 r) (ix2 (of2 r) l) 1).trans (by rw [idx2_10]; show 0 * 128 + l.val = l.val; omega)

theorem keep2_10 (R : Fin 256) (l : Fin 128) (h : R.val / 64 ≠ 2) :
    ((dat2 V c).arrAt 10 cfg2.N : Vec Ideal S256x128 .f32) (ix2 R l) = (V c (Proc.devRef .tc main_v11_2) : Vec Ideal S256x128 .f32) (ix2 R l) := by
  refine ((dat2 V c).arrAt_apply_of_forall_not_mem 10 cfg2.N (ix2 R l) fun t _ _ hm => ?_).trans (congrFun (A2_eq V c 10) _)
  obtain ⟨y, -, hy⟩ := Finset.mem_map.mp hm
  have e := win2_10.rect_emb_val t y 0
  have e0 : ((win2_10.rect t).emb y 0 : ℕ) = R.val := congrArg Fin.val (congrFun hy 0)
  rw [idx2_10, e0] at e
  change R.val = (8 * 2 + t.val) * 8 + (y 0).val at e
  have hy : (y 0).val < 8 := (y 0).isLt
  have ht := lt2 t
  omega

theorem out2_11 (hr : ∀ p d, (chunk2 V c).gr p d ≠ ⊥ ∧ (chunk2 V c).gr p d ≠ ⊤) (r : Fin 64) (l : Fin 128) (R : Fin 256) (hR : R.val = 64 * 2 + r.val) :
    ((dat2 V c).arrAt 11 cfg2.N : Vec Ideal S256x128 .f32) (ix2 R l) = (chunk2 V c).st r l := by
  have e := (dat2 V c).arrAt_emb_eq_flushed 11 (fun t t' _ _ hne => (cfg2.win 11).disjoint_blk fun h => hne (two2 t t' (by rw [← idx2_11, ← idx2_11]; exact h)))
    (at2 r) (flush2_11 _) (ix2 (of2 r) l)
  have e1 : ((dat2 V c).flushed 11 (at2 r) : Vec Ideal S8x128 .f32) (ix2 (of2 r) l) = ((dat2 V c).after 11 (at2 r) : Vec Ideal S8x128 .f32) (ix2 (of2 r) l) := rfl
  have e2 := (fits2 V c hr (at2 r)).state_apply (of2 r) l
  rw [line2] at e2
  refine (read2 ((dat2 V c).arrAt 11 cfg2.N : Vec Ideal S256x128 .f32) ((win2_11.rect (at2 r)).emb (ix2 (of2 r) l)) R l ?_ ?_).symm.trans
    (e.trans ((e1.trans (by rw [after2_11]; rfl)).trans e2))
  · exact (win2_11.rect_emb_val (at2 r) (ix2 (of2 r) l) 0).trans (by rw [idx2_11, hR]; show (8 * 2 + r.val / 8) * 8 + r.val % 8 = 64 * 2 + r.val; omega)
  · exact (win2_11.rect_emb_val (at2 r) (ix2 (of2 r) l) 1).trans (by rw [idx2_11]; show 0 * 128 + l.val = l.val; omega)

theorem keep2_11 (R : Fin 256) (l : Fin 128) (h : R.val / 64 ≠ 2) :
    ((dat2 V c).arrAt 11 cfg2.N : Vec Ideal S256x128 .f32) (ix2 R l) = (V c (Proc.devRef .tc main_v11_3) : Vec Ideal S256x128 .f32) (ix2 R l) := by
  refine ((dat2 V c).arrAt_apply_of_forall_not_mem 11 cfg2.N (ix2 R l) fun t _ _ hm => ?_).trans (congrFun (A2_eq V c 11) _)
  obtain ⟨y, -, hy⟩ := Finset.mem_map.mp hm
  have e := win2_11.rect_emb_val t y 0
  have e0 : ((win2_11.rect t).emb y 0 : ℕ) = R.val := congrArg Fin.val (congrFun hy 0)
  rw [idx2_11, e0] at e
  change R.val = (8 * 2 + t.val) * 8 + (y 0).val at e
  have hy : (y 0).val < 8 := (y 0).isLt
  have ht := lt2 t
  omega

theorem out2_8 (hr : ∀ p d, (chunk2 V c).gr p d ≠ ⊥ ∧ (chunk2 V c).gr p d ≠ ⊤) (r : Fin 64) (l d : Fin 128) (R : Fin 32768) (hR : R.val = 8192 * 2 + (128 * r.val + l.val)) :
    ((dat2 V c).arrAt 8 cfg2.N : Vec Ideal S32768x128 .i8) (ix2 R d) = (chunk2 V c).new r l d := by
  have e := (dat2 V c).arrAt_emb_eq_flushed 8 (fun t t' _ _ hne => (cfg2.win 8).disjoint_blk fun h => hne (two2 t t' (by rw [← idx2_8, ← idx2_8]; exact h)))
    (at2 r) (flush2_8 _) (ix2 (slot (of2 r) l) d)
  have e1 : ((dat2 V c).flushed 8 (at2 r) : Vec Ideal S1024x128 .i8) (ix2 (slot (of2 r) l) d) = ((dat2 V c).after 8 (at2 r) : Vec Ideal S1024x128 .i8) (ix2 (slot (of2 r) l) d) := rfl
  have e2 := (fits2 V c hr (at2 r)).codes_apply (of2 r) l d
  rw [line2] at e2
  refine (read2 ((dat2 V c).arrAt 8 cfg2.N : Vec Ideal S32768x128 .i8) ((win2_8.rect (at2 r)).emb (ix2 (slot (of2 r) l) d)) R d ?_ ?_).symm.trans
    (e.trans ((e1.trans (by rw [after2_8]; rfl)).trans e2))
  · exact (win2_8.rect_emb_val (at2 r) (ix2 (slot (of2 r) l) d) 0).trans (by
      rw [idx2_8, hR]; show (8 * 2 + r.val / 8) * 1024 + (128 * (r.val % 8) + l.val) = 8192 * 2 + (128 * r.val + l.val); omega)
  · exact (win2_8.rect_emb_val (at2 r) (ix2 (slot (of2 r) l) d) 1).trans (by rw [idx2_8]; show 0 * 128 + d.val = d.val; omega)

theorem keep2_8 (R : Fin 32768) (d : Fin 128) (h : R.val / 8192 ≠ 2) :
    ((dat2 V c).arrAt 8 cfg2.N : Vec Ideal S32768x128 .i8) (ix2 R d) = (V c (Proc.devRef .tc main_v11_0) : Vec Ideal S32768x128 .i8) (ix2 R d) := by
  refine ((dat2 V c).arrAt_apply_of_forall_not_mem 8 cfg2.N (ix2 R d) fun t _ _ hm => ?_).trans (congrFun (A2_eq V c 8) _)
  obtain ⟨y, -, hy⟩ := Finset.mem_map.mp hm
  have e := win2_8.rect_emb_val t y 0
  have e0 : ((win2_8.rect t).emb y 0 : ℕ) = R.val := congrArg Fin.val (congrFun hy 0)
  rw [idx2_8, e0] at e
  change R.val = (8 * 2 + t.val) * 1024 + (y 0).val at e
  have hy : (y 0).val < 1024 := (y 0).isLt
  have ht := lt2 t
  omega

end

end Cert.KernelIdeal.Gen
end
-- ==== Proof.Value.Region3.lean ====
module

public import proofs.«01_k».proof.Proof.Chain
public import proofs.«01_k».proof.Proof.Value.Array

/-! Update call 3: its output arrays hold the chunk's rows, and what they held before everywhere else. -/

@[expose] public section

set_option maxRecDepth 16384

noncomputable section

namespace Cert.KernelIdeal.Gen

open Idealize.ShloMosaic Idealize.ShloMosaic.TcCoe
open Idealize.ShloMosaic.Pipeline (Dat Cfg Window)

theorem lt3 (t : Fin cfg3.N) : t.val < 8 := Nat.lt_of_lt_of_eq t.isLt N_3

theorem pos3 (t : Fin cfg3.N) : (grid3.coords t 0).val = t.val := by
  have ht := lt3 t
  have e0 : (grid3.coords t 0).val = t.val / 1 % 8 := Pipeline.Grid.coords_val t 0 (by decide) rfl
  omega

/-! The block of each window at point `t`. -/

theorem idx3_0 (t : Fin cfg3.N) : win3_0.index t = ![0, t.val, 0, 0] := by
  have ht := lt3 t
  show cc3_transform_0 (grid3.coords t) = _
  simp only [cc3_transform_0, pos3 t]
  simp [BitVec.toNat_ofNat, Nat.mod_eq_of_lt (show t.val < 4294967296 by omega)]

theorem idx3_1 (t : Fin cfg3.N) : win3_1.index t = ![t.val, 0] := by
  have ht := lt3 t
  show cc3_transform_1 (grid3.coords t) = _
  simp only [cc3_transform_1, pos3 t]
  simp [BitVec.toNat_ofNat, Nat.mod_eq_of_lt (show t.val < 4294967296 by omega)]

theorem idx3_2 (t : Fin cfg3.N) : win3_2.index t = ![t.val, 0] := idx3_1 t
theorem idx3_3 (t : Fin cfg3.N) : win3_3.index t = ![t.val, 0] := idx3_1 t
theorem idx3_4 (t : Fin cfg3.N) : win3_4.index t = ![t.val, 0] := idx3_1 t

theorem idx3_5 (t : Fin cfg3.N) : win3_5.index t = ![0, 0] := rfl
theorem idx3_6 (t : Fin cfg3.N) : win3_6.index t = ![0, 0] := rfl

theorem idx3_7 (t : Fin cfg3.N) : win3_7.index t = ![8 * 3 + t.val, 0] :=
  (by decide +kernel : ∀ t : Fin grid3.N, win3_7.index t = ![8 * 3 + t.val, 0]) t

theorem idx3_8 (t : Fin cfg3.N) : win3_8.index t = ![8 * 3 + t.val, 0] := idx3_7 t
theorem idx3_9 (t : Fin cfg3.N) : win3_9.index t = ![8 * 3 + t.val, 0] := idx3_7 t
theorem idx3_10 (t : Fin cfg3.N) : win3_10.index t = ![8 * 3 + t.val, 0] := idx3_7 t
theorem idx3_11 (t : Fin cfg3.N) : win3_11.index t = ![8 * 3 + t.val, 0] := idx3_7 t

section
variable (V : Dev nD → Valuation τ sig (Elt Ideal)) (c : Dev nD)

/-- What the call finds. -/
def chunk3 : Spec.Chunk where
  cnt p r q l := (V c (Proc.devRef .tc main_arg15) : Vec Ideal S16x64x8x128 .i32) (ix4 p r q l)
  wd q d := (V c (Proc.devRef .tc main_arg16) : Vec Ideal S2048x128 .i32) (ix2 q d)
  sc r l := (V c (Proc.devRef .tc main_v12) : Vec Ideal S64x128 .f32) (ix2 r l)
  bi r l := (V c (Proc.devRef .tc main_v13) : Vec Ideal S64x128 .f32) (ix2 r l)
  mo r l := (V c (Proc.devRef .tc main_v14) : Vec Ideal S64x128 .f32) (ix2 r l)
  gr p d := (V c (Proc.devRef .tc main_arg20) : Vec Ideal S512x128 .f32) (ix2 p d)
  lk p q := (V c (Proc.devRef .tc main_arg21) : Vec Ideal S512x256 .i32) (ix2 p q)
  rn q d := (V c (Proc.devRef .tc main_arg22) : Vec Ideal S32768x128 .i32) (ix2 ⟨8192 * 3 + q.val, by have := q.isLt; omega⟩ d)
  base := 8192 * 3

variable (hr : ∀ p d, (chunk3 V c).gr p d ≠ ⊥ ∧ (chunk3 V c).gr p d ≠ ⊤)
include hr

/-- The blocks of point `t` are the chunk's. -/
theorem fits3 (t : Fin cfg3.N) : Fits (chunk3 V c) ⟨t.val, lt3 t⟩ (slotBase 24#32 (grid3.coords t))
    (blk3 V c 0 t) (blk3 V c 1 t) (blk3 V c 2 t) (blk3 V c 3 t) (blk3 V c 4 t) (grad3 V c) (look3 V c) (blk3 V c 7 t) where
  base := by show 8192 * 3 ≤ 24576; omega
  first := by
    rw [slotBase_eq 24]
    have h := pos3 t
    show BitVec.ofNat 32 (1024 * 24 + 1024 * (grid3.coords t 0).val) = BitVec.ofNat 32 (8192 * 3 + 1024 * t.val)
    rw [h]
  cnt p m q l := read4 (V c (Proc.devRef .tc main_arg15) : Vec Ideal S16x64x8x128 .i32) ((win3_0.rect t).emb (ix4 p m q l)) _ _ _ _
    ((win3_0.rect_emb_val t (ix4 p m q l) 0).trans (by rw [idx3_0]; show 0 * 16 + p.val = p.val; omega))
    ((win3_0.rect_emb_val t (ix4 p m q l) 1).trans (by rw [idx3_0]; show t.val * 8 + m.val = 8 * t.val + m.val; omega))
    ((win3_0.rect_emb_val t (ix4 p m q l) 2).trans (by rw [idx3_0]; show 0 * 8 + q.val = q.val; omega))
    ((win3_0.rect_emb_val t (ix4 p m q l) 3).trans (by rw [idx3_0]; show 0 * 128 + l.val = l.val; omega))
  wd q d := read2 (V c (Proc.devRef .tc main_arg16) : Vec Ideal S2048x128 .i32) ((win3_1.rect t).emb (ix2 q d)) _ _
    ((win3_1.rect_emb_val t (ix2 q d) 0).trans (by rw [idx3_1]; show t.val * 256 + q.val = 256 * t.val + q.val; omega))
    ((win3_1.rect_emb_val t (ix2 q d) 1).trans (by rw [idx3_1]; show 0 * 128 + d.val = d.val; omega))
  sc m l := read2 (V c (Proc.devRef .tc main_v12) : Vec Ideal S64x128 .f32) ((win3_2.rect t).emb (ix2 m l)) _ _
    ((win3_2.rect_emb_val t (ix2 m l) 0).trans (by rw [idx3_2]; show t.val * 8 + m.val = 8 * t.val + m.val; omega))
    ((win3_2.rect_emb_val t (ix2 m l) 1).trans (by rw [idx3_2]; show 0 * 128 + l.val = l.val; omega))
  bi m l := read2 (V c (Proc.devRef .tc main_v13) : Vec Ideal S64x128 .f32) ((win3_3.rect t).emb (ix2 m l)) _ _
    ((win3_3.rect_emb_val t (ix2 m l) 0).trans (by rw [idx3_3]; show t.val * 8 + m.val = 8 * t.val + m.val; omega))
    ((win3_3.rect_emb_val t (ix2 m l) 1).trans (by rw [idx3_3]; show 0 * 128 + l.val = l.val; omega))
  mo m l := read2 (V c (Proc.devRef .tc main_v14) : Vec Ideal S64x128 .f32) ((win3_4.rect t).emb (ix2 m l)) _ _
    ((win3_4.rect_emb_val t (ix2 m l) 0).trans (by rw [idx3_4]; show t.val * 8 + m.val = 8 * t.val + m.val; omega))
    ((win3_4.rect_emb_val t (ix2 m l) 1).trans (by rw [idx3_4]; show 0 * 128 + l.val = l.val; omega))
  gr p d := read2 (V c (Proc.devRef .tc main_arg20) : Vec Ideal S512x128 .f32) ((win3_5.rect t3_0).emb (ix2 p d)) _ _
    ((win3_5.rect_emb_val t3_0 (ix2 p d) 0).trans (by rw [idx3_5]; show 0 * 512 + p.val = p.val; omega))
    ((win3_5.rect_emb_val t3_0 (ix2 p d) 1).trans (by rw [idx3_5]; show 0 * 128 + d.val = d.val; omega))
  lk p q := read2 (V c (Proc.devRef .tc main_arg21) : Vec Ideal S512x256 .i32) ((win3_6.rect t3_0).emb (ix2 p q)) _ _
    ((win3_6.rect_emb_val t3_0 (ix2 p q) 0).trans (by rw [idx3_6]; show 0 * 512 + p.val = p.val; omega))
    ((win3_6.rect_emb_val t3_0 (ix2 p q) 1).trans (by rw [idx3_6]; show 0 * 256 + q.val = q.val; omega))
  rn q d := read2 (V c (Proc.devRef .tc main_arg22) : Vec Ideal S32768x128 .i32) ((win3_7.rect t).emb (ix2 q d)) _ _
    ((win3_7.rect_emb_val t (ix2 q d) 0).trans (by rw [idx3_7]; show (8 * 3 + t.val) * 1024 + q.val = 8192 * 3 + (1024 * t.val + q.val); omega))
    ((win3_7.rect_emb_val t (ix2 q d) 1).trans (by rw [idx3_7]; show 0 * 128 + d.val = d.val; omega))
  real := hr

end

/-! What the call leaves in each output array. -/

/-- Two points write different rows. -/
theorem two3 (t t' : Fin cfg3.N) (h : (![8 * 3 + t.val, 0] : Fin 2 → ℕ) = ![8 * 3 + t'.val, 0]) : t = t' :=
  Fin.ext (by have e : 8 * 3 + t.val = 8 * 3 + t'.val := congrFun h 0; omega)

/-- The point of a line, and the line's place in it. -/
def at3 (r : Fin 64) : Fin cfg3.N := ⟨r.val / 8, by have := r.isLt; exact Nat.lt_of_lt_of_eq (show r.val / 8 < 8 by omega) N_3.symm⟩
def of3 (r : Fin 64) : Fin 8 := ⟨r.val % 8, by omega⟩

theorem line3 (r : Fin 64) : line ⟨(at3 r).val, lt3 (at3 r)⟩ (of3 r) = r :=
  Fin.ext (by show 8 * (r.val / 8) + r.val % 8 = r.val; omega)

section
variable (V : Dev nD → Valuation τ sig (Elt Ideal)) (c : Dev nD)

theorem out3_9 (hr : ∀ p d, (chunk3 V c).gr p d ≠ ⊥ ∧ (chunk3 V c).gr p d ≠ ⊤) (r : Fin 64) (l : Fin 128) (R : Fin 256) (hR : R.val = 64 * 3 + r.val) :
    ((dat3 V c).arrAt 9 cfg3.N : Vec Ideal S256x128 .f32) (ix2 R l) = Spec.scale ((chunk3 V c).w r l) := by
  have e := (dat3 V c).arrAt_emb_eq_flushed 9 (fun t t' _ _ hne => (cfg3.win 9).disjoint_blk fun h => hne (two3 t t' (by rw [← idx3_9, ← idx3_9]; exact h)))
    (at3 r) (flush3_9 _) (ix2 (of3 r) l)
  have e1 : ((dat3 V c).flushed 9 (at3 r) : Vec Ideal S8x128 .f32) (ix2 (of3 r) l) = ((dat3 V c).after 9 (at3 r) : Vec Ideal S8x128 .f32) (ix2 (of3 r) l) := rfl
  have e2 := (fits3 V c hr (at3 r)).scale_apply (of3 r) l
  rw [line3] at e2
  refine (read2 ((dat3 V c).arrAt 9 cfg3.N : Vec Ideal S256x128 .f32) ((win3_9.rect (at3 r)).emb (ix2 (of3 r) l)) R l ?_ ?_).symm.trans
    (e.trans ((e1.trans (by rw [after3_9]; rfl)).trans e2))
  · exact (win3_9.rect_emb_val (at3 r) (ix2 (of3 r) l) 0).trans (by rw [idx3_9, hR]; show (8 * 3 + r.val / 8) * 8 + r.val % 8 = 64 * 3 + r.val; omega)
  · exact (win3_9.rect_emb_val (at3 r) (ix2 (of3 r) l) 1).trans (by rw [idx3_9]; show 0 * 128 + l.val = l.val; omega)

theorem keep3_9 (R : Fin 256) (l : Fin 128) (h : R.val / 64 ≠ 3) :
    ((dat3 V c).arrAt 9 cfg3.N : Vec Ideal S256x128 .f32) (ix2 R l) = (V c (Proc.devRef .tc main_v15_1) : Vec Ideal S256x128 .f32) (ix2 R l) := by
  refine ((dat3 V c).arrAt_apply_of_forall_not_mem 9 cfg3.N (ix2 R l) fun t _ _ hm => ?_).trans (congrFun (A3_eq V c 9) _)
  obtain ⟨y, -, hy⟩ := Finset.mem_map.mp hm
  have e := win3_9.rect_emb_val t y 0
  have e0 : ((win3_9.rect t).emb y 0 : ℕ) = R.val := congrArg Fin.val (congrFun hy 0)
  rw [idx3_9, e0] at e
  change R.val = (8 * 3 + t.val) * 8 + (y 0).val at e
  have hy : (y 0).val < 8 := (y 0).isLt
  have ht := lt3 t
  omega

theorem out3_10 (hr : ∀ p d, (chunk3 V c).gr p d ≠ ⊥ ∧ (chunk3 V c).gr p d ≠ ⊤) (r : Fin 64) (l : Fin 128) (R : Fin 256) (hR : R.val = 64 * 3 + r.val) :
    ((dat3 V c).arrAt 10 cfg3.N : Vec Ideal S256x128 .f32) (ix2 R l) = Spec.least ((chunk3 V c).w r l) := by
  have e := (dat3 V c).arrAt_emb_eq_flushed 10 (fun t t' _ _ hne => (cfg3.win 10).disjoint_blk fun h => hne (two3 t t' (by rw [← idx3_10, ← idx3_10]; exact h)))
    (at3 r) (flush3_10 _) (ix2 (of3 r) l)
  have e1 : ((dat3 V c).flushed 10 (at3 r) : Vec Ideal S8x128 .f32) (ix2 (of3 r) l) = ((dat3 V c).after 10 (at3 r) : Vec Ideal S8x128 .f32) (ix2 (of3 r) l) := rfl
  have e2 := (fits3 V c hr (at3 r)).bias_apply (of3 r) l
  rw [line3] at e2
  refine (read2 ((dat3 V c).arrAt 10 cfg3.N : Vec Ideal S256x128 .f32) ((win3_10.rect (at3 r)).emb (ix2 (of3 r) l)) R l ?_ ?_).symm.trans
    (e.trans ((e1.trans (by rw [after3_10]; rfl)).trans e2))
  · exact (win3_10.rect_emb_val (at3 r) (ix2 (of3 r) l) 0).trans (by rw [idx3_10, hR]; show (8 * 3 + r.val / 8) * 8 + r.val % 8 = 64 * 3 + r.val; omega)
  · exact (win3_10.rect_emb_val (at3 r) (ix2 (of3 r) l) 1).trans (by rw [idx3_10]; show 0 * 128 + l.val = l.val; omega)

theorem keep3_10 (R : Fin 256) (l : Fin 128) (h : R.val / 64 ≠ 3) :
    ((dat3 V c).arrAt 10 cfg3.N : Vec Ideal S256x128 .f32) (ix2 R l) = (V c (Proc.devRef .tc main_v15_2) : Vec Ideal S256x128 .f32) (ix2 R l) := by
  refine ((dat3 V c).arrAt_apply_of_forall_not_mem 10 cfg3.N (ix2 R l) fun t _ _ hm => ?_).trans (congrFun (A3_eq V c 10) _)
  obtain ⟨y, -, hy⟩ := Finset.mem_map.mp hm
  have e := win3_10.rect_emb_val t y 0
  have e0 : ((win3_10.rect t).emb y 0 : ℕ) = R.val := congrArg Fin.val (congrFun hy 0)
  rw [idx3_10, e0] at e
  change R.val = (8 * 3 + t.val) * 8 + (y 0).val at e
  have hy : (y 0).val < 8 := (y 0).isLt
  have ht := lt3 t
  omega

theorem out3_11 (hr : ∀ p d, (chunk3 V c).gr p d ≠ ⊥ ∧ (chunk3 V c).gr p d ≠ ⊤) (r : Fin 64) (l : Fin 128) (R : Fin 256) (hR : R.val = 64 * 3 + r.val) :
    ((dat3 V c).arrAt 11 cfg3.N : Vec Ideal S256x128 .f32) (ix2 R l) = (chunk3 V c).st r l := by
  have e := (dat3 V c).arrAt_emb_eq_flushed 11 (fun t t' _ _ hne => (cfg3.win 11).disjoint_blk fun h => hne (two3 t t' (by rw [← idx3_11, ← idx3_11]; exact h)))
    (at3 r) (flush3_11 _) (ix2 (of3 r) l)
  have e1 : ((dat3 V c).flushed 11 (at3 r) : Vec Ideal S8x128 .f32) (ix2 (of3 r) l) = ((dat3 V c).after 11 (at3 r) : Vec Ideal S8x128 .f32) (ix2 (of3 r) l) := rfl
  have e2 := (fits3 V c hr (at3 r)).state_apply (of3 r) l
  rw [line3] at e2
  refine (read2 ((dat3 V c).arrAt 11 cfg3.N : Vec Ideal S256x128 .f32) ((win3_11.rect (at3 r)).emb (ix2 (of3 r) l)) R l ?_ ?_).symm.trans
    (e.trans ((e1.trans (by rw [after3_11]; rfl)).trans e2))
  · exact (win3_11.rect_emb_val (at3 r) (ix2 (of3 r) l) 0).trans (by rw [idx3_11, hR]; show (8 * 3 + r.val / 8) * 8 + r.val % 8 = 64 * 3 + r.val; omega)
  · exact (win3_11.rect_emb_val (at3 r) (ix2 (of3 r) l) 1).trans (by rw [idx3_11]; show 0 * 128 + l.val = l.val; omega)

theorem keep3_11 (R : Fin 256) (l : Fin 128) (h : R.val / 64 ≠ 3) :
    ((dat3 V c).arrAt 11 cfg3.N : Vec Ideal S256x128 .f32) (ix2 R l) = (V c (Proc.devRef .tc main_v15_3) : Vec Ideal S256x128 .f32) (ix2 R l) := by
  refine ((dat3 V c).arrAt_apply_of_forall_not_mem 11 cfg3.N (ix2 R l) fun t _ _ hm => ?_).trans (congrFun (A3_eq V c 11) _)
  obtain ⟨y, -, hy⟩ := Finset.mem_map.mp hm
  have e := win3_11.rect_emb_val t y 0
  have e0 : ((win3_11.rect t).emb y 0 : ℕ) = R.val := congrArg Fin.val (congrFun hy 0)
  rw [idx3_11, e0] at e
  change R.val = (8 * 3 + t.val) * 8 + (y 0).val at e
  have hy : (y 0).val < 8 := (y 0).isLt
  have ht := lt3 t
  omega

theorem out3_8 (hr : ∀ p d, (chunk3 V c).gr p d ≠ ⊥ ∧ (chunk3 V c).gr p d ≠ ⊤) (r : Fin 64) (l d : Fin 128) (R : Fin 32768) (hR : R.val = 8192 * 3 + (128 * r.val + l.val)) :
    ((dat3 V c).arrAt 8 cfg3.N : Vec Ideal S32768x128 .i8) (ix2 R d) = (chunk3 V c).new r l d := by
  have e := (dat3 V c).arrAt_emb_eq_flushed 8 (fun t t' _ _ hne => (cfg3.win 8).disjoint_blk fun h => hne (two3 t t' (by rw [← idx3_8, ← idx3_8]; exact h)))
    (at3 r) (flush3_8 _) (ix2 (slot (of3 r) l) d)
  have e1 : ((dat3 V c).flushed 8 (at3 r) : Vec Ideal S1024x128 .i8) (ix2 (slot (of3 r) l) d) = ((dat3 V c).after 8 (at3 r) : Vec Ideal S1024x128 .i8) (ix2 (slot (of3 r) l) d) := rfl
  have e2 := (fits3 V c hr (at3 r)).codes_apply (of3 r) l d
  rw [line3] at e2
  refine (read2 ((dat3 V c).arrAt 8 cfg3.N : Vec Ideal S32768x128 .i8) ((win3_8.rect (at3 r)).emb (ix2 (slot (of3 r) l) d)) R d ?_ ?_).symm.trans
    (e.trans ((e1.trans (by rw [after3_8]; rfl)).trans e2))
  · exact (win3_8.rect_emb_val (at3 r) (ix2 (slot (of3 r) l) d) 0).trans (by
      rw [idx3_8, hR]; show (8 * 3 + r.val / 8) * 1024 + (128 * (r.val % 8) + l.val) = 8192 * 3 + (128 * r.val + l.val); omega)
  · exact (win3_8.rect_emb_val (at3 r) (ix2 (slot (of3 r) l) d) 1).trans (by rw [idx3_8]; show 0 * 128 + d.val = d.val; omega)

theorem keep3_8 (R : Fin 32768) (d : Fin 128) (h : R.val / 8192 ≠ 3) :
    ((dat3 V c).arrAt 8 cfg3.N : Vec Ideal S32768x128 .i8) (ix2 R d) = (V c (Proc.devRef .tc main_v15_0) : Vec Ideal S32768x128 .i8) (ix2 R d) := by
  refine ((dat3 V c).arrAt_apply_of_forall_not_mem 8 cfg3.N (ix2 R d) fun t _ _ hm => ?_).trans (congrFun (A3_eq V c 8) _)
  obtain ⟨y, -, hy⟩ := Finset.mem_map.mp hm
  have e := win3_8.rect_emb_val t y 0
  have e0 : ((win3_8.rect t).emb y 0 : ℕ) = R.val := congrArg Fin.val (congrFun hy 0)
  rw [idx3_8, e0] at e
  change R.val = (8 * 3 + t.val) * 1024 + (y 0).val at e
  have hy : (y 0).val < 1024 := (y 0).isLt
  have ht := lt3 t
  omega

end

end Cert.KernelIdeal.Gen
end
-- ==== Proof.Value.Table.lean ====
module

public import proofs.«01_k».proof.Proof.Value.Region0
public import proofs.«01_k».proof.Proof.Value.Region1
public import proofs.«01_k».proof.Proof.Value.Region2
public import proofs.«01_k».proof.Proof.Value.Region3
public import Idealize.ShloMosaic.Lib.Pointwise

/-! The whole table after the four update calls: each row is its own chunk's. -/

@[expose] public section

set_option maxRecDepth 16384

noncomputable section

namespace Cert.KernelIdeal.Gen

open Idealize.ShloMosaic Idealize.ShloMosaic.TcCoe
open Idealize.ShloMosaic.Pipeline (Dat Cfg Window)

/-- Chunk `k` of the table. -/
def chunkOf (k : Fin 4) (cnt : Vec Ideal S16x64x8x128 .i32) (wd : Vec Ideal S2048x128 .i32) (sc bi mo : Vec Ideal S8192 .f32)
    (gr : Vec Ideal S512x128 .f32) (lk : Vec Ideal S512x256 .i32) (rn : Vec Ideal S32768x128 .i32) : Spec.Chunk where
  cnt p r q l := cnt (ix4 p r q l)
  wd q d := wd (ix2 q d)
  sc r l := sc (ix1 ⟨128 * r.val + l.val, by have := r.isLt; have := l.isLt; omega⟩)
  bi r l := bi (ix1 ⟨128 * r.val + l.val, by have := r.isLt; have := l.isLt; omega⟩)
  mo r l := mo (ix1 ⟨128 * r.val + l.val, by have := r.isLt; have := l.isLt; omega⟩)
  gr p d := gr (ix2 p d)
  lk p q := lk (ix2 p q)
  rn q d := rn (ix2 ⟨8192 * k.val + q.val, by have := k.isLt; have := q.isLt; omega⟩ d)
  base := 8192 * k.val

/-- No gradient is infinite. -/
def RealGrads (gr : Vec Ideal S512x128 .f32) : Prop := ∀ j, gr j ≠ ⊥ ∧ gr j ≠ ⊤

variable (m : (ℓ : Loc nD τ sig) → Buf (Elt Ideal) ℓ) (c : Dev nD)

/-- The four chunks, from the arguments. -/
def chunks : Fin 4 → Spec.Chunk := ![
  chunkOf 0 (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg20)) (m ((c : Thread nD τ).loc main_arg21)) (m ((c : Thread nD τ).loc main_arg22)),
  chunkOf 1 (m ((c : Thread nD τ).loc main_arg5)) (m ((c : Thread nD τ).loc main_arg6)) (m ((c : Thread nD τ).loc main_arg7)) (m ((c : Thread nD τ).loc main_arg8)) (m ((c : Thread nD τ).loc main_arg9))
    (m ((c : Thread nD τ).loc main_arg20)) (m ((c : Thread nD τ).loc main_arg21)) (m ((c : Thread nD τ).loc main_arg22)),
  chunkOf 2 (m ((c : Thread nD τ).loc main_arg10)) (m ((c : Thread nD τ).loc main_arg11)) (m ((c : Thread nD τ).loc main_arg12)) (m ((c : Thread nD τ).loc main_arg13)) (m ((c : Thread nD τ).loc main_arg14))
    (m ((c : Thread nD τ).loc main_arg20)) (m ((c : Thread nD τ).loc main_arg21)) (m ((c : Thread nD τ).loc main_arg22)),
  chunkOf 3 (m ((c : Thread nD τ).loc main_arg15)) (m ((c : Thread nD τ).loc main_arg16)) (m ((c : Thread nD τ).loc main_arg17)) (m ((c : Thread nD τ).loc main_arg18)) (m ((c : Thread nD τ).loc main_arg19))
    (m ((c : Thread nD τ).loc main_arg20)) (m ((c : Thread nD τ).loc main_arg21)) (m ((c : Thread nD τ).loc main_arg22))]

/-- A vector of 8192, set out in lines of 128. -/
theorem lines_apply (v : Vec Ideal S8192 .f32) (r : Fin 64) (l : Fin 128) :
    shapeCast S64x128 v shapeCasts_S8192_S64x128 (ix2 r l) = v (ix1 ⟨128 * r.val + l.val, by have := r.isLt; have := l.isLt; omega⟩) := by
  pointwise []
  exact congrArg (fun z => v (ix1 z)) (Fin.ext (by show r.val * 128 + l.val = 128 * r.val + l.val; omega))

theorem lines_of {f g : Vec Ideal S8192 .f32} (h : f = g) :
    (fun (r : Fin 64) (l : Fin 128) => shapeCast S64x128 f shapeCasts_S8192_S64x128 (ix2 r l))
      = fun r l => g (ix1 ⟨128 * r.val + l.val, by have := r.isLt; have := l.isLt; omega⟩) := by
  subst h; funext r l; exact lines_apply f r l

/-! Each call finds its chunk. -/

set_option maxHeartbeats 1000000 in
theorem chunk0_eq : chunk0 (W0 m) c = chunks m c 0 := by
  show chunk0 (W0 m) c = chunkOf 0 _ _ _ _ _ _ _ _
  unfold chunk0 chunkOf
  rw [W0_arg m c main_arg0 (by decide), W0_arg m c main_arg1 (by decide), W0_arg m c main_arg20 (by decide), W0_arg m c main_arg21 (by decide), W0_arg m c main_arg22 (by decide)]
  have e0 : (fun (r : Fin 64) (l : Fin 128) => (W0 m c (Proc.devRef .tc main_v0) : Vec Ideal S64x128 .f32) (ix2 r l)) = _ :=
    lines_of (g := m ((c : Thread nD τ).loc main_arg2)) rfl
  have e1 : (fun (r : Fin 64) (l : Fin 128) => (W0 m c (Proc.devRef .tc main_v1) : Vec Ideal S64x128 .f32) (ix2 r l)) = _ :=
    lines_of (g := m ((c : Thread nD τ).loc main_arg3)) rfl
  have e2 : (fun (r : Fin 64) (l : Fin 128) => (W0 m c (Proc.devRef .tc main_v2) : Vec Ideal S64x128 .f32) (ix2 r l)) = _ :=
    lines_of (g := m ((c : Thread nD τ).loc main_arg4)) rfl
  rw [e0, e1, e2]
  rfl

set_option maxHeartbeats 1000000 in
theorem chunk1_eq : chunk1 (W1 m) c = chunks m c 1 := by
  show chunk1 (W1 m) c = chunkOf 1 _ _ _ _ _ _ _ _
  unfold chunk1 chunkOf
  rw [W1_arg m c main_arg5 (by decide), W1_arg m c main_arg6 (by decide), W1_arg m c main_arg20 (by decide), W1_arg m c main_arg21 (by decide), W1_arg m c main_arg22 (by decide)]
  have e0 : (fun (r : Fin 64) (l : Fin 128) => (W1 m c (Proc.devRef .tc main_v4) : Vec Ideal S64x128 .f32) (ix2 r l)) = _ :=
    lines_of (g := m ((c : Thread nD τ).loc main_arg7)) (A0_arg m c main_arg7 (by decide))
  have e1 : (fun (r : Fin 64) (l : Fin 128) => (W1 m c (Proc.devRef .tc main_v5) : Vec Ideal S64x128 .f32) (ix2 r l)) = _ :=
    lines_of (g := m ((c : Thread nD τ).loc main_arg8)) (A0_arg m c main_arg8 (by decide))
  have e2 : (fun (r : Fin 64) (l : Fin 128) => (W1 m c (Proc.devRef .tc main_v6) : Vec Ideal S64x128 .f32) (ix2 r l)) = _ :=
    lines_of (g := m ((c : Thread nD τ).loc main_arg9)) (A0_arg m c main_arg9 (by decide))
  rw [e0, e1, e2]
  rfl

set_option maxHeartbeats 1000000 in
theorem chunk2_eq : chunk2 (W2 m) c = chunks m c 2 := by
  show chunk2 (W2 m) c = chunkOf 2 _ _ _ _ _ _ _ _
  unfold chunk2 chunkOf
  rw [W2_arg m c main_arg10 (by decide), W2_arg m c main_arg11 (by decide), W2_arg m c main_arg20 (by decide), W2_arg m c main_arg21 (by decide), W2_arg m c main_arg22 (by decide)]
  have e0 : (fun (r : Fin 64) (l : Fin 128) => (W2 m c (Proc.devRef .tc main_v8) : Vec Ideal S64x128 .f32) (ix2 r l)) = _ :=
    lines_of (g := m ((c : Thread nD τ).loc main_arg12)) (A1_arg m c main_arg12 (by decide))
  have e1 : (fun (r : Fin 64) (l : Fin 128) => (W2 m c (Proc.devRef .tc main_v9) : Vec Ideal S64x128 .f32) (ix2 r l)) = _ :=
    lines_of (g := m ((c : Thread nD τ).loc main_arg13)) (A1_arg m c main_arg13 (by decide))
  have e2 : (fun (r : Fin 64) (l : Fin 128) => (W2 m c (Proc.devRef .tc main_v10) : Vec Ideal S64x128 .f32) (ix2 r l)) = _ :=
    lines_of (g := m ((c : Thread nD τ).loc main_arg14)) (A1_arg m c main_arg14 (by decide))
  rw [e0, e1, e2]
  rfl

set_option maxHeartbeats 1000000 in
theorem chunk3_eq : chunk3 (W3 m) c = chunks m c 3 := by
  show chunk3 (W3 m) c = chunkOf 3 _ _ _ _ _ _ _ _
  unfold chunk3 chunkOf
  rw [W3_arg m c main_arg15 (by decide), W3_arg m c main_arg16 (by decide), W3_arg m c main_arg20 (by decide), W3_arg m c main_arg21 (by decide), W3_arg m c main_arg22 (by decide)]
  have e0 : (fun (r : Fin 64) (l : Fin 128) => (W3 m c (Proc.devRef .tc main_v12) : Vec Ideal S64x128 .f32) (ix2 r l)) = _ :=
    lines_of (g := m ((c : Thread nD τ).loc main_arg17)) (A2_arg m c main_arg17 (by decide))
  have e1 : (fun (r : Fin 64) (l : Fin 128) => (W3 m c (Proc.devRef .tc main_v13) : Vec Ideal S64x128 .f32) (ix2 r l)) = _ :=
    lines_of (g := m ((c : Thread nD τ).loc main_arg18)) (A2_arg m c main_arg18 (by decide))
  have e2 : (fun (r : Fin 64) (l : Fin 128) => (W3 m c (Proc.devRef .tc main_v14) : Vec Ideal S64x128 .f32) (ix2 r l)) = _ :=
    lines_of (g := m ((c : Thread nD τ).loc main_arg19)) (A2_arg m c main_arg19 (by decide))
  rw [e0, e1, e2]
  rfl

/-! Each output array at the end. -/

/-- The chunk a row is in, and its line there. -/
def inChunk (R : Fin 256) : Fin 4 := ⟨R.val / 64, by have := R.isLt; omega⟩
def inLine (R : Fin 256) : Fin 64 := ⟨R.val % 64, by omega⟩

theorem cases4 (k : Fin 4) : k = 3 ∨ k = 2 ∨ k = 1 ∨ k = 0 := by
  have := k.isLt
  rcases (by omega : k.val = 3 ∨ k.val = 2 ∨ k.val = 1 ∨ k.val = 0) with h | h | h | h
  · exact .inl (Fin.ext h)
  · exact .inr (.inl (Fin.ext h))
  · exact .inr (.inr (.inl (Fin.ext h)))
  · exact .inr (.inr (.inr (Fin.ext h)))

variable (hr : RealGrads (m ((c : Thread nD τ).loc main_arg20)))
include hr

theorem real0 : ∀ p d, (chunk0 (W0 m) c).gr p d ≠ ⊥ ∧ (chunk0 (W0 m) c).gr p d ≠ ⊤ := fun p d => by
  rw [chunk0_eq]; exact hr (ix2 p d)

theorem real1 : ∀ p d, (chunk1 (W1 m) c).gr p d ≠ ⊥ ∧ (chunk1 (W1 m) c).gr p d ≠ ⊤ := fun p d => by
  rw [chunk1_eq]; exact hr (ix2 p d)

theorem real2 : ∀ p d, (chunk2 (W2 m) c).gr p d ≠ ⊥ ∧ (chunk2 (W2 m) c).gr p d ≠ ⊤ := fun p d => by
  rw [chunk2_eq]; exact hr (ix2 p d)

theorem real3 : ∀ p d, (chunk3 (W3 m) c).gr p d ≠ ⊥ ∧ (chunk3 (W3 m) c).gr p d ≠ ⊤ := fun p d => by
  rw [chunk3_eq]; exact hr (ix2 p d)

theorem scale_apply (R : Fin 256) (l : Fin 128) : (A3 m c (Proc.devRef .tc main_v15_1) : Vec Ideal S256x128 .f32) (ix2 R l)
    = Spec.scale ((chunks m c (inChunk R)).w (inLine R) l) := by
  have a0 : (A0 m c (Proc.devRef .tc main_v3_1) : Vec Ideal S256x128 .f32) = (dat0 (W0 m) c).arrAt 9 cfg0.N :=
    Pipeline.afterRegion_arr (dat0 (W0 m) c) (W0 m c) launch0.win.arr_inj 9
  have a1 : (A1 m c (Proc.devRef .tc main_v7_1) : Vec Ideal S256x128 .f32) = (dat1 (W1 m) c).arrAt 9 cfg1.N :=
    Pipeline.afterRegion_arr (dat1 (W1 m) c) (W1 m c) launch1.win.arr_inj 9
  have a2 : (A2 m c (Proc.devRef .tc main_v11_1) : Vec Ideal S256x128 .f32) = (dat2 (W2 m) c).arrAt 9 cfg2.N :=
    Pipeline.afterRegion_arr (dat2 (W2 m) c) (W2 m c) launch2.win.arr_inj 9
  have a3 : (A3 m c (Proc.devRef .tc main_v15_1) : Vec Ideal S256x128 .f32) = (dat3 (W3 m) c).arrAt 9 cfg3.N :=
    Pipeline.afterRegion_arr (dat3 (W3 m) c) (W3 m c) launch3.win.arr_inj 9
  have hR := R.isLt
  have hv : (inChunk R).val = R.val / 64 := rfl
  have hl : (inLine R).val = R.val % 64 := rfl
  rcases cases4 (inChunk R) with h | h | h | h <;> rw [h] <;> rw [h] at hv
  · change 3 = R.val / 64 at hv
    have e0 : R.val = 64 * 3 + (inLine R).val := by omega
    exact (congrFun a3 _).trans ((out3_9 (W3 m) c (real3 m c hr) (inLine R) l R e0).trans (congrArg (fun X : Spec.Chunk => Spec.scale (X.w (inLine R) l)) (chunk3_eq m c)))
  · change 2 = R.val / 64 at hv
    have e0 : R.val = 64 * 2 + (inLine R).val := by omega
    have n3 : R.val / 64 ≠ 3 := by omega
    exact (congrFun a3 _).trans ((keep3_9 (W3 m) c R l n3).trans ((congrFun a2 _).trans ((out2_9 (W2 m) c (real2 m c hr) (inLine R) l R e0).trans (congrArg (fun X : Spec.Chunk => Spec.scale (X.w (inLine R) l)) (chunk2_eq m c)))))
  · change 1 = R.val / 64 at hv
    have e0 : R.val = 64 * 1 + (inLine R).val := by omega
    have n3 : R.val / 64 ≠ 3 := by omega
    have n2 : R.val / 64 ≠ 2 := by omega
    exact (congrFun a3 _).trans ((keep3_9 (W3 m) c R l n3).trans ((congrFun a2 _).trans ((keep2_9 (W2 m) c R l n2).trans ((congrFun a1 _).trans ((out1_9 (W1 m) c (real1 m c hr) (inLine R) l R e0).trans (congrArg (fun X : Spec.Chunk => Spec.scale (X.w (inLine R) l)) (chunk1_eq m c)))))))
  · change 0 = R.val / 64 at hv
    have e0 : R.val = 64 * 0 + (inLine R).val := by omega
    have n3 : R.val / 64 ≠ 3 := by omega
    have n2 : R.val / 64 ≠ 2 := by omega
    have n1 : R.val / 64 ≠ 1 := by omega
    exact (congrFun a3 _).trans ((keep3_9 (W3 m) c R l n3).trans ((congrFun a2 _).trans ((keep2_9 (W2 m) c R l n2).trans ((congrFun a1 _).trans ((keep1_9 (W1 m) c R l n1).trans ((congrFun a0 _).trans ((out0_9 (W0 m) c (real0 m c hr) (inLine R) l R e0).trans (congrArg (fun X : Spec.Chunk => Spec.scale (X.w (inLine R) l)) (chunk0_eq m c)))))))))

theorem bias_apply (R : Fin 256) (l : Fin 128) : (A3 m c (Proc.devRef .tc main_v15_2) : Vec Ideal S256x128 .f32) (ix2 R l)
    = Spec.least ((chunks m c (inChunk R)).w (inLine R) l) := by
  have a0 : (A0 m c (Proc.devRef .tc main_v3_2) : Vec Ideal S256x128 .f32) = (dat0 (W0 m) c).arrAt 10 cfg0.N :=
    Pipeline.afterRegion_arr (dat0 (W0 m) c) (W0 m c) launch0.win.arr_inj 10
  have a1 : (A1 m c (Proc.devRef .tc main_v7_2) : Vec Ideal S256x128 .f32) = (dat1 (W1 m) c).arrAt 10 cfg1.N :=
    Pipeline.afterRegion_arr (dat1 (W1 m) c) (W1 m c) launch1.win.arr_inj 10
  have a2 : (A2 m c (Proc.devRef .tc main_v11_2) : Vec Ideal S256x128 .f32) = (dat2 (W2 m) c).arrAt 10 cfg2.N :=
    Pipeline.afterRegion_arr (dat2 (W2 m) c) (W2 m c) launch2.win.arr_inj 10
  have a3 : (A3 m c (Proc.devRef .tc main_v15_2) : Vec Ideal S256x128 .f32) = (dat3 (W3 m) c).arrAt 10 cfg3.N :=
    Pipeline.afterRegion_arr (dat3 (W3 m) c) (W3 m c) launch3.win.arr_inj 10
  have hR := R.isLt
  have hv : (inChunk R).val = R.val / 64 := rfl
  have hl : (inLine R).val = R.val % 64 := rfl
  rcases cases4 (inChunk R) with h | h | h | h <;> rw [h] <;> rw [h] at hv
  · change 3 = R.val / 64 at hv
    have e0 : R.val = 64 * 3 + (inLine R).val := by omega
    exact (congrFun a3 _).trans ((out3_10 (W3 m) c (real3 m c hr) (inLine R) l R e0).trans (congrArg (fun X : Spec.Chunk => Spec.least (X.w (inLine R) l)) (chunk3_eq m c)))
  · change 2 = R.val / 64 at hv
    have e0 : R.val = 64 * 2 + (inLine R).val := by omega
    have n3 : R.val / 64 ≠ 3 := by omega
    exact (congrFun a3 _).trans ((keep3_10 (W3 m) c R l n3).trans ((congrFun a2 _).trans ((out2_10 (W2 m) c (real2 m c hr) (inLine R) l R e0).trans (congrArg (fun X : Spec.Chunk => Spec.least (X.w (inLine R) l)) (chunk2_eq m c)))))
  · change 1 = R.val / 64 at hv
    have e0 : R.val = 64 * 1 + (inLine R).val := by omega
    have n3 : R.val / 64 ≠ 3 := by omega
    have n2 : R.val / 64 ≠ 2 := by omega
    exact (congrFun a3 _).trans ((keep3_10 (W3 m) c R l n3).trans ((congrFun a2 _).trans ((keep2_10 (W2 m) c R l n2).trans ((congrFun a1 _).trans ((out1_10 (W1 m) c (real1 m c hr) (inLine R) l R e0).trans (congrArg (fun X : Spec.Chunk => Spec.least (X.w (inLine R) l)) (chunk1_eq m c)))))))
  · change 0 = R.val / 64 at hv
    have e0 : R.val = 64 * 0 + (inLine R).val := by omega
    have n3 : R.val / 64 ≠ 3 := by omega
    have n2 : R.val / 64 ≠ 2 := by omega
    have n1 : R.val / 64 ≠ 1 := by omega
    exact (congrFun a3 _).trans ((keep3_10 (W3 m) c R l n3).trans ((congrFun a2 _).trans ((keep2_10 (W2 m) c R l n2).trans ((congrFun a1 _).trans ((keep1_10 (W1 m) c R l n1).trans ((congrFun a0 _).trans ((out0_10 (W0 m) c (real0 m c hr) (inLine R) l R e0).trans (congrArg (fun X : Spec.Chunk => Spec.least (X.w (inLine R) l)) (chunk0_eq m c)))))))))

theorem state_apply (R : Fin 256) (l : Fin 128) : (A3 m c (Proc.devRef .tc main_v15_3) : Vec Ideal S256x128 .f32) (ix2 R l)
    = (chunks m c (inChunk R)).st (inLine R) l := by
  have a0 : (A0 m c (Proc.devRef .tc main_v3_3) : Vec Ideal S256x128 .f32) = (dat0 (W0 m) c).arrAt 11 cfg0.N :=
    Pipeline.afterRegion_arr (dat0 (W0 m) c) (W0 m c) launch0.win.arr_inj 11
  have a1 : (A1 m c (Proc.devRef .tc main_v7_3) : Vec Ideal S256x128 .f32) = (dat1 (W1 m) c).arrAt 11 cfg1.N :=
    Pipeline.afterRegion_arr (dat1 (W1 m) c) (W1 m c) launch1.win.arr_inj 11
  have a2 : (A2 m c (Proc.devRef .tc main_v11_3) : Vec Ideal S256x128 .f32) = (dat2 (W2 m) c).arrAt 11 cfg2.N :=
    Pipeline.afterRegion_arr (dat2 (W2 m) c) (W2 m c) launch2.win.arr_inj 11
  have a3 : (A3 m c (Proc.devRef .tc main_v15_3) : Vec Ideal S256x128 .f32) = (dat3 (W3 m) c).arrAt 11 cfg3.N :=
    Pipeline.afterRegion_arr (dat3 (W3 m) c) (W3 m c) launch3.win.arr_inj 11
  have hR := R.isLt
  have hv : (inChunk R).val = R.val / 64 := rfl
  have hl : (inLine R).val = R.val % 64 := rfl
  rcases cases4 (inChunk R) with h | h | h | h <;> rw [h] <;> rw [h] at hv
  · change 3 = R.val / 64 at hv
    have e0 : R.val = 64 * 3 + (inLine R).val := by omega
    exact (congrFun a3 _).trans ((out3_11 (W3 m) c (real3 m c hr) (inLine R) l R e0).trans (congrArg (fun X : Spec.Chunk => X.st (inLine R) l) (chunk3_eq m c)))
  · change 2 = R.val / 64 at hv
    have e0 : R.val = 64 * 2 + (inLine R).val := by omega
    have n3 : R.val / 64 ≠ 3 := by omega
    exact (congrFun a3 _).trans ((keep3_11 (W3 m) c R l n3).trans ((congrFun a2 _).trans ((out2_11 (W2 m) c (real2 m c hr) (inLine R) l R e0).trans (congrArg (fun X : Spec.Chunk => X.st (inLine R) l) (chunk2_eq m c)))))
  · change 1 = R.val / 64 at hv
    have e0 : R.val = 64 * 1 + (inLine R).val := by omega
    have n3 : R.val / 64 ≠ 3 := by omega
    have n2 : R.val / 64 ≠ 2 := by omega
    exact (congrFun a3 _).trans ((keep3_11 (W3 m) c R l n3).trans ((congrFun a2 _).trans ((keep2_11 (W2 m) c R l n2).trans ((congrFun a1 _).trans ((out1_11 (W1 m) c (real1 m c hr) (inLine R) l R e0).trans (congrArg (fun X : Spec.Chunk => X.st (inLine R) l) (chunk1_eq m c)))))))
  · change 0 = R.val / 64 at hv
    have e0 : R.val = 64 * 0 + (inLine R).val := by omega
    have n3 : R.val / 64 ≠ 3 := by omega
    have n2 : R.val / 64 ≠ 2 := by omega
    have n1 : R.val / 64 ≠ 1 := by omega
    exact (congrFun a3 _).trans ((keep3_11 (W3 m) c R l n3).trans ((congrFun a2 _).trans ((keep2_11 (W2 m) c R l n2).trans ((congrFun a1 _).trans ((keep1_11 (W1 m) c R l n1).trans ((congrFun a0 _).trans ((out0_11 (W0 m) c (real0 m c hr) (inLine R) l R e0).trans (congrArg (fun X : Spec.Chunk => X.st (inLine R) l) (chunk0_eq m c)))))))))

/-- The chunk, the line and the lane of a row of codes. -/
theorem codes_apply (R : Fin 256) (l d : Fin 128) (S : Fin 32768) (hS : S.val = 128 * R.val + l.val) :
    (A3 m c (Proc.devRef .tc main_v15_0) : Vec Ideal S32768x128 .i8) (ix2 S d) = (chunks m c (inChunk R)).new (inLine R) l d := by
  have a0 : (A0 m c (Proc.devRef .tc main_v3_0) : Vec Ideal S32768x128 .i8) = (dat0 (W0 m) c).arrAt 8 cfg0.N :=
    Pipeline.afterRegion_arr (dat0 (W0 m) c) (W0 m c) launch0.win.arr_inj 8
  have a1 : (A1 m c (Proc.devRef .tc main_v7_0) : Vec Ideal S32768x128 .i8) = (dat1 (W1 m) c).arrAt 8 cfg1.N :=
    Pipeline.afterRegion_arr (dat1 (W1 m) c) (W1 m c) launch1.win.arr_inj 8
  have a2 : (A2 m c (Proc.devRef .tc main_v11_0) : Vec Ideal S32768x128 .i8) = (dat2 (W2 m) c).arrAt 8 cfg2.N :=
    Pipeline.afterRegion_arr (dat2 (W2 m) c) (W2 m c) launch2.win.arr_inj 8
  have a3 : (A3 m c (Proc.devRef .tc main_v15_0) : Vec Ideal S32768x128 .i8) = (dat3 (W3 m) c).arrAt 8 cfg3.N :=
    Pipeline.afterRegion_arr (dat3 (W3 m) c) (W3 m c) launch3.win.arr_inj 8
  have hR := R.isLt
  have hll := l.isLt
  have hv : (inChunk R).val = R.val / 64 := rfl
  have hl : (inLine R).val = R.val % 64 := rfl
  rcases cases4 (inChunk R) with h | h | h | h <;> rw [h] <;> rw [h] at hv
  · change 3 = R.val / 64 at hv
    have e0 : S.val = 8192 * 3 + (128 * (inLine R).val + l.val) := by omega
    exact (congrFun a3 _).trans ((out3_8 (W3 m) c (real3 m c hr) (inLine R) l d S e0).trans (congrArg (fun X : Spec.Chunk => X.new (inLine R) l d) (chunk3_eq m c)))
  · change 2 = R.val / 64 at hv
    have e0 : S.val = 8192 * 2 + (128 * (inLine R).val + l.val) := by omega
    have n3 : S.val / 8192 ≠ 3 := by omega
    exact (congrFun a3 _).trans ((keep3_8 (W3 m) c S d n3).trans ((congrFun a2 _).trans ((out2_8 (W2 m) c (real2 m c hr) (inLine R) l d S e0).trans (congrArg (fun X : Spec.Chunk => X.new (inLine R) l d) (chunk2_eq m c)))))
  · change 1 = R.val / 64 at hv
    have e0 : S.val = 8192 * 1 + (128 * (inLine R).val + l.val) := by omega
    have n3 : S.val / 8192 ≠ 3 := by omega
    have n2 : S.val / 8192 ≠ 2 := by omega
    exact (congrFun a3 _).trans ((keep3_8 (W3 m) c S d n3).trans ((congrFun a2 _).trans ((keep2_8 (W2 m) c S d n2).trans ((congrFun a1 _).trans ((out1_8 (W1 m) c (real1 m c hr) (inLine R) l d S e0).trans (congrArg (fun X : Spec.Chunk => X.new (inLine R) l d) (chunk1_eq m c)))))))
  · change 0 = R.val / 64 at hv
    have e0 : S.val = 8192 * 0 + (128 * (inLine R).val + l.val) := by omega
    have n3 : S.val / 8192 ≠ 3 := by omega
    have n2 : S.val / 8192 ≠ 2 := by omega
    have n1 : S.val / 8192 ≠ 1 := by omega
    exact (congrFun a3 _).trans ((keep3_8 (W3 m) c S d n3).trans ((congrFun a2 _).trans ((keep2_8 (W2 m) c S d n2).trans ((congrFun a1 _).trans ((keep1_8 (W1 m) c S d n1).trans ((congrFun a0 _).trans ((out0_8 (W0 m) c (real0 m c hr) (inLine R) l d S e0).trans (congrArg (fun X : Spec.Chunk => X.new (inLine R) l d) (chunk0_eq m c)))))))))

end Cert.KernelIdeal.Gen
end
-- ==== Proof.Value.RefRows.lean ====
module

public import proofs.«01_k».proof.Proof.Value.Reference
public import proofs.«01_k».proof.Proof.Value.Table

/-! The stages of the reference, read at one row of the table. -/

@[expose] public section

set_option maxRecDepth 16384

noncomputable section

namespace Cert.ReferenceIdeal.Value

open Cert.ReferenceIdeal Cert.ReferenceIdeal.Gen Idealize.ShloMosaic Idealize.ShloMosaic.TcCoe

/-- Row `l` of line `r` of chunk `k`. -/
def row (k : Fin 4) (r : Fin 64) (l : Fin 128) : Fin 32768 :=
  ⟨8192 * k.val + (128 * r.val + l.val), by have := k.isLt; have := r.isLt; have := l.isLt; omega⟩

variable (p0 p1 p2 p3 : Vec Ideal S16x64x8x128 .i32) (q0 q1 q2 q3 : Vec Ideal S2048x128 .i32) (u0 u1 u2 u3 : Vec Ideal S8192 .f32)
variable (lk : Vec Ideal S512x256 .i32) (gr : Vec Ideal S512x128 .f32) (rn : Vec Ideal S32768x128 .i32)
variable (k : Fin 4) (r : Fin 64) (l d : Fin 128)

/-- One of four, by cases on their number. -/
theorem pick4 {α : Type} (a b c e : α) (k : Fin 4) :
    (if _h : k.val < 1 then a else if _h : k.val - 1 < 1 then b else if _h : k.val - 1 - 1 < 1 then c else e) = ![a, b, c, e] k := by
  fin_cases k <;> rfl

/-- A shift by less than the width is the same shift everywhere. -/
theorem shift_eq (w : BitVec 32) (n : ℕ) (h : n < 32) :
    IntOp.shrui .host w (BitVec.ofNat 32 n) = IntOp.shrui .vector w (BitVec.ofNat 32 n) := by
  have hn : (BitVec.ofNat 32 n).toNat < 32 := by rw [BitVec.toNat_ofNat]; omega
  unfold IntOp.shrui
  rw [if_pos hn, if_pos hn]

theorem mul8 (n : ℕ) : IntOp.muli 8#32 (BitVec.ofNat 32 n) = BitVec.ofNat 32 (8 * n) := by
  show BitVec.ofNat 32 8 * BitVec.ofNat 32 n = _
  rw [← BitVec.ofNat_mul]

/-- A byte of a word, as a number. -/
theorem byte_eq (w : BitVec 32) (n : ℕ) (h : n < 4) :
    FloatOps.sitofp (F := Ideal) .f32 (IntOp.andi (IntOp.shrui .host w (IntOp.muli 8#32 (BitVec.ofNat 32 n))) 255#32) = Spec.byte w n := by
  have hn : (BitVec.ofNat 32 (8 * n)).toNat = 8 * n := by rw [BitVec.toNat_ofNat]; omega
  rw [mul8]
  unfold IntOp.shrui
  rw [if_pos (by rw [hn]; omega)]
  have e : (IntOp.andi (w >>> BitVec.ofNat 32 (8 * n)) 255#32).toNat = w.toNat / 2 ^ (8 * n) % 256 := by
    show ((w >>> BitVec.ofNat 32 (8 * n)) &&& 255#32).toNat = _
    rw [BitVec.toNat_and, BitVec.ushiftRight_eq', BitVec.toNat_ushiftRight, hn, Nat.shiftRight_eq_div_pow]
    exact Nat.and_two_pow_sub_one_eq_mod _ 8
  have e2 : (IntOp.andi (w >>> BitVec.ofNat 32 (8 * n)) 255#32).toInt = ((w.toNat / 2 ^ (8 * n) % 256 : ℕ) : ℤ) := by
    rw [BitVec.toInt_eq_toNat_of_lt (by rw [e]; omega), e]
  show (((IntOp.andi (w >>> BitVec.ofNat 32 (8 * n)) 255#32).toInt : ℝ) : EReal) = _
  rw [e2]
  unfold Spec.byte
  push_cast
  rfl

theorem whole_apply : whole u0 u1 u2 u3 (ix1 (row k r l))
    = (![u0, u1, u2, u3] k : Vec Ideal S8192 .f32) (ix1 ⟨128 * r.val + l.val, by have := r.isLt; have := l.isLt; omega⟩) := by
  have hr := r.isLt
  have hl := l.isLt
  unfold whole fn_main_v30 row
  rcases Cert.KernelIdeal.Gen.cases4 k with rfl | rfl | rfl | rfl
  all_goals pointwise []
  · split_ifs <;> first | omega | exact congrArg (fun z => u3 (ix1 z)) (Fin.ext (by dsimp only; omega))
  · split_ifs <;> first | omega | exact congrArg (fun z => u2 (ix1 z)) (Fin.ext (by dsimp only; omega))
  · split_ifs <;> first | omega | exact congrArg (fun z => u1 (ix1 z)) (Fin.ext (by dsimp only))
  · split_ifs <;> first | omega | exact congrArg (fun z => u0 (ix1 z)) (Fin.ext (by dsimp only))

theorem grads_apply (cn ag : FVec Ideal S512x32768 .f32) (s : Fin 32768) :
    grads gr cn ag (ix2 s d) = ∑ bag, (cn (ix2 bag s) + ag (ix2 bag s)) * gr (ix2 bag d) := by
  unfold grads
  pointwise []

theorem codes_apply : codes q0 q1 q2 q3 (ix2 (row k r l) d)
    = IntOp.andi (IntOp.shrui .vector ((![q0, q1, q2, q3] k : Vec Ideal S2048x128 .i32)
        (ix2 ⟨256 * (r.val / 8) + (128 * (r.val % 2) + l.val), by have := r.isLt; have := l.isLt; omega⟩ d))
    (BitVec.ofNat 32 (8 * (r.val % 8 / 2)))) 255#32 := by
  have hr := r.isLt
  have hl := l.isLt
  unfold codes fn_main_v21 row shifts
  pointwise []
  rw [mul8, shift_eq _ _ (by omega)]
  have e1 : (8192 * k.val + (128 * r.val + l.val)) / 256 % 4 = r.val % 8 / 2 := by omega
  have e2 : ∀ h, (⟨(8192 * k.val + (128 * r.val + l.val)) / 1024 % 8 * 256 + (8192 * k.val + (128 * r.val + l.val)) % 256, h⟩ : Fin 2048)
      = ⟨256 * (r.val / 8) + (128 * (r.val % 2) + l.val), by omega⟩ := fun h => Fin.ext (by
    show (8192 * k.val + (128 * r.val + l.val)) / 1024 % 8 * 256 + (8192 * k.val + (128 * r.val + l.val)) % 256
      = 256 * (r.val / 8) + (128 * (r.val % 2) + l.val)
    omega)
  simp only [e1, e2]
  rw [pick4]
  fin_cases k <;> rfl

theorem counts_apply (bag : Fin 512) : counts p0 p1 p2 p3 (ix2 bag (row k r l))
    = Spec.byte ((![p0, p1, p2, p3] k : Vec Ideal S16x64x8x128 .i32)
        (ix4 ⟨bag.val / 32, by have := bag.isLt; omega⟩ r ⟨bag.val / 4 % 8, by omega⟩ l)) (bag.val % 4) := by
  have hr := r.isLt
  have hl := l.isLt
  unfold counts bytes packed fn_main_v7 row shifts
  rcases Cert.KernelIdeal.Gen.cases4 k with rfl | rfl | rfl | rfl
  all_goals pointwise []
  all_goals split_ifs <;> first | omega | exact byte_eq _ (bag.val % 4) (by omega)

/-- Ones all the way. -/
theorem fold_and {n : ℕ} (f : Fin n → BitVec 1) : Finset.fold IntOp.andi (1#1) f Finset.univ = 1#1 ↔ ∀ x, f x = 1#1 := by
  have h : ∀ S : Finset (Fin n), Finset.fold IntOp.andi (1#1) f S = 1#1 ↔ ∀ x ∈ S, f x = 1#1 := by
    intro S
    induction S using Finset.induction with
    | empty => simp
    | insert a S ha ih =>
      rw [Finset.fold_insert ha, Finset.forall_mem_insert, ← ih]
      generalize f a = u
      generalize Finset.fold IntOp.andi (1#1) f S = v
      revert u v; decide
  rw [h]; simp

theorem eq_iff (u v : BitVec 32) : IntOp.cmpi CmpIPredicate.eq u v = 1#1 ↔ u = v := by
  show BitVec.ofBool (u == v) = 1#1 ↔ u = v
  by_cases h : u = v
  · subst h; simp
  · have e : (u == v) = false := by simp [h]
    rw [e]; simp [h]

open Classical in
theorem again_apply (bag : Fin 512) (s : Fin 32768) :
    again lk (ix2 bag s) = if ∀ q, lk (ix2 bag q) = BitVec.ofNat 32 s.val then 1 else 0 := by
  unfold again all firsts
  pointwise []
  have key : IntOp.andi
        (Finset.fold IntOp.andi (1#1) (fun x => IntOp.cmpi CmpIPredicate.eq (lk (ix2 bag x)) (lk (ix2 bag 0))) Finset.univ)
        (IntOp.cmpi CmpIPredicate.eq (lk (ix2 bag 0)) (BitVec.ofNat 32 s.val)) = 1#1 ↔ ∀ q, lk (ix2 bag q) = BitVec.ofNat 32 s.val := by
    have a : ∀ u v : BitVec 1, IntOp.andi u v = 1#1 ↔ u = 1#1 ∧ v = 1#1 := by decide
    rw [a, fold_and, eq_iff]
    simp only [eq_iff]
    constructor
    · rintro ⟨h1, h2⟩ q; rw [h1 q, h2]
    · intro h; exact ⟨fun q => by rw [h q, h 0], h 0⟩
  by_cases h : ∀ q, lk (ix2 bag q) = BitVec.ofNat 32 s.val
  · rw [if_pos h, key.mpr h]; rfl
  · rw [if_neg h]
    generalize IntOp.andi _ _ = v at key ⊢
    have hv : v = 0#1 := by
      have : ∀ v : BitVec 1, v = 1#1 ∨ v = 0#1 := by decide
      rcases this v with e | e
      · exact absurd (key.mp e) h
      · exact e
    rw [hv]; rfl

variable (w : FVec Ideal S32768x128 .f32) (s : Fin 32768)

/-- A sum of squares over 128 is its product with the inverse. -/
theorem mean_eq (x : EReal) : Ideal.div x (Ideal.ofBits .f32 0x43000000#32) = x * Ideal.ofBits .f32 0x3C000000#32 := by
  have e1 : Ideal.ofBits .f32 0x43000000#32 = ((128 : ℝ) : EReal) := by
    simp [Ideal.ofBits, Ideal.ieee, -EReal.coe_mul]; norm_num
  have e2 : Ideal.ofBits .f32 0x3C000000#32 = ((1 / 128 : ℝ) : EReal) := by
    simp [Ideal.ofBits, Ideal.ieee, -EReal.coe_mul]; norm_num
  rw [e1, e2]
  exact Ideal.div_coe (by norm_num) x

theorem states_apply (mo : FVec Ideal S32768 .f32) (G : FVec Ideal S32768x128 .f32) :
    states mo G (ix1 s) = Spec.state (mo (ix1 s)) fun d => G (ix2 s d) := by
  unfold states Spec.state Spec.ssq
  rw [← mean_eq]
  pointwise []

theorem weights_apply (co : IVec S32768x128 32) (sc bi st : FVec Ideal S32768 .f32) (G : FVec Ideal S32768x128 .f32) :
    weights co sc bi st G (ix2 s d) = Spec.weight (co (ix2 s d)) (sc (ix1 s)) (bi (ix1 s)) (st (ix1 s)) (G (ix2 s d)) := by
  unfold weights Spec.weight Spec.mult Spec.num
  pointwise []

theorem leasts_apply : leasts w (ix1 s) = Spec.least fun d => w (ix2 s d) := by
  unfold leasts Spec.least
  pointwise []

theorem mosts_apply : mosts w (ix1 s) = Spec.most fun d => w (ix2 s d) := by
  unfold mosts Spec.most
  pointwise []

/-- The difference of two columns at a row. -/
theorem range_apply (a b : FVec Ideal S32768 .f32) : subf a b (ix1 s) = a (ix1 s) - b (ix1 s) := by
  pointwise []

theorem ranges_apply : ranges w (ix1 s) = Spec.most (fun d => w (ix2 s d)) - Spec.least fun d => w (ix2 s d) := by
  unfold ranges
  rw [range_apply, mosts_apply, leasts_apply]

/-- A column over 255 at a row. -/
theorem over_apply (v : FVec Ideal S32768 .f32) :
    Host.divf v (broadcastInDim S32768 ![] bcast_S_S32768 (constant (F := Ideal) S_ .f32 0x437F0000#32)) (ix1 s)
      = Ideal.div (v (ix1 s)) (Ideal.ofBits .f32 0x437F0000#32) := by
  pointwise []

/-- 255 over a column and a little, at a row. -/
theorem under_apply (v : FVec Ideal S32768 .f32) :
    Host.divf (broadcastInDim S32768 ![] bcast_S_S32768 (constant (F := Ideal) S_ .f32 0x437F0000#32))
        (addf v (broadcastInDim S32768 ![] bcast_S_S32768 (constant (F := Ideal) S_ .f32 0x322BCC77#32))) (ix1 s)
      = Ideal.div (Ideal.ofBits .f32 0x437F0000#32) (v (ix1 s) + Ideal.ofBits .f32 0x322BCC77#32) := by
  pointwise []

theorem scales_apply : scales w (ix1 s) = Spec.scale fun d => w (ix2 s d) := by
  unfold scales Spec.scale
  rw [over_apply, ranges_apply]

theorem invs_apply : invs w (ix1 s) = Spec.inv fun d => w (ix2 s d) := by
  unfold invs Spec.inv
  rw [under_apply, ranges_apply]

/-- A word shifted down by eight is the same number either way. -/
theorem rand_eq (x : BitVec 32) :
    FloatOps.uitofp (F := Ideal) .f32 (IntOp.shrui .host x 8#32) = Spec.num (IntOp.shrui .vector x 8#32) := by
  have e : IntOp.shrui .host x 8#32 = IntOp.shrui .vector x 8#32 := shift_eq x 8 (by decide)
  have e1 : IntOp.shrui .vector x 8#32 = x >>> (8#32 : BitVec 32) := by unfold IntOp.shrui; exact if_pos (by decide)
  have e2 : (x >>> (8#32 : BitVec 32)).toNat < 2 ^ 24 := by
    have hx := x.isLt
    rw [BitVec.ushiftRight_eq', BitVec.toNat_ushiftRight, Nat.shiftRight_eq_div_pow]
    show x.toNat / 2 ^ 8 < 2 ^ 24
    omega
  rw [e, e1]
  show (((x >>> (8#32 : BitVec 32)).toNat : ℝ) : EReal) = (((x >>> (8#32 : BitVec 32)).toInt : ℝ) : EReal)
  rw [BitVec.toInt_eq_toNat_of_lt (by omega)]
  push_cast
  rfl

theorem rounded_apply : rounded rn w (ix2 s d) = Spec.code (fun d => w (ix2 s d)) (Spec.num (IntOp.shrui .vector (rn (ix2 s d)) 8#32)) d := by
  unfold Spec.code Spec.round8
  rw [← leasts_apply, ← invs_apply, ← rand_eq]
  generalize e1 : leasts w = a
  generalize e2 : invs w = b
  unfold rounded moved
  rw [e1, e2]
  simp only [id]
  pointwise []

end Cert.ReferenceIdeal.Value
end
-- ==== Proof.Value.RefParts.lean ====
module

public import proofs.«01_k».proof.Proof.Value.RefRows

/-! The results of the reference, row by row, and the results of the kernel: they are the same. -/

@[expose] public section

set_option maxRecDepth 16384

noncomputable section

namespace Cert.ReferenceIdeal.Value

open Cert.ReferenceIdeal Cert.ReferenceIdeal.Gen Idealize.ShloMosaic Idealize.ShloMosaic.TcCoe
open Cert.KernelIdeal.Gen (chunkOf inChunk inLine cases4)

variable (m : (ℓ : Loc nD τ sig) → Buf (Elt Ideal) ℓ) (c : Dev nD)

/-- The four chunks the reference's arguments make. -/
def parts : Fin 4 → Spec.Chunk := ![
  chunkOf 0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg20)) (m ((c : Thread nD τ).loc main_arg21)) (m ((c : Thread nD τ).loc main_arg22)),
  chunkOf 1 (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg20)) (m ((c : Thread nD τ).loc main_arg21)) (m ((c : Thread nD τ).loc main_arg22)),
  chunkOf 2 (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg20)) (m ((c : Thread nD τ).loc main_arg21)) (m ((c : Thread nD τ).loc main_arg22)),
  chunkOf 3 (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))]

variable (k : Fin 4) (r : Fin 64) (l d : Fin 128)

/-- The counts of a row, those of its chunk. -/
theorem counts_part (bag : Fin 512) :
    counts (m ((c : Thread nD τ).loc main_arg0)) (m ((c : Thread nD τ).loc main_arg5)) (m ((c : Thread nD τ).loc main_arg10)) (m ((c : Thread nD τ).loc main_arg15)) (ix2 bag (row k r l))
      = (parts m c k).count r l bag := by
  rw [counts_apply]
  rcases cases4 k with rfl | rfl | rfl | rfl <;> rfl

theorem gr_part (bag : Fin 512) : (parts m c k).gr bag d = (m ((c : Thread nD τ).loc main_arg20) : Vec Ideal S512x128 .f32) (ix2 bag d) := by
  rcases cases4 k with rfl | rfl | rfl | rfl <;> rfl

theorem lk_part (bag : Fin 512) (q : Fin 256) : (parts m c k).lk bag q = (m ((c : Thread nD τ).loc main_arg21) : Vec Ideal S512x256 .i32) (ix2 bag q) := by
  rcases cases4 k with rfl | rfl | rfl | rfl <;> rfl

theorem base_part : (parts m c k).base = 8192 * k.val := by
  rcases cases4 k with rfl | rfl | rfl | rfl <;> rfl

theorem rn_part (q : Fin 8192) : (parts m c k).rn q d = (m ((c : Thread nD τ).loc main_arg22) : Vec Ideal S32768x128 .i32)
    (ix2 ⟨8192 * k.val + q.val, by have := k.isLt; have := q.isLt; omega⟩ d) := by
  rcases cases4 k with rfl | rfl | rfl | rfl <;> rfl

theorem grad_part : gradT m c (ix2 (row k r l) d) = (parts m c k).g r l d := by
  unfold gradT Spec.Chunk.g
  rw [grads_apply]
  refine Finset.sum_congr rfl fun bag _ => ?_
  rw [counts_part, again_apply, mul_comm, gr_part, base_part]
  simp only [lk_part]
  rfl

theorem mo_part : whole (m ((c : Thread nD τ).loc main_arg4)) (m ((c : Thread nD τ).loc main_arg9)) (m ((c : Thread nD τ).loc main_arg14)) (m ((c : Thread nD τ).loc main_arg19)) (ix1 (row k r l)) = (parts m c k).mo r l := by
  rw [whole_apply]
  rcases cases4 k with rfl | rfl | rfl | rfl <;> rfl

theorem sc_part : whole (m ((c : Thread nD τ).loc main_arg2)) (m ((c : Thread nD τ).loc main_arg7)) (m ((c : Thread nD τ).loc main_arg12)) (m ((c : Thread nD τ).loc main_arg17)) (ix1 (row k r l)) = (parts m c k).sc r l := by
  rw [whole_apply]
  rcases cases4 k with rfl | rfl | rfl | rfl <;> rfl

theorem bi_part : whole (m ((c : Thread nD τ).loc main_arg3)) (m ((c : Thread nD τ).loc main_arg8)) (m ((c : Thread nD τ).loc main_arg13)) (m ((c : Thread nD τ).loc main_arg18)) (ix1 (row k r l)) = (parts m c k).bi r l := by
  rw [whole_apply]
  rcases cases4 k with rfl | rfl | rfl | rfl <;> rfl

theorem old_part : codes (m ((c : Thread nD τ).loc main_arg1)) (m ((c : Thread nD τ).loc main_arg6)) (m ((c : Thread nD τ).loc main_arg11)) (m ((c : Thread nD τ).loc main_arg16)) (ix2 (row k r l) d) = (parts m c k).old r l d := by
  rw [codes_apply]
  rcases cases4 k with rfl | rfl | rfl | rfl <;> rfl

theorem grads_part : (fun d => gradT m c (ix2 (row k r l) d)) = (parts m c k).g r l := funext fun d => grad_part m c k r l d

theorem state_part : stateT m c (ix1 (row k r l)) = (parts m c k).st r l := by
  unfold stateT Spec.Chunk.st
  rw [states_apply, mo_part, grads_part]

theorem weight_part : weightT m c (ix2 (row k r l) d) = (parts m c k).w r l d := by
  unfold weightT Spec.Chunk.w
  rw [weights_apply, sc_part, bi_part, old_part, state_part, grad_part]

theorem weights_part : (fun d => weightT m c (ix2 (row k r l) d)) = (parts m c k).w r l := funext fun d => weight_part m c k r l d

/-- A column of the table, set out in lines of 128. -/
theorem table_apply (v : FVec Ideal S32768 .f32) (R : Fin 256) :
    shapeCast S256x128 v shapeCasts_S32768_S256x128 (ix2 R l) = v (ix1 (row (inChunk R) (inLine R) l)) := by
  pointwise []
  exact congrArg (fun z => v (ix1 z)) (Fin.ext (by
    show R.val * 128 + l.val = 8192 * (R.val / 64) + (128 * (R.val % 64) + l.val); omega))

theorem state_res (R : Fin 256) : (res_main_v96 m c : FVec Ideal S256x128 .f32) (ix2 R l) = (parts m c (inChunk R)).st (inLine R) l := by
  rw [out3_eq, table_apply, state_part]

theorem bias_res (R : Fin 256) : (res_main_v95 m c : FVec Ideal S256x128 .f32) (ix2 R l) = Spec.least ((parts m c (inChunk R)).w (inLine R) l) := by
  rw [out2_eq, table_apply, leasts_apply, weights_part]

theorem scale_res (R : Fin 256) : (res_main_v94 m c : FVec Ideal S256x128 .f32) (ix2 R l) = Spec.scale ((parts m c (inChunk R)).w (inLine R) l) := by
  rw [out1_eq, table_apply, scales_apply, weights_part]

theorem codes_res (R : Fin 256) : (res_main_v93 m c : Vec Ideal S32768x128 .i8) (ix2 (row (inChunk R) (inLine R) l) d)
    = (parts m c (inChunk R)).new (inLine R) l d := by
  rw [out0_eq, rounded_apply, weights_part]
  unfold Spec.Chunk.new Spec.Chunk.rand
  rw [rn_part]
  rfl

end Cert.ReferenceIdeal.Value
end
-- ==== Proof.Value.Tie.lean ====
module

public import proofs.«01_k».proof.Proof.Value.RefParts

/-! The kernel and the reference, given the same arguments, leave the same results. -/

@[expose] public section

set_option maxRecDepth 16384

noncomputable section

namespace Cert.Tie

open Idealize.ShloMosaic Idealize.ShloMosaic.TcCoe
open Cert.KernelIdeal.Gen (chunkOf chunks inChunk inLine cases4 A3 RealGrads)
open Cert.ReferenceIdeal.Value (parts row)

/-- Chunks of the same arrays are the same. -/
theorem chunkOf_congr (k : Fin 4) {cnt cnt' : Vec Ideal Cert.KernelIdeal.S16x64x8x128 .i32} {wd wd' : Vec Ideal Cert.KernelIdeal.S2048x128 .i32}
    {sc sc' bi bi' mo mo' : Vec Ideal Cert.KernelIdeal.S8192 .f32} {gr gr' : Vec Ideal Cert.KernelIdeal.S512x128 .f32}
    {lk lk' : Vec Ideal Cert.KernelIdeal.S512x256 .i32} {rn rn' : Vec Ideal Cert.KernelIdeal.S32768x128 .i32}
    (h1 : cnt = cnt') (h2 : wd = wd') (h3 : sc = sc') (h4 : bi = bi') (h5 : mo = mo') (h6 : gr = gr') (h7 : lk = lk') (h8 : rn = rn') :
    chunkOf k cnt wd sc bi mo gr lk rn = chunkOf k cnt' wd' sc' bi' mo' gr' lk' rn' := by
  subst h1 h2 h3 h4 h5 h6 h7 h8; rfl

/-- Every row is a lane of a line of a chunk. -/
theorem row_of (S : Fin 32768) : ∃ (R : Fin 256) (l : Fin 128), S = row (inChunk R) (inLine R) l ∧ S.val = 128 * R.val + l.val := by
  have hS := S.isLt
  refine ⟨⟨S.val / 128, by omega⟩, ⟨S.val % 128, by omega⟩, Fin.ext ?_, ?_⟩
  · show S.val = 8192 * (S.val / 128 / 64) + (128 * (S.val / 128 % 64) + S.val % 128); omega
  · show S.val = 128 * (S.val / 128) + S.val % 128; omega

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- Both programs were given the same arguments on a device. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)

variable (h : Same m m' c) (hr : RealGrads (m ((c.tc : Thread Cert.KernelIdeal.nD Cert.KernelIdeal.τ).loc Cert.KernelIdeal.main_arg20)))

include h in
theorem parts_eq (k : Fin 4) : parts m' c k = chunks m c k := by
  obtain ⟨h0, h1, h2, h3, h4, h5, h6, h7, h8, h9, h10, h11, h12, h13, h14, h15, h16, h17, h18, h19, h20, h21, h22⟩ := h
  rcases cases4 k with rfl | rfl | rfl | rfl
  · exact chunkOf_congr 3 h15 h16 h17 h18 h19 h20 h21 h22
  · exact chunkOf_congr 2 h10 h11 h12 h13 h14 h20 h21 h22
  · exact chunkOf_congr 1 h5 h6 h7 h8 h9 h20 h21 h22
  · exact chunkOf_congr 0 h0 h1 h2 h3 h4 h20 h21 h22

include h hr

theorem state_eq : (Cert.ReferenceIdeal.Value.res_main_v96 m' c : FVec Ideal Cert.KernelIdeal.S256x128 .f32)
    = A3 m c (Proc.devRef .tc Cert.KernelIdeal.main_v15_3) := by
  funext j
  rw [eq_ix2 j]
  exact (Cert.ReferenceIdeal.Value.state_res m' c _ _).trans
    ((congrArg (fun X : Spec.Chunk => X.st _ _) (parts_eq m m' c h _)).trans (Cert.KernelIdeal.Gen.state_apply m c hr _ _).symm)

theorem bias_eq : (Cert.ReferenceIdeal.Value.res_main_v95 m' c : FVec Ideal Cert.KernelIdeal.S256x128 .f32)
    = A3 m c (Proc.devRef .tc Cert.KernelIdeal.main_v15_2) := by
  funext j
  rw [eq_ix2 j]
  exact (Cert.ReferenceIdeal.Value.bias_res m' c _ _).trans
    ((congrArg (fun X : Spec.Chunk => Spec.least (X.w _ _)) (parts_eq m m' c h _)).trans (Cert.KernelIdeal.Gen.bias_apply m c hr _ _).symm)

theorem scale_eq : (Cert.ReferenceIdeal.Value.res_main_v94 m' c : FVec Ideal Cert.KernelIdeal.S256x128 .f32)
    = A3 m c (Proc.devRef .tc Cert.KernelIdeal.main_v15_1) := by
  funext j
  rw [eq_ix2 j]
  exact (Cert.ReferenceIdeal.Value.scale_res m' c _ _).trans
    ((congrArg (fun X : Spec.Chunk => Spec.scale (X.w _ _)) (parts_eq m m' c h _)).trans (Cert.KernelIdeal.Gen.scale_apply m c hr _ _).symm)

theorem codes_eq : (Cert.ReferenceIdeal.Value.res_main_v93 m' c : Vec Ideal Cert.KernelIdeal.S32768x128 .i8)
    = A3 m c (Proc.devRef .tc Cert.KernelIdeal.main_v15_0) := by
  funext j
  rw [eq_ix2 j]
  generalize (j 0 : Fin 32768) = S
  generalize (j 1 : Fin 128) = d
  obtain ⟨R, l, e, hS⟩ := row_of S
  refine Eq.trans ?_ (Cert.KernelIdeal.Gen.codes_apply m c hr R l d S hS).symm
  rw [e]
  exact (Cert.ReferenceIdeal.Value.codes_res m' c _ _ _).trans
    (congrArg (fun X : Spec.Chunk => X.new _ _ _) (parts_eq m m' c h _))

end Cert.Tie
end
-- ==== Proof.Value.Finite.lean ====
module

public import proofs.«01_k».proof.Defs
public import proofs.«01_k».proof.Pre_finite_grads
public import proofs.«01_k».proof.Proof.Value.Table
public import Idealize.ShloMosaic.Lib.ReduceAll

/-! What the precondition says: no gradient is infinite. -/

@[expose] public section

noncomputable section

namespace Cert.Pre_finite_grads.Value

open Cert.Pre_finite_grads Idealize.ShloMosaic Idealize.ShloMosaic.TcCoe

/-- The precondition's program has the shapes it states. -/
theorem bcast : S_.BroadcastsInDim S512x128 (![] : Fin 0 → Fin S512x128.rank) := by decide
theorem reduces : S512x128.ReducesTo [0, 1] S_ := by decide
theorem some_el : 0 < S_.numel := by decide

instance facts : Cert.Pre_finite_grads.Facts where
  bcast_S_S512x128 := @bcast
  reducesTo_S512x128_S_d0_1 := @reduces
  h_S_ := @some_el

/-- An absolute value below the largest is that of a number. -/
theorem finite_of (x : EReal) (h : Ideal.cmp .olt (max x (-x)) (Ideal.ofBits .f32 0x7F800000#32) = 1#1) : x ≠ ⊥ ∧ x ≠ ⊤ := by
  have e : Ideal.ofBits .f32 0x7F800000#32 = ⊤ := by simp [Ideal.ofBits, Ideal.ieee]
  rw [e] at h
  constructor
  · rintro rfl; simp [Ideal.cmp] at h
  · rintro rfl; simp [Ideal.cmp] at h

theorem real_of (m : (ℓ : Loc Cert.KernelIdeal.nD Cert.KernelIdeal.τ Cert.KernelIdeal.sig) → Buf (Elt Ideal) ℓ)
    (h : Pre_KernelIdeal_finite_grads m) (c : Dev Cert.KernelIdeal.nD) :
    Cert.KernelIdeal.Gen.RealGrads (m ((c.tc : Thread Cert.KernelIdeal.nD Cert.KernelIdeal.τ).loc Cert.KernelIdeal.main_arg20)) := by
  intro j
  have : Subsingleton S_.Idx := ⟨fun a b => funext fun i => i.elim0⟩
  exact finite_of _ (Host.reduce_andi_all _ _ _ _ (fun i => i.elim0) (congrFun (h c) _) j)

end Cert.Pre_finite_grads.Value
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Chain
public import proofs.«01_k».proof.Proof.Bits.Chain
public import proofs.«01_k».proof.Proof.RefFrame
public import proofs.«01_k».proof.Proof.Value.Tie
public import proofs.«01_k».proof.Proof.Value.Finite

@[expose] public section

noncomputable section

namespace Cert.Proof

open Idealize.ShloMosaic Idealize.SL.Sem
open Cert.KernelIdeal.Gen (A3 A3_arg allW uc run_all)

/-- The idealization and the reference leave the same results when no gradient is infinite. -/
theorem algebraic : algebraic_KernelIdeal_ReferenceIdeal_pre_finite_grads (hKernelIdeal := Cert.KernelIdeal.Gen.facts)
    (hReferenceIdeal := Cert.ReferenceIdeal.Gen.facts) (hPre_finite_grads := Cert.Pre_finite_grads.Value.facts) := by
  intro m g m' g' hp h
  refine ⟨fun c => A3 m c (Proc.devRef .tc Cert.KernelIdeal.main_v15_0), fun c => A3 m c (Proc.devRef .tc Cert.KernelIdeal.main_v15_1),
    fun c => A3 m c (Proc.devRef .tc Cert.KernelIdeal.main_v15_2), fun c => A3 m c (Proc.devRef .tc Cert.KernelIdeal.main_v15_3), ?_, ?_⟩
  · refine (θ_run Cert.KernelIdeal.defs _ _).mono (fun r k c => ?_) (run_all m g)
    have k' : ∀ x : Ref Cert.KernelIdeal.sig .tc, x.isScoped = false → x ∉ allW →
        r.2.mem ((c.tc : Thread Cert.KernelIdeal.nD Cert.KernelIdeal.τ).loc x) = m ((c.tc : Thread Cert.KernelIdeal.nD Cert.KernelIdeal.τ).loc x) :=
      fun x hx hw => (k.1 c _ (uc x hx)).trans (A3_arg m c x hw)
    refine ⟨k.1 c _ (uc _ (by decide)), k.1 c _ (uc _ (by decide)), k.1 c _ (uc _ (by decide)), k.1 c _ (uc _ (by decide)), ?_⟩
    refine ⟨?_, ?_, ?_, ?_, ?_, ?_, ?_, ?_, ?_, ?_, ?_, ?_, ?_, ?_, ?_, ?_, ?_, ?_, ?_, ?_, ?_, ?_, ?_⟩ <;> exact k' _ (by decide) (by decide)
  · refine (θ_run Cert.ReferenceIdeal.defs _ _).mono (fun r k c => ?_) (Cert.ReferenceIdeal.Value.run m' g')
    have hr := Cert.Pre_finite_grads.Value.real_of m hp c
    obtain ⟨k0, k1, k2, k3, ka⟩ := k c
    exact ⟨k0.trans (Cert.Tie.codes_eq m m' c (h c) hr), k1.trans (Cert.Tie.scale_eq m m' c (h c) hr),
      k2.trans (Cert.Tie.bias_eq m m' c (h c) hr), k3.trans (Cert.Tie.state_eq m m' c (h c) hr), ka⟩

theorem claim : Cert.Claim :=
  ⟨Cert.Kernel.Gen.facts, Cert.KernelIdeal.Gen.facts, Cert.ReferenceIdeal.Gen.facts, Cert.Pre_finite_grads.Value.facts,
    fun m ρ _ => Cert.Kernel.Gen.frame m ρ,
    fun m ρ _ => Cert.KernelIdeal.Gen.frame m ρ,
    fun m ρ _ => Cert.KernelIdeal.Gen.frame m ρ,
    Cert.ReferenceIdeal.Value.frame,
    fun m ρ _ => Cert.ReferenceIdeal.Value.frame m ρ trivial,
    trivial, algebraic⟩

end Cert.Proof

end
